-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![8, 1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S8x1024x64x128 : S_.BroadcastsInDim S8x1024x64x128 (![] : Fin 0 → Fin S8x1024x64x128.rank)

variable [Facts]

def fn {F : FTy → Type} [FloatOps F] (main_arg0 : FVec F S1x1024x1024 .f32) (main_arg1 : FVec F S1024x1024 .f32) (main_arg2 : FVec F S8x1024x64x128 .f32) (main_arg3 : FVec F S8x1024x64x128 .f32) (main_arg4 : FVec F S1024x1024 .f32) : IVec S1x1024x1024 1 × IVec S1024x1024 1 × IVec S8x1024x64x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8x1024x64x128 .f32 := Host.absf main_arg2
  let main_cst_1 : FVec F S_ .f32 := constant S_ .f32 0x7F800000#32
  let main_v7 : FVec F S8x1024x64x128 .f32 := broadcastInDim S8x1024x64x128 ![] bcast_S_S8x1024x64x128 main_cst_1
  let main_v8 : IVec S8x1024x64x128 1 := cmpf .olt main_v6 main_v7
  (main_v2, main_v5, main_v8)
-- ==== Pre_finite_inputs_ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S_ : Shape := ⟨0, ![]⟩

class Facts : Prop where
  bcast_S_S8x1024x1024 : S_.BroadcastsInDim S8x1024x1024 (![] : Fin 0 → Fin S8x1024x1024.rank)
  bcast_S_S1024x8192 : S_.BroadcastsInDim S1024x8192 (![] : Fin 0 → Fin S1024x8192.rank)
  bcast_S_S8x1024x64x128 : S_.BroadcastsInDim S8x1024x64x128 (![] : Fin 0 → Fin S8x1024x64x128.rank)

variable [Facts]

def fn {F : FTy → Type} [FloatOps F] (main_arg0 : FVec F S8x1024x1024 .f32) (main_arg1 : FVec F S1024x8192 .f32) (main_arg2 : FVec F S8x1024x64x128 .f32) (main_arg3 : FVec F S8x1024x64x128 .f32) (main_arg4 : FVec F S8192x1024 .f32) : IVec S8x1024x1024 1 × IVec S1024x8192 1 × IVec S8x1024x64x128 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S8x1024x64x128 .f32 := Host.absf main_arg2
  let main_cst_1 : FVec F S_ .f32 := constant S_ .f32 0x7F800000#32
  let main_v7 : FVec F S8x1024x64x128 .f32 := broadcastInDim S8x1024x64x128 ![] bcast_S_S8x1024x64x128 main_cst_1
  let main_v8 : IVec S8x1024x64x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S8x1024x64x128 : Shape := ⟨4, ![8, 1024, 64, 128]⟩
abbrev S2x1024x512 : Shape := ⟨3, ![2, 1024, 512]⟩
abbrev S2x512x1024 : Shape := ⟨3, ![2, 512, 1024]⟩
abbrev S2x1024x4x128 : Shape := ⟨4, ![2, 1024, 4, 128]⟩
abbrev S4 : Shape := ⟨1, ![4]⟩
abbrev S2x4 : Shape := ⟨2, ![2, 4]⟩
abbrev S_ : Shape := ⟨0, ![]⟩
abbrev S64x1024 : Shape := ⟨2, ![64, 1024]⟩
abbrev S1x64x1024 : Shape := ⟨3, ![1, 64, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x1 : Shape := ⟨2, ![1, 1]⟩
abbrev S1x64x4x128 : Shape := ⟨4, ![1, 64, 4, 128]⟩
abbrev S64x4x128 : Shape := ⟨3, ![64, 4, 128]⟩
abbrev S1 : Shape := ⟨1, ![1]⟩
abbrev S256x128 : Shape := ⟨2, ![256, 128]⟩
abbrev S1x256x1x128 : Shape := ⟨4, ![1, 256, 1, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S8x1024x64x128, .f32⟩
  | .hbm, ⟨3, _⟩ => ⟨S8x1024x64x128, .f32⟩
  | .hbm, ⟨4, _⟩ => ⟨S1024x1024, .f32⟩
  | .hbm, ⟨5, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024x512, .f32⟩
  | .local _ .vmem, ⟨3, _⟩ => ⟨S2x512x1024, .f32⟩
  | .local _ .vmem, ⟨4, _⟩ => ⟨S2x1024x512, .f32⟩
  | .local _ .vmem, ⟨5, _⟩ => ⟨S2x512x1024, .f32⟩
  | .local _ .vmem, ⟨6, _⟩ => ⟨S2x1024x4x128, .f32⟩
  | .local _ .vmem, ⟨7, _⟩ => ⟨S2x1024x4x128, .f32⟩
  | .local _ .vmem, ⟨8, _⟩ => ⟨S2x1024x4x128, .f32⟩
  | .local _ .vmem, ⟨9, _⟩ => ⟨S2x1024x4x128, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 3 → Bool
  | ⟨0, _⟩ => true
  | ⟨1, _⟩ => true
  | ⟨2, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 3 19 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_194 : BitVec 32 := 0#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_93 : BitVec 32 := 8#32
  let v73 : BitVec 32 := Scalar.muli v70 c8_i32_93
  let c0_i32_195 : BitVec 32 := 0#32
  ![v2.toNat, 0, v73.toNat, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_209 : BitVec 32 := 0#32
  let c0_i32_91 : BitVec 32 := 0#32
  let v71 : BitVec 32 := Scalar.addi v2 c0_i32_91
  let c8_i32_92 : BitVec 32 := 8#32
  let v72 : BitVec 32 := Scalar.remsi v71 c8_i32_92
  let c8_i32_95 : BitVec 32 := 8#32
  let v75 : BitVec 32 := Scalar.muli v72 c8_i32_95
  let c4_i32 : BitVec 32 := 4#32
  let v76 : BitVec 32 := Scalar.addi v75 c4_i32
  let c0_i32_210 : BitVec 32 := 0#32
  ![v2.toNat, 0, v76.toNat, 0]
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_224 : BitVec 32 := 256#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_98 : BitVec 32 := 8#32
  let v79 : BitVec 32 := Scalar.muli v70 c8_i32_98
  let c0_i32_225 : BitVec 32 := 0#32
  ![v2.toNat, 256, v79.toNat, 0]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_240 : BitVec 32 := 256#32
  let c0_i32_91 : BitVec 32 := 0#32
  let v71 : BitVec 32 := Scalar.addi v2 c0_i32_91
  let c8_i32_92 : BitVec 32 := 8#32
  let v72 : BitVec 32 := Scalar.remsi v71 c8_i32_92
  let c8_i32_100 : BitVec 32 := 8#32
  let v81 : BitVec 32 := Scalar.muli v72 c8_i32_100
  let c4_i32_101 : BitVec 32 := 4#32
  let v82 : BitVec 32 := Scalar.addi v81 c4_i32_101
  let c0_i32_241 : BitVec 32 := 0#32
  ![v2.toNat, 256, v82.toNat, 0]
def k0_off5 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_256 : BitVec 32 := 512#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_104 : BitVec 32 := 8#32
  let v85 : BitVec 32 := Scalar.muli v70 c8_i32_104
  let c0_i32_257 : BitVec 32 := 0#32
  ![v2.toNat, 512, v85.toNat, 0]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_272 : BitVec 32 := 512#32
  let c0_i32_91 : BitVec 32 := 0#32
  let v71 : BitVec 32 := Scalar.addi v2 c0_i32_91
  let c8_i32_92 : BitVec 32 := 8#32
  let v72 : BitVec 32 := Scalar.remsi v71 c8_i32_92
  let c8_i32_106 : BitVec 32 := 8#32
  let v87 : BitVec 32 := Scalar.muli v72 c8_i32_106
  let c4_i32_107 : BitVec 32 := 4#32
  let v88 : BitVec 32 := Scalar.addi v87 c4_i32_107
  let c0_i32_273 : BitVec 32 := 0#32
  ![v2.toNat, 512, v88.toNat, 0]
def k0_off7 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c768_i32_288 : BitVec 32 := 768#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_110 : BitVec 32 := 8#32
  let v91 : BitVec 32 := Scalar.muli v70 c8_i32_110
  let c0_i32_289 : BitVec 32 := 0#32
  ![v2.toNat, 768, v91.toNat, 0]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c768_i32_304 : BitVec 32 := 768#32
  let c0_i32_91 : BitVec 32 := 0#32
  let v71 : BitVec 32 := Scalar.addi v2 c0_i32_91
  let c8_i32_92 : BitVec 32 := 8#32
  let v72 : BitVec 32 := Scalar.remsi v71 c8_i32_92
  let c8_i32_112 : BitVec 32 := 8#32
  let v93 : BitVec 32 := Scalar.muli v72 c8_i32_112
  let c4_i32_113 : BitVec 32 := 4#32
  let v94 : BitVec 32 := Scalar.addi v93 c4_i32_113
  let c0_i32_305 : BitVec 32 := 0#32
  ![v2.toNat, 768, v94.toNat, 0]
def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_320 : BitVec 32 := 64#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_116 : BitVec 32 := 8#32
  let v97 : BitVec 32 := Scalar.muli v70 c8_i32_116
  let c0_i32_321 : BitVec 32 := 0#32
  ![v2.toNat, 64, v97.toNat, 0]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_336 : BitVec 32 := 64#32
  let c0_i32_91 : BitVec 32 := 0#32
  let v71 : BitVec 32 := Scalar.addi v2 c0_i32_91
  let c8_i32_92 : BitVec 32 := 8#32
  let v72 : BitVec 32 := Scalar.remsi v71 c8_i32_92
  let c8_i32_118 : BitVec 32 := 8#32
  let v99 : BitVec 32 := Scalar.muli v72 c8_i32_118
  let c4_i32_119 : BitVec 32 := 4#32
  let v100 : BitVec 32 := Scalar.addi v99 c4_i32_119
  let c0_i32_337 : BitVec 32 := 0#32
  ![v2.toNat, 64, v100.toNat, 0]
def k0_off11 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c320_i32_352 : BitVec 32 := 320#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_122 : BitVec 32 := 8#32
  let v103 : BitVec 32 := Scalar.muli v70 c8_i32_122
  let c0_i32_353 : BitVec 32 := 0#32
  ![v2.toNat, 320, v103.toNat, 0]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c320_i32_368 : BitVec 32 := 320#32
  let c0_i32_91 : BitVec 32 := 0#32
  let v71 : BitVec 32 := Scalar.addi v2 c0_i32_91
  let c8_i32_92 : BitVec 32 := 8#32
  let v72 : BitVec 32 := Scalar.remsi v71 c8_i32_92
  let c8_i32_124 : BitVec 32 := 8#32
  let v105 : BitVec 32 := Scalar.muli v72 c8_i32_124
  let c4_i32_125 : BitVec 32 := 4#32
  let v106 : BitVec 32 := Scalar.addi v105 c4_i32_125
  let c0_i32_369 : BitVec 32 := 0#32
  ![v2.toNat, 320, v106.toNat, 0]
def k0_off13 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c576_i32_384 : BitVec 32 := 576#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_128 : BitVec 32 := 8#32
  let v109 : BitVec 32 := Scalar.muli v70 c8_i32_128
  let c0_i32_385 : BitVec 32 := 0#32
  ![v2.toNat, 576, v109.toNat, 0]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c576_i32_400 : BitVec 32 := 576#32
  let c0_i32_91 : BitVec 32 := 0#32
  let v71 : BitVec 32 := Scalar.addi v2 c0_i32_91
  let c8_i32_92 : BitVec 32 := 8#32
  let v72 : BitVec 32 := Scalar.remsi v71 c8_i32_92
  let c8_i32_130 : BitVec 32 := 8#32
  let v111 : BitVec 32 := Scalar.muli v72 c8_i32_130
  let c4_i32_131 : BitVec 32 := 4#32
  let v112 : BitVec 32 := Scalar.addi v111 c4_i32_131
  let c0_i32_401 : BitVec 32 := 0#32
  ![v2.toNat, 576, v112.toNat, 0]
def k0_off15 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c832_i32_416 : BitVec 32 := 832#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_134 : BitVec 32 := 8#32
  let v115 : BitVec 32 := Scalar.muli v70 c8_i32_134
  let c0_i32_417 : BitVec 32 := 0#32
  ![v2.toNat, 832, v115.toNat, 0]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c832_i32_432 : BitVec 32 := 832#32
  let c0_i32_91 : BitVec 32 := 0#32
  let v71 : BitVec 32 := Scalar.addi v2 c0_i32_91
  let c8_i32_92 : BitVec 32 := 8#32
  let v72 : BitVec 32 := Scalar.remsi v71 c8_i32_92
  let c8_i32_136 : BitVec 32 := 8#32
  let v117 : BitVec 32 := Scalar.muli v72 c8_i32_136
  let c4_i32_137 : BitVec 32 := 4#32
  let v118 : BitVec 32 := Scalar.addi v117 c4_i32_137
  let c0_i32_433 : BitVec 32 := 0#32
  ![v2.toNat, 832, v118.toNat, 0]
def k0_off17 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_448 : BitVec 32 := 128#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_140 : BitVec 32 := 8#32
  let v121 : BitVec 32 := Scalar.muli v70 c8_i32_140
  let c0_i32_449 : BitVec 32 := 0#32
  ![v2.toNat, 128, v121.toNat, 0]
def k0_off18 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_464 : BitVec 32 := 128#32
  let c0_i32_91 : BitVec 32 := 0#32
  let v71 : BitVec 32 := Scalar.addi v2 c0_i32_91
  let c8_i32_92 : BitVec 32 := 8#32
  let v72 : BitVec 32 := Scalar.remsi v71 c8_i32_92
  let c8_i32_142 : BitVec 32 := 8#32
  let v123 : BitVec 32 := Scalar.muli v72 c8_i32_142
  let c4_i32_143 : BitVec 32 := 4#32
  let v124 : BitVec 32 := Scalar.addi v123 c4_i32_143
  let c0_i32_465 : BitVec 32 := 0#32
  ![v2.toNat, 128, v124.toNat, 0]
def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_480 : BitVec 32 := 384#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_146 : BitVec 32 := 8#32
  let v127 : BitVec 32 := Scalar.muli v70 c8_i32_146
  let c0_i32_481 : BitVec 32 := 0#32
  ![v2.toNat, 384, v127.toNat, 0]
def k0_off20 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_496 : BitVec 32 := 384#32
  let c0_i32_91 : BitVec 32 := 0#32
  let v71 : BitVec 32 := Scalar.addi v2 c0_i32_91
  let c8_i32_92 : BitVec 32 := 8#32
  let v72 : BitVec 32 := Scalar.remsi v71 c8_i32_92
  let c8_i32_148 : BitVec 32 := 8#32
  let v129 : BitVec 32 := Scalar.muli v72 c8_i32_148
  let c4_i32_149 : BitVec 32 := 4#32
  let v130 : BitVec 32 := Scalar.addi v129 c4_i32_149
  let c0_i32_497 : BitVec 32 := 0#32
  ![v2.toNat, 384, v130.toNat, 0]
def k0_off21 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c640_i32_512 : BitVec 32 := 640#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_152 : BitVec 32 := 8#32
  let v133 : BitVec 32 := Scalar.muli v70 c8_i32_152
  let c0_i32_513 : BitVec 32 := 0#32
  ![v2.toNat, 640, v133.toNat, 0]
def k0_off22 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c640_i32_528 : BitVec 32 := 640#32
  let c0_i32_91 : BitVec 32 := 0#32
  let v71 : BitVec 32 := Scalar.addi v2 c0_i32_91
  let c8_i32_92 : BitVec 32 := 8#32
  let v72 : BitVec 32 := Scalar.remsi v71 c8_i32_92
  let c8_i32_154 : BitVec 32 := 8#32
  let v135 : BitVec 32 := Scalar.muli v72 c8_i32_154
  let c4_i32_155 : BitVec 32 := 4#32
  let v136 : BitVec 32 := Scalar.addi v135 c4_i32_155
  let c0_i32_529 : BitVec 32 := 0#32
  ![v2.toNat, 640, v136.toNat, 0]
def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c896_i32_544 : BitVec 32 := 896#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_158 : BitVec 32 := 8#32
  let v139 : BitVec 32 := Scalar.muli v70 c8_i32_158
  let c0_i32_545 : BitVec 32 := 0#32
  ![v2.toNat, 896, v139.toNat, 0]
def k0_off24 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c896_i32_560 : BitVec 32 := 896#32
  let c0_i32_91 : BitVec 32 := 0#32
  let v71 : BitVec 32 := Scalar.addi v2 c0_i32_91
  let c8_i32_92 : BitVec 32 := 8#32
  let v72 : BitVec 32 := Scalar.remsi v71 c8_i32_92
  let c8_i32_160 : BitVec 32 := 8#32
  let v141 : BitVec 32 := Scalar.muli v72 c8_i32_160
  let c4_i32_161 : BitVec 32 := 4#32
  let v142 : BitVec 32 := Scalar.addi v141 c4_i32_161
  let c0_i32_561 : BitVec 32 := 0#32
  ![v2.toNat, 896, v142.toNat, 0]
def k0_off25 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32_576 : BitVec 32 := 192#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_164 : BitVec 32 := 8#32
  let v145 : BitVec 32 := Scalar.muli v70 c8_i32_164
  let c0_i32_577 : BitVec 32 := 0#32
  ![v2.toNat, 192, v145.toNat, 0]
def k0_off26 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32_592 : BitVec 32 := 192#32
  let c0_i32_91 : BitVec 32 := 0#32
  let v71 : BitVec 32 := Scalar.addi v2 c0_i32_91
  let c8_i32_92 : BitVec 32 := 8#32
  let v72 : BitVec 32 := Scalar.remsi v71 c8_i32_92
  let c8_i32_166 : BitVec 32 := 8#32
  let v147 : BitVec 32 := Scalar.muli v72 c8_i32_166
  let c4_i32_167 : BitVec 32 := 4#32
  let v148 : BitVec 32 := Scalar.addi v147 c4_i32_167
  let c0_i32_593 : BitVec 32 := 0#32
  ![v2.toNat, 192, v148.toNat, 0]
def k0_off27 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c448_i32_608 : BitVec 32 := 448#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_170 : BitVec 32 := 8#32
  let v151 : BitVec 32 := Scalar.muli v70 c8_i32_170
  let c0_i32_609 : BitVec 32 := 0#32
  ![v2.toNat, 448, v151.toNat, 0]
def k0_off28 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c448_i32_624 : BitVec 32 := 448#32
  let c0_i32_91 : BitVec 32 := 0#32
  let v71 : BitVec 32 := Scalar.addi v2 c0_i32_91
  let c8_i32_92 : BitVec 32 := 8#32
  let v72 : BitVec 32 := Scalar.remsi v71 c8_i32_92
  let c8_i32_172 : BitVec 32 := 8#32
  let v153 : BitVec 32 := Scalar.muli v72 c8_i32_172
  let c4_i32_173 : BitVec 32 := 4#32
  let v154 : BitVec 32 := Scalar.addi v153 c4_i32_173
  let c0_i32_625 : BitVec 32 := 0#32
  ![v2.toNat, 448, v154.toNat, 0]
def k0_off29 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c704_i32_640 : BitVec 32 := 704#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_176 : BitVec 32 := 8#32
  let v157 : BitVec 32 := Scalar.muli v70 c8_i32_176
  let c0_i32_641 : BitVec 32 := 0#32
  ![v2.toNat, 704, v157.toNat, 0]
def k0_off30 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c704_i32_656 : BitVec 32 := 704#32
  let c0_i32_91 : BitVec 32 := 0#32
  let v71 : BitVec 32 := Scalar.addi v2 c0_i32_91
  let c8_i32_92 : BitVec 32 := 8#32
  let v72 : BitVec 32 := Scalar.remsi v71 c8_i32_92
  let c8_i32_178 : BitVec 32 := 8#32
  let v159 : BitVec 32 := Scalar.muli v72 c8_i32_178
  let c4_i32_179 : BitVec 32 := 4#32
  let v160 : BitVec 32 := Scalar.addi v159 c4_i32_179
  let c0_i32_657 : BitVec 32 := 0#32
  ![v2.toNat, 704, v160.toNat, 0]
def k0_off31 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c960_i32_672 : BitVec 32 := 960#32
  let c0_i32_89 : BitVec 32 := 0#32
  let v68 : BitVec 32 := Scalar.subi v2 c0_i32_89
  let c16_i32 : BitVec 32 := 16#32
  let v69 : BitVec 32 := Scalar.addi v68 c16_i32
  let c8_i32_90 : BitVec 32 := 8#32
  let v70 : BitVec 32 := Scalar.remsi v69 c8_i32_90
  let c8_i32_182 : BitVec 32 := 8#32
  let v163 : BitVec 32 := Scalar.muli v70 c8_i32_182
  let c0_i32_673 : BitVec 32 := 0#32
  ![v2.toNat, 960, v163.toNat, 0]
def k0_off32 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c960_i32_688 : BitVec 32 := 960#32
  let c0_i32_91 : BitVec 32 := 0#32
  let v71 : BitVec 32 := Scalar.addi v2 c0_i32_91
  let c8_i32_92 : BitVec 32 := 8#32
  let v72 : BitVec 32 := Scalar.remsi v71 c8_i32_92
  let c8_i32_184 : BitVec 32 := 8#32
  let v165 : BitVec 32 := Scalar.muli v72 c8_i32_184
  let c4_i32_185 : BitVec 32 := 4#32
  let v166 : BitVec 32 := Scalar.addi v165 c4_i32_185
  let c0_i32_689 : BitVec 32 := 0#32
  ![v2.toNat, 960, v166.toNat, 0]
def k0_dev1 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_699 : BitVec 32 := 1#32
  let v554 : BitVec 32 := Scalar.muli v5 c1_i32_699
  let v555 : BitVec 32 := Scalar.addi c0_i32_700 v554
  v555.toNat
def k0_dev2 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_702 : BitVec 32 := 1#32
  let v556 : BitVec 32 := Scalar.muli v7 c1_i32_702
  let v557 : BitVec 32 := Scalar.addi c0_i32_703 v556
  v557.toNat
@[reducible] def k0_t1_loop : Scf.Loop 32 :=
  let c0_i32_806 : BitVec 32 := 0#32
  let c8_i32_807 : BitVec 32 := 8#32
  let v622 : BitVec 32 := Scalar.addi c0_i32_806 c8_i32_807
  let c1_i32_808 : BitVec 32 := 1#32
  ⟨c0_i32_806, v622, c1_i32_808⟩
def k0_cond2 (k0_t1 : Fin k0_t1_loop.trips) : BitVec 1 :=
  let c0_i32_806 : BitVec 32 := 0#32
  let c1_i32_808 : BitVec 32 := 1#32
  let arg24 : BitVec 32 := Scf.iv c0_i32_806 c1_i32_808 k0_t1
  let c7_i32_975 : BitVec 32 := 7#32
  let v727 : BitVec 1 := Scalar.cmpi .slt arg24 c7_i32_975
  let v728 : BitVec 32 := Scalar.extui v727
  let c0_i32_984 : BitVec 32 := 0#32
  let v729 : BitVec 1 := Scalar.cmpi .ne v728 c0_i32_984
  v729

def k0_off33 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c0_i32_1512 : BitVec 32 := 0#32
  let c0_i32_1513 : BitVec 32 := 0#32
  ![v719.toNat, 0, 0]
def k0_off34 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c0_i32_1514 : BitVec 32 := 0#32
  let c0_i32_1515 : BitVec 32 := 0#32
  ![v721.toNat, 0, 0]
def k0_dev3 (d0 : Dev nD) : Nat :=
  let c0_i32_1511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1510 : BitVec 32 := 1#32
  let v1254 : BitVec 32 := Scalar.muli v7 c1_i32_1510
  let v1255 : BitVec 32 := Scalar.addi c0_i32_1511 v1254
  v1255.toNat
def k0_off35 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c0_i32_1518 : BitVec 32 := 0#32
  let c0_i32_1519 : BitVec 32 := 0#32
  ![v719.toNat, 0, 0]
def k0_off36 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c0_i32_1520 : BitVec 32 := 0#32
  let c0_i32_1521 : BitVec 32 := 0#32
  ![v721.toNat, 0, 0]
def k0_dev4 (d0 : Dev nD) : Nat :=
  let c0_i32_1517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1516 : BitVec 32 := 1#32
  let v1264 : BitVec 32 := Scalar.muli v7 c1_i32_1516
  let v1265 : BitVec 32 := Scalar.addi c0_i32_1517 v1264
  v1265.toNat
def k0_dev5 (d0 : Dev nD) : Nat :=
  let c0_i32_1523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1522 : BitVec 32 := 1#32
  let v1274 : BitVec 32 := Scalar.muli v5 c1_i32_1522
  let v1275 : BitVec 32 := Scalar.addi c0_i32_1523 v1274
  v1275.toNat
def k0_dev6 (d0 : Dev nD) : Nat :=
  let c0_i32_1529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1528 : BitVec 32 := 1#32
  let v1284 : BitVec 32 := Scalar.muli v5 c1_i32_1528
  let v1285 : BitVec 32 := Scalar.addi c0_i32_1529 v1284
  v1285.toNat
def k0_off37 (k0_t1 : Fin k0_t1_loop.trips) : Fin 2 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c0_i32_1634 : BitVec 32 := 0#32
  ![v721.toNat, 0]
def k0_off38 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c0_i32_1635 : BitVec 32 := 0#32
  let c0_i32_1636 : BitVec 32 := 0#32
  let c0_i32_1637 : BitVec 32 := 0#32
  ![v721.toNat, 0, 0, 0]
def k0_off39 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1638 : BitVec 32 := 0#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1538 : BitVec 32 := 8#32
  let v1300 : BitVec 32 := Scalar.muli v1297 c8_i32_1538
  let c0_i32_1639 : BitVec 32 := 0#32
  ![v2.toNat, 0, v1300.toNat, 0]
def k0_off40 (k0_t1 : Fin k0_t1_loop.trips) : Fin 2 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c1_i32_1640 : BitVec 32 := 1#32
  ![v721.toNat, 1]
def k0_off41 (k0_t1 : Fin k0_t1_loop.trips) : Fin 2 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c2_i32_1646 : BitVec 32 := 2#32
  ![v721.toNat, 2]
def k0_off42 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1650 : BitVec 32 := 0#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1540 : BitVec 32 := 8#32
  let v1302 : BitVec 32 := Scalar.muli v1299 c8_i32_1540
  let c4_i32_1541 : BitVec 32 := 4#32
  let v1303 : BitVec 32 := Scalar.addi v1302 c4_i32_1541
  let c0_i32_1651 : BitVec 32 := 0#32
  ![v2.toNat, 0, v1303.toNat, 0]
def k0_off43 (k0_t1 : Fin k0_t1_loop.trips) : Fin 2 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c3_i32_1652 : BitVec 32 := 3#32
  ![v721.toNat, 3]
def k0_off44 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c64_i32_1659 : BitVec 32 := 64#32
  let c0_i32_1660 : BitVec 32 := 0#32
  let c0_i32_1661 : BitVec 32 := 0#32
  ![v721.toNat, 64, 0, 0]
def k0_off45 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1662 : BitVec 32 := 256#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1544 : BitVec 32 := 8#32
  let v1306 : BitVec 32 := Scalar.muli v1297 c8_i32_1544
  let c0_i32_1663 : BitVec 32 := 0#32
  ![v2.toNat, 256, v1306.toNat, 0]
def k0_off46 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1674 : BitVec 32 := 256#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1546 : BitVec 32 := 8#32
  let v1308 : BitVec 32 := Scalar.muli v1299 c8_i32_1546
  let c4_i32_1547 : BitVec 32 := 4#32
  let v1309 : BitVec 32 := Scalar.addi v1308 c4_i32_1547
  let c0_i32_1675 : BitVec 32 := 0#32
  ![v2.toNat, 256, v1309.toNat, 0]
def k0_off47 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c128_i32_1683 : BitVec 32 := 128#32
  let c0_i32_1684 : BitVec 32 := 0#32
  let c0_i32_1685 : BitVec 32 := 0#32
  ![v721.toNat, 128, 0, 0]
def k0_off48 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1686 : BitVec 32 := 512#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1550 : BitVec 32 := 8#32
  let v1312 : BitVec 32 := Scalar.muli v1297 c8_i32_1550
  let c0_i32_1687 : BitVec 32 := 0#32
  ![v2.toNat, 512, v1312.toNat, 0]
def k0_off49 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1698 : BitVec 32 := 512#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1552 : BitVec 32 := 8#32
  let v1314 : BitVec 32 := Scalar.muli v1299 c8_i32_1552
  let c4_i32_1553 : BitVec 32 := 4#32
  let v1315 : BitVec 32 := Scalar.addi v1314 c4_i32_1553
  let c0_i32_1699 : BitVec 32 := 0#32
  ![v2.toNat, 512, v1315.toNat, 0]
def k0_off50 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c192_i32_1707 : BitVec 32 := 192#32
  let c0_i32_1708 : BitVec 32 := 0#32
  let c0_i32_1709 : BitVec 32 := 0#32
  ![v721.toNat, 192, 0, 0]
def k0_off51 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c768_i32_1710 : BitVec 32 := 768#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1556 : BitVec 32 := 8#32
  let v1318 : BitVec 32 := Scalar.muli v1297 c8_i32_1556
  let c0_i32_1711 : BitVec 32 := 0#32
  ![v2.toNat, 768, v1318.toNat, 0]
def k0_off52 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c768_i32_1722 : BitVec 32 := 768#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1558 : BitVec 32 := 8#32
  let v1320 : BitVec 32 := Scalar.muli v1299 c8_i32_1558
  let c4_i32_1559 : BitVec 32 := 4#32
  let v1321 : BitVec 32 := Scalar.addi v1320 c4_i32_1559
  let c0_i32_1723 : BitVec 32 := 0#32
  ![v2.toNat, 768, v1321.toNat, 0]
def k0_off53 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c256_i32_1731 : BitVec 32 := 256#32
  let c0_i32_1732 : BitVec 32 := 0#32
  let c0_i32_1733 : BitVec 32 := 0#32
  ![v721.toNat, 256, 0, 0]
def k0_off54 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1734 : BitVec 32 := 64#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1562 : BitVec 32 := 8#32
  let v1324 : BitVec 32 := Scalar.muli v1297 c8_i32_1562
  let c0_i32_1735 : BitVec 32 := 0#32
  ![v2.toNat, 64, v1324.toNat, 0]
def k0_off55 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1746 : BitVec 32 := 64#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1564 : BitVec 32 := 8#32
  let v1326 : BitVec 32 := Scalar.muli v1299 c8_i32_1564
  let c4_i32_1565 : BitVec 32 := 4#32
  let v1327 : BitVec 32 := Scalar.addi v1326 c4_i32_1565
  let c0_i32_1747 : BitVec 32 := 0#32
  ![v2.toNat, 64, v1327.toNat, 0]
def k0_off56 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c320_i32_1755 : BitVec 32 := 320#32
  let c0_i32_1756 : BitVec 32 := 0#32
  let c0_i32_1757 : BitVec 32 := 0#32
  ![v721.toNat, 320, 0, 0]
def k0_off57 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c320_i32_1758 : BitVec 32 := 320#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1568 : BitVec 32 := 8#32
  let v1330 : BitVec 32 := Scalar.muli v1297 c8_i32_1568
  let c0_i32_1759 : BitVec 32 := 0#32
  ![v2.toNat, 320, v1330.toNat, 0]
def k0_off58 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c320_i32_1770 : BitVec 32 := 320#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1570 : BitVec 32 := 8#32
  let v1332 : BitVec 32 := Scalar.muli v1299 c8_i32_1570
  let c4_i32_1571 : BitVec 32 := 4#32
  let v1333 : BitVec 32 := Scalar.addi v1332 c4_i32_1571
  let c0_i32_1771 : BitVec 32 := 0#32
  ![v2.toNat, 320, v1333.toNat, 0]
def k0_off59 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c384_i32_1779 : BitVec 32 := 384#32
  let c0_i32_1780 : BitVec 32 := 0#32
  let c0_i32_1781 : BitVec 32 := 0#32
  ![v721.toNat, 384, 0, 0]
def k0_off60 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c576_i32_1782 : BitVec 32 := 576#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1574 : BitVec 32 := 8#32
  let v1336 : BitVec 32 := Scalar.muli v1297 c8_i32_1574
  let c0_i32_1783 : BitVec 32 := 0#32
  ![v2.toNat, 576, v1336.toNat, 0]
def k0_off61 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c576_i32_1794 : BitVec 32 := 576#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1576 : BitVec 32 := 8#32
  let v1338 : BitVec 32 := Scalar.muli v1299 c8_i32_1576
  let c4_i32_1577 : BitVec 32 := 4#32
  let v1339 : BitVec 32 := Scalar.addi v1338 c4_i32_1577
  let c0_i32_1795 : BitVec 32 := 0#32
  ![v2.toNat, 576, v1339.toNat, 0]
def k0_off62 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c448_i32_1803 : BitVec 32 := 448#32
  let c0_i32_1804 : BitVec 32 := 0#32
  let c0_i32_1805 : BitVec 32 := 0#32
  ![v721.toNat, 448, 0, 0]
def k0_off63 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c832_i32_1806 : BitVec 32 := 832#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1580 : BitVec 32 := 8#32
  let v1342 : BitVec 32 := Scalar.muli v1297 c8_i32_1580
  let c0_i32_1807 : BitVec 32 := 0#32
  ![v2.toNat, 832, v1342.toNat, 0]
def k0_off64 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c832_i32_1818 : BitVec 32 := 832#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1582 : BitVec 32 := 8#32
  let v1344 : BitVec 32 := Scalar.muli v1299 c8_i32_1582
  let c4_i32_1583 : BitVec 32 := 4#32
  let v1345 : BitVec 32 := Scalar.addi v1344 c4_i32_1583
  let c0_i32_1819 : BitVec 32 := 0#32
  ![v2.toNat, 832, v1345.toNat, 0]
def k0_off65 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c512_i32_1827 : BitVec 32 := 512#32
  let c0_i32_1828 : BitVec 32 := 0#32
  let c0_i32_1829 : BitVec 32 := 0#32
  ![v721.toNat, 512, 0, 0]
def k0_off66 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1830 : BitVec 32 := 128#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1586 : BitVec 32 := 8#32
  let v1348 : BitVec 32 := Scalar.muli v1297 c8_i32_1586
  let c0_i32_1831 : BitVec 32 := 0#32
  ![v2.toNat, 128, v1348.toNat, 0]
def k0_off67 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1842 : BitVec 32 := 128#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1588 : BitVec 32 := 8#32
  let v1350 : BitVec 32 := Scalar.muli v1299 c8_i32_1588
  let c4_i32_1589 : BitVec 32 := 4#32
  let v1351 : BitVec 32 := Scalar.addi v1350 c4_i32_1589
  let c0_i32_1843 : BitVec 32 := 0#32
  ![v2.toNat, 128, v1351.toNat, 0]
def k0_off68 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c576_i32_1851 : BitVec 32 := 576#32
  let c0_i32_1852 : BitVec 32 := 0#32
  let c0_i32_1853 : BitVec 32 := 0#32
  ![v721.toNat, 576, 0, 0]
def k0_off69 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_1854 : BitVec 32 := 384#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1592 : BitVec 32 := 8#32
  let v1354 : BitVec 32 := Scalar.muli v1297 c8_i32_1592
  let c0_i32_1855 : BitVec 32 := 0#32
  ![v2.toNat, 384, v1354.toNat, 0]
def k0_off70 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_1866 : BitVec 32 := 384#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1594 : BitVec 32 := 8#32
  let v1356 : BitVec 32 := Scalar.muli v1299 c8_i32_1594
  let c4_i32_1595 : BitVec 32 := 4#32
  let v1357 : BitVec 32 := Scalar.addi v1356 c4_i32_1595
  let c0_i32_1867 : BitVec 32 := 0#32
  ![v2.toNat, 384, v1357.toNat, 0]
def k0_off71 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c640_i32_1875 : BitVec 32 := 640#32
  let c0_i32_1876 : BitVec 32 := 0#32
  let c0_i32_1877 : BitVec 32 := 0#32
  ![v721.toNat, 640, 0, 0]
def k0_off72 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c640_i32_1878 : BitVec 32 := 640#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1598 : BitVec 32 := 8#32
  let v1360 : BitVec 32 := Scalar.muli v1297 c8_i32_1598
  let c0_i32_1879 : BitVec 32 := 0#32
  ![v2.toNat, 640, v1360.toNat, 0]
def k0_off73 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c640_i32_1890 : BitVec 32 := 640#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1600 : BitVec 32 := 8#32
  let v1362 : BitVec 32 := Scalar.muli v1299 c8_i32_1600
  let c4_i32_1601 : BitVec 32 := 4#32
  let v1363 : BitVec 32 := Scalar.addi v1362 c4_i32_1601
  let c0_i32_1891 : BitVec 32 := 0#32
  ![v2.toNat, 640, v1363.toNat, 0]
def k0_off74 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c704_i32_1899 : BitVec 32 := 704#32
  let c0_i32_1900 : BitVec 32 := 0#32
  let c0_i32_1901 : BitVec 32 := 0#32
  ![v721.toNat, 704, 0, 0]
def k0_off75 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c896_i32_1902 : BitVec 32 := 896#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1604 : BitVec 32 := 8#32
  let v1366 : BitVec 32 := Scalar.muli v1297 c8_i32_1604
  let c0_i32_1903 : BitVec 32 := 0#32
  ![v2.toNat, 896, v1366.toNat, 0]
def k0_off76 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c896_i32_1914 : BitVec 32 := 896#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1606 : BitVec 32 := 8#32
  let v1368 : BitVec 32 := Scalar.muli v1299 c8_i32_1606
  let c4_i32_1607 : BitVec 32 := 4#32
  let v1369 : BitVec 32 := Scalar.addi v1368 c4_i32_1607
  let c0_i32_1915 : BitVec 32 := 0#32
  ![v2.toNat, 896, v1369.toNat, 0]
def k0_off77 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c768_i32_1923 : BitVec 32 := 768#32
  let c0_i32_1924 : BitVec 32 := 0#32
  let c0_i32_1925 : BitVec 32 := 0#32
  ![v721.toNat, 768, 0, 0]
def k0_off78 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32_1926 : BitVec 32 := 192#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1610 : BitVec 32 := 8#32
  let v1372 : BitVec 32 := Scalar.muli v1297 c8_i32_1610
  let c0_i32_1927 : BitVec 32 := 0#32
  ![v2.toNat, 192, v1372.toNat, 0]
def k0_off79 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32_1938 : BitVec 32 := 192#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1612 : BitVec 32 := 8#32
  let v1374 : BitVec 32 := Scalar.muli v1299 c8_i32_1612
  let c4_i32_1613 : BitVec 32 := 4#32
  let v1375 : BitVec 32 := Scalar.addi v1374 c4_i32_1613
  let c0_i32_1939 : BitVec 32 := 0#32
  ![v2.toNat, 192, v1375.toNat, 0]
def k0_off80 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c832_i32_1947 : BitVec 32 := 832#32
  let c0_i32_1948 : BitVec 32 := 0#32
  let c0_i32_1949 : BitVec 32 := 0#32
  ![v721.toNat, 832, 0, 0]
def k0_off81 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c448_i32_1950 : BitVec 32 := 448#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1616 : BitVec 32 := 8#32
  let v1378 : BitVec 32 := Scalar.muli v1297 c8_i32_1616
  let c0_i32_1951 : BitVec 32 := 0#32
  ![v2.toNat, 448, v1378.toNat, 0]
def k0_off82 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c448_i32_1962 : BitVec 32 := 448#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1618 : BitVec 32 := 8#32
  let v1380 : BitVec 32 := Scalar.muli v1299 c8_i32_1618
  let c4_i32_1619 : BitVec 32 := 4#32
  let v1381 : BitVec 32 := Scalar.addi v1380 c4_i32_1619
  let c0_i32_1963 : BitVec 32 := 0#32
  ![v2.toNat, 448, v1381.toNat, 0]
def k0_off83 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c896_i32_1971 : BitVec 32 := 896#32
  let c0_i32_1972 : BitVec 32 := 0#32
  let c0_i32_1973 : BitVec 32 := 0#32
  ![v721.toNat, 896, 0, 0]
def k0_off84 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c704_i32_1974 : BitVec 32 := 704#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1622 : BitVec 32 := 8#32
  let v1384 : BitVec 32 := Scalar.muli v1297 c8_i32_1622
  let c0_i32_1975 : BitVec 32 := 0#32
  ![v2.toNat, 704, v1384.toNat, 0]
def k0_off85 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c704_i32_1986 : BitVec 32 := 704#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1624 : BitVec 32 := 8#32
  let v1386 : BitVec 32 := Scalar.muli v1299 c8_i32_1624
  let c4_i32_1625 : BitVec 32 := 4#32
  let v1387 : BitVec 32 := Scalar.addi v1386 c4_i32_1625
  let c0_i32_1987 : BitVec 32 := 0#32
  ![v2.toNat, 704, v1387.toNat, 0]
def k0_off86 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c960_i32_1995 : BitVec 32 := 960#32
  let c0_i32_1996 : BitVec 32 := 0#32
  let c0_i32_1997 : BitVec 32 := 0#32
  ![v721.toNat, 960, 0, 0]
def k0_off87 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c960_i32_1998 : BitVec 32 := 960#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1295 : BitVec 32 := Scalar.subi v2 v1294
  let c16_i32_1535 : BitVec 32 := 16#32
  let v1296 : BitVec 32 := Scalar.addi v1295 c16_i32_1535
  let c8_i32_1536 : BitVec 32 := 8#32
  let v1297 : BitVec 32 := Scalar.remsi v1296 c8_i32_1536
  let c8_i32_1628 : BitVec 32 := 8#32
  let v1390 : BitVec 32 := Scalar.muli v1297 c8_i32_1628
  let c0_i32_1999 : BitVec 32 := 0#32
  ![v2.toNat, 960, v1390.toNat, 0]
def k0_off88 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c960_i32_2010 : BitVec 32 := 960#32
  let c0_i32_806 : BitVec 32 := 0#32
  let c1_i32_808 : BitVec 32 := 1#32
  let arg24 : BitVec 32 := Scf.iv c0_i32_806 c1_i32_808 k0_t1
  let c1_i32_1534 : BitVec 32 := 1#32
  let v1294 : BitVec 32 := Scalar.addi arg24 c1_i32_1534
  let v1298 : BitVec 32 := Scalar.addi v2 v1294
  let c8_i32_1537 : BitVec 32 := 8#32
  let v1299 : BitVec 32 := Scalar.remsi v1298 c8_i32_1537
  let c8_i32_1630 : BitVec 32 := 8#32
  let v1392 : BitVec 32 := Scalar.muli v1299 c8_i32_1630
  let c4_i32_1631 : BitVec 32 := 4#32
  let v1393 : BitVec 32 := Scalar.addi v1392 c4_i32_1631
  let c0_i32_2011 : BitVec 32 := 0#32
  ![v2.toNat, 960, v1393.toNat, 0]
def k0_off89 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let v731 : Index := Scalar.indexCast v721
  let c0_987 : Index := 0#32
  let c0_988 : Index := 0#32
  ![v731.toNat, 0, 0]
def k0_off90 (k0_t1 : Fin k0_t1_loop.trips) : Fin 2 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c0_i32_1097 : BitVec 32 := 0#32
  ![v719.toNat, 0]
def k0_off91 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c0_i32_1098 : BitVec 32 := 0#32
  let c0_i32_1099 : BitVec 32 := 0#32
  let c0_i32_1100 : BitVec 32 := 0#32
  ![v719.toNat, 0, 0, 0]
def k0_off92 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1101 : BitVec 32 := 0#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1001 : BitVec 32 := 8#32
  let v751 : BitVec 32 := Scalar.muli v748 c8_i32_1001
  let c0_i32_1102 : BitVec 32 := 0#32
  ![v2.toNat, 0, v751.toNat, 0]
def k0_off93 (k0_t1 : Fin k0_t1_loop.trips) : Fin 2 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c1_i32_1103 : BitVec 32 := 1#32
  ![v719.toNat, 1]
def k0_off94 (k0_t1 : Fin k0_t1_loop.trips) : Fin 2 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c2_i32_1109 : BitVec 32 := 2#32
  ![v719.toNat, 2]
def k0_off95 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1113 : BitVec 32 := 0#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1003 : BitVec 32 := 8#32
  let v753 : BitVec 32 := Scalar.muli v750 c8_i32_1003
  let c4_i32_1004 : BitVec 32 := 4#32
  let v754 : BitVec 32 := Scalar.addi v753 c4_i32_1004
  let c0_i32_1114 : BitVec 32 := 0#32
  ![v2.toNat, 0, v754.toNat, 0]
def k0_off96 (k0_t1 : Fin k0_t1_loop.trips) : Fin 2 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c3_i32_1115 : BitVec 32 := 3#32
  ![v719.toNat, 3]
def k0_off97 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c64_i32_1122 : BitVec 32 := 64#32
  let c0_i32_1123 : BitVec 32 := 0#32
  let c0_i32_1124 : BitVec 32 := 0#32
  ![v719.toNat, 64, 0, 0]
def k0_off98 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1125 : BitVec 32 := 256#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1007 : BitVec 32 := 8#32
  let v757 : BitVec 32 := Scalar.muli v748 c8_i32_1007
  let c0_i32_1126 : BitVec 32 := 0#32
  ![v2.toNat, 256, v757.toNat, 0]
def k0_off99 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1137 : BitVec 32 := 256#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1009 : BitVec 32 := 8#32
  let v759 : BitVec 32 := Scalar.muli v750 c8_i32_1009
  let c4_i32_1010 : BitVec 32 := 4#32
  let v760 : BitVec 32 := Scalar.addi v759 c4_i32_1010
  let c0_i32_1138 : BitVec 32 := 0#32
  ![v2.toNat, 256, v760.toNat, 0]
def k0_off100 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c128_i32_1146 : BitVec 32 := 128#32
  let c0_i32_1147 : BitVec 32 := 0#32
  let c0_i32_1148 : BitVec 32 := 0#32
  ![v719.toNat, 128, 0, 0]
def k0_off101 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1149 : BitVec 32 := 512#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1013 : BitVec 32 := 8#32
  let v763 : BitVec 32 := Scalar.muli v748 c8_i32_1013
  let c0_i32_1150 : BitVec 32 := 0#32
  ![v2.toNat, 512, v763.toNat, 0]
def k0_off102 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1161 : BitVec 32 := 512#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1015 : BitVec 32 := 8#32
  let v765 : BitVec 32 := Scalar.muli v750 c8_i32_1015
  let c4_i32_1016 : BitVec 32 := 4#32
  let v766 : BitVec 32 := Scalar.addi v765 c4_i32_1016
  let c0_i32_1162 : BitVec 32 := 0#32
  ![v2.toNat, 512, v766.toNat, 0]
def k0_off103 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c192_i32_1170 : BitVec 32 := 192#32
  let c0_i32_1171 : BitVec 32 := 0#32
  let c0_i32_1172 : BitVec 32 := 0#32
  ![v719.toNat, 192, 0, 0]
def k0_off104 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c768_i32_1173 : BitVec 32 := 768#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1019 : BitVec 32 := 8#32
  let v769 : BitVec 32 := Scalar.muli v748 c8_i32_1019
  let c0_i32_1174 : BitVec 32 := 0#32
  ![v2.toNat, 768, v769.toNat, 0]
def k0_off105 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c768_i32_1185 : BitVec 32 := 768#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1021 : BitVec 32 := 8#32
  let v771 : BitVec 32 := Scalar.muli v750 c8_i32_1021
  let c4_i32_1022 : BitVec 32 := 4#32
  let v772 : BitVec 32 := Scalar.addi v771 c4_i32_1022
  let c0_i32_1186 : BitVec 32 := 0#32
  ![v2.toNat, 768, v772.toNat, 0]
def k0_off106 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c256_i32_1194 : BitVec 32 := 256#32
  let c0_i32_1195 : BitVec 32 := 0#32
  let c0_i32_1196 : BitVec 32 := 0#32
  ![v719.toNat, 256, 0, 0]
def k0_off107 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1197 : BitVec 32 := 64#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1025 : BitVec 32 := 8#32
  let v775 : BitVec 32 := Scalar.muli v748 c8_i32_1025
  let c0_i32_1198 : BitVec 32 := 0#32
  ![v2.toNat, 64, v775.toNat, 0]
def k0_off108 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1209 : BitVec 32 := 64#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1027 : BitVec 32 := 8#32
  let v777 : BitVec 32 := Scalar.muli v750 c8_i32_1027
  let c4_i32_1028 : BitVec 32 := 4#32
  let v778 : BitVec 32 := Scalar.addi v777 c4_i32_1028
  let c0_i32_1210 : BitVec 32 := 0#32
  ![v2.toNat, 64, v778.toNat, 0]
def k0_off109 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c320_i32_1218 : BitVec 32 := 320#32
  let c0_i32_1219 : BitVec 32 := 0#32
  let c0_i32_1220 : BitVec 32 := 0#32
  ![v719.toNat, 320, 0, 0]
def k0_off110 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c320_i32_1221 : BitVec 32 := 320#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1031 : BitVec 32 := 8#32
  let v781 : BitVec 32 := Scalar.muli v748 c8_i32_1031
  let c0_i32_1222 : BitVec 32 := 0#32
  ![v2.toNat, 320, v781.toNat, 0]
def k0_off111 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c320_i32_1233 : BitVec 32 := 320#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1033 : BitVec 32 := 8#32
  let v783 : BitVec 32 := Scalar.muli v750 c8_i32_1033
  let c4_i32_1034 : BitVec 32 := 4#32
  let v784 : BitVec 32 := Scalar.addi v783 c4_i32_1034
  let c0_i32_1234 : BitVec 32 := 0#32
  ![v2.toNat, 320, v784.toNat, 0]
def k0_off112 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c384_i32_1242 : BitVec 32 := 384#32
  let c0_i32_1243 : BitVec 32 := 0#32
  let c0_i32_1244 : BitVec 32 := 0#32
  ![v719.toNat, 384, 0, 0]
def k0_off113 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c576_i32_1245 : BitVec 32 := 576#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1037 : BitVec 32 := 8#32
  let v787 : BitVec 32 := Scalar.muli v748 c8_i32_1037
  let c0_i32_1246 : BitVec 32 := 0#32
  ![v2.toNat, 576, v787.toNat, 0]
def k0_off114 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c576_i32_1257 : BitVec 32 := 576#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1039 : BitVec 32 := 8#32
  let v789 : BitVec 32 := Scalar.muli v750 c8_i32_1039
  let c4_i32_1040 : BitVec 32 := 4#32
  let v790 : BitVec 32 := Scalar.addi v789 c4_i32_1040
  let c0_i32_1258 : BitVec 32 := 0#32
  ![v2.toNat, 576, v790.toNat, 0]
def k0_off115 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c448_i32_1266 : BitVec 32 := 448#32
  let c0_i32_1267 : BitVec 32 := 0#32
  let c0_i32_1268 : BitVec 32 := 0#32
  ![v719.toNat, 448, 0, 0]
def k0_off116 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c832_i32_1269 : BitVec 32 := 832#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1043 : BitVec 32 := 8#32
  let v793 : BitVec 32 := Scalar.muli v748 c8_i32_1043
  let c0_i32_1270 : BitVec 32 := 0#32
  ![v2.toNat, 832, v793.toNat, 0]
def k0_off117 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c832_i32_1281 : BitVec 32 := 832#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1045 : BitVec 32 := 8#32
  let v795 : BitVec 32 := Scalar.muli v750 c8_i32_1045
  let c4_i32_1046 : BitVec 32 := 4#32
  let v796 : BitVec 32 := Scalar.addi v795 c4_i32_1046
  let c0_i32_1282 : BitVec 32 := 0#32
  ![v2.toNat, 832, v796.toNat, 0]
def k0_off118 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c512_i32_1290 : BitVec 32 := 512#32
  let c0_i32_1291 : BitVec 32 := 0#32
  let c0_i32_1292 : BitVec 32 := 0#32
  ![v719.toNat, 512, 0, 0]
def k0_off119 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1293 : BitVec 32 := 128#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1049 : BitVec 32 := 8#32
  let v799 : BitVec 32 := Scalar.muli v748 c8_i32_1049
  let c0_i32_1294 : BitVec 32 := 0#32
  ![v2.toNat, 128, v799.toNat, 0]
def k0_off120 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1305 : BitVec 32 := 128#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1051 : BitVec 32 := 8#32
  let v801 : BitVec 32 := Scalar.muli v750 c8_i32_1051
  let c4_i32_1052 : BitVec 32 := 4#32
  let v802 : BitVec 32 := Scalar.addi v801 c4_i32_1052
  let c0_i32_1306 : BitVec 32 := 0#32
  ![v2.toNat, 128, v802.toNat, 0]
def k0_off121 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c576_i32_1314 : BitVec 32 := 576#32
  let c0_i32_1315 : BitVec 32 := 0#32
  let c0_i32_1316 : BitVec 32 := 0#32
  ![v719.toNat, 576, 0, 0]
def k0_off122 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_1317 : BitVec 32 := 384#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1055 : BitVec 32 := 8#32
  let v805 : BitVec 32 := Scalar.muli v748 c8_i32_1055
  let c0_i32_1318 : BitVec 32 := 0#32
  ![v2.toNat, 384, v805.toNat, 0]
def k0_off123 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_1329 : BitVec 32 := 384#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1057 : BitVec 32 := 8#32
  let v807 : BitVec 32 := Scalar.muli v750 c8_i32_1057
  let c4_i32_1058 : BitVec 32 := 4#32
  let v808 : BitVec 32 := Scalar.addi v807 c4_i32_1058
  let c0_i32_1330 : BitVec 32 := 0#32
  ![v2.toNat, 384, v808.toNat, 0]
def k0_off124 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c640_i32_1338 : BitVec 32 := 640#32
  let c0_i32_1339 : BitVec 32 := 0#32
  let c0_i32_1340 : BitVec 32 := 0#32
  ![v719.toNat, 640, 0, 0]
def k0_off125 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c640_i32_1341 : BitVec 32 := 640#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1061 : BitVec 32 := 8#32
  let v811 : BitVec 32 := Scalar.muli v748 c8_i32_1061
  let c0_i32_1342 : BitVec 32 := 0#32
  ![v2.toNat, 640, v811.toNat, 0]
def k0_off126 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c640_i32_1353 : BitVec 32 := 640#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1063 : BitVec 32 := 8#32
  let v813 : BitVec 32 := Scalar.muli v750 c8_i32_1063
  let c4_i32_1064 : BitVec 32 := 4#32
  let v814 : BitVec 32 := Scalar.addi v813 c4_i32_1064
  let c0_i32_1354 : BitVec 32 := 0#32
  ![v2.toNat, 640, v814.toNat, 0]
def k0_off127 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c704_i32_1362 : BitVec 32 := 704#32
  let c0_i32_1363 : BitVec 32 := 0#32
  let c0_i32_1364 : BitVec 32 := 0#32
  ![v719.toNat, 704, 0, 0]
def k0_off128 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c896_i32_1365 : BitVec 32 := 896#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1067 : BitVec 32 := 8#32
  let v817 : BitVec 32 := Scalar.muli v748 c8_i32_1067
  let c0_i32_1366 : BitVec 32 := 0#32
  ![v2.toNat, 896, v817.toNat, 0]
def k0_off129 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c896_i32_1377 : BitVec 32 := 896#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1069 : BitVec 32 := 8#32
  let v819 : BitVec 32 := Scalar.muli v750 c8_i32_1069
  let c4_i32_1070 : BitVec 32 := 4#32
  let v820 : BitVec 32 := Scalar.addi v819 c4_i32_1070
  let c0_i32_1378 : BitVec 32 := 0#32
  ![v2.toNat, 896, v820.toNat, 0]
def k0_off130 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c768_i32_1386 : BitVec 32 := 768#32
  let c0_i32_1387 : BitVec 32 := 0#32
  let c0_i32_1388 : BitVec 32 := 0#32
  ![v719.toNat, 768, 0, 0]
def k0_off131 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32_1389 : BitVec 32 := 192#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1073 : BitVec 32 := 8#32
  let v823 : BitVec 32 := Scalar.muli v748 c8_i32_1073
  let c0_i32_1390 : BitVec 32 := 0#32
  ![v2.toNat, 192, v823.toNat, 0]
def k0_off132 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c192_i32_1401 : BitVec 32 := 192#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1075 : BitVec 32 := 8#32
  let v825 : BitVec 32 := Scalar.muli v750 c8_i32_1075
  let c4_i32_1076 : BitVec 32 := 4#32
  let v826 : BitVec 32 := Scalar.addi v825 c4_i32_1076
  let c0_i32_1402 : BitVec 32 := 0#32
  ![v2.toNat, 192, v826.toNat, 0]
def k0_off133 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c832_i32_1410 : BitVec 32 := 832#32
  let c0_i32_1411 : BitVec 32 := 0#32
  let c0_i32_1412 : BitVec 32 := 0#32
  ![v719.toNat, 832, 0, 0]
def k0_off134 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c448_i32_1413 : BitVec 32 := 448#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1079 : BitVec 32 := 8#32
  let v829 : BitVec 32 := Scalar.muli v748 c8_i32_1079
  let c0_i32_1414 : BitVec 32 := 0#32
  ![v2.toNat, 448, v829.toNat, 0]
def k0_off135 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c448_i32_1425 : BitVec 32 := 448#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1081 : BitVec 32 := 8#32
  let v831 : BitVec 32 := Scalar.muli v750 c8_i32_1081
  let c4_i32_1082 : BitVec 32 := 4#32
  let v832 : BitVec 32 := Scalar.addi v831 c4_i32_1082
  let c0_i32_1426 : BitVec 32 := 0#32
  ![v2.toNat, 448, v832.toNat, 0]
def k0_off136 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c896_i32_1434 : BitVec 32 := 896#32
  let c0_i32_1435 : BitVec 32 := 0#32
  let c0_i32_1436 : BitVec 32 := 0#32
  ![v719.toNat, 896, 0, 0]
def k0_off137 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c704_i32_1437 : BitVec 32 := 704#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1085 : BitVec 32 := 8#32
  let v835 : BitVec 32 := Scalar.muli v748 c8_i32_1085
  let c0_i32_1438 : BitVec 32 := 0#32
  ![v2.toNat, 704, v835.toNat, 0]
def k0_off138 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c704_i32_1449 : BitVec 32 := 704#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1087 : BitVec 32 := 8#32
  let v837 : BitVec 32 := Scalar.muli v750 c8_i32_1087
  let c4_i32_1088 : BitVec 32 := 4#32
  let v838 : BitVec 32 := Scalar.addi v837 c4_i32_1088
  let c0_i32_1450 : BitVec 32 := 0#32
  ![v2.toNat, 704, v838.toNat, 0]
def k0_off139 (k0_t1 : Fin k0_t1_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c960_i32_1458 : BitVec 32 := 960#32
  let c0_i32_1459 : BitVec 32 := 0#32
  let c0_i32_1460 : BitVec 32 := 0#32
  ![v719.toNat, 960, 0, 0]
def k0_off140 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c960_i32_1461 : BitVec 32 := 960#32
  let c0_i32_806 : BitVec 32 := 0#32
  let c1_i32_808 : BitVec 32 := 1#32
  let arg24 : BitVec 32 := Scf.iv c0_i32_806 c1_i32_808 k0_t1
  let v746 : BitVec 32 := Scalar.subi v2 arg24
  let c16_i32_998 : BitVec 32 := 16#32
  let v747 : BitVec 32 := Scalar.addi v746 c16_i32_998
  let c8_i32_999 : BitVec 32 := 8#32
  let v748 : BitVec 32 := Scalar.remsi v747 c8_i32_999
  let c8_i32_1091 : BitVec 32 := 8#32
  let v841 : BitVec 32 := Scalar.muli v748 c8_i32_1091
  let c0_i32_1462 : BitVec 32 := 0#32
  ![v2.toNat, 960, v841.toNat, 0]
def k0_off141 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c960_i32_1473 : BitVec 32 := 960#32
  let c0_i32_806 : BitVec 32 := 0#32
  let c1_i32_808 : BitVec 32 := 1#32
  let arg24 : BitVec 32 := Scf.iv c0_i32_806 c1_i32_808 k0_t1
  let v749 : BitVec 32 := Scalar.addi v2 arg24
  let c8_i32_1000 : BitVec 32 := 8#32
  let v750 : BitVec 32 := Scalar.remsi v749 c8_i32_1000
  let c8_i32_1093 : BitVec 32 := 8#32
  let v843 : BitVec 32 := Scalar.muli v750 c8_i32_1093
  let c4_i32_1094 : BitVec 32 := 4#32
  let v844 : BitVec 32 := Scalar.addi v843 c4_i32_1094
  let c0_i32_1474 : BitVec 32 := 0#32
  ![v2.toNat, 960, v844.toNat, 0]
@[reducible] def k0_t2_loop : Scf.Loop 32 :=
  let c0_i32_1481 : BitVec 32 := 0#32
  let c4_i32_1482 : BitVec 32 := 4#32
  let v1231 : BitVec 32 := Scalar.addi c0_i32_1481 c4_i32_1482
  let c1_i32_1483 : BitVec 32 := 1#32
  ⟨c0_i32_1481, v1231, c1_i32_1483⟩
def k0_off142 (k0_t2 : Fin k0_t2_loop.trips) : Fin 2 → Nat :=
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1255 : Index := Scalar.indexCast v1254
  let c0_1511 : Index := 0#32
  ![v1255.toNat, 0]
def k0_off143 (k0_t1 : Fin k0_t1_loop.trips) (k0_t2 : Fin k0_t2_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let v1257 : Index := Scalar.indexCast v719
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1258 : Index := Scalar.indexCast v1254
  let c0_1512 : Index := 0#32
  let c0_1513 : Index := 0#32
  ![v1257.toNat, v1258.toNat, 0, 0]
def k0_off144 (k0_t2 : Fin k0_t2_loop.trips) : Fin 2 → Nat :=
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1282 : Index := Scalar.indexCast v1254
  let c128 : Index := 128#32
  ![v1282.toNat, 128]
def k0_off145 (k0_t1 : Fin k0_t1_loop.trips) (k0_t2 : Fin k0_t2_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let v1284 : Index := Scalar.indexCast v719
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1285 : Index := Scalar.indexCast v1254
  let c1 : Index := 1#32
  let c0_1522 : Index := 0#32
  ![v1284.toNat, v1285.toNat, 1, 0]
def k0_off146 (k0_t2 : Fin k0_t2_loop.trips) : Fin 2 → Nat :=
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1309 : Index := Scalar.indexCast v1254
  let c256 : Index := 256#32
  ![v1309.toNat, 256]
def k0_off147 (k0_t1 : Fin k0_t1_loop.trips) (k0_t2 : Fin k0_t2_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let v1311 : Index := Scalar.indexCast v719
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1312 : Index := Scalar.indexCast v1254
  let c2 : Index := 2#32
  let c0_1531 : Index := 0#32
  ![v1311.toNat, v1312.toNat, 2, 0]
def k0_off148 (k0_t2 : Fin k0_t2_loop.trips) : Fin 2 → Nat :=
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1336 : Index := Scalar.indexCast v1254
  let c384 : Index := 384#32
  ![v1336.toNat, 384]
def k0_off149 (k0_t1 : Fin k0_t1_loop.trips) (k0_t2 : Fin k0_t2_loop.trips) : Fin 4 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let v1338 : Index := Scalar.indexCast v719
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1339 : Index := Scalar.indexCast v1254
  let c3 : Index := 3#32
  let c0_1540 : Index := 0#32
  ![v1338.toNat, v1339.toNat, 3, 0]
def k0_off150 (k0_t2 : Fin k0_t2_loop.trips) : Fin 2 → Nat :=
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1363 : Index := Scalar.indexCast v1254
  let c512_1549 : Index := 512#32
  ![v1363.toNat, 512]
def k0_off151 (k0_t2 : Fin k0_t2_loop.trips) : Fin 2 → Nat :=
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1390 : Index := Scalar.indexCast v1254
  let c640 : Index := 640#32
  ![v1390.toNat, 640]
def k0_off152 (k0_t2 : Fin k0_t2_loop.trips) : Fin 2 → Nat :=
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1417 : Index := Scalar.indexCast v1254
  let c768 : Index := 768#32
  ![v1417.toNat, 768]
def k0_off153 (k0_t2 : Fin k0_t2_loop.trips) : Fin 2 → Nat :=
  let c0_i32_1481 : BitVec 32 := 0#32
  let c1_i32_1483 : BitVec 32 := 1#32
  let arg25 : BitVec 32 := Scf.iv c0_i32_1481 c1_i32_1483 k0_t2
  let c256_i32_1510 : BitVec 32 := 256#32
  let v1254 : BitVec 32 := Scalar.muli arg25 c256_i32_1510
  let v1444 : Index := Scalar.indexCast v1254
  let c896 : Index := 896#32
  ![v1444.toNat, 896]
def k0_off154 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let v1233 : Index := Scalar.indexCast v721
  let c0_1487 : Index := 0#32
  let c0_1488 : Index := 0#32
  ![v1233.toNat, 0, 0]
def k0_cond3 (k0_t1 : Fin k0_t1_loop.trips) : BitVec 1 :=
  let c0_i32_806 : BitVec 32 := 0#32
  let c1_i32_808 : BitVec 32 := 1#32
  let arg24 : BitVec 32 := Scf.iv c0_i32_806 c1_i32_808 k0_t1
  let c7_i32_1499 : BitVec 32 := 7#32
  let v1248 : BitVec 1 := Scalar.cmpi .slt arg24 c7_i32_1499
  let v1249 : BitVec 32 := Scalar.extui v1248
  let c0_i32_1508 : BitVec 32 := 0#32
  let v1250 : BitVec 1 := Scalar.cmpi .ne v1249 c0_i32_1508
  v1250

def k0_off155 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c0_i32_1511 : BitVec 32 := 0#32
  let c0_i32_1512 : BitVec 32 := 0#32
  ![v721.toNat, 0, 0]
def k0_off156 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c0_i32_1513 : BitVec 32 := 0#32
  let c0_i32_1514 : BitVec 32 := 0#32
  ![v719.toNat, 0, 0]
def k0_off157 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c1_i32_971 : BitVec 32 := 1#32
  let v720 : BitVec 32 := Scalar.addi arg24 c1_i32_971
  let c2_i32_972 : BitVec 32 := 2#32
  let v721 : BitVec 32 := Scalar.remsi v720 c2_i32_972
  let c0_i32_1522 : BitVec 32 := 0#32
  let c0_i32_1523 : BitVec 32 := 0#32
  ![v721.toNat, 0, 0]
def k0_off158 (k0_t1 : Fin k0_t1_loop.trips) : Fin 3 → Nat :=
  let c0_i32_806 : BitVec 32 := 0#32
  let c1_i32_808 : BitVec 32 := 1#32
  let arg24 : BitVec 32 := Scf.iv c0_i32_806 c1_i32_808 k0_t1
  let c2_i32_970 : BitVec 32 := 2#32
  let v719 : BitVec 32 := Scalar.remsi arg24 c2_i32_970
  let c0_i32_1524 : BitVec 32 := 0#32
  let c0_i32_1525 : BitVec 32 := 0#32
  ![v719.toNat, 0, 0]
def k0_cond4 (k0_t1 : Fin k0_t1_loop.trips) : BitVec 1 :=
  let c0_i32_806 : BitVec 32 := 0#32
  let c1_i32_808 : BitVec 32 := 1#32
  let arg24 : BitVec 32 := Scf.iv c0_i32_806 c1_i32_808 k0_t1
  let c6_i32 : BitVec 32 := 6#32
  let v1251 : BitVec 1 := Scalar.cmpi .slt arg24 c6_i32
  let v1252 : BitVec 32 := Scalar.extui v1251
  let c0_i32_1509 : BitVec 32 := 0#32
  let v1253 : BitVec 1 := Scalar.cmpi .ne v1252 c0_i32_1509
  v1253

def k0_dev7 (d0 : Dev nD) : Nat :=
  let c0_i32_1512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1511 : BitVec 32 := 1#32
  let v1254 : BitVec 32 := Scalar.muli v5 c1_i32_1511
  let v1255 : BitVec 32 := Scalar.addi c0_i32_1512 v1254
  v1255.toNat
def k0_dev8 (d0 : Dev nD) : Nat :=
  let c0_i32_1515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1514 : BitVec 32 := 1#32
  let v1256 : BitVec 32 := Scalar.muli v7 c1_i32_1514
  let v1257 : BitVec 32 := Scalar.addi c0_i32_1515 v1256
  v1257.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x1024x1024 : Shape := ⟨3, ![8, 1024, 1024]⟩
abbrev S1024x8192 : Shape := ⟨2, ![1024, 8192]⟩
abbrev S8x1024x64x128 : Shape := ⟨4, ![8, 1024, 64, 128]⟩
abbrev S8192x1024 : Shape := ⟨2, ![8192, 1024]⟩
abbrev S8x1024x8192 : Shape := ⟨3, ![8, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S8x64x1024x1024 : Shape := ⟨4, ![8, 64, 1024, 1024]⟩
abbrev S1x1x1024x1024 : Shape := ⟨4, ![1, 1, 1024, 1024]⟩
abbrev S8x64x1024 : Shape := ⟨3, ![8, 64, 1024]⟩
abbrev S8x64x1024x1 : Shape := ⟨4, ![8, 64, 1024, 1]⟩
abbrev S1x1x1024x1 : Shape := ⟨4, ![1, 1, 1024, 1]⟩
abbrev S8x64x128x1024 : Shape := ⟨4, ![8, 64, 128, 1024]⟩

abbrev nBuf : Space → Nat
  | .hbm => 137
  | .vmem => 0
  | .smem => 0
  | _ => 0

abbrev hbmTy0_0 (i : Nat) : BufTy := match i % 128 with
  | 0 => ⟨S8x1024x1024, .f32⟩
  | 1 => ⟨S1024x8192, .f32⟩
  | 2 => ⟨S8x1024x64x128, .f32⟩
  | 3 => ⟨S8x1024x64x128, .f32⟩
  | 4 => ⟨S8192x1024, .f32⟩
  | 5 => ⟨S8x1024x8192, .f32⟩
  | 6 => ⟨S8x1024x64x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S1024x1024, .i32⟩
  | 48 => ⟨S1024x1024, .i32⟩
  | 49 => ⟨S1024x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x1024, .i32⟩
  | 95 => ⟨S1024x1024, .i32⟩
  | 96 => ⟨S1024x1024, .i1⟩
  | 97 => ⟨S1024x1024, .i1⟩
  | 98 => ⟨S8x64x1024x1024, .f32⟩
  | 99 => ⟨S_, .f32⟩
  | 100 => ⟨S8x64x1024x1024, .f32⟩
  | 101 => ⟨S8x64x1024x1024, .f32⟩
  | 102 => ⟨S1x1x1024x1024, .i1⟩
  | 103 => ⟨S_, .f32⟩
  | 104 => ⟨S_, .f32⟩
  | 105 => ⟨S8x64x1024x1024, .i1⟩
  | 106 => ⟨S8x64x1024x1024, .f32⟩
  | 107 => ⟨S8x64x1024x1024, .f32⟩
  | 108 => ⟨S_, .f32⟩
  | 109 => ⟨S8x64x1024, .f32⟩
  | 110 => ⟨S8x64x1024x1, .f32⟩
  | 111 => ⟨S8x64x1024x1024, .f32⟩
  | 112 => ⟨S8x64x1024x1024, .f32⟩
  | 113 => ⟨S8x64x1024x1024, .f32⟩
  | 114 => ⟨S_, .i1⟩
  | 115 => ⟨S1024, .i1⟩
  | 116 => ⟨S1x1x1024x1, .i1⟩
  | 117 => ⟨S_, .f32⟩
  | 118 => ⟨S8x64x1024, .f32⟩
  | 119 => ⟨S8x64x1024x1, .f32⟩
  | 120 => ⟨S_, .f32⟩
  | 121 => ⟨S_, .f32⟩
  | 122 => ⟨S8x64x1024x1, .i1⟩
  | 123 => ⟨S8x64x1024x1, .f32⟩
  | 124 => ⟨S8x64x1024x1, .f32⟩
  | 125 => ⟨S8x64x1024x1024, .f32⟩
  | 126 => ⟨S8x64x1024x1024, .f32⟩
  | 127 => ⟨S1x1x1024x1, .i1⟩
  | _ => ⟨S8x1024x1024, .f32⟩

abbrev hbmTy0_1 (i : Nat) : BufTy := match i % 128 with
  | 0 => ⟨S_, .f32⟩
  | 1 => ⟨S_, .f32⟩
  | 2 => ⟨S8x64x1024x1024, .i1⟩
  | 3 => ⟨S8x64x1024x1024, .f32⟩
  | 4 => ⟨S8x64x1024x1024, .f32⟩
  | 5 => ⟨S8x64x128x1024, .f32⟩
  | 6 => ⟨S8x1024x64x128, .f32⟩
  | 7 => ⟨S8x1024x8192, .f32⟩
  | 8 => ⟨S8x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.KernelIdeal.Setup.lean ====
/-
The setting of the proof: the resource algebra, the share of a buffer a device reads without ever giving it back, the
landing of one copy at contents named beforehand, and the levels at which the semaphores may be waited for.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Batch
public import Idealize.ShloMosaic.Lib.MixedBatch
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

/-- The round records of the cells two devices share. -/
abbrev UB : Type := URounds (GSem nD τ sig) Bool
/-- The user algebra: the pipeline's records, the shared cells' round records, the counters of the local copies. -/
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The shared cells' records: the left half of the right factor. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
/-- The counters of the local copies. -/
abbrev EC : UEmb Counters (MT nD τ sig ℕ (Elt F) ℕ UU ℕ) := countersEmb (U := UU)

/-- One core's view held by exactly its own elements. -/
abbrev own (c : Dev nD) {sp : Space} {s : Shape} (M : Memref sig .tc sp s .f32) (q : PosShare TreeShare)
    (f : Buf (Elt F) (M.view.loc (c : Thread nD τ))) : sProp 𝕄 :=
  M.view.loc (c : Thread nD τ) ↦[M.view.set]{q} f

/-- Some share of a whole buffer, kept for reading: it may be halved as often as wanted. -/
def Hold (c : Dev nD) {sp : Space} {s : Shape} (M : Memref sig .tc sp s .f32)
    (f : Buf (Elt F) (M.view.loc (c : Thread nD τ))) : sProp 𝕄 :=
  iprop(∃ q : PosShare TreeShare, M.view.loc (c : Thread nD τ) ↦[M.view.set]{q} f)

omit [FloatOps F] in
theorem hold_dup (c : Dev nD) {sp : Space} {s : Shape} (M : Memref sig .tc sp s .f32) (f) :
    (Hold (F := F) c M f : sProp 𝕄) ⊢ iprop(Hold c M f ∗ Hold c M f) := by
  unfold Hold
  iintro ⟨%q, H⟩
  ihave H2 := (pointsTo_share (PosShare.mem_left_op_right q)).1 $$ H
  icases H2 with ⟨H1, H2⟩
  isplitl [H1]
  · iexists q.left; iexact H1
  · iexists q.right; iexact H2

omit [FloatOps F] in
/-- A share of any part of a held buffer, the rest still held. -/
theorem hold_part (c : Dev nD) {sp : Space} {s : Shape} (M : Memref sig .tc sp s .f32) (f)
    (S : Finset (Idx (M.view.loc (c : Thread nD τ)))) (hS : S ⊆ M.view.set) :
    (Hold (F := F) c M f : sProp 𝕄) ⊢ iprop((∃ q : PosShare TreeShare, M.view.loc (c : Thread nD τ) ↦[S]{q} f) ∗ Hold c M f) := by
  refine (hold_dup c M f).trans ?_
  iintro ⟨H1, H2⟩
  isplitl [H1]
  · unfold Hold
    icases H1 with ⟨%q, H⟩
    iexists q
    ihave H3 := (pointsTo_split_subset hS).1 $$ H
    icases H3 with ⟨H, -⟩
    iexact H
  · iexact H2

omit [FloatOps F] in
/-- What a copy leaves on its destination is what the destination's window reads. -/
theorem landed_eq {ℓc : Thread nD τ} {sp : Space} {s : Shape} {e : EltTy} (dst : Memref sig ℓc.2.kind sp s e)
    (fd G : Buf (Elt F) (dst.view.loc ℓc)) (w : s.Idx → Elt F e) (q : PosShare TreeShare) (h : dst.view.read (Elt F) G = w) :
    (dst.view.loc ℓc ↦[dst.view.set]{q} dst.view.write (Elt F) fd w Finset.univ : sProp 𝕄) = dst.view.loc ℓc ↦[dst.view.set]{q} G := by
  refine pointsTo_congr fun i hi => ?_
  obtain ⟨x, -, rfl⟩ := Finset.mem_map.mp hi
  rw [View.write_emb_of_mem _ _ (Finset.mem_univ x), ← h, View.read_apply]
  simp

omit [FloatOps F] in
/-- A window cut out and squeezed reads what the memref reads at the window's places. -/
theorem read_squeeze {κ : Kind} {sp : Space} {s : Shape} {e : EltTy} (M : Memref sig κ sp s e) (r : Rect s) (hr) (s' : Shape)
    (h : r.shape.Squeezes s') (f : M.view.ty.Contents (Elt F)) (x : s'.Idx) :
    ((M.slice r hr).squeeze s' h).view.read (Elt F) f x = M.view.read (Elt F) f (r.emb (Shape.reshapeEquiv h.numel_eq x)) := rfl

/-! ## Levels: a cell's index is its level -/

/-- The indices a cell may be waited at: only the tensor cores wait. -/
def L (g : GSem nD τ sig) : Finset ℕ := if g.1.2 = .tc then Finset.range 64 else ∅
theorem L_of_ne (g : GSem nD τ sig) (h : g.1.2 ≠ .tc) : L g = ∅ := if_neg h
theorem mem_L (g : GSem nD τ sig) (h : g.1.2 = .tc) (i : ℕ) (hi : i < 64) : i ∈ L g := by
  unfold L; rw [if_pos h]; exact Finset.mem_range.mpr hi
/-- The level of an index: itself. -/
def lv (_ : GSem nD τ sig) (i : ℕ) : ℕ := i

/-- Everything owed is owed to tensor cores, strictly above `b`, and below the number of levels. -/
def Above (b : ℕ) (O : CellTallies nD τ sig ℕ) : Prop := ∀ g i, 0 < O g i → g.1.2 = .tc ∧ b < i ∧ i < 64

omit [FloatOps F] in
theorem mayWait (c : Dev nD) (sm : SemLoc sig) (ι : ℕ) (hι : ι < 64) (O : CellTallies nD τ sig ℕ) (hO : Above ι O) :
    (levAts L lv : sProp 𝕄) ⊢ MayWait (c : Thread nD τ) sm ι O := by
  refine MayOwe.of_cut ι ?_ ?_ ?_ ?_
  · intro p hp; rw [Finset.mem_singleton.mp hp]; exact mem_L _ rfl _ hι
  · intro g i h; exact mem_L _ (hO g i h).1 _ (hO g i h).2.2
  · intro p hp; rw [Finset.mem_singleton.mp hp]; exact le_rfl
  · intro g i h; exact (hO g i h).2.1

/-- What a device owes, with the levels at hand. -/
def Ow (c : Dev nD) (O : CellTallies nD τ sig ℕ) : sProp 𝕄 :=
  iprop(levAts L lv ∗ ∃ W, owes (c : Thread nD τ) O W)

end Cert.KernelIdeal.Ring

end
-- ==== Proof.KernelIdeal.Kv.lean ====
/-
The key and value copies: sixteen blocks of 64 rows into one slot of one buffer, all on one semaphore, issued one after
another and waited for one after another.  A slot is lent whole and comes back whole at the contents named beforehand.
-/
module

public import proofs.«01_k».proof.Proof.KernelIdeal.Setup

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-- The row block the `g`-th copy takes: the sixteen blocks are taken by their class modulo four. -/
def ord (g : ℕ) : ℕ := 4 * (g % 4) + g / 4

theorem kvSem_inb (p : Fin 2) (s : Fin 4) : ∀ a, (![p.val, s.val] : Fin 2 → ℕ) a + S1x1.size a ≤ S2x4.size a := by revert p s; decide
/-- The semaphore of slot `p`, buffer `s`. -/
def kvSem (p : Fin 2) (s : Fin 4) : DmaSem sig :=
  ((cc0_scratch14.slice (Rect.unit (s := S2x4) ![p.val, s.val] S1x1.size (kvSem_inb p s))).squeeze S_ squeezes_S1x1_S_).sem
theorem kvSem_val : ∀ (p : Fin 2) (s : Fin 4), (kvSem p s).val = 10 + 4 * p.val + s.val := by decide +kernel

theorem kvSem_eq (p : Fin 2) (s : Fin 4) (off : Fin 2 → ℕ) (inb : ∀ a, off a + S1x1.size a ≤ S2x4.size a) (h : off = ![p.val, s.val]) :
    ((cc0_scratch14.slice (Rect.unit (s := S2x4) off S1x1.size inb)).squeeze S_ squeezes_S1x1_S_).sem = kvSem p s := by
  subst h; rfl

/-- A block of 64 rows of a slot of a key or value buffer. -/
abbrev dW (M : Memref sig .tc .vmem S2x1024x4x128 .f32) (off : Fin 4 → ℕ) (inb : ∀ a, off a + S1x64x4x128.size a ≤ S2x1024x4x128.size a) :
    Memref sig .tc .vmem S64x4x128 .f32 :=
  (M.slice (Rect.unit (s := S2x1024x4x128) off S1x64x4x128.size inb) (fun _ => rfl)).squeeze S64x4x128 squeezes_S1x64x4x128_S64x4x128
/-- A block of 64 rows and four heads of one batch element of the keys or values. -/
abbrev sW (M : Memref sig .tc .hbm S8x1024x64x128 .f32) (off : Fin 4 → ℕ) (inb : ∀ a, off a + S1x64x4x128.size a ≤ S8x1024x64x128.size a) :
    Memref sig .tc .hbm S64x4x128 .f32 :=
  (M.slice (Rect.unit (s := S8x1024x64x128) off S1x64x4x128.size inb) (fun _ => rfl)).squeeze S64x4x128 squeezes_S1x64x4x128_S64x4x128

theorem blk_inb (p : Fin 2) (g : Fin 16) : ∀ a, (![p.val, 64 * g.val, 0, 0] : Fin 4 → ℕ) a + S1x64x4x128.size a ≤ S2x1024x4x128.size a := by
  revert p g; decide
theorem src_inb (i : Fin 8) (g : Fin 16) (b : Fin 16) :
    ∀ a, (![i.val, 64 * ord g.val, 4 * b.val, 0] : Fin 4 → ℕ) a + S1x64x4x128.size a ≤ S8x1024x64x128.size a := by
  have hi := i.isLt; have hb := b.isLt
  have hg : ord g.val < 16 := by revert g; decide
  intro a; fin_cases a <;> simp [S1x64x4x128, S8x1024x64x128] <;> omega

abbrev dRect (p : Fin 2) (g : Fin 16) : Rect S2x1024x4x128 := Rect.unit (s := S2x1024x4x128) ![p.val, 64 * g.val, 0, 0] S1x64x4x128.size (blk_inb p g)
abbrev sRect (i : Fin 8) (g : Fin 16) (b : Fin 16) : Rect S8x1024x64x128 :=
  Rect.unit (s := S8x1024x64x128) ![i.val, 64 * ord g.val, 4 * b.val, 0] S1x64x4x128.size (src_inb i g b)

section
variable (c : Dev nD) (M : Memref sig .tc .vmem S2x1024x4x128 .f32) (S : Memref sig .tc .hbm S8x1024x64x128 .f32)
variable (p : Fin 2) (s : Fin 4)

/-- Block `g` of slot `p`, at contents `G`. -/
def kvBlk (G : Buf (Elt F) (M.view.loc (c : Thread nD τ))) (g : Fin 16) : sProp 𝕄 :=
  M.view.loc (c : Thread nD τ) ↦[(dW M ![p.val, 64 * g.val, 0, 0] (blk_inb p g)).view.set]{fullShare} G
omit [FloatOps F] in
instance kvBlk_storable (G) : ∀ g, Storable (upEmb : UEmb _ 𝕄) (kvBlk (F := F) c M p G g) := fun g => by unfold kvBlk; infer_instance

/-- One block's credit. -/
def Nkv : ℕ := (dW M ![0, 0, 0, 0] (blk_inb 0 0)).view.dmaCredit
theorem Nkv_pos : 0 < Nkv M := View.dmaCredit_pos _ (by decide)

/-- Slot `p` of buffer `M` while its copies are being issued: `n` are under way, the remaining blocks are still owned. -/
def Iss (K : Buf (Elt F) (S.view.loc (c : Thread nD τ))) (G : Buf (Elt F) (M.view.loc (c : Thread nD τ))) (n : ℕ) : sProp 𝕄 :=
  iprop(Batch EC (c : Thread nD τ) (.dma (kvSem p s)) 0 (Nkv M) (kvBlk c M p G) n 0
    ∗ (∃ f, bigSep (pending n) (kvBlk (F := F) c M p f)) ∗ Hold c S K)

/-- Slot `p` of buffer `M` while its copies are waited for: `u` waits are over. -/
def Drain (G : Buf (Elt F) (M.view.loc (c : Thread nD τ))) (u : ℕ) : sProp 𝕄 :=
  Batch EC (c : Thread nD τ) (.dma (kvSem p s)) 0 (Nkv M) (kvBlk c M p G) 16 (u * Nkv M)

/-- The whole slot at contents `G`, its semaphore at zero. -/
def KvFree (G : Buf (Elt F) (M.view.loc (c : Thread nD τ))) : sProp 𝕄 :=
  iprop(bigSep Finset.univ (kvBlk (F := F) c M p G) ∗ semVal ((c : Thread nD τ), SemLoc.dma (kvSem p s)) 0)

/-- The contents `G` of slot `p` are four heads (the `b`-th four) of batch element `i` of `K`, rows by class. -/
def KvG (K : Buf (Elt F) (S.view.loc (c : Thread nD τ))) (G : Buf (Elt F) (M.view.loc (c : Thread nD τ))) (i : Fin 8) (b : Fin 16) : Prop :=
  ∀ (g : Fin 16) (x : (dRect p g).shape.Idx), M.view.read (Elt F) G ((dRect p g).emb x) = S.view.read (Elt F) K ((sRect i g b).emb x)

omit [FloatOps F] in
/-- A free slot's copies may begin. -/
theorem iss_start (K) (G) : iprop((∃ f, KvFree (F := F) c M p s f) ∗ Hold c S K) ⊢ (|={Set.univ}=> Iss c M S p s K G 0 : sProp 𝕄) := by
  unfold KvFree Iss
  iintro ⟨⟨%f, Hb, Hs⟩, HS⟩
  imod (Transfers.batch_alloc' (Lvl := ℕ) EC (c : Thread nD τ) 0 (Nkv M) (kvBlk (F := F) c M p G) (sm := .dma (kvSem p s)) (E := Set.univ)) $$ Hs with HB
  imodintro
  isplitl [HB]; · iexact HB
  isplitl [Hb]
  · iexists f
    rw [← Transfers.bigSep_pending_zero]; iexact Hb
  · iexact HS

omit [FloatOps F] in
/-- Once all sixteen are issued the waits may begin. -/
theorem iss_drain (K) (G) : Iss (F := F) c M S p s K G 16 ⊢ (iprop(Drain c M p s G 0 ∗ Hold c S K) : sProp 𝕄) := by
  unfold Iss Drain
  rw [Nat.zero_mul]
  iintro ⟨HB, -, HS⟩
  isplitl [HB] <;> iassumption
end

theorem sW_set_sub (S : Memref sig .tc .hbm S8x1024x64x128 .f32) (off) (inb) : (sW S off inb).view.set ⊆ S.view.set :=
  (Finset.subset_of_eq (View.set_reshape _ _)).trans (View.set_slice_subset _ _)

omit [FloatOps F] in
/-- What one copy delivers. -/
theorem kv_deliver (c : Dev nD) (M : Memref sig .tc .vmem S2x1024x4x128 .f32) (S : Memref sig .tc .hbm S8x1024x64x128 .f32)
    (p : Fin 2) (g : Fin 16) (i : Fin 8) (b : Fin 16) (K) (G) (hG : KvG (F := F) c M S p K G i b) (q) (f) :
    iprop(((dW M ![p.val, 64 * g.val, 0, 0] (blk_inb p g)).view.loc (c : Thread nD τ) ↦[(dW M ![p.val, 64 * g.val, 0, 0] (blk_inb p g)).view.set]{fullShare}
        ((dW M ![p.val, 64 * g.val, 0, 0] (blk_inb p g)).view.write (Elt F) f (ReadAs.same.apply
          ((sW S ![i.val, 64 * ord g.val, 4 * b.val, 0] (src_inb i g b)).view.read (Elt F) K)) Finset.univ))
      ∗ ((sW S ![i.val, 64 * ord g.val, 4 * b.val, 0] (src_inb i g b)).view.loc (c : Thread nD τ) ↦[(sW S ![i.val, 64 * ord g.val, 4 * b.val, 0] (src_inb i g b)).view.set]{q} K))
      ⊢ (kvBlk (F := F) c M p G g : sProp 𝕄) := by
  exact sep_elim_left.trans (Entails.of_eq (landed_eq (ℓc := (c : Thread nD τ)) (dW M ![p.val, 64 * g.val, 0, 0] (blk_inb p g)) f G
    (ReadAs.same.apply ((sW S ![i.val, 64 * ord g.val, 4 * b.val, 0] (src_inb i g b)).view.read (Elt F) K)) fullShare
    (funext fun x => (hG g (Shape.reshapeEquiv squeezes_S1x64x4x128_S64x4x128.numel_eq x)))))

/-- One copy issued. -/
theorem wp_kv_issue (𝒱 : Variants) (c : Dev nD) (bd : Option 𝒱.V) (M : Memref sig .tc .vmem S2x1024x4x128 .f32) (S : Memref sig .tc .hbm S8x1024x64x128 .f32)
    (p : Fin 2) (s : Fin 4) (n : ℕ) (hn : n < 16) (i : Fin 8) (b : Fin 16) (K) (G) (hG : KvG (F := F) c M S p K G i b)
    {od os : Fin 4 → ℕ} {oe : Fin 2 → ℕ} {inbd} {inbs} {inbe} {h1} {h2} {h3}
    (hod : od = ![p.val, 64 * n, 0, 0]) (hos : os = ![i.val, 64 * ord n, 4 * b.val, 0]) (hoe : oe = ![p.val, s.val])
    {α : Type} (k : PUnit → Prog (TpuEff nD τ sig (Elt F) Λ₀ .tc) α) (Q : α → sProp 𝕄) :
    iprop(Iss c M S p s K G n ∗ (Iss c M S p s K G (n + 1) -∗ wp frame (wpE (defs₀ (F := F)) 𝒱 (c : Thread nD τ) bd) Set.univ (k ⟨⟩) Q))
      ⊢ wp frame (wpE (defs₀ (F := F)) 𝒱 (c : Thread nD τ) bd) Set.univ
        (Prog.lift (.enqueueDma (sW S os inbs) (.here (dW M od inbd))
          (.dma ((cc0_scratch14.slice (Rect.unit (s := S2x4) oe S1x1.size inbe)).squeeze S_ squeezes_S1x1_S_).sem) h1 h2 h3) >>= k) Q := by
  subst hod hos
  have he := kvSem_eq p s oe inbe hoe
  generalize ((cc0_scratch14.slice (Rect.unit (s := S2x4) oe S1x1.size inbe)).squeeze S_ squeezes_S1x1_S_).sem = sem at he h3
  subst he
  unfold Iss
  iintro ⟨⟨HB, ⟨%f, Hp⟩, HS⟩, Hk⟩
  ihave Hp' := (Entails.of_eq (Transfers.bigSep_pending_step (kvBlk (F := F) c M p f) n hn)) $$ Hp
  icases Hp' with ⟨Hd, Hp⟩
  ihave Hd' := (show kvBlk (F := F) c M p f ⟨n, hn⟩ ⊢ ((dW M ![p.val, 64 * n, 0, 0] inbd).view.loc (c : Thread nD τ) ↦[(dW M ![p.val, 64 * n, 0, 0] inbd).view.set]{fullShare} f : sProp 𝕄) from .rfl) $$ Hd
  ihave HS' := (hold_part c S K (sW S ![i.val, 64 * ord n, 4 * b.val, 0] inbs).view.set (sW_set_sub S _ inbs)) $$ HS
  icases HS' with ⟨⟨%q, Hs⟩, HS⟩
  iapply (Transfers.wp_dmaBatch EC 𝒱 (c : Thread nD τ) bd (src := sW S ![i.val, 64 * ord n, 4 * b.val, 0] inbs)
    (dst := dW M ![p.val, 64 * n, 0, 0] inbd) 0 (Nkv M) rfl subset_rfl (D := kvBlk (F := F) c M p G) (j := n) (u := 0) hn (Nat.zero_le _) (kv_deliver c M S p ⟨n, hn⟩ i b K G hG q f)) $$ [Hs Hd' HB]
  · isplitl [Hs]; · iexact Hs
    isplitl [Hd']; · iexact Hd'
    iexact HB
  iintro HB
  iapply Hk
  isplitl [HB]; · iexact HB
  isplitl [Hp]; · iexists f; iexact Hp
  iexact HS

/-- One wait of the first fifteen. -/
theorem wp_kv_wait (𝒱 : Variants) (c : Dev nD) (bd : Option 𝒱.V) (M : Memref sig .tc .vmem S2x1024x4x128 .f32) (S : Memref sig .tc .hbm S8x1024x64x128 .f32)
    (p : Fin 2) (s : Fin 4) (u : ℕ) (hu : u + 1 < 16) (G) (O : CellTallies nD τ sig ℕ) (hO : Above 0 O)
    {od os : Fin 4 → ℕ} {oe : Fin 2 → ℕ} {inbd} {inbs} {inbe} {h1} {h2} (hoe : oe = ![p.val, s.val])
    {α : Type} (k : PUnit → Prog (TpuEff nD τ sig (Elt F) Λ₀ .tc) α) (Q : α → sProp 𝕄) :
    iprop(Drain c M p s G u ∗ Ow c O ∗ (Drain c M p s G (u + 1) -∗ Ow c O -∗ wp frame (wpE (defs₀ (F := F)) 𝒱 (c : Thread nD τ) bd) Set.univ (k ⟨⟩) Q))
      ⊢ wp frame (wpE (defs₀ (F := F)) 𝒱 (c : Thread nD τ) bd) Set.univ
        (Prog.lift (.waitDma2 ((cc0_scratch14.slice (Rect.unit (s := S2x4) oe S1x1.size inbe)).squeeze S_ squeezes_S1x1_S_).sem
          (sW S os inbs) (dW M od inbd) h1 h2) >>= k) Q := by
  have he := kvSem_eq p s oe inbe hoe
  generalize ((cc0_scratch14.slice (Rect.unit (s := S2x4) oe S1x1.size inbe)).squeeze S_ squeezes_S1x1_S_).sem = sem at he
  subst he
  have hlt : u * Nkv M + Nkv M < Nkv M * 16 := by
    have h := Nat.mul_lt_mul_of_pos_right hu (Nkv_pos M)
    rw [Nat.succ_mul] at h; omega
  unfold Drain Ow
  iintro ⟨HB, ⟨#Hl, %W, HO⟩, Hk⟩
  ihave HM := mayWait (F := F) c (SemLoc.dma (kvSem p s)) 0 (by decide) O hO $$ Hl
  iapply (Transfers.wp_waitBatchO EC 𝒱 (c : Thread nD τ) bd (srcw := sW S os inbs) (dstw := dW M od inbd) 0 (N := Nkv M) rfl
    (D := kvBlk (F := F) c M p G) (u := u * Nkv M) (hlt) (O := O) (W := W)) $$ [HB HO HM]
  · isplitl [HB]; · iexact HB
    isplitl [HO] <;> iassumption
  iintro ⟨HB, HO⟩
  ispecialize Hk $$ [HB]
  · rw [Nat.succ_mul]; iexact HB
  iapply Hk
  isplitr; · iexact Hl
  iexists _; iexact HO

/-- The sixteenth wait: the slot is whole, at the contents named. -/
theorem wp_kv_last (𝒱 : Variants) (c : Dev nD) (bd : Option 𝒱.V) (M : Memref sig .tc .vmem S2x1024x4x128 .f32) (S : Memref sig .tc .hbm S8x1024x64x128 .f32)
    (p : Fin 2) (s : Fin 4) (G) (O : CellTallies nD τ sig ℕ) (hO : Above 0 O)
    {od os : Fin 4 → ℕ} {oe : Fin 2 → ℕ} {inbd} {inbs} {inbe} {h1} {h2} (hoe : oe = ![p.val, s.val])
    {α : Type} (k : PUnit → Prog (TpuEff nD τ sig (Elt F) Λ₀ .tc) α) (Q : α → sProp 𝕄) :
    iprop(Drain c M p s G 15 ∗ Ow c O ∗ (KvFree c M p s G -∗ Ow c O -∗ wp frame (wpE (defs₀ (F := F)) 𝒱 (c : Thread nD τ) bd) Set.univ (k ⟨⟩) Q))
      ⊢ wp frame (wpE (defs₀ (F := F)) 𝒱 (c : Thread nD τ) bd) Set.univ
        (Prog.lift (.waitDma2 ((cc0_scratch14.slice (Rect.unit (s := S2x4) oe S1x1.size inbe)).squeeze S_ squeezes_S1x1_S_).sem
          (sW S os inbs) (dW M od inbd) h1 h2) >>= k) Q := by
  have he := kvSem_eq p s oe inbe hoe
  generalize ((cc0_scratch14.slice (Rect.unit (s := S2x4) oe S1x1.size inbe)).squeeze S_ squeezes_S1x1_S_).sem = sem at he
  subst he
  unfold Drain Ow KvFree
  iintro ⟨HB, ⟨#Hl, %W, HO⟩, Hk⟩
  ihave HM := mayWait (F := F) c (SemLoc.dma (kvSem p s)) 0 (by decide) O hO $$ Hl
  iapply (Transfers.wp_waitBatchLastO EC 𝒱 (c : Thread nD τ) bd (srcw := sW S os inbs) (dstw := dW M od inbd) 0 (N := Nkv M) rfl (Nkv_pos M)
    (D := kvBlk (F := F) c M p G) (u := 15 * Nkv M) (by omega) (O := O) (W := W)) $$ [HB HO HM]
  · isplitl [HB]; · iexact HB
    isplitl [HO] <;> iassumption
  iintro ⟨HD, Hs, HO⟩
  ispecialize Hk $$ [HD Hs]
  · isplitl [HD] <;> iassumption
  iapply Hk
  isplitr; · iexact Hl
  iexists _; iexact HO

end Cert.KernelIdeal.Ring

end
-- ==== Proof.KernelIdeal.Contents.lean ====
/-
What every buffer of a device holds at every hop, as a function of the arguments: the neighbours' weights as they come
round the ring, the keys and values by class of row blocks, the queries, the attention output, the accumulator.
-/
module

public import proofs.«01_k».proof.Proof.KernelIdeal.Kv
public import Idealize.ShloMosaic.Lib.ValueIdxCore

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-- The neighbour to the right, to whom the first halves go. -/
def rgt (c : Dev nD) : Dev nD := ⟨(c.val + 1) % 8, Nat.mod_lt _ (by decide)⟩
/-- The neighbour to the left, to whom the second halves go. -/
def lft (c : Dev nD) : Dev nD := ⟨(c.val + 7) % 8, Nat.mod_lt _ (by decide)⟩
theorem lft_rgt (c : Dev nD) : lft (rgt c) = c := by revert c; decide
theorem rgt_lft (c : Dev nD) : rgt (lft c) = c := by revert c; decide

/-- The slot of hop `h`. -/
def sl (h : ℕ) : Fin 2 := ⟨h % 2, Nat.mod_lt _ (by decide)⟩

/-- Whose first half device `c` has at hop `h`: it came from the left. -/
def jA (c : Dev nD) (h : ℕ) : Dev nD := ⟨(c.val + 16 - h) % 8, Nat.mod_lt _ (by decide)⟩
/-- Whose second half device `c` has at hop `h`: it came from the right. -/
def jB (c : Dev nD) (h : ℕ) : Dev nD := ⟨(c.val + h) % 8, Nat.mod_lt _ (by decide)⟩
theorem jA_rgt (c : Dev nD) (h : ℕ) (hh : h < 8) : jA (rgt c) (h + 1) = jA c h := by
  apply Fin.ext; have := c.isLt; change _ < 8 at this; simp only [jA, rgt]; omega
theorem jB_lft (c : Dev nD) (h : ℕ) : jB (lft c) (h + 1) = jB c h := by
  apply Fin.ext; have := c.isLt; change _ < 8 at this; simp only [jB, lft]; omega

/-- The four heads the first half needs, counted in fours. -/
def bA (c : Dev nD) (h : ℕ) : Fin 16 := ⟨2 * (jA c h).val, by have := (jA c h).isLt; change _ < 8 at this; omega⟩
/-- The four heads the second half needs. -/
def bB (c : Dev nD) (h : ℕ) : Fin 16 := ⟨2 * (jB c h).val + 1, by have := (jB c h).isLt; change _ < 8 at this; omega⟩

theorem ord_lt (g : ℕ) (hg : g < 16) : ord g < 16 := by unfold ord; omega
/-- The row of the sequence held at row `r` of a buffer ordered by class. -/
def perm (r : Fin 1024) : Fin 1024 := ⟨64 * ord (r.val / 64) + r.val % 64, by have := r.isLt; have := ord_lt (r.val / 64) (by omega); omega⟩

abbrev kA : Memref sig .tc .vmem S2x1024x4x128 .f32 := Memref.whole cc0_scratch4
abbrev vA : Memref sig .tc .vmem S2x1024x4x128 .f32 := Memref.whole cc0_scratch5
abbrev kB : Memref sig .tc .vmem S2x1024x4x128 .f32 := Memref.whole cc0_scratch6
abbrev vB : Memref sig .tc .vmem S2x1024x4x128 .f32 := Memref.whole cc0_scratch7
abbrev Ks : Memref sig .tc .hbm S8x1024x64x128 .f32 := Memref.whole main_arg2
abbrev Vs : Memref sig .tc .hbm S8x1024x64x128 .f32 := Memref.whole main_arg3

/-- Four heads of one batch element, rows by class. -/
def kvCont (i : Fin 8) (b : Fin 16) (K : S8x1024x64x128.Idx → Elt F .f32) : S2x1024x4x128.Idx → Elt F .f32 := fun y =>
  K (ix4 i (perm (y 1)) (⟨4 * b.val + (y 2).val, by have := (y 2).isLt; change _ < 4 at this; have := b.isLt; omega⟩ : Fin 64) (y 3))

omit [FloatOps F] in
theorem kv_idx (p : Fin 2) (g : Fin 16) (i : Fin 8) (b : Fin 16) (K : S8x1024x64x128.Idx → Elt F .f32) (x : (dRect p g).shape.Idx) :
    kvCont i b K ((dRect p g).emb x) = K ((sRect i g b).emb x) := by
  unfold kvCont
  refine congrArg K (funext fun a => Fin.ext ?_)
  have h0 : (x 0).val < 1 := (x 0).isLt
  have h1 : (x 1).val < 64 := (x 1).isLt
  have hg := g.isLt
  have e1 : ((dRect p g).emb x 1).val = 64 * g.val + 1 * (x 1).val := rfl
  match a with
  | ⟨0, _⟩ => show i.val = i.val + 1 * (x 0).val; omega
  | ⟨1, _⟩ =>
    show 64 * ord (((dRect p g).emb x 1).val / 64) + ((dRect p g).emb x 1).val % 64 = 64 * ord g.val + 1 * (x 1).val
    rw [e1, show (64 * g.val + 1 * (x 1).val) / 64 = g.val by omega]; omega
  | ⟨2, _⟩ => show 4 * b.val + (0 + 1 * (x 2).val) = 4 * b.val + 1 * (x 2).val; omega
  | ⟨3, _⟩ => show 0 + 1 * (x 3).val = 0 + 1 * (x 3).val; rfl

omit [FloatOps F] in
theorem kvG_kA (c : Dev nD) (p : Fin 2) (i : Fin 8) (b : Fin 16) (K) : KvG (F := F) c kA Ks p K (kvCont i b K) i b := fun g x => kv_idx p g i b K x
omit [FloatOps F] in
theorem kvG_vA (c : Dev nD) (p : Fin 2) (i : Fin 8) (b : Fin 16) (K) : KvG (F := F) c vA Vs p K (kvCont i b K) i b := fun g x => kv_idx p g i b K x
omit [FloatOps F] in
theorem kvG_kB (c : Dev nD) (p : Fin 2) (i : Fin 8) (b : Fin 16) (K) : KvG (F := F) c kB Ks p K (kvCont i b K) i b := fun g x => kv_idx p g i b K x
omit [FloatOps F] in
theorem kvG_vB (c : Dev nD) (p : Fin 2) (i : Fin 8) (b : Fin 16) (K) : KvG (F := F) c vB Vs p K (kvCont i b K) i b := fun g x => kv_idx p g i b K x

section
variable (m : (ℓ : Loc nD τ sig) → Buf (Elt F) ℓ)

/-- The arguments as a device finds them. -/
def xIn (c : Dev nD) : S1x1024x1024.Idx → Elt F .f32 := m ((c : Thread nD τ).loc main_arg0)
def wq (c : Dev nD) : S1024x1024.Idx → Elt F .f32 := m ((c : Thread nD τ).loc main_arg1)
def kIn (c : Dev nD) : S8x1024x64x128.Idx → Elt F .f32 := m ((c : Thread nD τ).loc main_arg2)
def vIn (c : Dev nD) : S8x1024x64x128.Idx → Elt F .f32 := m ((c : Thread nD τ).loc main_arg3)
def wo (c : Dev nD) : S1024x1024.Idx → Elt F .f32 := m ((c : Thread nD τ).loc main_arg4)

/-- The device's rows, by class. -/
def xb (c : Dev nD) : S1024x1024.Idx → Elt F .f32 := fun y => xIn m c (ix3 (0 : Fin 1) (perm (y 0)) (y 1))

theorem half_lt {n : ℕ} (h : n < 512) : n < 1024 := by omega
theorem half_lt' {n : ℕ} (h : n < 512) : 512 + n < 1024 := by omega

/-- The four half weights a device has at hop `h`; the two slots of a buffer are addressed alike. -/
def cQA (c : Dev nD) (h : ℕ) : S2x1024x512.Idx → Elt F .f32 := fun y => wq m (jA c h) (ix2 (y 1) (⟨(y 2).val, half_lt (y 2).isLt⟩ : Fin 1024))
def cOA (c : Dev nD) (h : ℕ) : S2x512x1024.Idx → Elt F .f32 := fun y => wo m (jA c h) (ix2 (⟨(y 1).val, half_lt (y 1).isLt⟩ : Fin 1024) (y 2))
def cQB (c : Dev nD) (h : ℕ) : S2x1024x512.Idx → Elt F .f32 := fun y => wq m (jB c h) (ix2 (y 1) (⟨512 + (y 2).val, half_lt' (y 2).isLt⟩ : Fin 1024))
def cOB (c : Dev nD) (h : ℕ) : S2x512x1024.Idx → Elt F .f32 := fun y => wo m (jB c h) (ix2 (⟨512 + (y 1).val, half_lt' (y 1).isLt⟩ : Fin 1024) (y 2))

/-- One slot's worth, as a load returns it. -/
def one3 {n k : ℕ} (f : (⟨3, ![2, n, k]⟩ : Shape).Idx → Elt F .f32) : (⟨3, ![1, n, k]⟩ : Shape).Idx → Elt F .f32 := fun y => f (ix3 (0 : Fin 2) (y 1) (y 2))

/-- The keys and values a device has at hop `h`. -/
def kcA (c : Dev nD) (h : ℕ) : S2x1024x4x128.Idx → Elt F .f32 := kvCont c (bA c h) (kIn m c)
def vcA (c : Dev nD) (h : ℕ) : S2x1024x4x128.Idx → Elt F .f32 := kvCont c (bA c h) (vIn m c)
def kcB (c : Dev nD) (h : ℕ) : S2x1024x4x128.Idx → Elt F .f32 := kvCont c (bB c h) (kIn m c)
def vcB (c : Dev nD) (h : ℕ) : S2x1024x4x128.Idx → Elt F .f32 := kvCont c (bB c h) (vIn m c)

/-- The queries of hop `h`, each half one product. -/
def qA (c : Dev nD) (h : ℕ) : S1024x512.Idx → Elt F .f32 := k0_pay13 (xb m c) (one3 (cQA m c h))
def qB (c : Dev nD) (h : ℕ) : S1024x512.Idx → Elt F .f32 := k0_pay15 (k0_pay14 (xb m c) (one3 (cQB m c h)))
def qF (c : Dev nD) (h : ℕ) : S1024x1024.Idx → Elt F .f32 := fun y =>
  if hy : (y 1).val < 512 then qA m c h (ix2 (y 0) (⟨(y 1).val, hy⟩ : Fin 512))
  else qB m c h (ix2 (y 0) (⟨(y 1).val - 512, by have : (y 1).val < 1024 := (y 1).isLt; omega⟩ : Fin 512))
end

/-- Rows `256 r ..` and columns `128 k ..` of a square. -/
def tile (f : S1024x1024.Idx → Elt F .f32) (r : Fin 4) (k : Fin 8) : S256x128.Idx → Elt F .f32 := fun y =>
  f (ix2 (⟨256 * r.val + (y 0).val, by have : (y 0).val < 256 := (y 0).isLt; have := r.isLt; omega⟩ : Fin 1024)
    (⟨128 * k.val + (y 1).val, by have : (y 1).val < 128 := (y 1).isLt; have := k.isLt; omega⟩ : Fin 1024))
/-- Rows `256 r ..` of head `k` of a key or value buffer's slot. -/
def kvTile (f : S2x1024x4x128.Idx → Elt F .f32) (r : Fin 4) (k : Fin 4) : S1x256x1x128.Idx → Elt F .f32 := fun y =>
  f (ix4 (0 : Fin 2) (⟨256 * r.val + (y 1).val, by have : (y 1).val < 256 := (y 1).isLt; have := r.isLt; omega⟩ : Fin 1024) k (y 3))

section
variable (m : (ℓ : Loc nD τ sig) → Buf (Elt F) ℓ)
/-- One head's attention output on one class of rows. -/
def headF (c : Dev nD) (h : ℕ) (r : Fin 4) (k : Fin 8) : S256x128.Idx → Elt F .f32 :=
  if hk : k.val < 4 then k0_pay1 (tile (qF m c h) r k) (kvTile (kcA m c h) r ⟨k.val, hk⟩) (kvTile (vcA m c h) r ⟨k.val, hk⟩)
  else k0_pay1 (tile (qF m c h) r k) (kvTile (kcB m c h) r ⟨k.val - 4, by have := k.isLt; omega⟩) (kvTile (vcB m c h) r ⟨k.val - 4, by have := k.isLt; omega⟩)
/-- The attention output of hop `h`. -/
def ctxF (c : Dev nD) (h : ℕ) : S1024x1024.Idx → Elt F .f32 := fun y =>
  headF m c h ⟨(y 0).val / 256, by have : (y 0).val < 1024 := (y 0).isLt; omega⟩ ⟨(y 1).val / 128, by have : (y 1).val < 1024 := (y 1).isLt; omega⟩
    (ix2 (⟨(y 0).val % 256, Nat.mod_lt _ (by decide)⟩ : Fin 256) (⟨(y 1).val % 128, Nat.mod_lt _ (by decide)⟩ : Fin 128))
/-- The two halves of the attention output, as loads return them. -/
def ctxL (c : Dev nD) (h : ℕ) : S1024x512.Idx → Elt F .f32 := fun y => ctxF m c h (ix2 (y 0) (⟨(y 1).val, half_lt (y 1).isLt⟩ : Fin 1024))
def ctxR (c : Dev nD) (h : ℕ) : S1024x512.Idx → Elt F .f32 := fun y => ctxF m c h (ix2 (y 0) (⟨512 + (y 1).val, half_lt' (y 1).isLt⟩ : Fin 1024))
/-- The accumulator before hop `h`. -/
def accF (c : Dev nD) : ℕ → S1024x1024.Idx → Elt F .f32
  | 0 => fun y => k0_pay18 y
  | h + 1 => k0_pay17 (ctxL m c h) (one3 (cOA m c h)) (ctxR m c h) (one3 (cOB m c h)) (accF c h)
/-- The result of a device. -/
def outF (c : Dev nD) : S1x1024x1024.Idx → Elt F .f32 := fun y =>
  accF m c 8 (ix2 (⟨64 * ord ((y 1).val / 64) + (y 1).val % 64, (perm (y 1)).isLt⟩ : Fin 1024) (y 2))
end

end Cert.KernelIdeal.Ring

end
-- ==== Proof.KernelIdeal.KvState.lean ====
/-
The keys and values of a hop: sixty-four copies started and waited for in turn, four buffers at a time.
-/
module

public import proofs.«01_k».proof.Proof.KernelIdeal.Contents

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-- `n` of sixteen waits done on a buffer's slot. -/
def DrN (c : Dev nD) (M : Memref sig .tc .vmem S2x1024x4x128 .f32) (p : Fin 2) (s : Fin 4) (G : M.view.ty.Contents (Elt F)) (n : ℕ) : sProp 𝕄 :=
  if n < 16 then Drain c M p s G n else KvFree c M p s G

theorem drN_lt (c : Dev nD) (M : Memref sig .tc .vmem S2x1024x4x128 .f32) (p : Fin 2) (s : Fin 4) (G) (n : ℕ) (hn : n < 16) :
    DrN (F := F) c M p s G n = Drain c M p s G n := if_pos hn
theorem drN_16 (c : Dev nD) (M : Memref sig .tc .vmem S2x1024x4x128 .f32) (p : Fin 2) (s : Fin 4) (G) :
    DrN (F := F) c M p s G 16 = KvFree c M p s G := if_neg (by decide)

section
variable (m : (ℓ : Loc nD τ sig) → Buf (Elt F) ℓ)

/-- The keys and values, lent to the copies. -/
def Holds (c : Dev nD) : sProp 𝕄 := iprop(Hold c Ks (kIn m c) ∗ Hold c Vs (vIn m c))

/-- `k` of the sixty-four copies of hop `h` are started. -/
def KI (c : Dev nD) (h k : ℕ) : sProp 𝕄 := iprop(
  Iss c kA Ks (sl h) 0 (kIn m c) (kcA m c h) ((k + 3) / 4) ∗ Iss c vA Vs (sl h) 1 (vIn m c) (vcA m c h) ((k + 2) / 4) ∗ Iss c kB Ks (sl h) 2 (kIn m c) (kcB m c h) ((k + 1) / 4) ∗ Iss c vB Vs (sl h) 3 (vIn m c) (vcB m c h) ((k + 0) / 4))

/-- `k` of the sixty-four copies of hop `h` have been waited for. -/
def KD (c : Dev nD) (h k : ℕ) : sProp 𝕄 := iprop(
  DrN c kA (sl h) 0 (kcA m c h) ((k + 3) / 4) ∗ DrN c vA (sl h) 1 (vcA m c h) ((k + 2) / 4) ∗ DrN c kB (sl h) 2 (kcB m c h) ((k + 1) / 4) ∗ DrN c vB (sl h) 3 (vcB m c h) ((k + 0) / 4))

/-- A slot nothing is copied into. -/
def KF (c : Dev nD) (p : Fin 2) : sProp 𝕄 := iprop(
  (∃ f, KvFree (F := F) c kA p 0 f) ∗ (∃ f, KvFree (F := F) c vA p 1 f) ∗ (∃ f, KvFree (F := F) c kB p 2 f) ∗ (∃ f, KvFree (F := F) c vB p 3 f))

theorem holds_dup (c : Dev nD) : Holds (F := F) m c ⊢ iprop(Holds m c ∗ Holds m c) := by
  unfold Holds
  iintro ⟨H1, H2⟩
  ihave H1' := (hold_dup (F := F) c Ks (kIn m c)) $$ H1
  ihave H2' := (hold_dup (F := F) c Vs (vIn m c)) $$ H2
  icases H1' with ⟨A1, B1⟩
  icases H2' with ⟨A2, B2⟩
  isplitl [A1 A2]
  · isplitl [A1] <;> iassumption
  · isplitl [B1] <;> iassumption

theorem ki_start (c : Dev nD) (h : ℕ) : iprop(KF c (sl h) ∗ Holds (F := F) m c) ⊢ |={Set.univ}=> KI m c h 0 := by
  unfold KF KI
  iintro ⟨⟨H0, H1, H2, H3⟩, HH⟩
  ihave HH' := holds_dup (F := F) m c $$ HH
  icases HH' with ⟨HA, HB⟩
  unfold Holds
  icases HA with ⟨A1, A2⟩
  icases HB with ⟨B1, B2⟩
  imod (iss_start (F := F) c kA Ks (sl h) 0 (kIn m c) (kcA m c h)) $$ [H0 A1] with R0
  · isplitl [H0] <;> iassumption
  imod (iss_start (F := F) c vA Vs (sl h) 1 (vIn m c) (vcA m c h)) $$ [H1 A2] with R1
  · isplitl [H1] <;> iassumption
  imod (iss_start (F := F) c kB Ks (sl h) 2 (kIn m c) (kcB m c h)) $$ [H2 B1] with R2
  · isplitl [H2] <;> iassumption
  imod (iss_start (F := F) c vB Vs (sl h) 3 (vIn m c) (vcB m c h)) $$ [H3 B2] with R3
  · isplitl [H3] <;> iassumption
  imodintro
  isplitl [R0]; · iexact R0
  isplitl [R1]; · iexact R1
  isplitl [R2]; · iexact R2
  iexact R3

theorem ki_drain (c : Dev nD) (h : ℕ) : KI (F := F) m c h 64 ⊢ KD m c h 0 := by
  unfold KI KD
  iintro ⟨H0, H1, H2, H3⟩
  ihave R0 := ((iss_drain (F := F) c kA Ks (sl h) 0 (kIn m c) (kcA m c h)).trans sep_elim_left) $$ H0
  ihave R1 := ((iss_drain (F := F) c vA Vs (sl h) 1 (vIn m c) (vcA m c h)).trans sep_elim_left) $$ H1
  ihave R2 := ((iss_drain (F := F) c kB Ks (sl h) 2 (kIn m c) (kcB m c h)).trans sep_elim_left) $$ H2
  ihave R3 := ((iss_drain (F := F) c vB Vs (sl h) 3 (vIn m c) (vcB m c h)).trans sep_elim_left) $$ H3
  ihave R0 := ((Entails.of_eq (drN_lt (F := F) c kA (sl h) 0 (kcA m c h) 0 (by decide)).symm)) $$ R0
  ihave R1 := ((Entails.of_eq (drN_lt (F := F) c vA (sl h) 1 (vcA m c h) 0 (by decide)).symm)) $$ R1
  ihave R2 := ((Entails.of_eq (drN_lt (F := F) c kB (sl h) 2 (kcB m c h) 0 (by decide)).symm)) $$ R2
  ihave R3 := ((Entails.of_eq (drN_lt (F := F) c vB (sl h) 3 (vcB m c h) 0 (by decide)).symm)) $$ R3
  isplitl [R0]; · iexact R0
  isplitl [R1]; · iexact R1
  isplitl [R2]; · iexact R2
  iexact R3

theorem kd_end (c : Dev nD) (h : ℕ) : KD (F := F) m c h 64 ⊢
    iprop(KvFree c kA (sl h) 0 (kcA m c h) ∗ KvFree c vA (sl h) 1 (vcA m c h) ∗ KvFree c kB (sl h) 2 (kcB m c h) ∗ KvFree c vB (sl h) 3 (vcB m c h)) := by
  unfold KD
  exact BIClass.sep_mono (Entails.of_eq (drN_16 ..)) (BIClass.sep_mono (Entails.of_eq (drN_16 ..)) (BIClass.sep_mono (Entails.of_eq (drN_16 ..)) (Entails.of_eq (drN_16 ..))))

theorem issue0 (𝒱 : Variants) (c : Dev nD) (bd : Option 𝒱.V) (h k k' n : ℕ) (hn : n < 16) (hk : k = 4 * n + 0) (hk' : k' = k + 1)
    {od os : Fin 4 → ℕ} {oe : Fin 2 → ℕ} {inbd} {inbs} {inbe} {h1} {h2} {h3}
    (hod : od = ![(sl h).val, 64 * n, 0, 0]) (hos : os = ![c.val, 64 * ord n, 4 * (bA c h).val, 0]) (hoe : oe = ![(sl h).val, 0])
    {α : Type} (kk : PUnit → Prog (TpuEff nD τ sig (Elt F) Λ₀ .tc) α) (Q : α → sProp 𝕄) :
    iprop(KI m c h k ∗ (KI m c h k' -∗ wp frame (wpE (defs₀ (F := F)) 𝒱 (c : Thread nD τ) bd) Set.univ (kk ⟨⟩) Q))
      ⊢ wp frame (wpE (defs₀ (F := F)) 𝒱 (c : Thread nD τ) bd) Set.univ
        (Prog.lift (.enqueueDma (sW Ks os inbs) (.here (dW kA od inbd))
          (.dma ((cc0_scratch14.slice (Rect.unit (s := S2x4) oe S1x1.size inbe)).squeeze S_ squeezes_S1x1_S_).sem) h1 h2 h3) >>= kk) Q := by
  subst hk hk'
  unfold KI
  try rw [show (4 * n + 0 + 3) / 4 = n by omega]
  try rw [show (4 * n + 0 + 2) / 4 = n by omega]
  try rw [show (4 * n + 0 + 1) / 4 = n by omega]
  try rw [show (4 * n + 0 + 0) / 4 = n by omega]
  try rw [show (4 * n + 0 + 1 + 3) / 4 = n + 1 by omega]
  try rw [show (4 * n + 0 + 1 + 2) / 4 = n by omega]
  try rw [show (4 * n + 0 + 1 + 1) / 4 = n by omega]
  try rw [show (4 * n + 0 + 1 + 0) / 4 = n by omega]
  iintro ⟨⟨H0, H1, H2, H3⟩, Hk⟩
  iapply (wp_kv_issue 𝒱 c bd kA Ks (sl h) 0 n hn c (bA c h) (kIn m c) (kcA m c h) (kvG_kA c (sl h) c (bA c h) (kIn m c)) hod hos hoe kk Q)
  isplitl [H0]; · iexact H0
  iintro H0
  iapply Hk
  isplitl [H0]; · iexact H0
  isplitl [H1]; · iexact H1
  isplitl [H2]; · iexact H2
  iexact H3

theorem await0 (𝒱 : Variants) (c : Dev nD) (bd : Option 𝒱.V) (h k k' n : ℕ) (hn : n < 16) (hk : k = 4 * n + 0) (hk' : k' = k + 1)
    (O : CellTallies nD τ sig ℕ) (hO : Above 0 O)
    {od os : Fin 4 → ℕ} {oe : Fin 2 → ℕ} {inbd} {inbs} {inbe} {h1} {h2} (hoe : oe = ![(sl h).val, 0])
    {α : Type} (kk : PUnit → Prog (TpuEff nD τ sig (Elt F) Λ₀ .tc) α) (Q : α → sProp 𝕄) :
    iprop(KD m c h k ∗ Ow c O ∗ (KD m c h k' -∗ Ow c O -∗ wp frame (wpE (defs₀ (F := F)) 𝒱 (c : Thread nD τ) bd) Set.univ (kk ⟨⟩) Q))
      ⊢ wp frame (wpE (defs₀ (F := F)) 𝒱 (c : Thread nD τ) bd) Set.univ
        (Prog.lift (.waitDma2 ((cc0_scratch14.slice (Rect.unit (s := S2x4) oe S1x1.size inbe)).squeeze S_ squeezes_S1x1_S_).sem
          (sW Ks os inbs) (dW kA od inbd) h1 h2) >>= kk) Q := by
  subst hk hk'
  unfold KD
  try rw [show (4 * n + 3) / 4 = n by omega]
  try rw [show (4 * n + 2) / 4 = n by omega]
  try rw [show (4 * n + 1) / 4 = n by omega]
  try rw [show (4 * n + 0) / 4 = n by omega]
  try rw [show (4 * n + 1 + 3) / 4 = n + 1 by omega]
  try rw [show (4 * n + 1 + 2) / 4 = n by omega]
  try rw [show (4 * n + 1 + 1) / 4 = n by omega]
  try rw [show (4 * n + 1 + 0) / 4 = n by omega]
  iintro ⟨⟨H0, H1, H2, H3⟩, HO, Hk⟩
  by_cases hl : n + 1 < 16
  · ihave H0 := (show DrN (F := F) c kA (sl h) 0 (kcA m c h) n ⊢ Drain c kA (sl h) 0 (kcA m c h) n from by unfold DrN; rw [if_pos hn]) $$ H0
    iapply (wp_kv_wait 𝒱 c bd kA Ks (sl h) 0 n hl (kcA m c h) O hO hoe kk Q)
    isplitl [H0]; · iexact H0
    isplitl [HO]; · iexact HO
    iintro H0 HO
    ihave H0 := (show Drain c kA (sl h) 0 (kcA m c h) (n + 1) ⊢ DrN (F := F) c kA (sl h) 0 (kcA m c h) (n + 1) from by unfold DrN; rw [if_pos hl]) $$ H0
    iapply Hk $$ [H0 H1 H2 H3]
    · isplitl [H0]; · iexact H0
      isplitl [H1]; · iexact H1
      isplitl [H2]; · iexact H2
      iexact H3
    iexact HO
  · obtain rfl : n = 15 := by omega
    ihave H0 := (Entails.of_eq (drN_lt (F := F) c kA (sl h) 0 (kcA m c h) 15 (by decide))) $$ H0
    iapply (wp_kv_last 𝒱 c bd kA Ks (sl h) 0 (kcA m c h) O hO hoe kk Q)
    isplitl [H0]; · iexact H0
    isplitl [HO]; · iexact HO
    iintro H0 HO
    ihave H0 := (Entails.of_eq (drN_16 (F := F) c kA (sl h) 0 (kcA m c h)).symm) $$ H0
    iapply Hk $$ [H0 H1 H2 H3]
    · isplitl [H0]; · iexact H0
      isplitl [H1]; · iexact H1
      isplitl [H2]; · iexact H2
      iexact H3
    iexact HO

theorem issue1 (𝒱 : Variants) (c : Dev nD) (bd : Option 𝒱.V) (h k k' n : ℕ) (hn : n < 16) (hk : k = 4 * n + 1) (hk' : k' = k + 1)
    {od os : Fin 4 → ℕ} {oe : Fin 2 → ℕ} {inbd} {inbs} {inbe} {h1} {h2} {h3}
    (hod : od = ![(sl h).val, 64 * n, 0, 0]) (hos : os = ![c.val, 64 * ord n, 4 * (bA c h).val, 0]) (hoe : oe = ![(sl h).val, 1])
    {α : Type} (kk : PUnit → Prog (TpuEff nD τ sig (Elt F) Λ₀ .tc) α) (Q : α → sProp 𝕄) :
    iprop(KI m c h k ∗ (KI m c h k' -∗ wp frame (wpE (defs₀ (F := F)) 𝒱 (c : Thread nD τ) bd) Set.univ (kk ⟨⟩) Q))
      ⊢ wp frame (wpE (defs₀ (F := F)) 𝒱 (c : Thread nD τ) bd) Set.univ
        (Prog.lift (.enqueueDma (sW Vs os inbs) (.here (dW vA od inbd))
          (.dma ((cc0_scratch14.slice (Rect.unit (s := S2x4) oe S1x1.size inbe)).squeeze S_ squeezes_S1x1_S_).sem) h1 h2 h3) >>= kk) Q := by
  subst hk hk'
  unfold KI
  try rw [show (4 * n + 1 + 3) / 4 = n + 1 by omega]
  try rw [show (4 * n + 1 + 2) / 4 = n by omega]
  try rw [show (4 * n + 1 + 1) / 4 = n by omega]
  try rw [show (4 * n + 1 + 0) / 4 = n by omega]
  try rw [show (4 * n + 1 + 1 + 3) / 4 = n + 1 by omega]
  try rw [show (4 * n + 1 + 1 + 2) / 4 = n + 1 by omega]
  try rw [show (4 * n + 1 + 1 + 1) / 4 = n by omega]
  try rw [show (4 * n + 1 + 1 + 0) / 4 = n by omega]
  iintro ⟨⟨H0, H1, H2, H3⟩, Hk⟩
  iapply (wp_kv_issue 𝒱 c bd vA Vs (sl h) 1 n hn c (bA c h) (vIn m c) (vcA m c h) (kvG_vA c (sl h) c (bA c h) (vIn m c)) hod hos hoe kk Q)
  isplitl [H1]; · iexact H1
  iintro H1
  iapply Hk
  isplitl [H0]; · iexact H0
  isplitl [H1]; · iexact H1
  isplitl [H2]; · iexact H2
  iexact H3

theorem await1 (𝒱 : Variants) (c : Dev nD) (bd : Option 𝒱.V) (h k k' n : ℕ) (hn : n < 16) (hk : k = 4 * n + 1) (hk' : k' = k + 1)
    (O : CellTallies nD τ sig ℕ) (hO : Above 0 O)
    {od os : Fin 4 → ℕ} {oe : Fin 2 → ℕ} {inbd} {inbs} {inbe} {h1} {h2} (hoe : oe = ![(sl h).val, 1])
    {α : Type} (kk : PUnit → Prog (TpuEff nD τ sig (Elt F) Λ₀ .tc) α) (Q : α → sProp 𝕄) :
    iprop(KD m c h k ∗ Ow c O ∗ (KD m c h k' -∗ Ow c O -∗ wp frame (wpE (defs₀ (F := F)) 𝒱 (c : Thread nD τ) bd) Set.univ (kk ⟨⟩) Q))
      ⊢ wp frame (wpE (defs₀ (F := F)) 𝒱 (c : Thread nD τ) bd) Set.univ
        (Prog.lift (.waitDma2 ((cc0_scratch14.slice (Rect.unit (s := S2x4) oe S1x1.size inbe)).squeeze S_ squeezes_S1x1_S_).sem
          (sW Vs os inbs) (dW vA od inbd) h1 h2) >>= kk) Q := by
  subst hk hk'
  unfold KD
  try rw [show (4 * n + 1 + 3) / 4 = n + 1 by omega]
  try rw [show (4 * n + 1 + 2) / 4 = n by omega]
  try rw [show (4 * n + 1 + 1) / 4 = n by omega]
  try rw [show (4 * n + 1 + 0) / 4 = n by omega]
  try rw [show (4 * n + 1 + 1 + 3) / 4 = n + 1 by omega]
  try rw [show (4 * n + 1 + 1 + 2) / 4 = n + 1 by omega]
  try rw [show (4 * n + 1 + 1 + 1) / 4 = n by omega]
  try rw [show (4 * n + 1 + 1 + 0) / 4 = n by omega]
  iintro ⟨⟨H0, H1, H2, H3⟩, HO, Hk⟩
  by_cases hl : n + 1 < 16
  · ihave H1 := (show DrN (F := F) c vA (sl h) 1 (vcA m c h) n ⊢ Drain c vA (sl h) 1 (vcA m c h) n from by unfold DrN; rw [if_pos hn]) $$ H1
    iapply (wp_kv_wait 𝒱 c bd vA Vs (sl h) 1 n hl (vcA m c h) O hO hoe kk Q)
    isplitl [H1]; · iexact H1
    isplitl [HO]; · iexact HO
    iintro H1 HO
    ihave H1 := (show Drain c vA (sl h) 1 (vcA m c h) (n + 1) ⊢ DrN (F := F) c vA (sl h) 1 (vcA m c h) (n + 1) from by unfold DrN; rw [if_pos hl]) $$ H1
    iapply Hk $$ [H0 H1 H2 H3]
    · isplitl [H0]; · iexact H0
      isplitl [H1]; · iexact H1
      isplitl [H2]; · iexact H2
      iexact H3
    iexact HO
  · obtain rfl : n = 15 := by omega
    ihave H1 := (Entails.of_eq (drN_lt (F := F) c vA (sl h) 1 (vcA m c h) 15 (by decide))) $$ H1
    iapply (wp_kv_last 𝒱 c bd vA Vs (sl h) 1 (vcA m c h) O hO hoe kk Q)
    isplitl [H1]; · iexact H1
    isplitl [HO]; · iexact HO
    iintro H1 HO
    ihave H1 := (Entails.of_eq (drN_16 (F := F) c vA (sl h) 1 (vcA m c h)).symm) $$ H1
    iapply Hk $$ [H0 H1 H2 H3]
    · isplitl [H0]; · iexact H0
      isplitl [H1]; · iexact H1
      isplitl [H2]; · iexact H2
      iexact H3
    iexact HO

theorem issue2 (𝒱 : Variants) (c : Dev nD) (bd : Option 𝒱.V) (h k k' n : ℕ) (hn : n < 16) (hk : k = 4 * n + 2) (hk' : k' = k + 1)
    {od os : Fin 4 → ℕ} {oe : Fin 2 → ℕ} {inbd} {inbs} {inbe} {h1} {h2} {h3}
    (hod : od = ![(sl h).val, 64 * n, 0, 0]) (hos : os = ![c.val, 64 * ord n, 4 * (bB c h).val, 0]) (hoe : oe = ![(sl h).val, 2])
    {α : Type} (kk : PUnit → Prog (TpuEff nD τ sig (Elt F) Λ₀ .tc) α) (Q : α → sProp 𝕄) :
    iprop(KI m c h k ∗ (KI m c h k' -∗ wp frame (wpE (defs₀ (F := F)) 𝒱 (c : Thread nD τ) bd) Set.univ (kk ⟨⟩) Q))
      ⊢ wp frame (wpE (defs₀ (F := F)) 𝒱 (c : Thread nD τ) bd) Set.univ
        (Prog.lift (.enqueueDma (sW Ks os inbs) (.here (dW kB od inbd))
          (.dma ((cc0_scratch14.slice (Rect.unit (s := S2x4) oe S1x1.size inbe)).squeeze S_ squeezes_S1x1_S_).sem) h1 h2 h3) >>= kk) Q := by
  subst hk hk'
  unfold KI
  try rw [show (4 * n + 2 + 3) / 4 = n + 1 by omega]
  try rw [show (4 * n + 2 + 2) / 4 = n + 1 by omega]
  try rw [show (4 * n + 2 + 1) / 4 = n by omega]
  try rw [show (4 * n + 2 + 0) / 4 = n by omega]
  try rw [show (4 * n + 2 + 1 + 3) / 4 = n + 1 by omega]
  try rw [show (4 * n + 2 + 1 + 2) / 4 = n + 1 by omega]
  try rw [show (4 * n + 2 + 1 + 1) / 4 = n + 1 by omega]
  try rw [show (4 * n + 2 + 1 + 0) / 4 = n by omega]
  iintro ⟨⟨H0, H1, H2, H3⟩, Hk⟩
  iapply (wp_kv_issue 𝒱 c bd kB Ks (sl h) 2 n hn c (bB c h) (kIn m c) (kcB m c h) (kvG_kB c (sl h) c (bB c h) (kIn m c)) hod hos hoe kk Q)
  isplitl [H2]; · iexact H2
  iintro H2
  iapply Hk
  isplitl [H0]; · iexact H0
  isplitl [H1]; · iexact H1
  isplitl [H2]; · iexact H2
  iexact H3

theorem await2 (𝒱 : Variants) (c : Dev nD) (bd : Option 𝒱.V) (h k k' n : ℕ) (hn : n < 16) (hk : k = 4 * n + 2) (hk' : k' = k + 1)
    (O : CellTallies nD τ sig ℕ) (hO : Above 0 O)
    {od os : Fin 4 → ℕ} {oe : Fin 2 → ℕ} {inbd} {inbs} {inbe} {h1} {h2} (hoe : oe = ![(sl h).val, 2])
    {α : Type} (kk : PUnit → Prog (TpuEff nD τ sig (Elt F) Λ₀ .tc) α) (Q : α → sProp 𝕄) :
    iprop(KD m c h k ∗ Ow c O ∗ (KD m c h k' -∗ Ow c O -∗ wp frame (wpE (defs₀ (F := F)) 𝒱 (c : Thread nD τ) bd) Set.univ (kk ⟨⟩) Q))
      ⊢ wp frame (wpE (defs₀ (F := F)) 𝒱 (c : Thread nD τ) bd) Set.univ
        (Prog.lift (.waitDma2 ((cc0_scratch14.slice (Rect.unit (s := S2x4) oe S1x1.size inbe)).squeeze S_ squeezes_S1x1_S_).sem
          (sW Ks os inbs) (dW kB od inbd) h1 h2) >>= kk) Q := by
  subst hk hk'
  unfold KD
  try rw [show (4 * n + 2 + 3) / 4 = n + 1 by omega]
  try rw [show (4 * n + 2 + 2) / 4 = n + 1 by omega]
  try rw [show (4 * n + 2 + 1) / 4 = n by omega]
  try rw [show (4 * n + 2 + 0) / 4 = n by omega]
  try rw [show (4 * n + 2 + 1 + 3) / 4 = n + 1 by omega]
  try rw [show (4 * n + 2 + 1 + 2) / 4 = n + 1 by omega]
  try rw [show (4 * n + 2 + 1 + 1) / 4 = n + 1 by omega]
  try rw [show (4 * n + 2 + 1 + 0) / 4 = n by omega]
  iintro ⟨⟨H0, H1, H2, H3⟩, HO, Hk⟩
  by_cases hl : n + 1 < 16
  · ihave H2 := (show DrN (F := F) c kB (sl h) 2 (kcB m c h) n ⊢ Drain c kB (sl h) 2 (kcB m c h) n from by unfold DrN; rw [if_pos hn]) $$ H2
    iapply (wp_kv_wait 𝒱 c bd kB Ks (sl h) 2 n hl (kcB m c h) O hO hoe kk Q)
    isplitl [H2]; · iexact H2
    isplitl [HO]; · iexact HO
    iintro H2 HO
    ihave H2 := (show Drain c kB (sl h) 2 (kcB m c h) (n + 1) ⊢ DrN (F := F) c kB (sl h) 2 (kcB m c h) (n + 1) from by unfold DrN; rw [if_pos hl]) $$ H2
    iapply Hk $$ [H0 H1 H2 H3]
    · isplitl [H0]; · iexact H0
      isplitl [H1]; · iexact H1
      isplitl [H2]; · iexact H2
      iexact H3
    iexact HO
  · obtain rfl : n = 15 := by omega
    ihave H2 := (Entails.of_eq (drN_lt (F := F) c kB (sl h) 2 (kcB m c h) 15 (by decide))) $$ H2
    iapply (wp_kv_last 𝒱 c bd kB Ks (sl h) 2 (kcB m c h) O hO hoe kk Q)
    isplitl [H2]; · iexact H2
    isplitl [HO]; · iexact HO
    iintro H2 HO
    ihave H2 := (Entails.of_eq (drN_16 (F := F) c kB (sl h) 2 (kcB m c h)).symm) $$ H2
    iapply Hk $$ [H0 H1 H2 H3]
    · isplitl [H0]; · iexact H0
      isplitl [H1]; · iexact H1
      isplitl [H2]; · iexact H2
      iexact H3
    iexact HO

theorem issue3 (𝒱 : Variants) (c : Dev nD) (bd : Option 𝒱.V) (h k k' n : ℕ) (hn : n < 16) (hk : k = 4 * n + 3) (hk' : k' = k + 1)
    {od os : Fin 4 → ℕ} {oe : Fin 2 → ℕ} {inbd} {inbs} {inbe} {h1} {h2} {h3}
    (hod : od = ![(sl h).val, 64 * n, 0, 0]) (hos : os = ![c.val, 64 * ord n, 4 * (bB c h).val, 0]) (hoe : oe = ![(sl h).val, 3])
    {α : Type} (kk : PUnit → Prog (TpuEff nD τ sig (Elt F) Λ₀ .tc) α) (Q : α → sProp 𝕄) :
    iprop(KI m c h k ∗ (KI m c h k' -∗ wp frame (wpE (defs₀ (F := F)) 𝒱 (c : Thread nD τ) bd) Set.univ (kk ⟨⟩) Q))
      ⊢ wp frame (wpE (defs₀ (F := F)) 𝒱 (c : Thread nD τ) bd) Set.univ
        (Prog.lift (.enqueueDma (sW Vs os inbs) (.here (dW vB od inbd))
          (.dma ((cc0_scratch14.slice (Rect.unit (s := S2x4) oe S1x1.size inbe)).squeeze S_ squeezes_S1x1_S_).sem) h1 h2 h3) >>= kk) Q := by
  subst hk hk'
  unfold KI
  try rw [show (4 * n + 3 + 3) / 4 = n + 1 by omega]
  try rw [show (4 * n + 3 + 2) / 4 = n + 1 by omega]
  try rw [show (4 * n + 3 + 1) / 4 = n + 1 by omega]
  try rw [show (4 * n + 3 + 0) / 4 = n by omega]
  try rw [show (4 * n + 3 + 1 + 3) / 4 = n + 1 by omega]
  try rw [show (4 * n + 3 + 1 + 2) / 4 = n + 1 by omega]
  try rw [show (4 * n + 3 + 1 + 1) / 4 = n + 1 by omega]
  try rw [show (4 * n + 3 + 1 + 0) / 4 = n + 1 by omega]
  iintro ⟨⟨H0, H1, H2, H3⟩, Hk⟩
  iapply (wp_kv_issue 𝒱 c bd vB Vs (sl h) 3 n hn c (bB c h) (vIn m c) (vcB m c h) (kvG_vB c (sl h) c (bB c h) (vIn m c)) hod hos hoe kk Q)
  isplitl [H3]; · iexact H3
  iintro H3
  iapply Hk
  isplitl [H0]; · iexact H0
  isplitl [H1]; · iexact H1
  isplitl [H2]; · iexact H2
  iexact H3

theorem await3 (𝒱 : Variants) (c : Dev nD) (bd : Option 𝒱.V) (h k k' n : ℕ) (hn : n < 16) (hk : k = 4 * n + 3) (hk' : k' = k + 1)
    (O : CellTallies nD τ sig ℕ) (hO : Above 0 O)
    {od os : Fin 4 → ℕ} {oe : Fin 2 → ℕ} {inbd} {inbs} {inbe} {h1} {h2} (hoe : oe = ![(sl h).val, 3])
    {α : Type} (kk : PUnit → Prog (TpuEff nD τ sig (Elt F) Λ₀ .tc) α) (Q : α → sProp 𝕄) :
    iprop(KD m c h k ∗ Ow c O ∗ (KD m c h k' -∗ Ow c O -∗ wp frame (wpE (defs₀ (F := F)) 𝒱 (c : Thread nD τ) bd) Set.univ (kk ⟨⟩) Q))
      ⊢ wp frame (wpE (defs₀ (F := F)) 𝒱 (c : Thread nD τ) bd) Set.univ
        (Prog.lift (.waitDma2 ((cc0_scratch14.slice (Rect.unit (s := S2x4) oe S1x1.size inbe)).squeeze S_ squeezes_S1x1_S_).sem
          (sW Vs os inbs) (dW vB od inbd) h1 h2) >>= kk) Q := by
  subst hk hk'
  unfold KD
  try rw [show (4 * n + 3 + 3) / 4 = n + 1 by omega]
  try rw [show (4 * n + 3 + 2) / 4 = n + 1 by omega]
  try rw [show (4 * n + 3 + 1) / 4 = n + 1 by omega]
  try rw [show (4 * n + 3 + 0) / 4 = n by omega]
  try rw [show (4 * n + 3 + 1 + 3) / 4 = n + 1 by omega]
  try rw [show (4 * n + 3 + 1 + 2) / 4 = n + 1 by omega]
  try rw [show (4 * n + 3 + 1 + 1) / 4 = n + 1 by omega]
  try rw [show (4 * n + 3 + 1 + 0) / 4 = n + 1 by omega]
  iintro ⟨⟨H0, H1, H2, H3⟩, HO, Hk⟩
  by_cases hl : n + 1 < 16
  · ihave H3 := (show DrN (F := F) c vB (sl h) 3 (vcB m c h) n ⊢ Drain c vB (sl h) 3 (vcB m c h) n from by unfold DrN; rw [if_pos hn]) $$ H3
    iapply (wp_kv_wait 𝒱 c bd vB Vs (sl h) 3 n hl (vcB m c h) O hO hoe kk Q)
    isplitl [H3]; · iexact H3
    isplitl [HO]; · iexact HO
    iintro H3 HO
    ihave H3 := (show Drain c vB (sl h) 3 (vcB m c h) (n + 1) ⊢ DrN (F := F) c vB (sl h) 3 (vcB m c h) (n + 1) from by unfold DrN; rw [if_pos hl]) $$ H3
    iapply Hk $$ [H0 H1 H2 H3]
    · isplitl [H0]; · iexact H0
      isplitl [H1]; · iexact H1
      isplitl [H2]; · iexact H2
      iexact H3
    iexact HO
  · obtain rfl : n = 15 := by omega
    ihave H3 := (Entails.of_eq (drN_lt (F := F) c vB (sl h) 3 (vcB m c h) 15 (by decide))) $$ H3
    iapply (wp_kv_last 𝒱 c bd vB Vs (sl h) 3 (vcB m c h) O hO hoe kk Q)
    isplitl [H3]; · iexact H3
    isplitl [HO]; · iexact HO
    iintro H3 HO
    ihave H3 := (Entails.of_eq (drN_16 (F := F) c vB (sl h) 3 (vcB m c h)).symm) $$ H3
    iapply Hk $$ [H0 H1 H2 H3]
    · isplitl [H0]; · iexact H0
      isplitl [H1]; · iexact H1
      isplitl [H2]; · iexact H2
      iexact H3
    iexact HO

end

theorem osA (c : Dev nD) (t n r : ℕ) (hr : r = 64 * ord n) : (![c.val, r, 8 * (((c.val + 15) - t) % 8), 0] : Fin 4 → ℕ) = ![c.val, 64 * ord n, 4 * (bA c (t + 1)).val, 0] := by
  rw [hr, show 8 * (((c.val + 15) - t) % 8) = 4 * (bA c (t + 1)).val from by simp only [bA, jA]; omega]
theorem osB (c : Dev nD) (t n r : ℕ) (hr : r = 64 * ord n) : (![c.val, r, 8 * ((c.val + t + 1) % 8) + 4, 0] : Fin 4 → ℕ) = ![c.val, 64 * ord n, 4 * (bB c (t + 1)).val, 0] := by
  rw [hr, show 8 * ((c.val + t + 1) % 8) + 4 = 4 * (bB c (t + 1)).val from by simp only [bB, jB]; omega]
theorem osA0 (c : Dev nD) (n r : ℕ) (hr : r = 64 * ord n) : (![c.val, r, 8 * ((c.val + 16) % 8), 0] : Fin 4 → ℕ) = ![c.val, 64 * ord n, 4 * (bA c 0).val, 0] := by
  rw [hr, show 8 * ((c.val + 16) % 8) = 4 * (bA c 0).val from by simp only [bA, jA]; omega]
theorem osB0 (c : Dev nD) (n r : ℕ) (hr : r = 64 * ord n) : (![c.val, r, 8 * c.val + 4, 0] : Fin 4 → ℕ) = ![c.val, 64 * ord n, 4 * (bB c 0).val, 0] := by
  have := c.isLt; change _ < 8 at this
  rw [hr, show 8 * c.val + 4 = 4 * (bB c 0).val from by simp only [bB, jB]; omega]

end Cert.KernelIdeal.Ring

end
-- ==== Proof.KernelIdeal.Tile.lean ====
/-
The attention output, tile by tile: what a load of a tile returns, and what a store of a tile leaves.
-/
module

public import proofs.«01_k».proof.Proof.KernelIdeal.KvState

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-! ## A slot of a key or value buffer as one piece -/

/-- The elements of slot `p`. -/
def kvSet (M : Memref sig .tc .vmem S2x1024x4x128 .f32) (p : Fin 2) : Finset M.view.ty.Idx :=
  Finset.univ.biUnion fun g : Fin 16 => (dW M ![p.val, 64 * g.val, 0, 0] (blk_inb p g)).view.set

theorem dW_set (M : Memref sig .tc .vmem S2x1024x4x128 .f32) (p : Fin 2) (g : Fin 16) :
    (dW M ![p.val, 64 * g.val, 0, 0] (blk_inb p g)).view.set = (dRect p g).set.map M.view.emb :=
  (View.set_reshape _ _).trans (View.set_slice _ _)

theorem mem_dRect (p : Fin 2) (g : Fin 16) (x : S2x1024x4x128.Idx) :
    x ∈ (dRect p g).set ↔ (x 0).val = p.val ∧ 64 * g.val ≤ (x 1).val ∧ (x 1).val < 64 * g.val + 64 := by
  rw [Rect.mem_set_unit]
  constructor
  · intro h
    have h0 := h 0; have h1 := h 1
    change p.val ≤ (x 0).val ∧ (x 0).val < p.val + 1 at h0
    change 64 * g.val ≤ (x 1).val ∧ (x 1).val < 64 * g.val + 64 at h1
    omega
  · rintro ⟨h0, h1, h2⟩ a
    have e2 : (x 2).val < 4 := (x 2).isLt
    have e3 : (x 3).val < 128 := (x 3).isLt
    match a with
    | ⟨0, _⟩ => change p.val ≤ (x 0).val ∧ (x 0).val < p.val + 1; omega
    | ⟨1, _⟩ => change 64 * g.val ≤ (x 1).val ∧ (x 1).val < 64 * g.val + 64; omega
    | ⟨2, _⟩ => change 0 ≤ (x 2).val ∧ (x 2).val < 0 + 4; omega
    | ⟨3, _⟩ => change 0 ≤ (x 3).val ∧ (x 3).val < 0 + 128; omega

theorem emb_kvSet (M : Memref sig .tc .vmem S2x1024x4x128 .f32) (p : Fin 2) (x : S2x1024x4x128.Idx) (hx : (x 0).val = p.val) :
    M.view.emb x ∈ kvSet M p := by
  have h1 : (x 1).val < 1024 := (x 1).isLt
  refine Finset.mem_biUnion.mpr ⟨(⟨(x 1).val / 64, by omega⟩ : Fin 16), Finset.mem_univ _, ?_⟩
  rw [dW_set]
  exact Finset.mem_map_of_mem _ ((mem_dRect _ _ _).mpr ⟨hx, by show 64 * ((x 1).val / 64) ≤ _; omega, by show _ < 64 * ((x 1).val / 64) + 64; omega⟩)

theorem mem_kvSet (M : Memref sig .tc .vmem S2x1024x4x128 .f32) (p : Fin 2) (y) (hy : y ∈ kvSet M p) :
    ∃ x : S2x1024x4x128.Idx, M.view.emb x = y ∧ (x 0).val = p.val := by
  obtain ⟨g, -, hg⟩ := Finset.mem_biUnion.mp hy
  rw [dW_set] at hg
  obtain ⟨x, hx, rfl⟩ := Finset.mem_map.mp hg
  exact ⟨x, rfl, ((mem_dRect _ _ _).mp hx).1⟩

/-- A slot, whole. -/
def KvSlot (c : Dev nD) (M : Memref sig .tc .vmem S2x1024x4x128 .f32) (p : Fin 2) (G : Buf (Elt F) (M.view.loc (c : Thread nD τ))) : sProp 𝕄 :=
  M.view.loc (c : Thread nD τ) ↦[kvSet M p]{fullShare} G

omit [FloatOps F] in
theorem kvSlot_eq (c : Dev nD) (M : Memref sig .tc .vmem S2x1024x4x128 .f32) (p : Fin 2) (G) :
    KvSlot (F := F) c M p G = bigSep Finset.univ (kvBlk c M p G) := by
  unfold KvSlot kvSet kvBlk
  refine pointsTo_biUnion _ _ fun g _ g' _ hne => ?_
  rw [dW_set, dW_set, Finset.disjoint_map, Finset.disjoint_left]
  intro x hx hx'
  have h1 := (mem_dRect _ _ _).mp hx
  have h2 := (mem_dRect _ _ _).mp hx'
  exact hne (Fin.ext (by omega))

theorem kvSet_split (M : Memref sig .tc .vmem S2x1024x4x128 .f32) : Disjoint (kvSet M 0) (kvSet M 1) ∧ M.view.set = kvSet M 0 ∪ kvSet M 1 := by
  refine ⟨Finset.disjoint_left.mpr fun y h0 h1 => ?_, ?_⟩
  · obtain ⟨x, rfl, hx⟩ := mem_kvSet _ _ _ h0
    obtain ⟨x', he, hx'⟩ := mem_kvSet _ _ _ h1
    obtain rfl := M.view.emb.injective he
    have : (0 : Fin 2).val = (1 : Fin 2).val := hx.symm.trans hx'
    exact absurd this (by decide)
  · ext y
    rw [Finset.mem_union]
    constructor
    · intro hy
      obtain ⟨x, -, rfl⟩ := Finset.mem_map.mp hy
      have h0 : (x 0).val < 2 := (x 0).isLt
      rcases (show (x 0).val = 0 ∨ (x 0).val = 1 by omega) with h | h
      · exact Or.inl (emb_kvSet M 0 x h)
      · exact Or.inr (emb_kvSet M 1 x h)
    · rintro (h | h) <;> obtain ⟨x, rfl, -⟩ := mem_kvSet _ _ _ h <;> exact View.emb_mem_set _ x

omit [FloatOps F] in
/-- A buffer is its two slots. -/
theorem kv_split (c : Dev nD) (M : Memref sig .tc .vmem S2x1024x4x128 .f32) (f : Buf (Elt F) (M.view.loc (c : Thread nD τ))) :
    (M.view.loc (c : Thread nD τ) ↦[M.view.set]{fullShare} f) ⊢ iprop(KvSlot c M 0 f ∗ KvSlot c M 1 f) := by
  obtain ⟨hd, he⟩ := kvSet_split M
  unfold KvSlot
  exact (Entails.of_eq (congrArg (fun S => (M.view.loc (c : Thread nD τ) ↦[S]{fullShare} f : sProp 𝕄)) he)).trans (pointsTo_union hd).1

/-! ## Reading and writing tiles -/

omit [FloatOps F] in
theorem rd_tile (f : S1024x1024.Idx → Elt F .f32) (r : Fin 4) (k : Fin 8) {off : Fin 2 → ℕ} {inb : ∀ a, off a + S256x128.size a ≤ S1024x1024.size a}
    (ho : off = ![256 * r.val, 128 * k.val]) :
    (Memref.whole cc0_scratch9).view.readAt (Elt F) (Rect.unit (s := S1024x1024) off S256x128.size inb).toLoadRect f = tile f r k := by
  subst ho
  funext y
  refine congrArg f (funext fun a => Fin.ext ?_)
  match a with
  | ⟨0, _⟩ => show 256 * r.val + 1 * (y 0).val = 256 * r.val + (y 0).val; omega
  | ⟨1, _⟩ => show 128 * k.val + 1 * (y 1).val = 128 * k.val + (y 1).val; omega

/-- The part of a slot one head's load of one class covers. -/
theorem kv_load_sub (M : Memref sig .tc .vmem S2x1024x4x128 .f32) (p : Fin 2) (r : Fin 4) (k : Fin 4) {off : Fin 4 → ℕ}
    {inb : ∀ a, off a + S1x256x1x128.size a ≤ S2x1024x4x128.size a} (ho : off = ![p.val, 256 * r.val, k.val, 0]) :
    M.view.setOn (Rect.unit (s := S2x1024x4x128) off S1x256x1x128.size inb).toLoadRect.set ⊆ kvSet M p := by
  subst ho
  intro y hy
  obtain ⟨x, hx, rfl⟩ := Finset.mem_map.mp hy
  refine emb_kvSet M p x ?_
  have h0 := (Rect.mem_set_unit.mp hx) 0
  change p.val ≤ (x 0).val ∧ (x 0).val < p.val + 1 at h0
  omega

omit [FloatOps F] in
theorem rd_kv_idx (f : S2x1024x4x128.Idx → Elt F .f32) (hf : ∀ y y' : S2x1024x4x128.Idx, (∀ a, a ≠ 0 → y a = y' a) → f y = f y') (p : Fin 2) (r : Fin 4) (k : Fin 4) {off : Fin 4 → ℕ}
    {inb : ∀ a, off a + S1x256x1x128.size a ≤ S2x1024x4x128.size a} (ho : off = ![p.val, 256 * r.val, k.val, 0]) (y) :
    f ((Rect.unit (s := S2x1024x4x128) off S1x256x1x128.size inb).toLoadRect.idx y) = kvTile f r k y := by
  subst ho
  refine hf _ _ fun a ha => Fin.ext ?_
  have h2 : (y 2).val < 1 := (y 2).isLt
  match a with
  | ⟨0, _⟩ => exact absurd rfl ha
  | ⟨1, _⟩ => show 256 * r.val + 1 * (y 1).val = 256 * r.val + (y 1).val; omega
  | ⟨2, _⟩ => show k.val + 1 * (y 2).val = k.val; omega
  | ⟨3, _⟩ => show 0 + 1 * (y 3).val = (y 3).val; omega

omit [FloatOps F] in
theorem kvCont_slot (i : Fin 8) (b : Fin 16) (K : S8x1024x64x128.Idx → Elt F .f32) (y y' : S2x1024x4x128.Idx) (h : ∀ a, a ≠ 0 → y a = y' a) :
    kvCont i b K y = kvCont i b K y' := by
  unfold kvCont
  have h1 := h 1 (by decide); have h2 := h 2 (by decide); have h3 := h 3 (by decide)
  simp only [h1, h2, h3]

section
variable (m : (ℓ : Loc nD τ sig) → Buf (Elt F) ℓ)

/-- The first `n` tiles of the attention output are in place. -/
def Tiled (c : Dev nD) (h n : ℕ) (f : S1024x1024.Idx → Elt F .f32) : Prop :=
  ∀ y : S1024x1024.Idx, 8 * ((y 0).val / 256) + (y 1).val / 128 < n → f y = ctxF m c h y

theorem tiled_all (c : Dev nD) (h : ℕ) (f) (hf : Tiled m c h 32 f) : f = ctxF m c h := funext fun y => hf y (by
  have h0 : (y 0).val < 1024 := (y 0).isLt
  have h1 : (y 1).val < 1024 := (y 1).isLt
  omega)

theorem tiled_step (c : Dev nD) (h n : ℕ) (f) (hf : Tiled m c h n f) (r : Fin 4) (k : Fin 8) (hn : n = 8 * r.val + k.val)
    {off : Fin 2 → ℕ} {inb : ∀ a, off a + S256x128.size a ≤ S1024x1024.size a} (ho : off = ![256 * r.val, 128 * k.val])
    (w : S256x128.Idx → Elt F .f32) (hw : w = headF m c h r k) :
    Tiled m c h (n + 1) (((Memref.whole cc0_scratch10).access (Rect.unit (s := S1024x1024) off S256x128.size inb)).write (Elt F) f w Finset.univ) := by
  subst ho hw hn
  have hr := r.isLt; have hk := k.isLt
  intro y hy
  have h0 : (y 0).val < 1024 := (y 0).isLt
  have h1 : (y 1).val < 1024 := (y 1).isLt
  by_cases hc : (y 0).val / 256 = r.val ∧ (y 1).val / 128 = k.val
  · let x : S256x128.Idx := ix2 (⟨(y 0).val % 256, Nat.mod_lt _ (by decide)⟩ : Fin 256) (⟨(y 1).val % 128, Nat.mod_lt _ (by decide)⟩ : Fin 128)
    have hx : (Rect.unit (s := S1024x1024) ![256 * r.val, 128 * k.val] S256x128.size inb).emb x = y := by
      funext a
      apply Fin.ext
      match a with
      | ⟨0, _⟩ => show 256 * r.val + 1 * ((y 0).val % 256) = (y 0).val; omega
      | ⟨1, _⟩ => show 128 * k.val + 1 * ((y 1).val % 128) = (y 1).val; omega
    have hwr := View.write_emb_of_mem (v := (Memref.whole cc0_scratch10).access (Rect.unit (s := S1024x1024) ![256 * r.val, 128 * k.val] S256x128.size inb)) (Val := Elt F)
      f (headF m c h r k) (M := Finset.univ) (x := x) (Finset.mem_univ _)
    have hx' : ((Memref.whole cc0_scratch10).access (Rect.unit (s := S1024x1024) ![256 * r.val, 128 * k.val] S256x128.size inb)).emb x = y := hx
    rw [hx'] at hwr
    refine Eq.trans hwr ?_
    unfold ctxF
    have er : (⟨(y 0).val / 256, by omega⟩ : Fin 4) = r := Fin.ext hc.1
    have ek : (⟨(y 1).val / 128, by omega⟩ : Fin 8) = k := Fin.ext hc.2
    rw [er, ek]; rfl
  · have hlt : 8 * ((y 0).val / 256) + (y 1).val / 128 < 8 * r.val + k.val := by omega
    rw [← hf y hlt]
    refine View.write_of_not_mem _ _ Finset.univ fun hmem => ?_
    obtain ⟨x, -, hx⟩ := Finset.mem_map.mp hmem
    have e0 : (y 0).val = 256 * r.val + 1 * (x 0).val := by rw [← hx]; rfl
    have e1 : (y 1).val = 128 * k.val + 1 * (x 1).val := by rw [← hx]; rfl
    have b0 : (x 0).val < 256 := (x 0).isLt
    have b1 : (x 1).val < 128 := (x 1).isLt
    omega
end

end Cert.KernelIdeal.Ring

end
-- ==== Proof.KernelIdeal.Inner.lean ====
/-
One step of the inner loop: a load or a store of a tile.
-/
module

public import proofs.«01_k».proof.Proof.KernelIdeal.Tile

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-- A whole buffer of a device. -/
abbrev Wh (c : Dev nD) (b : Ref sig .tc) (f : b.ty.Contents (Elt F)) : sProp 𝕄 :=
  (Memref.whole b).view.loc (c : Thread nD τ) ↦[Finset.univ]{fullShare} f

section
variable (m : (ℓ : Loc nD τ sig) → Buf (Elt F) ℓ)

/-- The inner loop's state: the slots read, the queries, and the first `n` tiles of the output. -/
def In (c : Dev nD) (h n : ℕ) : sProp 𝕄 := iprop(
  KvSlot c kA (sl h) (kcA m c h) ∗ KvSlot c vA (sl h) (vcA m c h) ∗ KvSlot c kB (sl h) (kcB m c h) ∗ KvSlot c vB (sl h) (vcB m c h)
    ∗ Wh c cc0_scratch9 (qF m c h) ∗ ∃ f : S1024x1024.Idx → Elt F .f32, ⌜Tiled m c h n f⌝ ∗ Wh c cc0_scratch10 f)

variable (𝒱 : Variants) (c : Dev nD) (bd : Option 𝒱.V) (h n : ℕ)

theorem in_q (r : Fin 4) (k : Fin 8) {off : Fin 2 → ℕ} {inb : ∀ a, off a + S256x128.size a ≤ S1024x1024.size a} {hl}
    (ho : off = ![256 * r.val, 128 * k.val]) {α : Type} (kk : (S256x128.Idx → Elt F .f32) → Prog (TpuEff nD τ sig (Elt F) Λ₀ .tc) α) (Q : α → sProp 𝕄) :
    iprop(In m c h n ∗ (In m c h n -∗ wp frame (wpE (defs₀ (F := F)) 𝒱 (c : Thread nD τ) bd) Set.univ (kk (tile (qF m c h) r k)) Q))
      ⊢ wp frame (wpE (defs₀ (F := F)) 𝒱 (c : Thread nD τ) bd) Set.univ (Prog.lift (.load (Memref.whole cc0_scratch9) (Rect.unit (s := S1024x1024) off S256x128.size inb).toLoadRect hl) >>= kk) Q := by
  unfold In
  iintro ⟨⟨H1, H2, H3, H4, Hq, Hc⟩, HK⟩
  simp only [Prog.lift, Prog.bind_op, Prog.bind_ret]
  iapply (wp_load 𝒱 c bd Set.univ (m := Memref.whole cc0_scratch9) (Finset.subset_univ _)) $$ Hq
  iintro Hq
  rw [rd_tile (qF m c h) r k ho]
  iapply HK
  isplitl [H1]; · iexact H1
  isplitl [H2]; · iexact H2
  isplitl [H3]; · iexact H3
  isplitl [H4]; · iexact H4
  isplitl [Hq]; · iexact Hq
  iexact Hc

theorem in_c {off : Fin 2 → ℕ} {inb : ∀ a, off a + S256x128.size a ≤ S1024x1024.size a} {hl}
    {α : Type} (kk : (S256x128.Idx → Elt F .f32) → Prog (TpuEff nD τ sig (Elt F) Λ₀ .tc) α) (Q : α → sProp 𝕄) :
    iprop(In m c h n ∗ (∀ w, In m c h n -∗ wp frame (wpE (defs₀ (F := F)) 𝒱 (c : Thread nD τ) bd) Set.univ (kk w) Q))
      ⊢ wp frame (wpE (defs₀ (F := F)) 𝒱 (c : Thread nD τ) bd) Set.univ (Prog.lift (.load (Memref.whole cc0_scratch10) (Rect.unit (s := S1024x1024) off S256x128.size inb).toLoadRect hl) >>= kk) Q := by
  unfold In
  iintro ⟨⟨H1, H2, H3, H4, Hq, %f, %hf, Hc⟩, HK⟩
  simp only [Prog.lift, Prog.bind_op, Prog.bind_ret]
  iapply (wp_load 𝒱 c bd Set.univ (m := Memref.whole cc0_scratch10) (Finset.subset_univ _)) $$ Hc
  iintro Hc
  iapply HK
  isplitl [H1]; · iexact H1
  isplitl [H2]; · iexact H2
  isplitl [H3]; · iexact H3
  isplitl [H4]; · iexact H4
  isplitl [Hq]; · iexact Hq
  iexists f
  isplitr
  · ipureintro; exact hf
  · iexact Hc

theorem in_st (r : Fin 4) (k : Fin 8) {off : Fin 2 → ℕ} {inb : ∀ a, off a + S256x128.size a ≤ S1024x1024.size a} {hx hm}
    (ho : off = ![256 * r.val, 128 * k.val]) (hn : n = 8 * r.val + k.val) (w : S256x128.Idx → Elt F .f32) (hw : w = headF m c h r k)
    {α : Type} (kk : PUnit → Prog (TpuEff nD τ sig (Elt F) Λ₀ .tc) α) (Q : α → sProp 𝕄) :
    iprop(In m c h n ∗ (In m c h (n + 1) -∗ wp frame (wpE (defs₀ (F := F)) 𝒱 (c : Thread nD τ) bd) Set.univ (kk ⟨⟩) Q))
      ⊢ wp frame (wpE (defs₀ (F := F)) 𝒱 (c : Thread nD τ) bd) Set.univ (Prog.lift (.store (Memref.whole cc0_scratch10) (Rect.unit (s := S1024x1024) off S256x128.size inb) w Finset.univ hx hm) >>= kk) Q := by
  unfold In
  iintro ⟨⟨H1, H2, H3, H4, Hq, %f, %hf, Hc⟩, HK⟩
  simp only [Prog.lift, Prog.bind_op, Prog.bind_ret]
  iapply (wp_store 𝒱 (c : Thread nD τ) bd Set.univ (m := Memref.whole cc0_scratch10) (r := Rect.unit (s := S1024x1024) off S256x128.size inb) (Mk := Finset.univ) (S := Finset.univ) (f := f) (Finset.subset_univ _)) $$ Hc
  iintro Hc
  iapply HK
  isplitl [H1]; · iexact H1
  isplitl [H2]; · iexact H2
  isplitl [H3]; · iexact H3
  isplitl [H4]; · iexact H4
  isplitl [Hq]; · iexact Hq
  iexists (((Memref.whole cc0_scratch10).access (Rect.unit (s := S1024x1024) off S256x128.size inb)).write (Elt F) f w Finset.univ)
  isplitr
  · ipureintro; exact tiled_step m c h n f hf r k hn ho w hw
  · iexact Hc

theorem in_kA (r : Fin 4) (k : Fin 4) {off : Fin 4 → ℕ} {inb : ∀ a, off a + S1x256x1x128.size a ≤ S2x1024x4x128.size a} {hl}
    (ho : off = ![(sl h).val, 256 * r.val, k.val, 0]) {α : Type} (kk : (S1x256x1x128.Idx → Elt F .f32) → Prog (TpuEff nD τ sig (Elt F) Λ₀ .tc) α) (Q : α → sProp 𝕄) :
    iprop(In m c h n ∗ (In m c h n -∗ wp frame (wpE (defs₀ (F := F)) 𝒱 (c : Thread nD τ) bd) Set.univ (kk (kvTile (kcA m c h) r k)) Q))
      ⊢ wp frame (wpE (defs₀ (F := F)) 𝒱 (c : Thread nD τ) bd) Set.univ (Prog.lift (.load kA (Rect.unit (s := S2x1024x4x128) off S1x256x1x128.size inb).toLoadRect hl) >>= kk) Q := by
  unfold In KvSlot
  iintro ⟨⟨H1, H2, H3, H4, Hq, Hc⟩, HK⟩
  simp only [Prog.lift, Prog.bind_op, Prog.bind_ret]
  iapply (wp_load 𝒱 (c : Thread nD τ) bd Set.univ (m := kA) (S := kvSet kA (sl h)) (q := fullShare) (f := kcA m c h) (kv_load_sub kA (sl h) r k ho)) $$ H1
  iintro H1
  rw [show kA.view.readAt (Elt F) (Rect.unit (s := S2x1024x4x128) off S1x256x1x128.size inb).toLoadRect (kcA m c h) = kvTile (kcA m c h) r k from
    funext (rd_kv_idx _ (kvCont_slot _ _ _) (sl h) r k ho)]
  iapply HK
  isplitl [H1]; · iexact H1
  isplitl [H2]; · iexact H2
  isplitl [H3]; · iexact H3
  isplitl [H4]; · iexact H4
  isplitl [Hq]; · iexact Hq
  iexact Hc

theorem in_vA (r : Fin 4) (k : Fin 4) {off : Fin 4 → ℕ} {inb : ∀ a, off a + S1x256x1x128.size a ≤ S2x1024x4x128.size a} {hl}
    (ho : off = ![(sl h).val, 256 * r.val, k.val, 0]) {α : Type} (kk : (S1x256x1x128.Idx → Elt F .f32) → Prog (TpuEff nD τ sig (Elt F) Λ₀ .tc) α) (Q : α → sProp 𝕄) :
    iprop(In m c h n ∗ (In m c h n -∗ wp frame (wpE (defs₀ (F := F)) 𝒱 (c : Thread nD τ) bd) Set.univ (kk (kvTile (vcA m c h) r k)) Q))
      ⊢ wp frame (wpE (defs₀ (F := F)) 𝒱 (c : Thread nD τ) bd) Set.univ (Prog.lift (.load vA (Rect.unit (s := S2x1024x4x128) off S1x256x1x128.size inb).toLoadRect hl) >>= kk) Q := by
  unfold In KvSlot
  iintro ⟨⟨H1, H2, H3, H4, Hq, Hc⟩, HK⟩
  simp only [Prog.lift, Prog.bind_op, Prog.bind_ret]
  iapply (wp_load 𝒱 (c : Thread nD τ) bd Set.univ (m := vA) (S := kvSet vA (sl h)) (q := fullShare) (f := vcA m c h) (kv_load_sub vA (sl h) r k ho)) $$ H2
  iintro H2
  rw [show vA.view.readAt (Elt F) (Rect.unit (s := S2x1024x4x128) off S1x256x1x128.size inb).toLoadRect (vcA m c h) = kvTile (vcA m c h) r k from
    funext (rd_kv_idx _ (kvCont_slot _ _ _) (sl h) r k ho)]
  iapply HK
  isplitl [H1]; · iexact H1
  isplitl [H2]; · iexact H2
  isplitl [H3]; · iexact H3
  isplitl [H4]; · iexact H4
  isplitl [Hq]; · iexact Hq
  iexact Hc

theorem in_kB (r : Fin 4) (k : Fin 4) {off : Fin 4 → ℕ} {inb : ∀ a, off a + S1x256x1x128.size a ≤ S2x1024x4x128.size a} {hl}
    (ho : off = ![(sl h).val, 256 * r.val, k.val, 0]) {α : Type} (kk : (S1x256x1x128.Idx → Elt F .f32) → Prog (TpuEff nD τ sig (Elt F) Λ₀ .tc) α) (Q : α → sProp 𝕄) :
    iprop(In m c h n ∗ (In m c h n -∗ wp frame (wpE (defs₀ (F := F)) 𝒱 (c : Thread nD τ) bd) Set.univ (kk (kvTile (kcB m c h) r k)) Q))
      ⊢ wp frame (wpE (defs₀ (F := F)) 𝒱 (c : Thread nD τ) bd) Set.univ (Prog.lift (.load kB (Rect.unit (s := S2x1024x4x128) off S1x256x1x128.size inb).toLoadRect hl) >>= kk) Q := by
  unfold In KvSlot
  iintro ⟨⟨H1, H2, H3, H4, Hq, Hc⟩, HK⟩
  simp only [Prog.lift, Prog.bind_op, Prog.bind_ret]
  iapply (wp_load 𝒱 (c : Thread nD τ) bd Set.univ (m := kB) (S := kvSet kB (sl h)) (q := fullShare) (f := kcB m c h) (kv_load_sub kB (sl h) r k ho)) $$ H3
  iintro H3
  rw [show kB.view.readAt (Elt F) (Rect.unit (s := S2x1024x4x128) off S1x256x1x128.size inb).toLoadRect (kcB m c h) = kvTile (kcB m c h) r k from
    funext (rd_kv_idx _ (kvCont_slot _ _ _) (sl h) r k ho)]
  iapply HK
  isplitl [H1]; · iexact H1
  isplitl [H2]; · iexact H2
  isplitl [H3]; · iexact H3
  isplitl [H4]; · iexact H4
  isplitl [Hq]; · iexact Hq
  iexact Hc

theorem in_vB (r : Fin 4) (k : Fin 4) {off : Fin 4 → ℕ} {inb : ∀ a, off a + S1x256x1x128.size a ≤ S2x1024x4x128.size a} {hl}
    (ho : off = ![(sl h).val, 256 * r.val, k.val, 0]) {α : Type} (kk : (S1x256x1x128.Idx → Elt F .f32) → Prog (TpuEff nD τ sig (Elt F) Λ₀ .tc) α) (Q : α → sProp 𝕄) :
    iprop(In m c h n ∗ (In m c h n -∗ wp frame (wpE (defs₀ (F := F)) 𝒱 (c : Thread nD τ) bd) Set.univ (kk (kvTile (vcB m c h) r k)) Q))
      ⊢ wp frame (wpE (defs₀ (F := F)) 𝒱 (c : Thread nD τ) bd) Set.univ (Prog.lift (.load vB (Rect.unit (s := S2x1024x4x128) off S1x256x1x128.size inb).toLoadRect hl) >>= kk) Q := by
  unfold In KvSlot
  iintro ⟨⟨H1, H2, H3, H4, Hq, Hc⟩, HK⟩
  simp only [Prog.lift, Prog.bind_op, Prog.bind_ret]
  iapply (wp_load 𝒱 (c : Thread nD τ) bd Set.univ (m := vB) (S := kvSet vB (sl h)) (q := fullShare) (f := vcB m c h) (kv_load_sub vB (sl h) r k ho)) $$ H4
  iintro H4
  rw [show vB.view.readAt (Elt F) (Rect.unit (s := S2x1024x4x128) off S1x256x1x128.size inb).toLoadRect (vcB m c h) = kvTile (vcB m c h) r k from
    funext (rd_kv_idx _ (kvCont_slot _ _ _) (sl h) r k ho)]
  iapply HK
  isplitl [H1]; · iexact H1
  isplitl [H2]; · iexact H2
  isplitl [H3]; · iexact H3
  isplitl [H4]; · iexact H4
  isplitl [Hq]; · iexact Hq
  iexact Hc
end

end Cert.KernelIdeal.Ring

end
-- ==== Proof.KernelIdeal.Sched.lean ====
/-
The cells devices share, their rounds, and what each round hands over.
-/
module

public import proofs.«01_k».proof.Proof.KernelIdeal.KvState

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

abbrev mQA : Memref sig .tc .vmem S2x1024x512 .f32 := Memref.whole cc0_scratch0
abbrev mOA : Memref sig .tc .vmem S2x512x1024 .f32 := Memref.whole cc0_scratch1
abbrev mQB : Memref sig .tc .vmem S2x1024x512 .f32 := Memref.whole cc0_scratch2
abbrev mOB : Memref sig .tc .vmem S2x512x1024 .f32 := Memref.whole cc0_scratch3

/-- One slot of a weight buffer, as the body cuts it out. -/
abbrev cwQ (M : Memref sig .tc .vmem S2x1024x512 .f32) (off : Fin 3 → ℕ) (inb : ∀ a, off a + S1x1024x512.size a ≤ S2x1024x512.size a) : Memref sig .tc .vmem S1024x512 .f32 :=
  (M.slice (Rect.unit (s := S2x1024x512) off S1x1024x512.size inb) (fun _ => rfl)).squeeze S1024x512 squeezes_S1x1024x512_S1024x512
abbrev cwO (M : Memref sig .tc .vmem S2x512x1024 .f32) (off : Fin 3 → ℕ) (inb : ∀ a, off a + S1x512x1024.size a ≤ S2x512x1024.size a) : Memref sig .tc .vmem S512x1024 .f32 :=
  (M.slice (Rect.unit (s := S2x512x1024) off S1x512x1024.size inb) (fun _ => rfl)).squeeze S512x1024 squeezes_S1x512x1024_S512x1024

theorem slotQ_inb (p : Fin 2) : ∀ a, (![p.val, 0, 0] : Fin 3 → ℕ) a + S1x1024x512.size a ≤ S2x1024x512.size a := by revert p; decide
theorem slotO_inb (p : Fin 2) : ∀ a, (![p.val, 0, 0] : Fin 3 → ℕ) a + S1x512x1024.size a ≤ S2x512x1024.size a := by revert p; decide

/-- A slot of a weight buffer, held at a share with given contents. -/
def slotQ (c : Dev nD) (M : Memref sig .tc .vmem S2x1024x512 .f32) (p : Fin 2) (q : PosShare TreeShare) (f : M.view.ty.Contents (Elt F)) : sProp 𝕄 :=
  (cwQ M ![p.val, 0, 0] (slotQ_inb p)).view.loc (c : Thread nD τ) ↦[(cwQ M ![p.val, 0, 0] (slotQ_inb p)).view.set]{q} f
def slotO (c : Dev nD) (M : Memref sig .tc .vmem S2x512x1024 .f32) (p : Fin 2) (q : PosShare TreeShare) (f : M.view.ty.Contents (Elt F)) : sProp 𝕄 :=
  (cwO M ![p.val, 0, 0] (slotO_inb p)).view.loc (c : Thread nD τ) ↦[(cwO M ![p.val, 0, 0] (slotO_inb p)).view.set]{q} f
omit [FloatOps F] in
instance slotQ_storable (c : Dev nD) (M p q) (f) : BI.Storable (upEmb : UEmb _ 𝕄) (slotQ (F := F) c M p q f) := by unfold slotQ; infer_instance
omit [FloatOps F] in
instance slotO_storable (c : Dev nD) (M p q) (f) : BI.Storable (upEmb : UEmb _ 𝕄) (slotO (F := F) c M p q f) := by unfold slotO; infer_instance

/-! ## The cells -/

/-- The semaphores devices share: the barrier, the four of the copies' senders, the four of their receivers, the two credits. -/
def csem : Fin 11 → SemLoc sig
  | 0 => .reg (SemArray.scalar (sig.barrier 0 rfl) : Sems sig S_).sem
  | 1 => .dma ((cc0_scratch12.slice (Rect.unit (s := S4) ![0] S1.size inb_S4_S1_0)).squeeze S_ squeezes_S1_S_).sem
  | 2 => .dma ((cc0_scratch12.slice (Rect.unit (s := S4) ![1] S1.size inb_S4_S1_1)).squeeze S_ squeezes_S1_S_).sem
  | 3 => .dma ((cc0_scratch12.slice (Rect.unit (s := S4) ![2] S1.size inb_S4_S1_2)).squeeze S_ squeezes_S1_S_).sem
  | 4 => .dma ((cc0_scratch12.slice (Rect.unit (s := S4) ![3] S1.size inb_S4_S1_3)).squeeze S_ squeezes_S1_S_).sem
  | 5 => .dma ((cc0_scratch13.slice (Rect.unit (s := S4) ![0] S1.size inb_S4_S1_0)).squeeze S_ squeezes_S1_S_).sem
  | 6 => .dma ((cc0_scratch13.slice (Rect.unit (s := S4) ![1] S1.size inb_S4_S1_1)).squeeze S_ squeezes_S1_S_).sem
  | 7 => .dma ((cc0_scratch13.slice (Rect.unit (s := S4) ![2] S1.size inb_S4_S1_2)).squeeze S_ squeezes_S1_S_).sem
  | 8 => .dma ((cc0_scratch13.slice (Rect.unit (s := S4) ![3] S1.size inb_S4_S1_3)).squeeze S_ squeezes_S1_S_).sem
  | 9 => .reg cc0_scratch16.sem
  | 10 => .reg cc0_scratch17.sem

/-- Which of them a semaphore is. -/
def jOf (sm : SemLoc sig) : Option (Fin 11) := (List.finRange 11).find? (fun j => csem j = sm)
theorem jOf_csem (j : Fin 11) : jOf (csem j) = some j := by revert j; decide +kernel

abbrev cell (c : Dev nD) (j : Fin 11) : GSem nD τ sig := ((c : Thread nD τ), csem j)

/-- The units a copy into a slot counts. -/
abbrev NQ (M : Memref sig .tc .vmem S2x1024x512 .f32) : ℕ := (cwQ M ![0, 0, 0] (slotQ_inb 0)).view.dmaCredit
abbrev NO (M : Memref sig .tc .vmem S2x512x1024 .f32) : ℕ := (cwO M ![0, 0, 0] (slotO_inb 0)).view.dmaCredit

/-- How many rounds a cell has. -/
def rounds (j : Fin 11) : ℕ := if j = 0 then 1 else if j.val < 9 then 7 else 6
def amtJ : Fin 11 → ℕ
  | 0 => 1
  | 1 => NQ mQA | 2 => NO mOA | 3 => NQ mQB | 4 => NO mOB
  | 5 => NQ mQA | 6 => NO mOA | 7 => NQ mQB | 8 => NO mOB
  | 9 => 1 | 10 => 1
theorem amtJ_pos (j : Fin 11) : 0 < amtJ j := by
  have hQ : ∀ M, 0 < NQ M := fun M => View.dmaCredit_pos _ (by decide)
  have hO : ∀ M, 0 < NO M := fun M => View.dmaCredit_pos _ (by decide)
  match j with
  | 0 => exact Nat.one_pos
  | 1 => exact hQ _
  | 2 => exact hO _
  | 3 => exact hQ _
  | 4 => exact hO _
  | 5 => exact hQ _
  | 6 => exact hO _
  | 7 => exact hQ _
  | 8 => exact hO _
  | 9 => exact Nat.one_pos
  | 10 => exact Nat.one_pos

section
variable (m : (ℓ : Loc nD τ sig) → Buf (Elt F) ℓ)

/-- The right neighbour's free slots for hop `h`, and that it is ready to count hop `h`'s copies. -/
def freeA (c : Dev nD) (h : ℕ) : sProp 𝕄 :=
  iprop((∃ f, slotQ (F := F) (rgt c) mQA (sl h) fullShare f) ∗ (∃ f, slotO (F := F) (rgt c) mOA (sl h) fullShare f)
    ∗ reached ER (cell (rgt c) 5) h ∗ reached ER (cell (rgt c) 6) h)
/-- The left neighbour's. -/
def freeB (c : Dev nD) (h : ℕ) : sProp 𝕄 :=
  iprop((∃ f, slotQ (F := F) (lft c) mQB (sl h) fullShare f) ∗ (∃ f, slotO (F := F) (lft c) mOB (sl h) fullShare f)
    ∗ reached ER (cell (lft c) 7) h ∗ reached ER (cell (lft c) 8) h)

omit [FloatOps F] in
instance freeA_storable (c : Dev nD) (h : ℕ) : BI.Storable (upEmb : UEmb _ 𝕄) (freeA (F := F) c h) := by unfold freeA; infer_instance
omit [FloatOps F] in
instance freeB_storable (c : Dev nD) (h : ℕ) : BI.Storable (upEmb : UEmb _ 𝕄) (freeB (F := F) c h) := by unfold freeB; infer_instance

/-- What duty `d` of round `r` of a device's cell hands over. The barrier: both neighbours' slots for hop 0. A sender's
    cell: the half share lent to the copy. A receiver's: the slot with the next hop's weights (and that the sender is
    ready for this hop's credit). A credit: the neighbour's slots for the next hop. -/
def payJ (c : Dev nD) (j : Fin 11) (r : ℕ) (d : Bool) : sProp 𝕄 := match j with
  | 0 => if d then freeA c 0 else freeB c 0
  | 1 => slotQ c mQA (sl (r + 1)) fullShare.left (cQA m c r)
  | 2 => slotO c mOA (sl (r + 1)) fullShare.left (cOA m c r)
  | 3 => slotQ c mQB (sl (r + 1)) fullShare.left (cQB m c r)
  | 4 => slotO c mOB (sl (r + 1)) fullShare.left (cOB m c r)
  | 5 => iprop(slotQ c mQA (sl r) fullShare (cQA m c (r + 1)) ∗ reached ER (cell (lft c) 9) r)
  | 6 => slotO c mOA (sl r) fullShare (cOA m c (r + 1))
  | 7 => iprop(slotQ c mQB (sl r) fullShare (cQB m c (r + 1)) ∗ reached ER (cell (rgt c) 10) r)
  | 8 => slotO c mOB (sl r) fullShare (cOB m c (r + 1))
  | 9 => freeA c (r + 1)
  | 10 => freeB c (r + 1)

instance payJ_storable (c : Dev nD) (j : Fin 11) (r : ℕ) (d : Bool) : BI.Storable (upEmb : UEmb _ 𝕄) (payJ (F := F) m c j r d) := by
  match j with
  | 0 => cases d; exacts [freeB_storable c 0, freeA_storable c 0]
  | 1 => unfold payJ; infer_instance
  | 2 => unfold payJ; infer_instance
  | 3 => unfold payJ; infer_instance
  | 4 => unfold payJ; infer_instance
  | 5 => unfold payJ; infer_instance
  | 6 => unfold payJ; infer_instance
  | 7 => unfold payJ; infer_instance
  | 8 => unfold payJ; infer_instance
  | 9 => unfold payJ; infer_instance
  | 10 => unfold payJ; infer_instance

/-- The duties of a round: two at the barrier, one elsewhere. -/
def dutJ (j : Fin 11) (r : ℕ) : Finset Bool := if r < rounds j then (if j = 0 then Finset.univ else {false}) else ∅

/-- The schedule of the shared cells. -/
def Rd : Rounds.Schedule (GSem nD τ sig) Bool 𝕄 where
  duties g r := if g.1.2 = .tc then (match jOf g.2 with | some j => dutJ j r | none => ∅) else ∅
  amount g _ _ := match jOf g.2 with | some j => amtJ j | none => 1
  payload g r d := match jOf g.2 with | some j => payJ m g.1.1 j r d | none => iprop(emp)
  amount_pos g r d _ := by
    show 0 < (match jOf g.2 with | some j => amtJ j | none => 1)
    split
    · exact amtJ_pos _
    · exact Nat.one_pos

instance Rd_payload_storable (g : GSem nD τ sig) (r : ℕ) (d : Bool) : BI.Storable (upEmb : UEmb _ 𝕄) ((Rd (F := F) m).payload g r d) := by
  show BI.Storable upEmb (match jOf g.2 with | some j => payJ m g.1.1 j r d | none => iprop(emp))
  split <;> infer_instance

theorem duties_eq (c : Dev nD) (j : Fin 11) (r : ℕ) : (Rd (F := F) m).duties (cell c j) r = dutJ j r := by
  dsimp only [Rd]; rw [if_pos rfl, jOf_csem]
theorem amount_eq (c : Dev nD) (j : Fin 11) (r : ℕ) (d : Bool) : (Rd (F := F) m).amount (cell c j) r d = amtJ j := by
  dsimp only [Rd]; rw [jOf_csem]
theorem payload_eq (c : Dev nD) (j : Fin 11) (r : ℕ) (d : Bool) : (Rd (F := F) m).payload (cell c j) r d = payJ m c j r d := by
  dsimp only [Rd]; rw [jOf_csem]
theorem duties_one (c : Dev nD) (j : Fin 11) (hj : j ≠ 0) (r : ℕ) (hr : r < rounds j) : (Rd (F := F) m).duties (cell c j) r = {false} := by
  rw [duties_eq]; unfold dutJ; rw [if_pos hr, if_neg hj]
theorem duties_end (c : Dev nD) (j : Fin 11) : ∀ r, rounds j ≤ r → (Rd (F := F) m).duties (cell c j) r = ∅ := fun r hr => by
  rw [duties_eq]; unfold dutJ; rw [if_neg (by omega)]
theorem expect_one (c : Dev nD) (j : Fin 11) (hj : j ≠ 0) (r : ℕ) (hr : r < rounds j) : (Rd (F := F) m).expect (cell c j) r = amtJ j := by
  unfold Schedule.expect Schedule.amountOf; rw [duties_one m c j hj r hr, Finset.sum_singleton, amount_eq]
theorem expect_bar (c : Dev nD) : (Rd (F := F) m).expect (cell c 0) 0 = 2 := by
  unfold Schedule.expect Schedule.amountOf
  rw [duties_eq, Finset.sum_congr rfl fun d _ => amount_eq m c 0 0 d]
  rfl

/-- Every shared cell's invariant. -/
def Inv (c : Dev nD) (j : Fin 11) : sProp 𝕄 := iprop(∃ κ : ℕ, cellInv ER (Rd (F := F) m) κ (cell c j))
instance Inv_persistent (c : Dev nD) (j : Fin 11) : BI.Persistent (Inv (F := F) m c j) := by unfold Inv; infer_instance
def Ctx : sProp 𝕄 := bigSep (Finset.univ : Finset (Dev nD × Fin 11)) (fun p => Inv (F := F) m p.1 p.2)
instance Ctx_persistent : BI.Persistent (Ctx (F := F) m) := by unfold Ctx; infer_instance
theorem ctx_inv (c : Dev nD) (j : Fin 11) : Ctx (F := F) m ⊢ Inv m c j := by
  unfold Ctx
  rw [bigSep_erase (Φ := fun p : Dev nD × Fin 11 => Inv (F := F) m p.1 p.2) (Finset.mem_univ (c, j))]
  exact sep_elim_left
end

end Cert.KernelIdeal.Ring

end
-- ==== Proof.KernelIdeal.Rules.lean ====
/-
The steps on the shared cells: a wait, a signal, a copy to a neighbour.
-/
module

public import proofs.«01_k».proof.Proof.KernelIdeal.Sched

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)

theorem cQA_rgt (c : Dev nD) (h : ℕ) (hh : h < 8) : cQA (F := F) m (rgt c) (h + 1) = cQA m c h := by unfold cQA; rw [jA_rgt c h hh]
theorem cOA_rgt (c : Dev nD) (h : ℕ) (hh : h < 8) : cOA (F := F) m (rgt c) (h + 1) = cOA m c h := by unfold cOA; rw [jA_rgt c h hh]
theorem cQB_lft (c : Dev nD) (h : ℕ) : cQB (F := F) m (lft c) (h + 1) = cQB m c h := by unfold cQB; rw [jB_lft c h]
theorem cOB_lft (c : Dev nD) (h : ℕ) : cOB (F := F) m (lft c) (h + 1) = cOB m c h := by unfold cOB; rw [jB_lft c h]

/-- A wait for a copy's units on a shared cell: the round's payload comes back. -/
theorem wp_dwait (𝒱 : Variants) (c : Dev nD) (bd : Option 𝒱.V) (j : Fin 11) (hj : j ≠ 0) (r : ℕ) (hr : r < rounds j) (ι : ℕ) (hι : ι < 64)
    (O : CellTallies nD τ sig ℕ) (hO : Above ι O)
    {q : DmaSem sig} (hq : SemLoc.dma q = csem j) {sp sp' : Space} {s s' : Shape} {e e' : EltTy}
    {src : Memref sig .tc sp' s' e'} {dst : Memref sig .tc sp s e} {h1 h2} (hN : dst.view.dmaCredit = amtJ j)
    {α : Type} (k : PUnit → Prog (TpuEff nD τ sig (Elt F) Λ₀ .tc) α) (Q : α → sProp 𝕄) :
    iprop(Ctx (F := F) m ∗ cred (tallyAt (cell c j) ι (amtJ j)) ∗ Ow c O ∗ atPos ER (cell c j) r ∅ 0
      ∗ (atPos ER (cell c j) (r + 1) ∅ 0 -∗ reached ER (cell c j) (r + 1) -∗ payJ m c j r false -∗ Ow c O -∗ wp frame (wpE (defs₀ (F := F)) 𝒱 (c : Thread nD τ) bd) Set.univ (k ⟨⟩) Q))
      ⊢ wp frame (wpE (defs₀ (F := F)) 𝒱 (c : Thread nD τ) bd) Set.univ (Prog.lift (.waitDma2 q src dst h1 h2) >>= k) Q := by
  unfold Ow
  iintro ⟨#HC, Hc, ⟨#Hl, %W, HO⟩, Hat, Hk⟩
  ihave HI := ctx_inv m c j $$ HC
  unfold Inv
  icases HI with ⟨%κ, HI⟩
  ihave HM := mayWait (F := F) c (csem j) ι hι O hO $$ Hl
  simp only [Prog.lift, Prog.bind_op, Prog.bind_ret]
  iapply (Rounds.wp_wait_rest_token 𝒱 ER (Rd m) (c : Thread nD τ) bd (κ := κ) (sm := csem j) (k' := amtJ j)
      (w := .waitDma2 q src dst h1 h2)
      (fun K => by rw [← hq, ← hN]; exact wpE_waitDma2_eq 𝒱 (c : Thread nD τ) bd Set.univ K) (Set.mem_univ _) ι (O := O) (W := W) (R := r) (m := 0) (T := ∅)
      (by rw [Nat.zero_add]; exact (expect_one m c j hj r hr).symm)) $$ [HI Hc HO HM Hat]
  · isplitl [HI]; · iexact HI
    isplitl [Hc]; · iexact Hc
    isplitl [HO]; · iexact HO
    isplitl [HM]; · iexact HM
    iexact Hat
  iintro ⟨HO, Hat, Hr, Hp⟩
  ihave Hp := (Entails.of_eq (show bigSep ((Rd (F := F) m).duties (c, csem j) r \ ∅) (fun d => (Rd m).payload (c, csem j) r d) = payJ m c j r false by
    rw [Finset.sdiff_empty, duties_one m c j hj r hr, bigSep_singleton, payload_eq])) $$ Hp
  iapply Hk $$ Hat Hr Hp
  isplitr; · iexact Hl
  iexists _; iexact HO

/-- A wait for one unit on a credit. -/
theorem wp_cwait (𝒱 : Variants) (c : Dev nD) (bd : Option 𝒱.V) (j : Fin 11) (hj : j ≠ 0) (r : ℕ) (hr : r < rounds j) (ι : ℕ) (hι : ι < 64)
    (O : CellTallies nD τ sig ℕ) (hO : Above ι O) {q : Sem sig} (hq : SemLoc.reg q = csem j) (hN : amtJ j = 1)
    {α : Type} (k : PUnit → Prog (TpuEff nD τ sig (Elt F) Λ₀ .tc) α) (Q : α → sProp 𝕄) :
    iprop(Ctx (F := F) m ∗ cred (tallyAt (cell c j) ι (amtJ j)) ∗ Ow c O ∗ atPos ER (cell c j) r ∅ 0
      ∗ (atPos ER (cell c j) (r + 1) ∅ 0 -∗ reached ER (cell c j) (r + 1) -∗ payJ m c j r false -∗ Ow c O -∗ wp frame (wpE (defs₀ (F := F)) 𝒱 (c : Thread nD τ) bd) Set.univ (k ⟨⟩) Q))
      ⊢ wp frame (wpE (defs₀ (F := F)) 𝒱 (c : Thread nD τ) bd) Set.univ (semWaitWord q 1#32 >>= k) Q := by
  unfold Ow
  iintro ⟨#HC, Hc, ⟨#Hl, %W, HO⟩, Hat, Hk⟩
  ihave HI := ctx_inv m c j $$ HC
  unfold Inv
  icases HI with ⟨%κ, HI⟩
  ihave HM := mayWait (F := F) c (csem j) ι hι O hO $$ Hl
  simp only [semWaitWord, Prog.bind_op, Prog.bind_ret]
  iapply (Rounds.wp_wait_rest_token 𝒱 ER (Rd m) (c : Thread nD τ) bd (κ := κ) (sm := csem j) (k' := amtJ j)
      (fun K => by rw [← hq, hN]; exact wpE_semWait_eq 𝒱 (c : Thread nD τ) bd Set.univ K) (Set.mem_univ _) ι (O := O) (W := W) (R := r) (m := 0) (T := ∅)
      (by rw [Nat.zero_add]; exact (expect_one m c j hj r hr).symm)) $$ [HI Hc HO HM Hat]
  · isplitl [HI]; · iexact HI
    isplitl [Hc]; · iexact Hc
    isplitl [HO]; · iexact HO
    isplitl [HM]; · iexact HM
    iexact Hat
  iintro ⟨HO, Hat, Hr, Hp⟩
  ihave Hp := (Entails.of_eq (show bigSep ((Rd (F := F) m).duties (c, csem j) r \ ∅) (fun d => (Rd m).payload (c, csem j) r d) = payJ m c j r false by
    rw [Finset.sdiff_empty, duties_one m c j hj r hr, bigSep_singleton, payload_eq])) $$ Hp
  iapply Hk $$ Hat Hr Hp
  isplitr; · iexact Hl
  iexists _; iexact HO

/-- The wait for both neighbours at the barrier. -/
theorem wp_bwait (𝒱 : Variants) (c : Dev nD) (bd : Option 𝒱.V) (O : CellTallies nD τ sig ℕ) (hO : Above 1 O)
    {q : Sem sig} (hq : SemLoc.reg q = csem 0)
    {α : Type} (k : PUnit → Prog (TpuEff nD τ sig (Elt F) Λ₀ .tc) α) (Q : α → sProp 𝕄) :
    iprop(Ctx (F := F) m ∗ cred (tallyAt (cell c 0) 1 2) ∗ Ow c O ∗ atPos ER (cell c 0) 0 ∅ 0
      ∗ (atPos ER (cell c 0) 1 ∅ 0 -∗ freeB c 0 -∗ freeA c 0 -∗ Ow c O -∗ wp frame (wpE (defs₀ (F := F)) 𝒱 (c : Thread nD τ) bd) Set.univ (k ⟨⟩) Q))
      ⊢ wp frame (wpE (defs₀ (F := F)) 𝒱 (c : Thread nD τ) bd) Set.univ (semWaitWord q 2#32 >>= k) Q := by
  unfold Ow
  iintro ⟨#HC, Hc, ⟨#Hl, %W, HO⟩, Hat, Hk⟩
  ihave HI := ctx_inv m c 0 $$ HC
  unfold Inv
  icases HI with ⟨%κ, HI⟩
  ihave HM := mayWait (F := F) c (csem 0) 1 (by decide) O hO $$ Hl
  simp only [semWaitWord, Prog.bind_op, Prog.bind_ret]
  iapply (Rounds.wp_wait_rest_token 𝒱 ER (Rd m) (c : Thread nD τ) bd (κ := κ) (sm := csem 0) (k' := 2)
      (fun K => by rw [← hq]; exact wpE_semWait_eq 𝒱 (c : Thread nD τ) bd Set.univ K) (Set.mem_univ _) 1 (O := O) (W := W) (R := 0) (m := 0) (T := ∅)
      (by rw [expect_bar m c])) $$ [HI Hc HO HM Hat]
  · isplitl [HI]; · iexact HI
    isplitl [Hc]; · iexact Hc
    isplitl [HO]; · iexact HO
    isplitl [HM]; · iexact HM
    iexact Hat
  iintro ⟨HO, Hat, -, Hp⟩
  ihave Hp := (Entails.of_eq (show bigSep ((Rd (F := F) m).duties (c, csem 0) 0 \ ∅) (fun d => (Rd m).payload (c, csem 0) 0 d) = iprop(freeB c 0 ∗ freeA c 0) by
    rw [Finset.sdiff_empty, duties_eq, show dutJ 0 0 = Finset.univ from rfl, bigSep_univ_eq_bigSepL [false, true] (by decide) (by decide), bigSepL_cons_cons, bigSepL_singleton,
      payload_eq, payload_eq]
    rfl)) $$ Hp
  icases Hp with ⟨HB, HA⟩
  iapply Hk $$ Hat HB HA
  isplitr; · iexact Hl
  iexists _; iexact HO

/-- A signal of one unit to a neighbour's cell, paying a round's duty. -/
theorem wp_sig (𝒱 : Variants) (c : Dev nD) (bd : Option 𝒱.V) (n : Dev nD) (j : Fin 11) (r : ℕ) (d : Bool) (hd : d ∈ dutJ j r) (hN : amtJ j = 1) (ι : ℕ)
    (O : CellTallies nD τ sig ℕ) {n' : Dev nD} (hn : n' = n) {q : Sem sig} (hq : SemLoc.reg q = csem j)
    {α : Type} (k : PUnit → Prog (TpuEff nD τ sig (Elt F) Λ₀ .tc) α) (Q : α → sProp 𝕄) :
    iprop(Ctx (F := F) m ∗ Ow c (O + tallyAt (cell n j) ι 1) ∗ dutyTok ER (cell n j) r d ∗ reached ER (cell n j) r ∗ payJ m n j r d
      ∗ (Ow c O -∗ wp frame (wpE (defs₀ (F := F)) 𝒱 (c : Thread nD τ) bd) Set.univ (k ⟨⟩) Q))
      ⊢ wp frame (wpE (defs₀ (F := F)) 𝒱 (c : Thread nD τ) bd) Set.univ (semSignalWord n' q 1#32 >>= k) Q := by
  subst hn
  unfold Ow
  iintro ⟨#HC, ⟨#Hl, %W, HO⟩, Ht, Hr, Hp, Hk⟩
  ihave HI := ctx_inv m n' j $$ HC
  unfold Inv
  icases HI with ⟨%κ, HI⟩
  ihave Hp := (Entails.of_eq (payload_eq m n' j r d).symm) $$ Hp
  have hd' := duties_eq m n' j r
  have ha' := amount_eq m n' j r d
  dsimp only [cell] at hd' ha' ⊢
  rw [← hq] at hd' ha' ⊢
  simp only [semSignalWord, Prog.bind_op, Prog.bind_ret]
  iapply (Rounds.wp_signal 𝒱 ER (Rd m) (c : Thread nD τ) bd (dst := (n' : Thread nD τ)) (κ := κ) (sem := q) (r := r)
      (d := d) (k' := 1) (by rw [hd']; exact hd) (by rw [ha', hN]) ι O rfl (W := W)) $$ [HO Ht Hr Hp HI]
  · isplitl [HI]; · iexact HI
    isplitl [HO]; · iexact HO
    isplitl [Ht]; · iexact Ht
    isplitl [Hp]; · iexact Hp
    iexact Hr
  iintro HO
  iapply Hk
  isplitr; · iexact Hl
  iexists _; iexact HO

omit [FloatOps F] in
/-- The slots of a buffer are read alike. -/
theorem read_QA (c : Dev nD) (h : ℕ) (p p' : Fin 2) :
    (cwQ mQA ![p.val, 0, 0] (slotQ_inb p)).view.read (Elt F) (cQA m c h) = (cwQ mQA ![p'.val, 0, 0] (slotQ_inb p')).view.read (Elt F) (cQA m c h) := rfl

theorem wp_send0 (𝒱 : Variants) (c : Dev nD) (bd : Option 𝒱.V) (h : ℕ) (hh : h < 7) (O : CellTallies nD τ sig ℕ)
    {n' : Dev nD} (hn : n' = rgt c) {os od : Fin 3 → ℕ} (hos : os = ![(sl (h + 1)).val, 0, 0]) (hod : od = ![(sl h).val, 0, 0])
    {inbs inbd} {hsc} {h1} {h2} {h3}
    {α : Type} (k : PUnit → Prog (TpuEff nD τ sig (Elt F) Λ₀ .tc) α) (Q : α → sProp 𝕄) :
    iprop(Ctx (F := F) m ∗ slotQ c mQA (sl (h + 1)) fullShare.left (cQA m c h) ∗ (∃ f, slotQ (F := F) (rgt c) mQA (sl h) fullShare f)
      ∗ reached ER (cell (rgt c) 5) h ∗ Ow c (O + tallyAt (cell (rgt c) 5) (2 * h + 2) (amtJ 5))
      ∗ dutyTok ER (cell c 1) h false ∗ reached ER (cell c 1) h ∗ dutyTok ER (cell (rgt c) 5) h false ∗ reached ER (cell c 9) h
      ∗ (cred (tallyAt (cell c 1) 0 (amtJ 1)) -∗ Ow c O -∗ wp frame (wpE (defs₀ (F := F)) 𝒱 (c : Thread nD τ) bd) Set.univ (k ⟨⟩) Q))
      ⊢ wp frame (wpE (defs₀ (F := F)) 𝒱 (c : Thread nD τ) bd) Set.univ
        (Prog.lift (.enqueueDma (cwQ mQA os inbs) (.remote (Dev.tc n') (cwQ mQA od inbd)
          (.dma ((cc0_scratch12.slice (Rect.unit (s := S4) ![0] S1.size inb_S4_S1_0)).squeeze S_ squeezes_S1_S_).sem) hsc)
          (.dma ((cc0_scratch13.slice (Rect.unit (s := S4) ![0] S1.size inb_S4_S1_0)).squeeze S_ squeezes_S1_S_).sem) h1 h2 h3) >>= k) Q := by
  subst hn hos hod
  unfold Ow slotQ
  iintro ⟨#HC, Hs, ⟨%f, Hd⟩, #Hr2, ⟨#Hl, %W, HO⟩, Ht1, #Hr1, Ht2, #HrC, Hk⟩
  ihave HI1 := ctx_inv m c 1 $$ HC
  ihave HI2 := ctx_inv m (rgt c) 5 $$ HC
  unfold Inv
  icases HI1 with ⟨%κ₁, HI1⟩
  icases HI2 with ⟨%κ₂, HI2⟩
  simp only [Prog.lift, Prog.bind_op, Prog.bind_ret]
  have hpay : iprop(slotQ (rgt c) mQA (sl h) fullShare (cQA m c h) ∗ reached ER (cell c 9) h) ⊢ payJ m (rgt c) 5 h false := by
    show _ ⊢ iprop(slotQ (rgt c) mQA (sl h) fullShare (cQA m (rgt c) (h + 1)) ∗ reached ER (cell (lft (rgt c)) 9) h)
    rw [lft_rgt, cQA_rgt m c h (by omega)]
  iapply (Rounds.wp_send_pointsTo_with 𝒱 ER (Rd m) (c : Thread nD τ) bd (c' := (rgt c : Thread nD τ)) (κ₁ := κ₁) (κ₂ := κ₂)
    (src := cwQ mQA ![(sl (h + 1)).val, 0, 0] (slotQ_inb _)) (dst := cwQ mQA ![(sl h).val, 0, 0] (slotQ_inb _))
    (r₁ := h) (r₂ := h) (d₁ := false) (d₂ := false) (fs := cQA m c h) (fd := f) (q := fullShare.left) (F := iprop(reached ER (cell c 9) h))
    (sS := csem 1) (sem := csem 5)
    (by rw [duties_one m c 1 (by decide) h hh]; exact Finset.mem_singleton_self _)
    (by rw [duties_one m (rgt c) 5 (by decide) h hh]; exact Finset.mem_singleton_self _)
    (2 * h + 2) 0 (NQ mQA) rfl (amount_eq m c 1 h false) (amount_eq m (rgt c) 5 h false) O rfl (W := W)
    (by rw [payload_eq m c 1 h false]; exact .rfl)
    (by rw [payload_eq m (rgt c) 5 h false]
        exact (BIClass.sep_mono (Entails.of_eq (landed_eq (F := F) (ℓc := (rgt c : Thread nD τ)) (cwQ mQA ![(sl h).val, 0, 0] (slotQ_inb _)) f (cQA m c h)
          ((cwQ mQA ![(sl (h + 1)).val, 0, 0] (slotQ_inb _)).view.read (Elt F) (cQA m c h)) fullShare (read_QA m c h (sl h) (sl (h + 1))))) .rfl).trans hpay)) $$ [Hs Hd HO Ht1 Ht2 HI1 HI2]
  · isplitl [HI1]; · iexact HI1
    isplitl [HI2]; · iexact HI2
    isplitl [Hs]; · iexact Hs
    isplitl [Hd]
    · isplitl [Hd]; · iexact Hd
      iexact HrC
    isplitl [HO]; · iexact HO
    isplitl [Ht1]; · iexact Ht1
    isplitr; · iexact Hr1
    isplitl [Ht2]; · iexact Ht2
    iexact Hr2
  iintro ⟨Hc, HO⟩
  iapply Hk $$ [Hc]; · iexact Hc
  isplitr; · iexact Hl
  iexists _; iexact HO

omit [FloatOps F] in
/-- The slots of a buffer are read alike. -/
theorem read_OA (c : Dev nD) (h : ℕ) (p p' : Fin 2) :
    (cwO mOA ![p.val, 0, 0] (slotO_inb p)).view.read (Elt F) (cOA m c h) = (cwO mOA ![p'.val, 0, 0] (slotO_inb p')).view.read (Elt F) (cOA m c h) := rfl

theorem wp_send1 (𝒱 : Variants) (c : Dev nD) (bd : Option 𝒱.V) (h : ℕ) (hh : h < 7) (O : CellTallies nD τ sig ℕ)
    {n' : Dev nD} (hn : n' = rgt c) {os od : Fin 3 → ℕ} (hos : os = ![(sl (h + 1)).val, 0, 0]) (hod : od = ![(sl h).val, 0, 0])
    {inbs inbd} {hsc} {h1} {h2} {h3}
    {α : Type} (k : PUnit → Prog (TpuEff nD τ sig (Elt F) Λ₀ .tc) α) (Q : α → sProp 𝕄) :
    iprop(Ctx (F := F) m ∗ slotO c mOA (sl (h + 1)) fullShare.left (cOA m c h) ∗ (∃ f, slotO (F := F) (rgt c) mOA (sl h) fullShare f)
      ∗ reached ER (cell (rgt c) 6) h ∗ Ow c (O + tallyAt (cell (rgt c) 6) (2 * h + 2) (amtJ 6))
      ∗ dutyTok ER (cell c 2) h false ∗ reached ER (cell c 2) h ∗ dutyTok ER (cell (rgt c) 6) h false
      ∗ (cred (tallyAt (cell c 2) 0 (amtJ 2)) -∗ Ow c O -∗ wp frame (wpE (defs₀ (F := F)) 𝒱 (c : Thread nD τ) bd) Set.univ (k ⟨⟩) Q))
      ⊢ wp frame (wpE (defs₀ (F := F)) 𝒱 (c : Thread nD τ) bd) Set.univ
        (Prog.lift (.enqueueDma (cwO mOA os inbs) (.remote (Dev.tc n') (cwO mOA od inbd)
          (.dma ((cc0_scratch12.slice (Rect.unit (s := S4) ![1] S1.size inb_S4_S1_1)).squeeze S_ squeezes_S1_S_).sem) hsc)
          (.dma ((cc0_scratch13.slice (Rect.unit (s := S4) ![1] S1.size inb_S4_S1_1)).squeeze S_ squeezes_S1_S_).sem) h1 h2 h3) >>= k) Q := by
  subst hn hos hod
  unfold Ow slotO
  iintro ⟨#HC, Hs, ⟨%f, Hd⟩, #Hr2, ⟨#Hl, %W, HO⟩, Ht1, #Hr1, Ht2, Hk⟩
  ihave HI1 := ctx_inv m c 2 $$ HC
  ihave HI2 := ctx_inv m (rgt c) 6 $$ HC
  unfold Inv
  icases HI1 with ⟨%κ₁, HI1⟩
  icases HI2 with ⟨%κ₂, HI2⟩
  simp only [Prog.lift, Prog.bind_op, Prog.bind_ret]
  have hpay : iprop(slotO (rgt c) mOA (sl h) fullShare (cOA m c h) ∗ emp) ⊢ payJ m (rgt c) 6 h false := by
    show _ ⊢ slotO (rgt c) mOA (sl h) fullShare (cOA m (rgt c) (h + 1))
    rw [cOA_rgt m c h (by omega)]; exact sep_elim_left
  iapply (Rounds.wp_send_pointsTo_with 𝒱 ER (Rd m) (c : Thread nD τ) bd (c' := (rgt c : Thread nD τ)) (κ₁ := κ₁) (κ₂ := κ₂)
    (src := cwO mOA ![(sl (h + 1)).val, 0, 0] (slotO_inb _)) (dst := cwO mOA ![(sl h).val, 0, 0] (slotO_inb _))
    (r₁ := h) (r₂ := h) (d₁ := false) (d₂ := false) (fs := cOA m c h) (fd := f) (q := fullShare.left) (F := iprop(emp))
    (sS := csem 2) (sem := csem 6)
    (by rw [duties_one m c 2 (by decide) h hh]; exact Finset.mem_singleton_self _)
    (by rw [duties_one m (rgt c) 6 (by decide) h hh]; exact Finset.mem_singleton_self _)
    (2 * h + 2) 0 (NO mOA) rfl (amount_eq m c 2 h false) (amount_eq m (rgt c) 6 h false) O rfl (W := W)
    (by rw [payload_eq m c 2 h false]; exact .rfl)
    (by rw [payload_eq m (rgt c) 6 h false]
        exact (BIClass.sep_mono (Entails.of_eq (landed_eq (F := F) (ℓc := (rgt c : Thread nD τ)) (cwO mOA ![(sl h).val, 0, 0] (slotO_inb _)) f (cOA m c h)
          ((cwO mOA ![(sl (h + 1)).val, 0, 0] (slotO_inb _)).view.read (Elt F) (cOA m c h)) fullShare (read_OA m c h (sl h) (sl (h + 1))))) .rfl).trans hpay)) $$ [Hs Hd HO Ht1 Ht2 HI1 HI2]
  · isplitl [HI1]; · iexact HI1
    isplitl [HI2]; · iexact HI2
    isplitl [Hs]; · iexact Hs
    isplitl [Hd]
    · isplitl [Hd]; · iexact Hd
      iempintro
    isplitl [HO]; · iexact HO
    isplitl [Ht1]; · iexact Ht1
    isplitr; · iexact Hr1
    isplitl [Ht2]; · iexact Ht2
    iexact Hr2
  iintro ⟨Hc, HO⟩
  iapply Hk $$ [Hc]; · iexact Hc
  isplitr; · iexact Hl
  iexists _; iexact HO

omit [FloatOps F] in
/-- The slots of a buffer are read alike. -/
theorem read_QB (c : Dev nD) (h : ℕ) (p p' : Fin 2) :
    (cwQ mQB ![p.val, 0, 0] (slotQ_inb p)).view.read (Elt F) (cQB m c h) = (cwQ mQB ![p'.val, 0, 0] (slotQ_inb p')).view.read (Elt F) (cQB m c h) := rfl

theorem wp_send2 (𝒱 : Variants) (c : Dev nD) (bd : Option 𝒱.V) (h : ℕ) (hh : h < 7) (O : CellTallies nD τ sig ℕ)
    {n' : Dev nD} (hn : n' = lft c) {os od : Fin 3 → ℕ} (hos : os = ![(sl (h + 1)).val, 0, 0]) (hod : od = ![(sl h).val, 0, 0])
    {inbs inbd} {hsc} {h1} {h2} {h3}
    {α : Type} (k : PUnit → Prog (TpuEff nD τ sig (Elt F) Λ₀ .tc) α) (Q : α → sProp 𝕄) :
    iprop(Ctx (F := F) m ∗ slotQ c mQB (sl (h + 1)) fullShare.left (cQB m c h) ∗ (∃ f, slotQ (F := F) (lft c) mQB (sl h) fullShare f)
      ∗ reached ER (cell (lft c) 7) h ∗ Ow c (O + tallyAt (cell (lft c) 7) (2 * h + 2) (amtJ 7))
      ∗ dutyTok ER (cell c 3) h false ∗ reached ER (cell c 3) h ∗ dutyTok ER (cell (lft c) 7) h false ∗ reached ER (cell c 10) h
      ∗ (cred (tallyAt (cell c 3) 0 (amtJ 3)) -∗ Ow c O -∗ wp frame (wpE (defs₀ (F := F)) 𝒱 (c : Thread nD τ) bd) Set.univ (k ⟨⟩) Q))
      ⊢ wp frame (wpE (defs₀ (F := F)) 𝒱 (c : Thread nD τ) bd) Set.univ
        (Prog.lift (.enqueueDma (cwQ mQB os inbs) (.remote (Dev.tc n') (cwQ mQB od inbd)
          (.dma ((cc0_scratch12.slice (Rect.unit (s := S4) ![2] S1.size inb_S4_S1_2)).squeeze S_ squeezes_S1_S_).sem) hsc)
          (.dma ((cc0_scratch13.slice (Rect.unit (s := S4) ![2] S1.size inb_S4_S1_2)).squeeze S_ squeezes_S1_S_).sem) h1 h2 h3) >>= k) Q := by
  subst hn hos hod
  unfold Ow slotQ
  iintro ⟨#HC, Hs, ⟨%f, Hd⟩, #Hr2, ⟨#Hl, %W, HO⟩, Ht1, #Hr1, Ht2, #HrC, Hk⟩
  ihave HI1 := ctx_inv m c 3 $$ HC
  ihave HI2 := ctx_inv m (lft c) 7 $$ HC
  unfold Inv
  icases HI1 with ⟨%κ₁, HI1⟩
  icases HI2 with ⟨%κ₂, HI2⟩
  simp only [Prog.lift, Prog.bind_op, Prog.bind_ret]
  have hpay : iprop(slotQ (lft c) mQB (sl h) fullShare (cQB m c h) ∗ reached ER (cell c 10) h) ⊢ payJ m (lft c) 7 h false := by
    show _ ⊢ iprop(slotQ (lft c) mQB (sl h) fullShare (cQB m (lft c) (h + 1)) ∗ reached ER (cell (rgt (lft c)) 10) h)
    rw [rgt_lft, cQB_lft m c h]
  iapply (Rounds.wp_send_pointsTo_with 𝒱 ER (Rd m) (c : Thread nD τ) bd (c' := (lft c : Thread nD τ)) (κ₁ := κ₁) (κ₂ := κ₂)
    (src := cwQ mQB ![(sl (h + 1)).val, 0, 0] (slotQ_inb _)) (dst := cwQ mQB ![(sl h).val, 0, 0] (slotQ_inb _))
    (r₁ := h) (r₂ := h) (d₁ := false) (d₂ := false) (fs := cQB m c h) (fd := f) (q := fullShare.left) (F := iprop(reached ER (cell c 10) h))
    (sS := csem 3) (sem := csem 7)
    (by rw [duties_one m c 3 (by decide) h hh]; exact Finset.mem_singleton_self _)
    (by rw [duties_one m (lft c) 7 (by decide) h hh]; exact Finset.mem_singleton_self _)
    (2 * h + 2) 0 (NQ mQB) rfl (amount_eq m c 3 h false) (amount_eq m (lft c) 7 h false) O rfl (W := W)
    (by rw [payload_eq m c 3 h false]; exact .rfl)
    (by rw [payload_eq m (lft c) 7 h false]
        exact (BIClass.sep_mono (Entails.of_eq (landed_eq (F := F) (ℓc := (lft c : Thread nD τ)) (cwQ mQB ![(sl h).val, 0, 0] (slotQ_inb _)) f (cQB m c h)
          ((cwQ mQB ![(sl (h + 1)).val, 0, 0] (slotQ_inb _)).view.read (Elt F) (cQB m c h)) fullShare (read_QB m c h (sl h) (sl (h + 1))))) .rfl).trans hpay)) $$ [Hs Hd HO Ht1 Ht2 HI1 HI2]
  · isplitl [HI1]; · iexact HI1
    isplitl [HI2]; · iexact HI2
    isplitl [Hs]; · iexact Hs
    isplitl [Hd]
    · isplitl [Hd]; · iexact Hd
      iexact HrC
    isplitl [HO]; · iexact HO
    isplitl [Ht1]; · iexact Ht1
    isplitr; · iexact Hr1
    isplitl [Ht2]; · iexact Ht2
    iexact Hr2
  iintro ⟨Hc, HO⟩
  iapply Hk $$ [Hc]; · iexact Hc
  isplitr; · iexact Hl
  iexists _; iexact HO

omit [FloatOps F] in
/-- The slots of a buffer are read alike. -/
theorem read_OB (c : Dev nD) (h : ℕ) (p p' : Fin 2) :
    (cwO mOB ![p.val, 0, 0] (slotO_inb p)).view.read (Elt F) (cOB m c h) = (cwO mOB ![p'.val, 0, 0] (slotO_inb p')).view.read (Elt F) (cOB m c h) := rfl

theorem wp_send3 (𝒱 : Variants) (c : Dev nD) (bd : Option 𝒱.V) (h : ℕ) (hh : h < 7) (O : CellTallies nD τ sig ℕ)
    {n' : Dev nD} (hn : n' = lft c) {os od : Fin 3 → ℕ} (hos : os = ![(sl (h + 1)).val, 0, 0]) (hod : od = ![(sl h).val, 0, 0])
    {inbs inbd} {hsc} {h1} {h2} {h3}
    {α : Type} (k : PUnit → Prog (TpuEff nD τ sig (Elt F) Λ₀ .tc) α) (Q : α → sProp 𝕄) :
    iprop(Ctx (F := F) m ∗ slotO c mOB (sl (h + 1)) fullShare.left (cOB m c h) ∗ (∃ f, slotO (F := F) (lft c) mOB (sl h) fullShare f)
      ∗ reached ER (cell (lft c) 8) h ∗ Ow c (O + tallyAt (cell (lft c) 8) (2 * h + 2) (amtJ 8))
      ∗ dutyTok ER (cell c 4) h false ∗ reached ER (cell c 4) h ∗ dutyTok ER (cell (lft c) 8) h false
      ∗ (cred (tallyAt (cell c 4) 0 (amtJ 4)) -∗ Ow c O -∗ wp frame (wpE (defs₀ (F := F)) 𝒱 (c : Thread nD τ) bd) Set.univ (k ⟨⟩) Q))
      ⊢ wp frame (wpE (defs₀ (F := F)) 𝒱 (c : Thread nD τ) bd) Set.univ
        (Prog.lift (.enqueueDma (cwO mOB os inbs) (.remote (Dev.tc n') (cwO mOB od inbd)
          (.dma ((cc0_scratch12.slice (Rect.unit (s := S4) ![3] S1.size inb_S4_S1_3)).squeeze S_ squeezes_S1_S_).sem) hsc)
          (.dma ((cc0_scratch13.slice (Rect.unit (s := S4) ![3] S1.size inb_S4_S1_3)).squeeze S_ squeezes_S1_S_).sem) h1 h2 h3) >>= k) Q := by
  subst hn hos hod
  unfold Ow slotO
  iintro ⟨#HC, Hs, ⟨%f, Hd⟩, #Hr2, ⟨#Hl, %W, HO⟩, Ht1, #Hr1, Ht2, Hk⟩
  ihave HI1 := ctx_inv m c 4 $$ HC
  ihave HI2 := ctx_inv m (lft c) 8 $$ HC
  unfold Inv
  icases HI1 with ⟨%κ₁, HI1⟩
  icases HI2 with ⟨%κ₂, HI2⟩
  simp only [Prog.lift, Prog.bind_op, Prog.bind_ret]
  have hpay : iprop(slotO (lft c) mOB (sl h) fullShare (cOB m c h) ∗ emp) ⊢ payJ m (lft c) 8 h false := by
    show _ ⊢ slotO (lft c) mOB (sl h) fullShare (cOB m (lft c) (h + 1))
    rw [cOB_lft m c h]; exact sep_elim_left
  iapply (Rounds.wp_send_pointsTo_with 𝒱 ER (Rd m) (c : Thread nD τ) bd (c' := (lft c : Thread nD τ)) (κ₁ := κ₁) (κ₂ := κ₂)
    (src := cwO mOB ![(sl (h + 1)).val, 0, 0] (slotO_inb _)) (dst := cwO mOB ![(sl h).val, 0, 0] (slotO_inb _))
    (r₁ := h) (r₂ := h) (d₁ := false) (d₂ := false) (fs := cOB m c h) (fd := f) (q := fullShare.left) (F := iprop(emp))
    (sS := csem 4) (sem := csem 8)
    (by rw [duties_one m c 4 (by decide) h hh]; exact Finset.mem_singleton_self _)
    (by rw [duties_one m (lft c) 8 (by decide) h hh]; exact Finset.mem_singleton_self _)
    (2 * h + 2) 0 (NO mOB) rfl (amount_eq m c 4 h false) (amount_eq m (lft c) 8 h false) O rfl (W := W)
    (by rw [payload_eq m c 4 h false]; exact .rfl)
    (by rw [payload_eq m (lft c) 8 h false]
        exact (BIClass.sep_mono (Entails.of_eq (landed_eq (F := F) (ℓc := (lft c : Thread nD τ)) (cwO mOB ![(sl h).val, 0, 0] (slotO_inb _)) f (cOB m c h)
          ((cwO mOB ![(sl (h + 1)).val, 0, 0] (slotO_inb _)).view.read (Elt F) (cOB m c h)) fullShare (read_OB m c h (sl h) (sl (h + 1))))) .rfl).trans hpay)) $$ [Hs Hd HO Ht1 Ht2 HI1 HI2]
  · isplitl [HI1]; · iexact HI1
    isplitl [HI2]; · iexact HI2
    isplitl [Hs]; · iexact Hs
    isplitl [Hd]
    · isplitl [Hd]; · iexact Hd
      iempintro
    isplitl [HO]; · iexact HO
    isplitl [Ht1]; · iexact Ht1
    isplitr; · iexact Hr1
    isplitl [Ht2]; · iexact Ht2
    iexact Hr2
  iintro ⟨Hc, HO⟩
  iapply Hk $$ [Hc]; · iexact Hc
  isplitr; · iexact Hl
  iexists _; iexact HO

end

end Cert.KernelIdeal.Ring

end
-- ==== Proof.KernelIdeal.HopDefs.lean ====
/-
What a device owes and holds as the hops go by.
-/
module

public import proofs.«01_k».proof.Proof.KernelIdeal.Inner
public import proofs.«01_k».proof.Proof.KernelIdeal.Rules

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

theorem ico_insert (a n : ℕ) (h : a < n) : Finset.Ico a n = insert a (Finset.Ico (a + 1) n) := by
  ext x; simp only [Finset.mem_insert, Finset.mem_Ico]; omega
theorem sum_peel {A : Type} [AddCommMonoid A] (f : ℕ → A) (a n : ℕ) (h : a < n) : ∑ r ∈ Finset.Ico a n, f r = f a + ∑ r ∈ Finset.Ico (a + 1) n, f r := by
  rw [ico_insert a n h, Finset.sum_insert (by simp only [Finset.mem_Ico]; omega)]

/-! ## What a device owes -/

/-- The units of hop `r`'s copies to the neighbours. -/
def recvT (c : Dev nD) (r : ℕ) : CellTallies nD τ sig ℕ :=
  tallyAt (cell (rgt c) 5) (2 * r + 2) (amtJ 5) + (tallyAt (cell (rgt c) 6) (2 * r + 2) (amtJ 6)
    + (tallyAt (cell (lft c) 7) (2 * r + 2) (amtJ 7) + tallyAt (cell (lft c) 8) (2 * r + 2) (amtJ 8)))
/-- The credits given back after hop `r`. -/
def credT (c : Dev nD) (r : ℕ) : CellTallies nD τ sig ℕ := tallyAt (cell (lft c) 9) (2 * r + 3) 1 + tallyAt (cell (rgt c) 10) (2 * r + 3) 1
/-- What is owed before hop `h`, and after its copies are started. -/
def OH (c : Dev nD) (h : ℕ) : CellTallies nD τ sig ℕ := ∑ r ∈ Finset.Ico h 7, recvT c r + ∑ r ∈ Finset.Ico h 6, credT c r
def OM (c : Dev nD) (h : ℕ) : CellTallies nD τ sig ℕ := ∑ r ∈ Finset.Ico (h + 1) 7, recvT c r + ∑ r ∈ Finset.Ico h 6, credT c r

theorem OH_eq (c : Dev nD) (h : ℕ) (hh : h < 7) : OH c h =
    OM c h + tallyAt (cell (lft c) 8) (2 * h + 2) (amtJ 8) + tallyAt (cell (lft c) 7) (2 * h + 2) (amtJ 7)
      + tallyAt (cell (rgt c) 6) (2 * h + 2) (amtJ 6) + tallyAt (cell (rgt c) 5) (2 * h + 2) (amtJ 5) := by
  unfold OH OM; rw [sum_peel _ h 7 hh, show recvT c h = _ from rfl]; unfold recvT
  ac_rfl
theorem OM_eq (c : Dev nD) (h : ℕ) (hh : h < 6) : OM c h =
    OH c (h + 1) + tallyAt (cell (rgt c) 10) (2 * h + 3) 1 + tallyAt (cell (lft c) 9) (2 * h + 3) 1 := by
  unfold OH OM; rw [sum_peel _ h 6 hh, show credT c h = _ from rfl]; unfold credT
  ac_rfl
theorem OM_six (c : Dev nD) : OM c 6 = OH c 7 := by unfold OH OM; rfl
theorem OM_seven (c : Dev nD) : OM c 7 = OH c 8 := by unfold OH OM; rfl
theorem OH_seven (c : Dev nD) : OH c 7 = OM c 7 := by unfold OH OM; rfl
theorem OH_end (c : Dev nD) : OH c 8 = 0 := by
  unfold OH; rw [Finset.Ico_eq_empty (by decide), Finset.Ico_eq_empty (by decide), Finset.sum_empty, Finset.sum_empty, add_zero]

theorem above_add {b : ℕ} {O O' : CellTallies nD τ sig ℕ} (h : Above b O) (h' : Above b O') : Above b (O + O') := fun g i hp => by
  have : 0 < O g i + O' g i := hp
  rcases Nat.eq_zero_or_pos (O g i) with h0 | h0
  · exact h' g i (by omega)
  · exact h g i h0
theorem above_zero (b : ℕ) : Above b (0 : CellTallies nD τ sig ℕ) := fun g i hp => absurd hp (Nat.lt_irrefl 0)
theorem above_sum {b : ℕ} (S : Finset ℕ) (T : ℕ → CellTallies nD τ sig ℕ) (h : ∀ r ∈ S, Above b (T r)) : Above b (∑ r ∈ S, T r) := by
  classical
  induction S using Finset.induction_on with
  | empty => rw [Finset.sum_empty]; exact above_zero b
  | insert r S hr ih =>
    rw [Finset.sum_insert hr]
    exact above_add (h r (Finset.mem_insert_self _ _)) (ih fun x hx => h x (Finset.mem_insert_of_mem hx))
theorem above_tally {b : ℕ} (c : Dev nD) (j : Fin 11) (i k : ℕ) (h : b < i) (h' : i < 64) : Above b (tallyAt (cell c j) i k : CellTallies nD τ sig ℕ) :=
  fun g i' hp => by obtain ⟨rfl, rfl⟩ := Pipeline.tallyAt_pos hp; exact ⟨rfl, h, h'⟩
theorem above_mono {b b' : ℕ} {O : CellTallies nD τ sig ℕ} (h : Above b O) (hb : b' ≤ b) : Above b' O := fun g i hp =>
  ⟨(h g i hp).1, lt_of_le_of_lt hb (h g i hp).2.1, (h g i hp).2.2⟩
theorem above_recvT {b : ℕ} (c : Dev nD) (r : ℕ) (hb : b < 2 * r + 2) (hr : r < 7) : Above b (recvT c r) := by
  unfold recvT
  exact above_add (above_tally _ _ _ _ hb (by omega)) (above_add (above_tally _ _ _ _ hb (by omega)) (above_add (above_tally _ _ _ _ hb (by omega)) (above_tally _ _ _ _ hb (by omega))))
theorem above_credT {b : ℕ} (c : Dev nD) (r : ℕ) (hb : b < 2 * r + 3) (hr : r < 6) : Above b (credT c r) := by
  unfold credT
  exact above_add (above_tally _ _ _ _ hb (by omega)) (above_tally _ _ _ _ hb (by omega))
theorem above_OH (c : Dev nD) (h : ℕ) : Above (2 * h + 1) (OH c h) := by
  unfold OH
  exact above_add (above_sum _ _ fun r hr => above_recvT c r (by have := (Finset.mem_Ico.mp hr).1; omega) (Finset.mem_Ico.mp hr).2)
    (above_sum _ _ fun r hr => above_credT c r (by have := (Finset.mem_Ico.mp hr).1; omega) (Finset.mem_Ico.mp hr).2)
theorem above_OM (c : Dev nD) (h : ℕ) : Above (2 * h + 2) (OM c h) := by
  unfold OM
  exact above_add (above_sum _ _ fun r hr => above_recvT c r (by have := (Finset.mem_Ico.mp hr).1; omega) (Finset.mem_Ico.mp hr).2)
    (above_sum _ _ fun r hr => above_credT c r (by have := (Finset.mem_Ico.mp hr).1; omega) (Finset.mem_Ico.mp hr).2)

omit [FloatOps F] in
theorem ico_peel (Φ : ℕ → sProp 𝕄) (a n : ℕ) (h : a < n) : bigSep (Finset.Ico a n) Φ = iprop(Φ a ∗ bigSep (Finset.Ico (a + 1) n) Φ) := by
  rw [ico_insert a n h, bigSep_insert (by simp only [Finset.mem_Ico]; omega)]; rfl

/-! ## What a device holds between hops -/

/-- The duties hop `r`'s copies pay. -/
def SendD (c : Dev nD) (r : ℕ) : sProp 𝕄 := iprop(
  dutyTok ER (cell c 1) r false ∗ dutyTok ER (cell c 2) r false ∗ dutyTok ER (cell c 3) r false ∗ dutyTok ER (cell c 4) r false
    ∗ dutyTok ER (cell (rgt c) 5) r false ∗ dutyTok ER (cell (rgt c) 6) r false ∗ dutyTok ER (cell (lft c) 7) r false ∗ dutyTok ER (cell (lft c) 8) r false)
/-- The units hop `r`'s copies to this device will count. -/
def RecvCr (c : Dev nD) (r : ℕ) : sProp 𝕄 := iprop(
  cred (tallyAt (cell c 5) (2 * r + 2) (amtJ 5)) ∗ cred (tallyAt (cell c 6) (2 * r + 2) (amtJ 6))
    ∗ cred (tallyAt (cell c 7) (2 * r + 2) (amtJ 7)) ∗ cred (tallyAt (cell c 8) (2 * r + 2) (amtJ 8)))
def SendTok (c : Dev nD) (r : ℕ) : sProp 𝕄 := iprop(SendD c r ∗ RecvCr c r)
/-- The units this device's own copies will count. -/
def SendCr (c : Dev nD) : sProp 𝕄 := iprop(
  cred (tallyAt (cell c 1) 0 (amtJ 1)) ∗ cred (tallyAt (cell c 2) 0 (amtJ 2)) ∗ cred (tallyAt (cell c 3) 0 (amtJ 3)) ∗ cred (tallyAt (cell c 4) 0 (amtJ 4)))
/-- The duties of the credits given after hop `r`; the credits got. -/
def CredD (c : Dev nD) (r : ℕ) : sProp 𝕄 := iprop(dutyTok ER (cell (lft c) 9) r false ∗ dutyTok ER (cell (rgt c) 10) r false)
def CredC (c : Dev nD) (r : ℕ) : sProp 𝕄 := iprop(cred (tallyAt (cell c 9) (2 * r + 3) (amtJ 9)) ∗ cred (tallyAt (cell c 10) (2 * r + 3) (amtJ 10)))

/-- The round the cells of the copies are at. -/
def At (c : Dev nD) (j : Fin 11) (n : ℕ) : sProp 𝕄 := iprop(atPos ER (cell c j) n ∅ 0 ∗ reached ER (cell c j) n)
def Pos (c : Dev nD) (n : ℕ) : sProp 𝕄 := iprop(
  At c 1 n ∗ At c 2 n ∗ At c 3 n ∗ At c 4 n ∗ At c 5 n ∗ At c 6 n ∗ At c 7 n ∗ At c 8 n)
/-- The round the credits are at. -/
def CPos (c : Dev nD) (n : ℕ) : sProp 𝕄 := iprop(At c 9 n ∗ At c 10 n)

/-- The four weights of hop `h`, in the slot they came to. -/
def Comm (m : (ℓ : Loc nD τ sig) → Buf (Elt F) ℓ) (c : Dev nD) (h : ℕ) (q : PosShare TreeShare) : sProp 𝕄 := iprop(
  slotQ c mQA (sl (h + 1)) q (cQA m c h) ∗ slotO c mOA (sl (h + 1)) q (cOA m c h) ∗ slotQ c mQB (sl (h + 1)) q (cQB m c h) ∗ slotO c mOB (sl (h + 1)) q (cOB m c h))
/-- A slot of the four buffers, whatever it holds. -/
def CommAny (c : Dev nD) (p : Fin 2) : sProp 𝕄 := iprop(
  (∃ f, slotQ (F := F) c mQA p fullShare f) ∗ (∃ f, slotO (F := F) c mOA p fullShare f) ∗ (∃ f, slotQ (F := F) c mQB p fullShare f) ∗ (∃ f, slotO (F := F) c mOB p fullShare f))

theorem comm_split (m) (c : Dev nD) (h : ℕ) : Comm (F := F) m c h fullShare ⊢ iprop(Comm m c h fullShare.left ∗ Comm m c h fullShare.right) := by
  unfold Comm slotQ slotO
  iintro ⟨H1, H2, H3, H4⟩
  ihave H1 := (pointsTo_share (PosShare.mem_left_op_right fullShare)).1 $$ H1
  ihave H2 := (pointsTo_share (PosShare.mem_left_op_right fullShare)).1 $$ H2
  ihave H3 := (pointsTo_share (PosShare.mem_left_op_right fullShare)).1 $$ H3
  ihave H4 := (pointsTo_share (PosShare.mem_left_op_right fullShare)).1 $$ H4
  icases H1 with ⟨A1, B1⟩
  icases H2 with ⟨A2, B2⟩
  icases H3 with ⟨A3, B3⟩
  icases H4 with ⟨A4, B4⟩
  isplitl [A1 A2 A3 A4]
  · isplitl [A1]; · iexact A1
    isplitl [A2]; · iexact A2
    isplitl [A3]; · iexact A3
    iexact A4
  · isplitl [B1]; · iexact B1
    isplitl [B2]; · iexact B2
    isplitl [B3]; · iexact B3
    iexact B4

theorem comm_join (m) (c : Dev nD) (h : ℕ) : iprop(Comm (F := F) m c h fullShare.left ∗ Comm m c h fullShare.right) ⊢ Comm m c h fullShare := by
  unfold Comm slotQ slotO
  iintro ⟨⟨A1, A2, A3, A4⟩, B1, B2, B3, B4⟩
  isplitl [A1 B1]
  · iapply (pointsTo_share (PosShare.mem_left_op_right fullShare)).2; isplitl [A1] <;> iassumption
  isplitl [A2 B2]
  · iapply (pointsTo_share (PosShare.mem_left_op_right fullShare)).2; isplitl [A2] <;> iassumption
  isplitl [A3 B3]
  · iapply (pointsTo_share (PosShare.mem_left_op_right fullShare)).2; isplitl [A3] <;> iassumption
  · iapply (pointsTo_share (PosShare.mem_left_op_right fullShare)).2; isplitl [A4] <;> iassumption

theorem comm_any (m) (c : Dev nD) (h : ℕ) : Comm (F := F) m c h fullShare ⊢ CommAny c (sl (h + 1)) := by
  unfold Comm CommAny
  iintro ⟨A1, A2, A3, A4⟩
  isplitl [A1]; · iexists _; iexact A1
  isplitl [A2]; · iexists _; iexact A2
  isplitl [A3]; · iexists _; iexact A3
  iexists _; iexact A4

theorem sl_two (h : ℕ) : sl (h + 1 + 1) = sl h := Fin.ext (by show (h + 1 + 1) % 2 = h % 2; omega)

/-- The neighbours' slots for hop `h`, once known to be free. -/
def Free (c : Dev nD) (h : ℕ) : sProp 𝕄 := iprop(freeA (F := F) c h ∗ freeB c h)

/-- Before hop `h`'s credits are waited for. -/
def PreCred (c : Dev nD) (h : ℕ) : sProp 𝕄 :=
  iprop(CPos c (min (h - 1) 6) ∗ bigSep (Finset.Ico (h - 1) 6) (CredC (F := F) c) ∗ if h = 0 then Free c 0 else iprop(emp))
/-- After. -/
def MidCred (c : Dev nD) (h : ℕ) : sProp 𝕄 :=
  iprop(CPos c (min h 6) ∗ bigSep (Finset.Ico h 6) (CredC (F := F) c) ∗ if h < 7 then Free c h else iprop(emp))

section
variable (m : (ℓ : Loc nD τ sig) → Buf (Elt F) ℓ)
/-- The weights' slots before hop `h`. -/
def CommSt (c : Dev nD) (h : ℕ) : sProp 𝕄 :=
  if h < 7 then Comm m c h fullShare else if h = 7 then iprop(Comm m c 7 fullShare ∗ CommAny c (sl 7)) else iprop(CommAny c (sl 8) ∗ CommAny c (sl 7))
/-- The keys' and values' slots before hop `h`. -/
def KvSt (c : Dev nD) (h : ℕ) : sProp 𝕄 :=
  iprop((if h < 8 then KI m c h 64 else KF c (sl h)) ∗ KF c (sl (h + 1)))

/-- The loop's invariant. -/
def HopInv (c : Dev nD) (h : ℕ) : sProp 𝕄 := iprop(
  Ow c (OH c h) ∗ PreCred c h ∗ bigSep (Finset.Ico h 7) (SendTok c) ∗ bigSep (Finset.Ico h 6) (CredD c) ∗ Pos c (min h 7)
    ∗ CommSt m c h ∗ KvSt m c h ∗ Holds m c ∗ Wh c cc0_scratch8 (xb m c) ∗ (∃ f, Wh (F := F) c cc0_scratch9 f) ∗ (∃ f, Wh (F := F) c cc0_scratch10 f) ∗ Wh c cc0_scratch11 (accF m c h))

/-- What a hop carries from the start of its copies to their end. -/
def MidSt (c : Dev nD) (h : ℕ) : sProp 𝕄 := iprop(
  CPos c (min h 6) ∗ bigSep (Finset.Ico h 6) (CredC (F := F) c) ∗ bigSep (Finset.Ico (h + 1) 7) (SendTok c) ∗ Pos c (min h 7)
    ∗ Holds m c ∗ if h < 7 then iprop(RecvCr c h ∗ SendCr c ∗ KI m c (h + 1) 64) else iprop(KF c (sl (h + 1)) ∗ CommAny c (sl 7)))
/-- The share of the weights the device reads by. -/
def qh (h : ℕ) : PosShare TreeShare := if h < 7 then fullShare.right else fullShare
end

end Cert.KernelIdeal.Ring

end
-- ==== Proof.KernelIdeal.Strips.lean ====
/-
Strips of rows and halves of weights: the pieces the copies in and out of the kernel move.
-/
module

public import proofs.«01_k».proof.Proof.KernelIdeal.HopDefs
public import Idealize.ShloMosaic.Lib.ValueLayout

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-! ## Sixteen strips of 64 rows -/

abbrev xs : Memref sig .tc .hbm S1x1024x1024 .f32 := Memref.whole main_arg0
abbrev os : Memref sig .tc .hbm S1x1024x1024 .f32 := Memref.whole main_v1
abbrev ioS : DmaSem sig := cc0_scratch15.sem

/-- A strip of 64 rows of a square buffer. -/
abbrev stV (b : Memref sig .tc .vmem S1024x1024 .f32) (off : Fin 2 → ℕ) (inb : ∀ a, off a + S64x1024.size a ≤ S1024x1024.size a) : Memref sig .tc .vmem S64x1024 .f32 :=
  b.slice (Rect.unit (s := S1024x1024) off S64x1024.size inb) (fun _ => rfl)
/-- A strip of 64 rows of an array in the large memory. -/
abbrev stH (b : Memref sig .tc .hbm S1x1024x1024 .f32) (off : Fin 3 → ℕ) (inb : ∀ a, off a + S1x64x1024.size a ≤ S1x1024x1024.size a) : Memref sig .tc .hbm S64x1024 .f32 :=
  (b.slice (Rect.unit (s := S1x1024x1024) off S1x64x1024.size inb) (fun _ => rfl)).squeeze S64x1024 squeezes_S1x64x1024_S64x1024

theorem stV_inb (g : Fin 16) : ∀ a, (![64 * g.val, 0] : Fin 2 → ℕ) a + S64x1024.size a ≤ S1024x1024.size a := by revert g; decide
theorem stH_inb (g : Fin 16) : ∀ a, (![0, 64 * ord g.val, 0] : Fin 3 → ℕ) a + S1x64x1024.size a ≤ S1x1024x1024.size a := by revert g; decide

/-- Strip `g` of a square buffer, at contents `f`. -/
def strV (c : Dev nD) (b : Memref sig .tc .vmem S1024x1024 .f32) (f : Buf (Elt F) (b.view.loc (c : Thread nD τ))) (g : Fin 16) : sProp 𝕄 :=
  own c (stV b ![64 * g.val, 0] (stV_inb g)) fullShare f
/-- The strip of an array that strip `g` is copied from or to. -/
def strH (c : Dev nD) (b : Memref sig .tc .hbm S1x1024x1024 .f32) (f : Buf (Elt F) (b.view.loc (c : Thread nD τ))) (g : Fin 16) : sProp 𝕄 :=
  own c (stH b ![0, 64 * ord g.val, 0] (stH_inb g)) fullShare f
instance strV_storable (c : Dev nD) (b) (f) (g) : Storable (upEmb : UEmb _ 𝕄) (strV (F := F) c b f g) := by unfold strV; infer_instance
instance strH_storable (c : Dev nD) (b) (f) (g) : Storable (upEmb : UEmb _ 𝕄) (strH (F := F) c b f g) := by unfold strH; infer_instance

theorem mem_stV (g : Fin 16) (x : S1024x1024.Idx) :
    x ∈ (Rect.unit (s := S1024x1024) ![64 * g.val, 0] S64x1024.size (stV_inb g)).set ↔ (x 0).val / 64 = g.val := by
  rw [Rect.mem_set_unit]
  have e1 : (x 1).val < 1024 := (x 1).isLt
  constructor
  · intro h
    have h0 := h 0
    change 64 * g.val ≤ (x 0).val ∧ (x 0).val < 64 * g.val + 64 at h0
    omega
  · intro h a
    match a with
    | ⟨0, _⟩ => change 64 * g.val ≤ (x 0).val ∧ (x 0).val < 64 * g.val + 64; omega
    | ⟨1, _⟩ => change 0 ≤ (x 1).val ∧ (x 1).val < 0 + 1024; omega

theorem mem_stH (g : Fin 16) (x : S1x1024x1024.Idx) :
    x ∈ (Rect.unit (s := S1x1024x1024) ![0, 64 * ord g.val, 0] S1x64x1024.size (stH_inb g)).set ↔ (x 1).val / 64 = ord g.val := by
  rw [Rect.mem_set_unit]
  have e0 : (x 0).val < 1 := (x 0).isLt
  have e1 : (x 2).val < 1024 := (x 2).isLt
  constructor
  · intro h
    have h0 := h 1
    change 64 * ord g.val ≤ (x 1).val ∧ (x 1).val < 64 * ord g.val + 64 at h0
    omega
  · intro h a
    match a with
    | ⟨0, _⟩ => change 0 ≤ (x 0).val ∧ (x 0).val < 0 + 1; omega
    | ⟨1, _⟩ => change 64 * ord g.val ≤ (x 1).val ∧ (x 1).val < 64 * ord g.val + 64; omega
    | ⟨2, _⟩ => change 0 ≤ (x 2).val ∧ (x 2).val < 0 + 1024; omega

theorem ord_ord (g : ℕ) (hg : g < 16) : ord (ord g) = g := by unfold ord; omega

omit [FloatOps F] in
/-- A square buffer is its sixteen strips. -/
theorem strV_all (c : Dev nD) (b : Memref sig .tc .vmem S1024x1024 .f32) (f : Buf (Elt F) (b.view.loc (c : Thread nD τ))) :
    own (F := F) c b fullShare f = bigSep Finset.univ (strV c b f) := by
  unfold strV own
  have hset : b.view.set = Finset.univ.biUnion fun g : Fin 16 => (stV b ![64 * g.val, 0] (stV_inb g)).view.set := by
    ext y
    rw [Finset.mem_biUnion]
    constructor
    · intro hy
      obtain ⟨x, -, rfl⟩ := Finset.mem_map.mp hy
      have h0 : (x 0).val < 1024 := (x 0).isLt
      refine ⟨⟨(x 0).val / 64, by omega⟩, Finset.mem_univ _, ?_⟩
      rw [View.set_slice]
      exact Finset.mem_map_of_mem _ ((mem_stV _ _).mpr rfl)
    · rintro ⟨g, -, hg⟩
      exact View.set_slice_subset _ _ hg
  refine (congrArg (fun S => (b.view.loc (c : Thread nD τ) ↦[S]{fullShare} f : sProp 𝕄)) hset).trans ?_
  refine pointsTo_biUnion _ _ fun g _ g' _ hne => ?_
  rw [View.set_slice, View.set_slice, Finset.disjoint_map, Finset.disjoint_left]
  intro x hx hx'
  exact hne (Fin.ext (((mem_stV _ _).mp hx).symm.trans ((mem_stV _ _).mp hx')))

omit [FloatOps F] in
/-- An array is its sixteen strips. -/
theorem strH_all (c : Dev nD) (b : Memref sig .tc .hbm S1x1024x1024 .f32) (f : Buf (Elt F) (b.view.loc (c : Thread nD τ))) :
    own (F := F) c b fullShare f = bigSep Finset.univ (strH c b f) := by
  unfold strH own
  have hst : ∀ g : Fin 16, (stH b ![0, 64 * ord g.val, 0] (stH_inb g)).view.set
      = (Rect.unit (s := S1x1024x1024) ![0, 64 * ord g.val, 0] S1x64x1024.size (stH_inb g)).set.map b.view.emb :=
    fun g => (View.set_reshape _ _).trans (View.set_slice _ _)
  have hset : b.view.set = Finset.univ.biUnion fun g : Fin 16 => (stH b ![0, 64 * ord g.val, 0] (stH_inb g)).view.set := by
    ext y
    rw [Finset.mem_biUnion]
    constructor
    · intro hy
      obtain ⟨x, -, rfl⟩ := Finset.mem_map.mp hy
      have h0 : (x 1).val < 1024 := (x 1).isLt
      refine ⟨⟨ord ((x 1).val / 64), ord_lt _ (by omega)⟩, Finset.mem_univ _, ?_⟩
      rw [hst]
      exact Finset.mem_map_of_mem _ ((mem_stH _ _).mpr (ord_ord _ (by omega)).symm)
    · rintro ⟨g, -, hg⟩
      rw [hst] at hg
      obtain ⟨x, -, rfl⟩ := Finset.mem_map.mp hg
      exact View.emb_mem_set _ x
  refine (congrArg (fun S => (b.view.loc (c : Thread nD τ) ↦[S]{fullShare} f : sProp 𝕄)) hset).trans ?_
  refine pointsTo_biUnion _ _ fun g _ g' _ hne => ?_
  rw [hst, hst, Finset.disjoint_map, Finset.disjoint_left]
  intro x hx hx'
  have h := ((mem_stH _ _).mp hx).symm.trans ((mem_stH _ _).mp hx')
  refine hne (Fin.ext ?_)
  rw [← ord_ord g.val g.isLt, ← ord_ord g'.val g'.isLt, h]

theorem ix2_rs {a b : ℕ} (h : (⟨2, ![a, b]⟩ : Shape).numel = (⟨3, ![1, a, b]⟩ : Shape).numel) (x : (⟨2, ![a, b]⟩ : Shape).Idx) :
    Shape.reshapeEquiv h x = ix3 (⟨0, Nat.one_pos⟩ : Fin 1) (x 0) (x 1) := by
  conv_lhs => rw [eq_ix2 x]
  exact reshapeEquiv_ix2_1ab h _ _

/-! ## The halves of a staged weight -/

abbrev hfQ (b : Memref sig .tc .vmem S1024x1024 .f32) (off : Fin 2 → ℕ) (inb : ∀ a, off a + S1024x512.size a ≤ S1024x1024.size a) : Memref sig .tc .vmem S1024x512 .f32 :=
  b.slice (Rect.unit (s := S1024x1024) off S1024x512.size inb) (fun _ => rfl)
abbrev hfO (b : Memref sig .tc .vmem S1024x1024 .f32) (off : Fin 2 → ℕ) (inb : ∀ a, off a + S512x1024.size a ≤ S1024x1024.size a) : Memref sig .tc .vmem S512x1024 .f32 :=
  b.slice (Rect.unit (s := S1024x1024) off S512x1024.size inb) (fun _ => rfl)

theorem disj_of (b : Memref sig .tc .vmem S1024x1024 .f32) (r r' : Rect S1024x1024)
    (h : ∀ x, x ∈ r.set → x ∈ r'.set → False) (h' : ∀ x, x ∈ r.set ∨ x ∈ r'.set) :
    Disjoint (b.view.slice r).set (b.view.slice r').set ∧ b.view.set = (b.view.slice r).set ∪ (b.view.slice r').set := by
  rw [View.set_slice, View.set_slice]
  refine ⟨?_, ?_⟩
  · rw [Finset.disjoint_map, Finset.disjoint_left]; exact h
  · ext y
    rw [Finset.mem_union]
    constructor
    · intro hy
      obtain ⟨x, -, rfl⟩ := Finset.mem_map.mp hy
      rcases h' x with hx | hx
      · exact Or.inl (Finset.mem_map_of_mem _ hx)
      · exact Or.inr (Finset.mem_map_of_mem _ hx)
    · rintro (h | h) <;> obtain ⟨x, -, rfl⟩ := Finset.mem_map.mp h <;> exact View.emb_mem_set _ x

omit [FloatOps F] in
theorem own_two (c : Dev nD) (b : Memref sig .tc .vmem S1024x1024 .f32) (f : Buf (Elt F) (b.view.loc (c : Thread nD τ))) (r r' : Rect S1024x1024)
    (h : ∀ x, x ∈ r.set → x ∈ r'.set → False) (h' : ∀ x, x ∈ r.set ∨ x ∈ r'.set) :
    (own (F := F) c b fullShare f : sProp 𝕄) ⊣⊢ iprop((b.view.loc (c : Thread nD τ) ↦[(b.view.slice r).set]{fullShare} f) ∗ (b.view.loc (c : Thread nD τ) ↦[(b.view.slice r').set]{fullShare} f)) := by
  obtain ⟨hd, he⟩ := disj_of b r r' h h'
  have e : (own (F := F) c b fullShare f : sProp 𝕄) = (b.view.loc (c : Thread nD τ) ↦[(b.view.slice r).set ∪ (b.view.slice r').set]{fullShare} f) :=
    congrArg (fun S => (b.view.loc (c : Thread nD τ) ↦[S]{fullShare} f : sProp 𝕄)) he
  have hu := pointsTo_union (ℓ := b.view.loc (c : Thread nD τ)) (q := fullShare) (f := f) (Ix := ℕ) (Name := ℕ) (U := UU) (Lvl := ℕ) hd
  exact ⟨(Entails.of_eq e).trans hu.1, hu.2.trans (Entails.of_eq e.symm)⟩

omit [FloatOps F] in
/-- A staged query weight is its two halves of columns. -/
theorem hfQ_two (c : Dev nD) (b : Memref sig .tc .vmem S1024x1024 .f32) (f : Buf (Elt F) (b.view.loc (c : Thread nD τ))) :
    (own (F := F) c b fullShare f : sProp 𝕄) ⊣⊢ iprop(own c (hfQ b ![0, 0] inb_S1024x1024_S1024x512_0_0) fullShare f ∗ own c (hfQ b ![0, 512] inb_S1024x1024_S1024x512_0_512) fullShare f) := by
  refine own_two c b f _ _ (fun x hx hx' => ?_) (fun x => ?_)
  · have h1 := (Rect.mem_set_unit.mp hx) 1
    have h2 := (Rect.mem_set_unit.mp hx') 1
    change 0 ≤ (x 1).val ∧ (x 1).val < 0 + 512 at h1
    change 512 ≤ (x 1).val ∧ (x 1).val < 512 + 512 at h2
    omega
  · have e0 : (x 0).val < 1024 := (x 0).isLt
    have e1 : (x 1).val < 1024 := (x 1).isLt
    by_cases h : (x 1).val < 512
    · refine Or.inl (Rect.mem_set_unit.mpr fun a => ?_)
      match a with
      | ⟨0, _⟩ => change 0 ≤ (x 0).val ∧ (x 0).val < 0 + 1024; omega
      | ⟨1, _⟩ => change 0 ≤ (x 1).val ∧ (x 1).val < 0 + 512; omega
    · refine Or.inr (Rect.mem_set_unit.mpr fun a => ?_)
      match a with
      | ⟨0, _⟩ => change 0 ≤ (x 0).val ∧ (x 0).val < 0 + 1024; omega
      | ⟨1, _⟩ => change 512 ≤ (x 1).val ∧ (x 1).val < 512 + 512; omega

omit [FloatOps F] in
/-- A staged output weight is its two halves of rows. -/
theorem hfO_two (c : Dev nD) (b : Memref sig .tc .vmem S1024x1024 .f32) (f : Buf (Elt F) (b.view.loc (c : Thread nD τ))) :
    (own (F := F) c b fullShare f : sProp 𝕄) ⊣⊢ iprop(own c (hfO b ![0, 0] inb_S1024x1024_S512x1024_0_0) fullShare f ∗ own c (hfO b ![512, 0] inb_S1024x1024_S512x1024_512_0) fullShare f) := by
  refine own_two c b f _ _ (fun x hx hx' => ?_) (fun x => ?_)
  · have h1 := (Rect.mem_set_unit.mp hx) 0
    have h2 := (Rect.mem_set_unit.mp hx') 0
    change 0 ≤ (x 0).val ∧ (x 0).val < 0 + 512 at h1
    change 512 ≤ (x 0).val ∧ (x 0).val < 512 + 512 at h2
    omega
  · have e0 : (x 0).val < 1024 := (x 0).isLt
    have e1 : (x 1).val < 1024 := (x 1).isLt
    by_cases h : (x 0).val < 512
    · refine Or.inl (Rect.mem_set_unit.mpr fun a => ?_)
      match a with
      | ⟨0, _⟩ => change 0 ≤ (x 0).val ∧ (x 0).val < 0 + 512; omega
      | ⟨1, _⟩ => change 0 ≤ (x 1).val ∧ (x 1).val < 0 + 1024; omega
    · refine Or.inr (Rect.mem_set_unit.mpr fun a => ?_)
      match a with
      | ⟨0, _⟩ => change 512 ≤ (x 0).val ∧ (x 0).val < 512 + 512; omega
      | ⟨1, _⟩ => change 0 ≤ (x 1).val ∧ (x 1).val < 0 + 1024; omega

end Cert.KernelIdeal.Ring

end
-- ==== Proof.KernelIdeal.Io.lean ====
/-
The copies in and the copies out, each started and waited for.
-/
module

public import proofs.«01_k».proof.Proof.KernelIdeal.Strips

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-- What each of the twenty copies in counts: sixteen strips, two halves of the query weight, two of the output weight. -/
abbrev NX : ℕ := (stV (Memref.whole cc0_scratch8) ![0, 0] (stV_inb 0)).view.dmaCredit
def ioA (t : Fin 20) : ℕ := if t.val < 16 then NX else if t.val = 16 then NQ mQA else if t.val = 17 then NQ mQB else if t.val = 18 then NO mOA else NO mOB

theorem ioA_pos (t : Fin 20) : 0 < ioA t := by
  unfold ioA
  split
  · exact View.dmaCredit_pos _ (by decide)
  split
  · exact View.dmaCredit_pos _ (by decide)
  split
  · exact View.dmaCredit_pos _ (by decide)
  split
  · exact View.dmaCredit_pos _ (by decide)
  · exact View.dmaCredit_pos _ (by decide)

abbrev g0 : Memref sig .tc .vmem S1024x1024 .f32 := Memref.whole cc0_stg0_0
abbrev g1 : Memref sig .tc .vmem S1024x1024 .f32 := Memref.whole cc0_stg1_0

section
variable (m : (ℓ : Loc nD τ sig) → Buf (Elt F) ℓ)

/-- What each delivers: a strip of the rows by class; half of a weight, and the half it was copied from back. -/
def ioD (c : Dev nD) (t : Fin 20) : sProp 𝕄 :=
  if h : t.val < 16 then strV c (Memref.whole cc0_scratch8) (xb m c) ⟨t.val, h⟩
  else if t.val = 16 then iprop(slotQ c mQA 1 fullShare (cQA m c 0) ∗ own c (hfQ g0 ![0, 0] inb_S1024x1024_S1024x512_0_0) fullShare (wq m c))
  else if t.val = 17 then iprop(slotQ c mQB 1 fullShare (cQB m c 0) ∗ own c (hfQ g0 ![0, 512] inb_S1024x1024_S1024x512_0_512) fullShare (wq m c))
  else if t.val = 18 then iprop(slotO c mOA 1 fullShare (cOA m c 0) ∗ own c (hfO g1 ![0, 0] inb_S1024x1024_S512x1024_0_0) fullShare (wo m c))
  else iprop(slotO c mOB 1 fullShare (cOB m c 0) ∗ own c (hfO g1 ![512, 0] inb_S1024x1024_S512x1024_512_0) fullShare (wo m c))

instance ioD_storable (c : Dev nD) : ∀ t, Storable (upEmb : UEmb _ 𝕄) (ioD (F := F) m c t) := fun t => by
  unfold ioD; split_ifs <;> infer_instance

/-- `n` of the twenty copies are started, `u` units of them waited for. -/
def IoB (c : Dev nD) (n u : ℕ) : sProp 𝕄 := MixedBatch EC (c : Thread nD τ) (.dma ioS) 0 ioA (ioD (F := F) m c) n u

/-- `n` of the sixteen strips are started. -/
def IoX (c : Dev nD) (n : ℕ) : sProp 𝕄 := iprop(IoB m c n 0 ∗ (∃ f, bigSep (pending n) (strV (F := F) c (Memref.whole cc0_scratch8) f)) ∗ Hold c xs (xIn m c))

theorem jA_0 (c : Dev nD) : jA c 0 = c := by revert c; decide
theorem jB_0 (c : Dev nD) : jB c 0 = c := by revert c; decide

theorem xb_read (c : Dev nD) (n : ℕ) (hn : n < 16) {ib ih} :
    (stV (Memref.whole cc0_scratch8) ![64 * n, 0] ib).view.read (Elt F) (xb m c) = (stH xs ![0, 64 * ord n, 0] ih).view.read (Elt F) (xIn m c) := by
  funext x
  rw [read_squeeze, ix2_rs]
  show xb m c ((Rect.unit (s := S1024x1024) ![64 * n, 0] S64x1024.size ib).emb x) = xIn m c _
  unfold xb
  refine congrArg (xIn m c) (funext fun a => Fin.ext ?_)
  have h0 : (x 0).val < 64 := (x 0).isLt
  match a with
  | ⟨0, _⟩ => rfl
  | ⟨1, _⟩ =>
    show 64 * ord ((64 * n + 1 * (x 0).val) / 64) + (64 * n + 1 * (x 0).val) % 64 = 64 * ord n + 1 * (x 0).val
    rw [show (64 * n + 1 * (x 0).val) / 64 = n by omega]; omega
  | ⟨2, _⟩ => show 0 + 1 * (x 1).val = 0 + 1 * (x 1).val; rfl

theorem out_read (c : Dev nD) (n : ℕ) (hn : n < 16) {ib ih} :
    (stH os ![0, 64 * ord n, 0] ih).view.read (Elt F) (outF m c) = (stV (Memref.whole cc0_scratch11) ![64 * n, 0] ib).view.read (Elt F) (accF m c 8) := by
  funext x
  rw [read_squeeze, ix2_rs]
  show outF m c ((Rect.unit (s := S1x1024x1024) ![0, 64 * ord n, 0] S1x64x1024.size ih).emb _) = accF m c 8 ((Rect.unit (s := S1024x1024) ![64 * n, 0] S64x1024.size ib).emb x)
  unfold outF
  refine congrArg (accF m c 8) (funext fun a => Fin.ext ?_)
  have h0 : (x 0).val < 64 := (x 0).isLt
  match a with
  | ⟨0, _⟩ =>
    show 64 * ord ((64 * ord n + 1 * (x 0).val) / 64) + (64 * ord n + 1 * (x 0).val) % 64 = 64 * n + 1 * (x 0).val
    rw [show (64 * ord n + 1 * (x 0).val) / 64 = ord n by omega, ord_ord n hn]; omega
  | ⟨1, _⟩ => show 0 + 1 * (x 1).val = 0 + 1 * (x 1).val; rfl

theorem qa_read (c : Dev nD) {ib ih} : (cwQ mQA ![1, 0, 0] ib).view.read (Elt F) (cQA m c 0) = (hfQ g0 ![0, 0] ih).view.read (Elt F) (wq m c) := by
  funext x
  rw [read_squeeze, ix2_rs]
  show cQA m c 0 _ = wq m c ((Rect.unit (s := S1024x1024) ![0, 0] S1024x512.size ih).emb x)
  unfold cQA; rw [jA_0]
  refine congrArg (wq m c) (funext fun a => Fin.ext ?_)
  match a with
  | ⟨0, _⟩ => show 0 + 1 * (x 0).val = 0 + 1 * (x 0).val; rfl
  | ⟨1, _⟩ => show 0 + 1 * (x 1).val = 0 + 1 * (x 1).val; rfl
theorem qb_read (c : Dev nD) {ib ih} : (cwQ mQB ![1, 0, 0] ib).view.read (Elt F) (cQB m c 0) = (hfQ g0 ![0, 512] ih).view.read (Elt F) (wq m c) := by
  funext x
  rw [read_squeeze, ix2_rs]
  show cQB m c 0 _ = wq m c ((Rect.unit (s := S1024x1024) ![0, 512] S1024x512.size ih).emb x)
  unfold cQB; rw [jB_0]
  refine congrArg (wq m c) (funext fun a => Fin.ext ?_)
  match a with
  | ⟨0, _⟩ => show 0 + 1 * (x 0).val = 0 + 1 * (x 0).val; rfl
  | ⟨1, _⟩ => show 512 + (0 + 1 * (x 1).val) = 512 + 1 * (x 1).val; omega
theorem oa_read (c : Dev nD) {ib ih} : (cwO mOA ![1, 0, 0] ib).view.read (Elt F) (cOA m c 0) = (hfO g1 ![0, 0] ih).view.read (Elt F) (wo m c) := by
  funext x
  rw [read_squeeze, ix2_rs]
  show cOA m c 0 _ = wo m c ((Rect.unit (s := S1024x1024) ![0, 0] S512x1024.size ih).emb x)
  unfold cOA; rw [jA_0]
  refine congrArg (wo m c) (funext fun a => Fin.ext ?_)
  match a with
  | ⟨0, _⟩ => show 0 + 1 * (x 0).val = 0 + 1 * (x 0).val; rfl
  | ⟨1, _⟩ => show 0 + 1 * (x 1).val = 0 + 1 * (x 1).val; rfl
theorem ob_read (c : Dev nD) {ib ih} : (cwO mOB ![1, 0, 0] ib).view.read (Elt F) (cOB m c 0) = (hfO g1 ![512, 0] ih).view.read (Elt F) (wo m c) := by
  funext x
  rw [read_squeeze, ix2_rs]
  show cOB m c 0 _ = wo m c ((Rect.unit (s := S1024x1024) ![512, 0] S512x1024.size ih).emb x)
  unfold cOB; rw [jB_0]
  refine congrArg (wo m c) (funext fun a => Fin.ext ?_)
  match a with
  | ⟨0, _⟩ => show 512 + (0 + 1 * (x 0).val) = 512 + 1 * (x 0).val; omega
  | ⟨1, _⟩ => show 0 + 1 * (x 1).val = 0 + 1 * (x 1).val; rfl

variable (𝒱 : Variants) (c : Dev nD) (bd : Option 𝒱.V)

/-- One strip's copy in started. -/
theorem x_issue (n : ℕ) (hn : n < 16) {od : Fin 2 → ℕ} {ow : Fin 3 → ℕ} {ib} {ih} {h1} {h2} {h3}
    (hod : od = ![64 * n, 0]) (how : ow = ![0, 64 * ord n, 0]) {α : Type} (k : PUnit → Prog (TpuEff nD τ sig (Elt F) Λ₀ .tc) α) (Q : α → sProp 𝕄) :
    iprop(IoX m c n ∗ (IoX m c (n + 1) -∗ wp frame (wpE (defs₀ (F := F)) 𝒱 (c : Thread nD τ) bd) Set.univ (k ⟨⟩) Q))
      ⊢ wp frame (wpE (defs₀ (F := F)) 𝒱 (c : Thread nD τ) bd) Set.univ (Prog.lift (.enqueueDma (stH xs ow ih) (.here (stV (Memref.whole cc0_scratch8) od ib)) (.dma ioS) h1 h2 h3) >>= k) Q := by
  subst hod how
  have hA : (stV (Memref.whole cc0_scratch8) ![64 * n, 0] ib).view.amount (.dma ioS) = ioA ⟨n, by omega⟩ := (if_pos hn).symm
  have hD : ∀ f q, iprop(((stV (Memref.whole cc0_scratch8) ![64 * n, 0] ib).view.loc (c : Thread nD τ) ↦[(stV (Memref.whole cc0_scratch8) ![64 * n, 0] ib).view.set]{fullShare}
        ((stV (Memref.whole cc0_scratch8) ![64 * n, 0] ib).view.write (Elt F) f (ReadAs.same.apply ((stH xs ![0, 64 * ord n, 0] ih).view.read (Elt F) (xIn m c))) Finset.univ))
      ∗ ((stH xs ![0, 64 * ord n, 0] ih).view.loc (c : Thread nD τ) ↦[(stH xs ![0, 64 * ord n, 0] ih).view.set]{q} xIn m c))
      ⊢ (ioD (F := F) m c ⟨n, by omega⟩ : sProp 𝕄) := fun f q => by
    refine sep_elim_left.trans (Entails.of_eq ?_)
    rw [show ioD (F := F) m c ⟨n, by omega⟩ = strV c (Memref.whole cc0_scratch8) (xb m c) ⟨n, hn⟩ from dif_pos hn]
    exact landed_eq (ℓc := (c : Thread nD τ)) (stV (Memref.whole cc0_scratch8) ![64 * n, 0] ib) f (xb m c) _ fullShare (xb_read m c n hn)
  unfold IoX IoB
  iintro ⟨⟨HB, ⟨%f, Hp⟩, HS⟩, Hk⟩
  ihave Hp' := (Entails.of_eq (Transfers.bigSep_pending_step (strV (F := F) c (Memref.whole cc0_scratch8) f) n hn)) $$ Hp
  icases Hp' with ⟨Hd, Hp⟩
  ihave Hd' := (show strV (F := F) c (Memref.whole cc0_scratch8) f ⟨n, hn⟩ ⊢ ((stV (Memref.whole cc0_scratch8) ![64 * n, 0] ib).view.loc (c : Thread nD τ) ↦[(stV (Memref.whole cc0_scratch8) ![64 * n, 0] ib).view.set]{fullShare} f : sProp 𝕄) from .rfl) $$ Hd
  ihave HS' := (hold_part c xs (xIn m c) (stH xs ![0, 64 * ord n, 0] ih).view.set (by show _ ⊆ xs.view.set; rw [View.set_whole]; exact Finset.subset_univ _)) $$ HS
  icases HS' with ⟨⟨%q, Hs⟩, HS⟩
  iapply (Transfers.wp_dmaMixedBatch EC 𝒱 (c : Thread nD τ) bd (src := stH xs ![0, 64 * ord n, 0] ih)
    (dst := stV (Memref.whole cc0_scratch8) ![64 * n, 0] ib) 0 ioA subset_rfl (D := ioD (F := F) m c) (j := n) (u := 0) (by omega) hA (Nat.zero_le _) (hD f q)) $$ [Hs Hd' HB]
  · isplitl [Hs]; · iexact Hs
    isplitl [Hd']; · iexact Hd'
    iexact HB
  iintro HB
  iapply Hk
  isplitl [HB]; · iexact HB
  isplitl [Hp]; · iexists f; iexact Hp
  iexact HS

/-- One half of a query weight's copy started. -/
theorem q_issue (M : Memref sig .tc .vmem S2x1024x512 .f32) (n : ℕ) (hn : n < 20) (G : Buf (Elt F) (M.view.loc (c : Thread nD τ))) {oh : Fin 2 → ℕ} {ib} {ih} {h1} {h2} {h3}
    (hA : NQ M = ioA ⟨n, hn⟩)
    (hG : (cwQ M ![1, 0, 0] ib).view.read (Elt F) G = (hfQ g0 oh ih).view.read (Elt F) (wq m c))
    (hD : iprop(slotQ c M 1 fullShare G ∗ own c (hfQ g0 oh ih) fullShare (wq m c)) = ioD (F := F) m c ⟨n, hn⟩)
    {α : Type} (k : PUnit → Prog (TpuEff nD τ sig (Elt F) Λ₀ .tc) α) (Q : α → sProp 𝕄) :
    iprop(IoB m c n 0 ∗ (∃ f, slotQ (F := F) c M 1 fullShare f) ∗ own c (hfQ g0 oh ih) fullShare (wq m c) ∗ (IoB m c (n + 1) 0 -∗ wp frame (wpE (defs₀ (F := F)) 𝒱 (c : Thread nD τ) bd) Set.univ (k ⟨⟩) Q))
      ⊢ wp frame (wpE (defs₀ (F := F)) 𝒱 (c : Thread nD τ) bd) Set.univ (Prog.lift (.enqueueDma (hfQ g0 oh ih) (.here (cwQ M ![1, 0, 0] ib)) (.dma ioS) h1 h2 h3) >>= k) Q := by
  have hD' : ∀ f, iprop(((cwQ M ![1, 0, 0] ib).view.loc (c : Thread nD τ) ↦[(cwQ M ![1, 0, 0] ib).view.set]{fullShare}
        ((cwQ M ![1, 0, 0] ib).view.write (Elt F) f (ReadAs.same.apply ((hfQ g0 oh ih).view.read (Elt F) (wq m c))) Finset.univ))
      ∗ own c (hfQ g0 oh ih) fullShare (wq m c)) ⊢ (ioD (F := F) m c ⟨n, hn⟩ : sProp 𝕄) := fun f => by
    rw [← hD]
    exact BIClass.sep_mono (Entails.of_eq (landed_eq (ℓc := (c : Thread nD τ)) (cwQ M ![1, 0, 0] ib) f G _ fullShare hG)) .rfl
  unfold IoB slotQ
  iintro ⟨HB, ⟨%f, Hd⟩, Hs, Hk⟩
  iapply (Transfers.wp_dmaMixedBatch EC 𝒱 (c : Thread nD τ) bd (src := hfQ g0 oh ih) (dst := cwQ M ![1, 0, 0] ib) 0 ioA subset_rfl
    (D := ioD (F := F) m c) (j := n) (u := 0) hn (show (cwQ M ![1, 0, 0] ib).view.amount (.dma ioS) = _ from hA) (Nat.zero_le _) (hD' f)) $$ [Hs Hd HB]
  · isplitl [Hs]; · iexact Hs
    isplitl [Hd]; · iexact Hd
    iexact HB
  iintro HB
  iapply Hk
  iexact HB

/-- One half of an output weight's copy started. -/
theorem o_issue (M : Memref sig .tc .vmem S2x512x1024 .f32) (n : ℕ) (hn : n < 20) (G : Buf (Elt F) (M.view.loc (c : Thread nD τ))) {oh : Fin 2 → ℕ} {ib} {ih} {h1} {h2} {h3}
    (hA : NO M = ioA ⟨n, hn⟩)
    (hG : (cwO M ![1, 0, 0] ib).view.read (Elt F) G = (hfO g1 oh ih).view.read (Elt F) (wo m c))
    (hD : iprop(slotO c M 1 fullShare G ∗ own c (hfO g1 oh ih) fullShare (wo m c)) = ioD (F := F) m c ⟨n, hn⟩)
    {α : Type} (k : PUnit → Prog (TpuEff nD τ sig (Elt F) Λ₀ .tc) α) (Q : α → sProp 𝕄) :
    iprop(IoB m c n 0 ∗ (∃ f, slotO (F := F) c M 1 fullShare f) ∗ own c (hfO g1 oh ih) fullShare (wo m c) ∗ (IoB m c (n + 1) 0 -∗ wp frame (wpE (defs₀ (F := F)) 𝒱 (c : Thread nD τ) bd) Set.univ (k ⟨⟩) Q))
      ⊢ wp frame (wpE (defs₀ (F := F)) 𝒱 (c : Thread nD τ) bd) Set.univ (Prog.lift (.enqueueDma (hfO g1 oh ih) (.here (cwO M ![1, 0, 0] ib)) (.dma ioS) h1 h2 h3) >>= k) Q := by
  have hD' : ∀ f, iprop(((cwO M ![1, 0, 0] ib).view.loc (c : Thread nD τ) ↦[(cwO M ![1, 0, 0] ib).view.set]{fullShare}
        ((cwO M ![1, 0, 0] ib).view.write (Elt F) f (ReadAs.same.apply ((hfO g1 oh ih).view.read (Elt F) (wo m c))) Finset.univ))
      ∗ own c (hfO g1 oh ih) fullShare (wo m c)) ⊢ (ioD (F := F) m c ⟨n, hn⟩ : sProp 𝕄) := fun f => by
    rw [← hD]
    exact BIClass.sep_mono (Entails.of_eq (landed_eq (ℓc := (c : Thread nD τ)) (cwO M ![1, 0, 0] ib) f G _ fullShare hG)) .rfl
  unfold IoB slotO
  iintro ⟨HB, ⟨%f, Hd⟩, Hs, Hk⟩
  iapply (Transfers.wp_dmaMixedBatch EC 𝒱 (c : Thread nD τ) bd (src := hfO g1 oh ih) (dst := cwO M ![1, 0, 0] ib) 0 ioA subset_rfl
    (D := ioD (F := F) m c) (j := n) (u := 0) hn (show (cwO M ![1, 0, 0] ib).view.amount (.dma ioS) = _ from hA) (Nat.zero_le _) (hD' f)) $$ [Hs Hd HB]
  · isplitl [Hs]; · iexact Hs
    isplitl [Hd]; · iexact Hd
    iexact HB
  iintro HB
  iapply Hk
  iexact HB

/-- `n` of the twenty waits are over. -/
def IoW (n : ℕ) : sProp 𝕄 := IoB m c 20 (Transfers.sumTo ioA n)

theorem io_le (n : ℕ) (hn : n ≤ 20) : Transfers.sumTo ioA n ≤ Transfers.sumTo ioA 20 := by
  have h : ∀ d, n + d ≤ 20 → Transfers.sumTo ioA n ≤ Transfers.sumTo ioA (n + d) := by
    intro d
    induction d with
    | zero => intro _; exact le_rfl
    | succ d ih => intro hd; exact (ih (by omega)).trans (Nat.le_add_right _ _)
  have hd := h (20 - n) (by omega)
  rwa [show n + (20 - n) = 20 by omega] at hd

theorem io_step (n : ℕ) (hn : n < 20) : Transfers.sumTo ioA n + ioA ⟨n, hn⟩ = Transfers.sumTo ioA (n + 1) := by
  show _ = _ + _; rw [dif_pos hn]

/-- One wait of the first nineteen. -/
theorem io_wait (n : ℕ) (hn : n < 19) (O : CellTallies nD τ sig ℕ) (hO : Above 0 O)
    {sp' sp : Space} {s s' : Shape} {srcw : Memref sig .tc sp' s' .f32} {dstw : Memref sig .tc sp s .f32} {h1} {h2} (hJ : dstw.view.dmaCredit = ioA ⟨n, by omega⟩)
    {α : Type} (k : PUnit → Prog (TpuEff nD τ sig (Elt F) Λ₀ .tc) α) (Q : α → sProp 𝕄) :
    iprop(IoW m c n ∗ Ow c O ∗ (IoW m c (n + 1) -∗ Ow c O -∗ wp frame (wpE (defs₀ (F := F)) 𝒱 (c : Thread nD τ) bd) Set.univ (k ⟨⟩) Q))
      ⊢ wp frame (wpE (defs₀ (F := F)) 𝒱 (c : Thread nD τ) bd) Set.univ (Prog.lift (.waitDma2 ioS srcw dstw h1 h2) >>= k) Q := by
  unfold IoW IoB Ow
  iintro ⟨HB, ⟨#Hl, %W, HO⟩, Hk⟩
  ihave HM := mayWait (F := F) c (SemLoc.dma ioS) 0 (by decide) O hO $$ Hl
  iapply (Transfers.wp_waitMixedBatchO EC 𝒱 (c : Thread nD τ) bd (srcw := srcw) (dstw := dstw) 0 (A := ioA) hJ
    (D := ioD (F := F) m c) (j := 20) (u := Transfers.sumTo ioA n) (by rw [io_step]; exact io_le _ (by omega)) (O := O) (W := W)) $$ [HB HO HM]
  · isplitl [HB]; · iexact HB
    isplitl [HO] <;> iassumption
  rw [io_step]
  iintro ⟨HB, HO⟩
  ispecialize Hk $$ [HB]
  · iexact HB
  iapply Hk
  isplitr; · iexact Hl
  iexists _; iexact HO

/-- The last wait: everything has come in. -/
theorem io_last (O : CellTallies nD τ sig ℕ) (hO : Above 0 O)
    {sp' sp : Space} {s s' : Shape} {srcw : Memref sig .tc sp' s' .f32} {dstw : Memref sig .tc sp s .f32} {h1} {h2} (hJ : dstw.view.dmaCredit = ioA 19)
    {α : Type} (k : PUnit → Prog (TpuEff nD τ sig (Elt F) Λ₀ .tc) α) (Q : α → sProp 𝕄) :
    iprop(IoW m c 19 ∗ Ow c O ∗ (bigSep Finset.univ (ioD (F := F) m c) -∗ semVal ((c : Thread nD τ), SemLoc.dma ioS) 0 -∗ Ow c O -∗ wp frame (wpE (defs₀ (F := F)) 𝒱 (c : Thread nD τ) bd) Set.univ (k ⟨⟩) Q))
      ⊢ wp frame (wpE (defs₀ (F := F)) 𝒱 (c : Thread nD τ) bd) Set.univ (Prog.lift (.waitDma2 ioS srcw dstw h1 h2) >>= k) Q := by
  unfold IoW IoB Ow
  iintro ⟨HB, ⟨#Hl, %W, HO⟩, Hk⟩
  ihave HM := mayWait (F := F) c (SemLoc.dma ioS) 0 (by decide) O hO $$ Hl
  iapply (Transfers.wp_waitMixedBatchAllO EC 𝒱 (c : Thread nD τ) bd (srcw := srcw) (dstw := dstw) 0 (A := ioA) hJ ioA_pos
    (D := ioD (F := F) m c) (u := Transfers.sumTo ioA 19) (io_step 19 (by omega)) (O := O) (W := W)) $$ [HB HO HM]
  · isplitl [HB]; · iexact HB
    isplitl [HO] <;> iassumption
  iintro ⟨HD, Hs, HO⟩
  ispecialize Hk $$ [HD]
  · iexact HD
  ispecialize Hk $$ [Hs]
  · iexact Hs
  iapply Hk
  isplitr; · iexact Hl
  iexists _; iexact HO

/-! ## The copies out -/

/-- What each of the sixteen copies out delivers, and the strip it was copied from back. -/
def outD (g : Fin 16) : sProp 𝕄 := iprop(strH c os (outF m c) g ∗ strV c (Memref.whole cc0_scratch11) (accF m c 8) g)
instance outD_storable : ∀ g, Storable (upEmb : UEmb _ 𝕄) (outD (F := F) m c g) := fun g => by unfold outD; infer_instance
abbrev NZ : ℕ := (stH os ![0, 64 * ord (0 : Fin 16).val, 0] (stH_inb 0)).view.dmaCredit
theorem NZ_pos : 0 < NZ := View.dmaCredit_pos _ (by decide)

/-- `n` of the copies out are started. -/
def OutI (n : ℕ) : sProp 𝕄 := iprop(Batch EC (c : Thread nD τ) (.dma ioS) 0 NZ (outD (F := F) m c) n 0
  ∗ (∃ f, bigSep (pending n) (strH (F := F) c os f)) ∗ bigSep (pending n) (strV c (Memref.whole cc0_scratch11) (accF m c 8)))
/-- `u` of the waits are over. -/
def OutW (u : ℕ) : sProp 𝕄 := Batch EC (c : Thread nD τ) (.dma ioS) 0 NZ (outD (F := F) m c) 16 (u * NZ)

theorem out_issue (n : ℕ) (hn : n < 16) {od : Fin 2 → ℕ} {ow : Fin 3 → ℕ} {ib} {ih} {h1} {h2} {h3}
    (hod : od = ![64 * n, 0]) (how : ow = ![0, 64 * ord n, 0]) {α : Type} (k : PUnit → Prog (TpuEff nD τ sig (Elt F) Λ₀ .tc) α) (Q : α → sProp 𝕄) :
    iprop(OutI m c n ∗ (OutI m c (n + 1) -∗ wp frame (wpE (defs₀ (F := F)) 𝒱 (c : Thread nD τ) bd) Set.univ (k ⟨⟩) Q))
      ⊢ wp frame (wpE (defs₀ (F := F)) 𝒱 (c : Thread nD τ) bd) Set.univ (Prog.lift (.enqueueDma (stV (Memref.whole cc0_scratch11) od ib) (.here (stH os ow ih)) (.dma ioS) h1 h2 h3) >>= k) Q := by
  subst hod how
  have hD : ∀ f, iprop(((stH os ![0, 64 * ord n, 0] ih).view.loc (c : Thread nD τ) ↦[(stH os ![0, 64 * ord n, 0] ih).view.set]{fullShare}
        ((stH os ![0, 64 * ord n, 0] ih).view.write (Elt F) f (ReadAs.same.apply ((stV (Memref.whole cc0_scratch11) ![64 * n, 0] ib).view.read (Elt F) (accF m c 8))) Finset.univ))
      ∗ own c (stV (Memref.whole cc0_scratch11) ![64 * n, 0] ib) fullShare (accF m c 8))
      ⊢ (outD (F := F) m c ⟨n, hn⟩ : sProp 𝕄) := fun f => by
    unfold outD
    exact BIClass.sep_mono (Entails.of_eq (landed_eq (ℓc := (c : Thread nD τ)) (stH os ![0, 64 * ord n, 0] ih) f (outF m c) _ fullShare (out_read m c n hn))) .rfl
  unfold OutI
  iintro ⟨⟨HB, ⟨%f, Hp⟩, HS⟩, Hk⟩
  ihave Hp' := (Entails.of_eq (Transfers.bigSep_pending_step (strH (F := F) c os f) n hn)) $$ Hp
  icases Hp' with ⟨Hd, Hp⟩
  ihave HS' := (Entails.of_eq (Transfers.bigSep_pending_step (strV (F := F) c (Memref.whole cc0_scratch11) (accF m c 8)) n hn)) $$ HS
  icases HS' with ⟨Hs, HS⟩
  ihave Hd' := (show strH (F := F) c os f ⟨n, hn⟩ ⊢ ((stH os ![0, 64 * ord n, 0] ih).view.loc (c : Thread nD τ) ↦[(stH os ![0, 64 * ord n, 0] ih).view.set]{fullShare} f : sProp 𝕄) from .rfl) $$ Hd
  ihave Hs' := (show strV (F := F) c (Memref.whole cc0_scratch11) (accF m c 8) ⟨n, hn⟩ ⊢ own c (stV (Memref.whole cc0_scratch11) ![64 * n, 0] ib) fullShare (accF m c 8) from .rfl) $$ Hs
  iapply (Transfers.wp_dmaBatch EC 𝒱 (c : Thread nD τ) bd (src := stV (Memref.whole cc0_scratch11) ![64 * n, 0] ib)
    (dst := stH os ![0, 64 * ord n, 0] ih) 0 NZ rfl subset_rfl (D := outD (F := F) m c) (j := n) (u := 0) hn (Nat.zero_le _) (hD f)) $$ [Hs' Hd' HB]
  · isplitl [Hs']; · iexact Hs'
    isplitl [Hd']; · iexact Hd'
    iexact HB
  iintro HB
  iapply Hk
  isplitl [HB]; · iexact HB
  isplitl [Hp]; · iexists f; iexact Hp
  iexact HS

theorem out_wait (u : ℕ) (hu : u + 1 < 16) (O : CellTallies nD τ sig ℕ) (hO : Above 0 O)
    {sp' : Space} {s' : Shape} {srcw : Memref sig .tc sp' s' .f32} {ow : Fin 3 → ℕ} {ih} {h1} {h2}
    {α : Type} (k : PUnit → Prog (TpuEff nD τ sig (Elt F) Λ₀ .tc) α) (Q : α → sProp 𝕄) :
    iprop(OutW m c u ∗ Ow c O ∗ (OutW m c (u + 1) -∗ Ow c O -∗ wp frame (wpE (defs₀ (F := F)) 𝒱 (c : Thread nD τ) bd) Set.univ (k ⟨⟩) Q))
      ⊢ wp frame (wpE (defs₀ (F := F)) 𝒱 (c : Thread nD τ) bd) Set.univ (Prog.lift (.waitDma2 ioS srcw (stH os ow ih) h1 h2) >>= k) Q := by
  have hlt : u * NZ + NZ < NZ * 16 := by
    have h := Nat.mul_lt_mul_of_pos_right hu NZ_pos
    rw [Nat.succ_mul] at h; omega
  unfold OutW Ow
  iintro ⟨HB, ⟨#Hl, %W, HO⟩, Hk⟩
  ihave HM := mayWait (F := F) c (SemLoc.dma ioS) 0 (by decide) O hO $$ Hl
  iapply (Transfers.wp_waitBatchO EC 𝒱 (c : Thread nD τ) bd (srcw := srcw) (dstw := stH os ow ih) 0 (N := NZ) rfl
    (D := outD (F := F) m c) (u := u * NZ) hlt (O := O) (W := W)) $$ [HB HO HM]
  · isplitl [HB]; · iexact HB
    isplitl [HO] <;> iassumption
  iintro ⟨HB, HO⟩
  ispecialize Hk $$ [HB]
  · rw [Nat.succ_mul]; iexact HB
  iapply Hk
  isplitr; · iexact Hl
  iexists _; iexact HO

theorem out_last (O : CellTallies nD τ sig ℕ) (hO : Above 0 O)
    {sp' : Space} {s' : Shape} {srcw : Memref sig .tc sp' s' .f32} {ow : Fin 3 → ℕ} {ih} {h1} {h2}
    {α : Type} (k : PUnit → Prog (TpuEff nD τ sig (Elt F) Λ₀ .tc) α) (Q : α → sProp 𝕄) :
    iprop(OutW m c 15 ∗ Ow c O ∗ (bigSep Finset.univ (outD (F := F) m c) -∗ semVal ((c : Thread nD τ), SemLoc.dma ioS) 0 -∗ Ow c O -∗ wp frame (wpE (defs₀ (F := F)) 𝒱 (c : Thread nD τ) bd) Set.univ (k ⟨⟩) Q))
      ⊢ wp frame (wpE (defs₀ (F := F)) 𝒱 (c : Thread nD τ) bd) Set.univ (Prog.lift (.waitDma2 ioS srcw (stH os ow ih) h1 h2) >>= k) Q := by
  unfold OutW Ow
  iintro ⟨HB, ⟨#Hl, %W, HO⟩, Hk⟩
  ihave HM := mayWait (F := F) c (SemLoc.dma ioS) 0 (by decide) O hO $$ Hl
  iapply (Transfers.wp_waitBatchLastO EC 𝒱 (c : Thread nD τ) bd (srcw := srcw) (dstw := stH os ow ih) 0 (N := NZ) rfl NZ_pos
    (D := outD (F := F) m c) (u := 15 * NZ) (by omega) (O := O) (W := W)) $$ [HB HO HM]
  · isplitl [HB]; · iexact HB
    isplitl [HO] <;> iassumption
  iintro ⟨HD, Hs, HO⟩
  ispecialize Hk $$ [HD]
  · iexact HD
  ispecialize Hk $$ [Hs]
  · iexact Hs
  iapply Hk
  isplitr; · iexact Hl
  iexists _; iexact HO
end

end Cert.KernelIdeal.Ring

end
-- ==== Proof.KernelIdeal.InnerLoop.lean ====
/-
The inner loop of a hop: for each class of rows the eight heads' attention.
-/
module

public import proofs.«01_k».proof.Proof.KernelIdeal.Inner

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-- The class of rows of a trip. -/
def tr (t : Fin k0_t2_loop.trips) : Fin 4 := ⟨t.val, t.isLt⟩

section
variable (m : (ℓ : Loc nD τ sig) → Buf (Elt F) ℓ)
theorem headF_0 (c : Dev nD) (h : ℕ) (r : Fin 4) : headF m c h r 0 = k0_pay1 (tile (qF m c h) r 0) (kvTile (kcA m c h) r 0) (kvTile (vcA m c h) r 0) := rfl
theorem headF_1 (c : Dev nD) (h : ℕ) (r : Fin 4) : headF m c h r 1 = k0_pay4 (k0_pay2 (tile (qF m c h) r 1) (kvTile (kcA m c h) r 1)) (k0_pay3 (tile (qF m c h) r 1) (kvTile (kcA m c h) r 1)) (kvTile (vcA m c h) r 1) := rfl
theorem headF_2 (c : Dev nD) (h : ℕ) (r : Fin 4) : headF m c h r 2 = k0_pay5 (tile (qF m c h) r 2) (kvTile (kcA m c h) r 2) (kvTile (vcA m c h) r 2) := rfl
theorem headF_3 (c : Dev nD) (h : ℕ) (r : Fin 4) : headF m c h r 3 = k0_pay6 (tile (qF m c h) r 3) (kvTile (kcA m c h) r 3) (kvTile (vcA m c h) r 3) := rfl
theorem headF_4 (c : Dev nD) (h : ℕ) (r : Fin 4) : headF m c h r 4 = k0_pay8 (k0_pay7 (tile (qF m c h) r 4) (kvTile (kcB m c h) r 0)) (kvTile (vcB m c h) r 0) := rfl
theorem headF_5 (c : Dev nD) (h : ℕ) (r : Fin 4) : headF m c h r 5 = k0_pay9 (tile (qF m c h) r 5) (kvTile (kcB m c h) r 1) (kvTile (vcB m c h) r 1) := rfl
theorem headF_6 (c : Dev nD) (h : ℕ) (r : Fin 4) : headF m c h r 6 = k0_pay10 (tile (qF m c h) r 6) (kvTile (kcB m c h) r 2) (kvTile (vcB m c h) r 2) := rfl
theorem headF_7 (c : Dev nD) (h : ℕ) (r : Fin 4) : headF m c h r 7 = k0_pay16 (k0_pay11 (tile (qF m c h) r 7) (kvTile (kcB m c h) r 3)) (k0_pay12 (tile (qF m c h) r 7) (kvTile (kcB m c h) r 3)) (kvTile (vcB m c h) r 3) := rfl

variable (𝒱 : Variants) (c : Dev nD) (bd : Option 𝒱.V)
  (a1 : Memref sig .tc .vmem S1024x1024 .f32) (h1 : a1.IsWhole) (a2 : Memref sig .tc .vmem S1024x1024 .f32) (h2 : a2.IsWhole)
  (k0_t1 : Fin k0_t1_loop.trips) (k0_t2 : Fin k0_t2_loop.trips)

theorem part19_wp (v719 : BitVec 32)  (Q : (Σ' (v1254 : BitVec 32) (v1290 : FVec F S256x256 .f32), FVec F S256x256 .f32) → sProp 𝕄) :
    iprop(In m c k0_t1.val (8 * k0_t2.val + 0) ∗ (In m c k0_t1.val (8 * k0_t2.val + 1) -∗ Q ⟨(Scalar.muli (Scf.iv 0#32 1#32 k0_t2) 256#32), k0_pay2 (tile (qF m c k0_t1.val) (tr k0_t2) 1) (kvTile (kcA m c k0_t1.val) (tr k0_t2) 1), k0_pay3 (tile (qF m c k0_t1.val) (tr k0_t2) 1) (kvTile (kcA m c k0_t1.val) (tr k0_t2) 1)⟩))
      ⊢ wp frame (wpE (defs₀ (F := F)) 𝒱 (c : Thread nD τ) bd) Set.univ (k0_part19 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 k0_t1 v719 0#32 1#32 k0_t2) Q := by
  rw [k0_part19_eq_skeleton]
  unfold k0_part19_skel
  iintro ⟨HI, HQ⟩
  iapply (in_q m 𝒱 c bd k0_t1.val _ (tr k0_t2) 0 ((k0_off142_eq k0_t2).trans rfl))
  isplitl [HI]; · iexact HI
  iintro HI
  iapply (in_kA m 𝒱 c bd k0_t1.val _ (tr k0_t2) 0 ((k0_off143_eq k0_t1 k0_t2).trans rfl))
  isplitl [HI]; · iexact HI
  iintro HI
  iapply (in_vA m 𝒱 c bd k0_t1.val _ (tr k0_t2) 0 ((k0_off143_eq k0_t1 k0_t2).trans rfl))
  isplitl [HI]; · iexact HI
  iintro HI
  iapply (in_c m 𝒱 c bd k0_t1.val _)
  isplitl [HI]; · iexact HI
  iintro %wdead HI
  iapply (in_st m 𝒱 c bd k0_t1.val _ (tr k0_t2) 0 ((k0_off142_eq k0_t2).trans rfl) rfl _ (headF_0 m c k0_t1.val (tr k0_t2)).symm)
  isplitl [HI]; · iexact HI
  iintro HI
  iapply (in_q m 𝒱 c bd k0_t1.val _ (tr k0_t2) 1 ((k0_off144_eq k0_t2).trans rfl))
  isplitl [HI]; · iexact HI
  iintro HI
  iapply (in_kA m 𝒱 c bd k0_t1.val _ (tr k0_t2) 1 ((k0_off145_eq k0_t1 k0_t2).trans rfl))
  isplitl [HI]; · iexact HI
  iintro HI
  first | rw [wp_pure] | rw [wp_ret]
  imodintro
  iapply HQ
  iexact HI

theorem part20_wp (v719 : BitVec 32) (v1254 : BitVec 32) (Q : PUnit → sProp 𝕄) :
    iprop(In m c k0_t1.val (8 * k0_t2.val + 1) ∗ (In m c k0_t1.val (8 * k0_t2.val + 3) -∗ Q ⟨⟩))
      ⊢ wp frame (wpE (defs₀ (F := F)) 𝒱 (c : Thread nD τ) bd) Set.univ (k0_part20 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 k0_t1 v719 k0_t2 v1254 (k0_pay2 (tile (qF m c k0_t1.val) (tr k0_t2) 1) (kvTile (kcA m c k0_t1.val) (tr k0_t2) 1)) (k0_pay3 (tile (qF m c k0_t1.val) (tr k0_t2) 1) (kvTile (kcA m c k0_t1.val) (tr k0_t2) 1))) Q := by
  rw [k0_part20_eq_skeleton]
  unfold k0_part20_skel
  iintro ⟨HI, HQ⟩
  iapply (in_vA m 𝒱 c bd k0_t1.val _ (tr k0_t2) 1 ((k0_off145_eq k0_t1 k0_t2).trans rfl))
  isplitl [HI]; · iexact HI
  iintro HI
  iapply (in_c m 𝒱 c bd k0_t1.val _)
  isplitl [HI]; · iexact HI
  iintro %wdead HI
  iapply (in_st m 𝒱 c bd k0_t1.val _ (tr k0_t2) 1 ((k0_off144_eq k0_t2).trans rfl) rfl _ (headF_1 m c k0_t1.val (tr k0_t2)).symm)
  isplitl [HI]; · iexact HI
  iintro HI
  iapply (in_q m 𝒱 c bd k0_t1.val _ (tr k0_t2) 2 ((k0_off146_eq k0_t2).trans rfl))
  isplitl [HI]; · iexact HI
  iintro HI
  iapply (in_kA m 𝒱 c bd k0_t1.val _ (tr k0_t2) 2 ((k0_off147_eq k0_t1 k0_t2).trans rfl))
  isplitl [HI]; · iexact HI
  iintro HI
  iapply (in_vA m 𝒱 c bd k0_t1.val _ (tr k0_t2) 2 ((k0_off147_eq k0_t1 k0_t2).trans rfl))
  isplitl [HI]; · iexact HI
  iintro HI
  iapply (in_c m 𝒱 c bd k0_t1.val _)
  isplitl [HI]; · iexact HI
  iintro %wdead HI
  iapply (in_st m 𝒱 c bd k0_t1.val _ (tr k0_t2) 2 ((k0_off146_eq k0_t2).trans rfl) rfl _ (headF_2 m c k0_t1.val (tr k0_t2)).symm)
  isplitl [HI]; · iexact HI
  iintro HI
  first | rw [wp_pure] | rw [wp_ret]
  imodintro
  iapply HQ
  iexact HI

theorem part21_wp (v719 : BitVec 32) (v1254 : BitVec 32) (Q : FVec F S256x256 .f32 → sProp 𝕄) :
    iprop(In m c k0_t1.val (8 * k0_t2.val + 3) ∗ (In m c k0_t1.val (8 * k0_t2.val + 4) -∗ Q (k0_pay7 (tile (qF m c k0_t1.val) (tr k0_t2) 4) (kvTile (kcB m c k0_t1.val) (tr k0_t2) 0))))
      ⊢ wp frame (wpE (defs₀ (F := F)) 𝒱 (c : Thread nD τ) bd) Set.univ (k0_part21 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 k0_t1 v719 k0_t2 v1254) Q := by
  rw [k0_part21_eq_skeleton]
  unfold k0_part21_skel
  iintro ⟨HI, HQ⟩
  iapply (in_q m 𝒱 c bd k0_t1.val _ (tr k0_t2) 3 ((k0_off148_eq k0_t2).trans rfl))
  isplitl [HI]; · iexact HI
  iintro HI
  iapply (in_kA m 𝒱 c bd k0_t1.val _ (tr k0_t2) 3 ((k0_off149_eq k0_t1 k0_t2).trans rfl))
  isplitl [HI]; · iexact HI
  iintro HI
  iapply (in_vA m 𝒱 c bd k0_t1.val _ (tr k0_t2) 3 ((k0_off149_eq k0_t1 k0_t2).trans rfl))
  isplitl [HI]; · iexact HI
  iintro HI
  iapply (in_c m 𝒱 c bd k0_t1.val _)
  isplitl [HI]; · iexact HI
  iintro %wdead HI
  iapply (in_st m 𝒱 c bd k0_t1.val _ (tr k0_t2) 3 ((k0_off148_eq k0_t2).trans rfl) rfl _ (headF_3 m c k0_t1.val (tr k0_t2)).symm)
  isplitl [HI]; · iexact HI
  iintro HI
  iapply (in_q m 𝒱 c bd k0_t1.val _ (tr k0_t2) 4 ((k0_off150_eq k0_t2).trans rfl))
  isplitl [HI]; · iexact HI
  iintro HI
  iapply (in_kB m 𝒱 c bd k0_t1.val _ (tr k0_t2) 0 ((k0_off143_eq k0_t1 k0_t2).trans rfl))
  isplitl [HI]; · iexact HI
  iintro HI
  first | rw [wp_pure] | rw [wp_ret]
  imodintro
  iapply HQ
  iexact HI

theorem part22_wp (v719 : BitVec 32) (v1254 : BitVec 32) (Q : Vec F S256x128 .f32 → sProp 𝕄) :
    iprop(In m c k0_t1.val (8 * k0_t2.val + 4) ∗ (In m c k0_t1.val (8 * k0_t2.val + 6) -∗ Q (tile (qF m c k0_t1.val) (tr k0_t2) 6)))
      ⊢ wp frame (wpE (defs₀ (F := F)) 𝒱 (c : Thread nD τ) bd) Set.univ (k0_part22 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 k0_t1 v719 k0_t2 v1254 (k0_pay7 (tile (qF m c k0_t1.val) (tr k0_t2) 4) (kvTile (kcB m c k0_t1.val) (tr k0_t2) 0))) Q := by
  rw [k0_part22_eq_skeleton]
  unfold k0_part22_skel
  iintro ⟨HI, HQ⟩
  iapply (in_vB m 𝒱 c bd k0_t1.val _ (tr k0_t2) 0 ((k0_off143_eq k0_t1 k0_t2).trans rfl))
  isplitl [HI]; · iexact HI
  iintro HI
  iapply (in_c m 𝒱 c bd k0_t1.val _)
  isplitl [HI]; · iexact HI
  iintro %wdead HI
  iapply (in_st m 𝒱 c bd k0_t1.val _ (tr k0_t2) 4 ((k0_off150_eq k0_t2).trans rfl) rfl _ (headF_4 m c k0_t1.val (tr k0_t2)).symm)
  isplitl [HI]; · iexact HI
  iintro HI
  iapply (in_q m 𝒱 c bd k0_t1.val _ (tr k0_t2) 5 ((k0_off151_eq k0_t2).trans rfl))
  isplitl [HI]; · iexact HI
  iintro HI
  iapply (in_kB m 𝒱 c bd k0_t1.val _ (tr k0_t2) 1 ((k0_off145_eq k0_t1 k0_t2).trans rfl))
  isplitl [HI]; · iexact HI
  iintro HI
  iapply (in_vB m 𝒱 c bd k0_t1.val _ (tr k0_t2) 1 ((k0_off145_eq k0_t1 k0_t2).trans rfl))
  isplitl [HI]; · iexact HI
  iintro HI
  iapply (in_c m 𝒱 c bd k0_t1.val _)
  isplitl [HI]; · iexact HI
  iintro %wdead HI
  iapply (in_st m 𝒱 c bd k0_t1.val _ (tr k0_t2) 5 ((k0_off151_eq k0_t2).trans rfl) rfl _ (headF_5 m c k0_t1.val (tr k0_t2)).symm)
  isplitl [HI]; · iexact HI
  iintro HI
  iapply (in_q m 𝒱 c bd k0_t1.val _ (tr k0_t2) 6 ((k0_off152_eq k0_t2).trans rfl))
  isplitl [HI]; · iexact HI
  iintro HI
  first | rw [wp_pure] | rw [wp_ret]
  imodintro
  iapply HQ
  iexact HI

theorem part23_wp (v719 : BitVec 32) (v1254 : BitVec 32) (Q : (Σ' (v1457 : FVec F S256x256 .f32), FVec F S256x1 .f32) → sProp 𝕄) :
    iprop(In m c k0_t1.val (8 * k0_t2.val + 6) ∗ (In m c k0_t1.val (8 * k0_t2.val + 7) -∗ Q ⟨k0_pay11 (tile (qF m c k0_t1.val) (tr k0_t2) 7) (kvTile (kcB m c k0_t1.val) (tr k0_t2) 3), k0_pay12 (tile (qF m c k0_t1.val) (tr k0_t2) 7) (kvTile (kcB m c k0_t1.val) (tr k0_t2) 3)⟩))
      ⊢ wp frame (wpE (defs₀ (F := F)) 𝒱 (c : Thread nD τ) bd) Set.univ (k0_part23 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 k0_t1 v719 k0_t2 v1254 (tile (qF m c k0_t1.val) (tr k0_t2) 6)) Q := by
  rw [k0_part23_eq_skeleton]
  unfold k0_part23_skel
  iintro ⟨HI, HQ⟩
  iapply (in_kB m 𝒱 c bd k0_t1.val _ (tr k0_t2) 2 ((k0_off147_eq k0_t1 k0_t2).trans rfl))
  isplitl [HI]; · iexact HI
  iintro HI
  iapply (in_vB m 𝒱 c bd k0_t1.val _ (tr k0_t2) 2 ((k0_off147_eq k0_t1 k0_t2).trans rfl))
  isplitl [HI]; · iexact HI
  iintro HI
  iapply (in_c m 𝒱 c bd k0_t1.val _)
  isplitl [HI]; · iexact HI
  iintro %wdead HI
  iapply (in_st m 𝒱 c bd k0_t1.val _ (tr k0_t2) 6 ((k0_off152_eq k0_t2).trans rfl) rfl _ (headF_6 m c k0_t1.val (tr k0_t2)).symm)
  isplitl [HI]; · iexact HI
  iintro HI
  iapply (in_q m 𝒱 c bd k0_t1.val _ (tr k0_t2) 7 ((k0_off153_eq k0_t2).trans rfl))
  isplitl [HI]; · iexact HI
  iintro HI
  iapply (in_kB m 𝒱 c bd k0_t1.val _ (tr k0_t2) 3 ((k0_off149_eq k0_t1 k0_t2).trans rfl))
  isplitl [HI]; · iexact HI
  iintro HI
  first | rw [wp_pure] | rw [wp_ret]
  imodintro
  iapply HQ
  iexact HI

theorem inner_body (d0 : Dev nD) (arg24 v719 v721 : BitVec 32) (Q : Unit → sProp 𝕄) :
    iprop(In m c k0_t1.val (8 * k0_t2.val) ∗ (In m c k0_t1.val (8 * (k0_t2.val + 1)) -∗ Q ⟨⟩))
      ⊢ wp frame (wpE (defs₀ (F := F)) 𝒱 (c : Thread nD τ) bd) Set.univ (k0_t2_body (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 d0 k0_t1 arg24 v719 v721 k0_t2 ⟨⟩) Q := by
  unfold k0_t2_body
  iintro ⟨HI, HQ⟩
  rw [wp_bind]
  iapply (part19_wp m 𝒱 c bd a1 h1 a2 h2 k0_t1 k0_t2 v719 )
  isplitl [HI]; · iexact HI
  iintro HI
  try dsimp only
  rw [wp_bind]
  iapply (part20_wp m 𝒱 c bd a1 h1 a2 h2 k0_t1 k0_t2 v719 (Scalar.muli (Scf.iv 0#32 1#32 k0_t2) 256#32))
  isplitl [HI]; · iexact HI
  iintro HI
  try dsimp only
  rw [wp_bind]
  iapply (part21_wp m 𝒱 c bd a1 h1 a2 h2 k0_t1 k0_t2 v719 (Scalar.muli (Scf.iv 0#32 1#32 k0_t2) 256#32))
  isplitl [HI]; · iexact HI
  iintro HI
  try dsimp only
  rw [wp_bind]
  iapply (part22_wp m 𝒱 c bd a1 h1 a2 h2 k0_t1 k0_t2 v719 (Scalar.muli (Scf.iv 0#32 1#32 k0_t2) 256#32))
  isplitl [HI]; · iexact HI
  iintro HI
  try dsimp only
  rw [wp_bind]
  iapply (part23_wp m 𝒱 c bd a1 h1 a2 h2 k0_t1 k0_t2 v719 (Scalar.muli (Scf.iv 0#32 1#32 k0_t2) 256#32))
  isplitl [HI]; · iexact HI
  iintro HI
  try dsimp only
  iapply (in_vB m 𝒱 c bd k0_t1.val _ (tr k0_t2) 3 ((k0_off149_eq k0_t1 k0_t2).trans rfl))
  isplitl [HI]; · iexact HI
  iintro HI
  iapply (in_c m 𝒱 c bd k0_t1.val _)
  isplitl [HI]; · iexact HI
  iintro %wdead HI
  iapply (in_st m 𝒱 c bd k0_t1.val _ (tr k0_t2) 7 ((k0_off153_eq k0_t2).trans rfl) rfl _ (headF_7 m c k0_t1.val (tr k0_t2)).symm)
  isplitl [HI]; · iexact HI
  iintro HI
  rw [wp_pure]
  imodintro
  iapply HQ
  iexact HI

/-- The inner loop: every tile of the output. -/
theorem inner_wp (d0 : Dev nD) (arg24 v719 v721 : BitVec 32) {α : Type} (kk : Unit → Prog (TpuEff nD τ sig (Elt F) Λ₀ .tc) α) (Q : α → sProp 𝕄) :
    iprop(In m c k0_t1.val 0 ∗ (In m c k0_t1.val 32 -∗ wp frame (wpE (defs₀ (F := F)) 𝒱 (c : Thread nD τ) bd) Set.univ (kk ⟨⟩) Q))
      ⊢ wp frame (wpE (defs₀ (F := F)) 𝒱 (c : Thread nD τ) bd) Set.univ (Scf.Loop.for k0_t2_loop k0_t2_ok ⟨⟩ (k0_t2_body (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 d0 k0_t1 arg24 v719 v721) >>= kk) Q := by
  iintro ⟨HI, HQ⟩
  iapply (Scf.wp_for_bind frame (wpE (defs₀ (F := F)) 𝒱 (c : Thread nD τ) bd) Set.univ k0_t2_loop.lb k0_t2_loop.ub k0_t2_loop.st k0_t2_ok ()
    (k0_t2_body (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 d0 k0_t1 arg24 v719 v721) (fun t _ => In m c k0_t1.val (8 * t)) (fun t _ => by
      iintro HI
      iapply (inner_body m 𝒱 c bd a1 h1 a2 h2 k0_t1 t d0 arg24 v719 v721)
      isplitl [HI]; · iexact HI
      iintro HI
      iexact HI)) $$ HI
  iintro %acc HI
  iapply HQ
  iexact HI
end

end Cert.KernelIdeal.Ring

end
-- ==== Proof.KernelIdeal.HopQ.lean ====
/-
The queries of a hop.
-/
module

public import proofs.«01_k».proof.Proof.KernelIdeal.HopDefs
public import proofs.«01_k».proof.Proof.KernelIdeal.InnerLoop

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

omit [FloatOps F] in
/-- A load of one slot, from the slot alone. -/
theorem ldQ (𝒱 : Variants) (c : Dev nD) (bd : Option 𝒱.V) (M : Memref sig .tc .vmem S2x1024x512 .f32) (p : Fin 2) (q : PosShare TreeShare) (f : M.view.ty.Contents (Elt F))
    {off : Fin 3 → ℕ} {inb : ∀ a, off a + S1x1024x512.size a ≤ S2x1024x512.size a} {hl} (ho : off = ![p.val, 0, 0]) [FloatOps F]
    {α : Type} (kk : (S1x1024x512.Idx → Elt F .f32) → Prog (TpuEff nD τ sig (Elt F) Λ₀ .tc) α) (Q : α → sProp 𝕄) :
    iprop(slotQ c M p q f ∗ (slotQ c M p q f -∗ wp frame (wpE (defs₀ (F := F)) 𝒱 (c : Thread nD τ) bd) Set.univ (kk (M.view.readAt (Elt F) (Rect.unit (s := S2x1024x512) off S1x1024x512.size inb).toLoadRect f)) Q))
      ⊢ wp frame (wpE (defs₀ (F := F)) 𝒱 (c : Thread nD τ) bd) Set.univ (Prog.lift (.load M (Rect.unit (s := S2x1024x512) off S1x1024x512.size inb).toLoadRect hl) >>= kk) Q := by
  subst ho
  have e : (cwQ M ![p.val, 0, 0] (slotQ_inb p)).view.set = M.view.setOn (Rect.unit (s := S2x1024x512) ![p.val, 0, 0] S1x1024x512.size inb).set := by
    rw [View.set_reshape, View.set_slice]; rfl
  unfold slotQ
  iintro ⟨H, HK⟩
  simp only [Prog.lift, Prog.bind_op, Prog.bind_ret]
  iapply (wp_load 𝒱 (c : Thread nD τ) bd Set.univ (m := M) (S := (cwQ M ![p.val, 0, 0] (slotQ_inb p)).view.set) (q := q) (f := f) (by rw [e])) $$ H
  iintro H
  iapply HK $$ H

omit [FloatOps F] in
theorem rd_cc0_scratch0 (f : S2x1024x512.Idx → Elt F .f32) (hf : ∀ y, f y = f (ix3 (0 : Fin 2) (y 1) (y 2))) (p : Fin 2)
    {off : Fin 3 → ℕ} {inb : ∀ a, off a + S1x1024x512.size a ≤ S2x1024x512.size a} (ho : off = ![p.val, 0, 0]) :
    (Memref.whole cc0_scratch0).view.readAt (Elt F) (Rect.unit (s := S2x1024x512) off S1x1024x512.size inb).toLoadRect f = one3 f := by
  subst ho
  funext y
  refine (hf _).trans (congrArg f (funext fun a => Fin.ext ?_))
  match a with
  | ⟨0, _⟩ => rfl
  | ⟨1, _⟩ => show 0 + 1 * (y 1).val = (y 1).val; omega
  | ⟨2, _⟩ => show 0 + 1 * (y 2).val = (y 2).val; omega

omit [FloatOps F] in
theorem rd_cc0_scratch2 (f : S2x1024x512.Idx → Elt F .f32) (hf : ∀ y, f y = f (ix3 (0 : Fin 2) (y 1) (y 2))) (p : Fin 2)
    {off : Fin 3 → ℕ} {inb : ∀ a, off a + S1x1024x512.size a ≤ S2x1024x512.size a} (ho : off = ![p.val, 0, 0]) :
    (Memref.whole cc0_scratch2).view.readAt (Elt F) (Rect.unit (s := S2x1024x512) off S1x1024x512.size inb).toLoadRect f = one3 f := by
  subst ho
  funext y
  refine (hf _).trans (congrArg f (funext fun a => Fin.ext ?_))
  match a with
  | ⟨0, _⟩ => rfl
  | ⟨1, _⟩ => show 0 + 1 * (y 1).val = (y 1).val; omega
  | ⟨2, _⟩ => show 0 + 1 * (y 2).val = (y 2).val; omega

omit [FloatOps F] in
/-- A load of one slot, from the slot alone. -/
theorem ldO (𝒱 : Variants) (c : Dev nD) (bd : Option 𝒱.V) (M : Memref sig .tc .vmem S2x512x1024 .f32) (p : Fin 2) (q : PosShare TreeShare) (f : M.view.ty.Contents (Elt F))
    {off : Fin 3 → ℕ} {inb : ∀ a, off a + S1x512x1024.size a ≤ S2x512x1024.size a} {hl} (ho : off = ![p.val, 0, 0]) [FloatOps F]
    {α : Type} (kk : (S1x512x1024.Idx → Elt F .f32) → Prog (TpuEff nD τ sig (Elt F) Λ₀ .tc) α) (Q : α → sProp 𝕄) :
    iprop(slotO c M p q f ∗ (slotO c M p q f -∗ wp frame (wpE (defs₀ (F := F)) 𝒱 (c : Thread nD τ) bd) Set.univ (kk (M.view.readAt (Elt F) (Rect.unit (s := S2x512x1024) off S1x512x1024.size inb).toLoadRect f)) Q))
      ⊢ wp frame (wpE (defs₀ (F := F)) 𝒱 (c : Thread nD τ) bd) Set.univ (Prog.lift (.load M (Rect.unit (s := S2x512x1024) off S1x512x1024.size inb).toLoadRect hl) >>= kk) Q := by
  subst ho
  have e : (cwO M ![p.val, 0, 0] (slotO_inb p)).view.set = M.view.setOn (Rect.unit (s := S2x512x1024) ![p.val, 0, 0] S1x512x1024.size inb).set := by
    rw [View.set_reshape, View.set_slice]; rfl
  unfold slotO
  iintro ⟨H, HK⟩
  simp only [Prog.lift, Prog.bind_op, Prog.bind_ret]
  iapply (wp_load 𝒱 (c : Thread nD τ) bd Set.univ (m := M) (S := (cwO M ![p.val, 0, 0] (slotO_inb p)).view.set) (q := q) (f := f) (by rw [e])) $$ H
  iintro H
  iapply HK $$ H

omit [FloatOps F] in
theorem rd_cc0_scratch1 (f : S2x512x1024.Idx → Elt F .f32) (hf : ∀ y, f y = f (ix3 (0 : Fin 2) (y 1) (y 2))) (p : Fin 2)
    {off : Fin 3 → ℕ} {inb : ∀ a, off a + S1x512x1024.size a ≤ S2x512x1024.size a} (ho : off = ![p.val, 0, 0]) :
    (Memref.whole cc0_scratch1).view.readAt (Elt F) (Rect.unit (s := S2x512x1024) off S1x512x1024.size inb).toLoadRect f = one3 f := by
  subst ho
  funext y
  refine (hf _).trans (congrArg f (funext fun a => Fin.ext ?_))
  match a with
  | ⟨0, _⟩ => rfl
  | ⟨1, _⟩ => show 0 + 1 * (y 1).val = (y 1).val; omega
  | ⟨2, _⟩ => show 0 + 1 * (y 2).val = (y 2).val; omega

omit [FloatOps F] in
theorem rd_cc0_scratch3 (f : S2x512x1024.Idx → Elt F .f32) (hf : ∀ y, f y = f (ix3 (0 : Fin 2) (y 1) (y 2))) (p : Fin 2)
    {off : Fin 3 → ℕ} {inb : ∀ a, off a + S1x512x1024.size a ≤ S2x512x1024.size a} (ho : off = ![p.val, 0, 0]) :
    (Memref.whole cc0_scratch3).view.readAt (Elt F) (Rect.unit (s := S2x512x1024) off S1x512x1024.size inb).toLoadRect f = one3 f := by
  subst ho
  funext y
  refine (hf _).trans (congrArg f (funext fun a => Fin.ext ?_))
  match a with
  | ⟨0, _⟩ => rfl
  | ⟨1, _⟩ => show 0 + 1 * (y 1).val = (y 1).val; omega
  | ⟨2, _⟩ => show 0 + 1 * (y 2).val = (y 2).val; omega

omit [FloatOps F] in
/-- A load from a square buffer held whole. -/
theorem ldW [FloatOps F] (𝒱 : Variants) (c : Dev nD) (bd : Option 𝒱.V) (M : Memref sig .tc .vmem S1024x1024 .f32) (f : M.view.ty.Contents (Elt F)) {r : LoadRect S1024x1024} {hl}
    {α : Type} (kk : (r.shape.Idx → Elt F .f32) → Prog (TpuEff nD τ sig (Elt F) Λ₀ .tc) α) (Q : α → sProp 𝕄) :
    iprop((M.view.loc (c : Thread nD τ) ↦[Finset.univ]{fullShare} f) ∗ ((M.view.loc (c : Thread nD τ) ↦[Finset.univ]{fullShare} f) -∗ wp frame (wpE (defs₀ (F := F)) 𝒱 (c : Thread nD τ) bd) Set.univ (kk (M.view.readAt (Elt F) r f)) Q))
      ⊢ wp frame (wpE (defs₀ (F := F)) 𝒱 (c : Thread nD τ) bd) Set.univ (Prog.lift (.load M r hl) >>= kk) Q := by
  iintro ⟨H, HK⟩
  simp only [Prog.lift, Prog.bind_op, Prog.bind_ret]
  iapply (wp_load 𝒱 (c : Thread nD τ) bd Set.univ (m := M) (S := Finset.univ) (q := fullShare) (f := f) (Finset.subset_univ _)) $$ H
  iintro H
  iapply HK $$ H
omit [FloatOps F] in
/-- A store to it. -/
theorem stW [FloatOps F] (𝒱 : Variants) (c : Dev nD) (bd : Option 𝒱.V) (M : Memref sig .tc .vmem S1024x1024 .f32) (f : M.view.ty.Contents (Elt F)) {r : Rect S1024x1024} {w : (r.shape.Idx → Elt F .f32)} {hx hm}
    {α : Type} (kk : PUnit → Prog (TpuEff nD τ sig (Elt F) Λ₀ .tc) α) (Q : α → sProp 𝕄) :
    iprop((M.view.loc (c : Thread nD τ) ↦[Finset.univ]{fullShare} f) ∗ ((M.view.loc (c : Thread nD τ) ↦[Finset.univ]{fullShare} ((M.access r).write (Elt F) f w Finset.univ)) -∗ wp frame (wpE (defs₀ (F := F)) 𝒱 (c : Thread nD τ) bd) Set.univ (kk ⟨⟩) Q))
      ⊢ wp frame (wpE (defs₀ (F := F)) 𝒱 (c : Thread nD τ) bd) Set.univ (Prog.lift (.store M r w Finset.univ hx hm) >>= kk) Q := by
  iintro ⟨H, HK⟩
  simp only [Prog.lift, Prog.bind_op, Prog.bind_ret]
  iapply (wp_store 𝒱 (c : Thread nD τ) bd Set.univ (m := M) (r := r) (Mk := Finset.univ) (S := Finset.univ) (f := f) (Finset.subset_univ _)) $$ H
  iintro H
  iapply HK $$ H

omit [FloatOps F] in
theorem rdW8 (f : S1024x1024.Idx → Elt F .f32) : (Memref.whole cc0_scratch8).view.readAt (Elt F) (Rect.unit (s := S1024x1024) ![0, 0] S1024x1024.size inb_S1024x1024_S1024x1024_0_0).toLoadRect f = f := by
  funext y
  refine congrArg f (funext fun a => Fin.ext ?_)
  match a with
  | ⟨0, _⟩ => show 0 + 1 * (y 0).val = (y 0).val; omega
  | ⟨1, _⟩ => show 0 + 1 * (y 1).val = (y 1).val; omega

omit [FloatOps F] in
theorem rdW11 (f : S1024x1024.Idx → Elt F .f32) : (Memref.whole cc0_scratch11).view.readAt (Elt F) (Rect.unit (s := S1024x1024) ![0, 0] S1024x1024.size inb_S1024x1024_S1024x1024_0_0).toLoadRect f = f := by
  funext y
  refine congrArg f (funext fun a => Fin.ext ?_)
  match a with
  | ⟨0, _⟩ => show 0 + 1 * (y 0).val = (y 0).val; omega
  | ⟨1, _⟩ => show 0 + 1 * (y 1).val = (y 1).val; omega

section
variable (m : (ℓ : Loc nD τ sig) → Buf (Elt F) ℓ)

/-- The left half of the queries is in place. -/
def HalfL (c : Dev nD) (h : ℕ) (f : S1024x1024.Idx → Elt F .f32) : Prop := ∀ y : S1024x1024.Idx, (y 1).val < 512 → f y = qF m c h y

theorem st_left (c : Dev nD) (h : ℕ) (f) :
    HalfL m c h (((Memref.whole cc0_scratch9).access (Rect.unit (s := S1024x1024) ![0, 0] S1024x512.size inb_S1024x1024_S1024x512_0_0)).write (Elt F) f (qA m c h) Finset.univ) := by
  intro y hy
  have h0 : (y 0).val < 1024 := (y 0).isLt
  let x : S1024x512.Idx := ix2 (y 0) (⟨(y 1).val, hy⟩ : Fin 512)
  have hx : ((Memref.whole cc0_scratch9).access (Rect.unit (s := S1024x1024) ![0, 0] S1024x512.size inb_S1024x1024_S1024x512_0_0)).emb x = y := by
    funext a
    apply Fin.ext
    match a with
    | ⟨0, _⟩ => show 0 + 1 * (y 0).val = (y 0).val; omega
    | ⟨1, _⟩ => show 0 + 1 * (y 1).val = (y 1).val; omega
  have hwr := View.write_emb_of_mem (v := (Memref.whole cc0_scratch9).access (Rect.unit (s := S1024x1024) ![0, 0] S1024x512.size inb_S1024x1024_S1024x512_0_0)) (Val := Elt F) f (qA m c h) (M := Finset.univ) (x := x) (Finset.mem_univ _)
  rw [hx] at hwr
  refine Eq.trans hwr ?_
  unfold qF
  rw [dif_pos hy]; rfl

theorem st_right (c : Dev nD) (h : ℕ) (f) (hf : HalfL m c h f) :
    ((Memref.whole cc0_scratch9).access (Rect.unit (s := S1024x1024) ![0, 512] S1024x512.size inb_S1024x1024_S1024x512_0_512)).write (Elt F) f (qB m c h) Finset.univ = qF m c h := by
  funext y
  have h0 : (y 0).val < 1024 := (y 0).isLt
  have h1 : (y 1).val < 1024 := (y 1).isLt
  by_cases hy : (y 1).val < 512
  · rw [← hf y hy]
    refine View.write_of_not_mem _ _ Finset.univ fun hmem => ?_
    obtain ⟨x, -, hx⟩ := Finset.mem_map.mp hmem
    have e1 : (y 1).val = 512 + 1 * (x 1).val := by rw [← hx]; rfl
    omega
  · let x : S1024x512.Idx := ix2 (y 0) (⟨(y 1).val - 512, by omega⟩ : Fin 512)
    have hx : ((Memref.whole cc0_scratch9).access (Rect.unit (s := S1024x1024) ![0, 512] S1024x512.size inb_S1024x1024_S1024x512_0_512)).emb x = y := by
      funext a
      apply Fin.ext
      match a with
      | ⟨0, _⟩ => show 0 + 1 * (y 0).val = (y 0).val; omega
      | ⟨1, _⟩ => show 512 + 1 * ((y 1).val - 512) = (y 1).val; omega
    have hwr := View.write_emb_of_mem (v := (Memref.whole cc0_scratch9).access (Rect.unit (s := S1024x1024) ![0, 512] S1024x512.size inb_S1024x1024_S1024x512_0_512)) (Val := Elt F) f (qB m c h) (M := Finset.univ) (x := x) (Finset.mem_univ _)
    rw [hx] at hwr
    refine Eq.trans hwr ?_
    unfold qF
    rw [dif_neg hy]; rfl

variable (𝒱 : Variants) (c : Dev nD) (bd : Option 𝒱.V)
  (k0_t1 : Fin k0_t1_loop.trips)

/-- What the products of the queries take and leave. -/
def QPre (h : ℕ) : sProp 𝕄 := iprop(Comm m c h (qh h) ∗ Wh c cc0_scratch8 (xb m c))

theorem cQ_slot (i : Dev nD) (h : ℕ) (y) : cQA m i h y = cQA m i h (ix3 (0 : Fin 2) (y 1) (y 2)) ∧ cQB m i h y = cQB m i h (ix3 (0 : Fin 2) (y 1) (y 2)) := ⟨rfl, rfl⟩

set_option maxHeartbeats 1000000 in
theorem qtail_wp (v1 v2 v3 : BitVec 32) (Q : (Σ' (arg24 : BitVec 32) (v719 : BitVec 32) (v721 : BitVec 32), FVec F S1024x512 .f32) → sProp 𝕄) :
    iprop(QPre m c k0_t1.val ∗ (∃ f, Wh c cc0_scratch9 f) ∗ (QPre m c k0_t1.val -∗ (∃ f, ⌜HalfL m c k0_t1.val f⌝ ∗ Wh c cc0_scratch9 f) -∗ Q ⟨v1, v2, v3, k0_pay14 (xb m c) (one3 (cQB m c k0_t1.val))⟩))
      ⊢ wp frame (wpE (defs₀ (F := F)) 𝒱 (c : Thread nD τ) bd) Set.univ (Prog.lift (.load (Memref.whole cc0_scratch8) (Rect.unit (s := S1024x1024) ![0, 0] S1024x1024.size inb_S1024x1024_S1024x1024_0_0).toLoadRect (View.loadsAt_vmem h_S1024x1024)) >>= fun (v730 : Vec F S1024x1024 .f32) =>
        Prog.lift (.load (Memref.whole cc0_scratch0) (Rect.unit (s := S2x1024x512) (k0_off89 k0_t1) S1x1024x512.size (k0_off89_inb k0_t1)).toLoadRect (View.loadsAt_vmem h_S1x1024x512)) >>= fun (v732 : Vec F S1x1024x512 .f32) =>
        Prog.lift (.load (Memref.whole cc0_scratch9) (Rect.unit (s := S1024x1024) ![0, 0] S1024x512.size inb_S1024x1024_S1024x512_0_0).toLoadRect (View.loadsAt_vmem h_S1024x512)) >>= fun (_ : Vec F S1024x512 .f32) =>
        Prog.lift (.store (Memref.whole cc0_scratch9) (Rect.unit (s := S1024x1024) ![0, 0] S1024x512.size inb_S1024x1024_S1024x512_0_0) (k0_pay13 v730 v732) Finset.univ (View.stores_vmem_bits_univ h_S1024x512 rfl) (.inl rfl)) >>= fun _ =>
        Prog.lift (.load (Memref.whole cc0_scratch8) (Rect.unit (s := S1024x1024) ![0, 0] S1024x1024.size inb_S1024x1024_S1024x1024_0_0).toLoadRect (View.loadsAt_vmem h_S1024x1024)) >>= fun (v738 : Vec F S1024x1024 .f32) =>
        Prog.lift (.load (Memref.whole cc0_scratch2) (Rect.unit (s := S2x1024x512) (k0_off89 k0_t1) S1x1024x512.size (k0_off89_inb k0_t1)).toLoadRect (View.loadsAt_vmem h_S1x1024x512)) >>= fun (v740 : Vec F S1x1024x512 .f32) =>
        Prog.lift (.load (Memref.whole cc0_scratch9) (Rect.unit (s := S1024x1024) ![0, 512] S1024x512.size inb_S1024x1024_S1024x512_0_512).toLoadRect (View.loadsAt_vmem h_S1024x512)) >>= fun (_ : Vec F S1024x512 .f32) =>
        pure ⟨v1, v2, v3, k0_pay14 v738 v740⟩) Q := by
  unfold QPre Comm
  iintro ⟨⟨⟨CA, OA, CB, OB⟩, HX⟩, ⟨%f, HQ⟩, HK⟩
  iapply (ldW 𝒱 c bd (Memref.whole cc0_scratch8) (xb m c))
  isplitl [HX]; · iexact HX
  iintro HX
  iapply (ldQ 𝒱 c bd mQA (sl (k0_t1.val + 1)) (qh k0_t1.val) (cQA m c k0_t1.val) ((k0_off89_eq k0_t1).trans rfl))
  isplitl [CA]; · iexact CA
  iintro CA
  iapply (ldW 𝒱 c bd (Memref.whole cc0_scratch9) (f))
  isplitl [HQ]; · iexact HQ
  iintro HQ
  iapply (stW 𝒱 c bd (Memref.whole cc0_scratch9) f)
  isplitl [HQ]; · iexact HQ
  iintro HQ
  iapply (ldW 𝒱 c bd (Memref.whole cc0_scratch8) (xb m c))
  isplitl [HX]; · iexact HX
  iintro HX
  iapply (ldQ 𝒱 c bd mQB (sl (k0_t1.val + 1)) (qh k0_t1.val) (cQB m c k0_t1.val) ((k0_off89_eq k0_t1).trans rfl))
  isplitl [CB]; · iexact CB
  iintro CB
  iapply (ldW 𝒱 c bd (Memref.whole cc0_scratch9) (_))
  isplitl [HQ]; · iexact HQ
  iintro HQ
  rw [rd_cc0_scratch0 (cQA m c k0_t1.val) (fun _ => rfl) (sl (k0_t1.val + 1)) ((k0_off89_eq k0_t1).trans rfl),
    rd_cc0_scratch2 (cQB m c k0_t1.val) (fun _ => rfl) (sl (k0_t1.val + 1)) ((k0_off89_eq k0_t1).trans rfl),
    rdW8 (xb m c)]
  rw [wp_pure]
  imodintro
  iapply HK $$ [CA OA CB OB HX]
  · isplitr [HX]
    · isplitl [CA]; · iexact CA
      isplitl [OA]; · iexact OA
      isplitl [CB]; · iexact CB
      iexact OB
    iexact HX
  iexists (((Memref.whole cc0_scratch9).access (Rect.unit (s := S1024x1024) ![0, 0] S1024x512.size inb_S1024x1024_S1024x512_0_0)).write (Elt F) f (k0_pay13 (xb m c) (one3 (cQA m c k0_t1.val))) Finset.univ)
  isplitr
  · ipureintro; exact st_left m c k0_t1.val f
  iexact HQ
end

end Cert.KernelIdeal.Ring

end
-- ==== Proof.KernelIdeal.KvParts2.lean ====
/-
The sixty-four copies of a hop, as the body waits for them.
-/
module

public import proofs.«01_k».proof.Proof.KernelIdeal.KvState

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

set_option maxHeartbeats 1000000 in
theorem part29_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (v748 : BitVec 32) (v750 : BitVec 32) (Q : PUnit → sProp 𝕄) :
    iprop(KD m c k0_t1.val 0 ∗ Ow c O ∗ (KD m c k0_t1.val 2 -∗ Ow c O -∗ Q ⟨⟩)) ⊢ wp frame (wpE (defs₀ (F := F)) 𝒱 (c : Thread nD τ) bd) Set.univ
      (k0_part29 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 v748 v750) Q := by
  rw [k0_part29_eq_skeleton]
  unfold k0_part29_skel
  dsimp only
  iintro ⟨HK, HO, HQ⟩
  iapply (await0 (F := F) m 𝒱 c bd k0_t1.val 0 1 0 (by decide) rfl rfl O hO (k0_off90_eq k0_t1))
  isplitl [HK]; · iexact HK
  isplitl [HO]; · iexact HO
  iintro HK HO
  iapply (await1 (F := F) m 𝒱 c bd k0_t1.val 1 2 0 (by decide) rfl rfl O hO (k0_off93_eq k0_t1))
  isplitl [HK]; · iexact HK
  isplitl [HO]; · iexact HO
  iintro HK HO
  rw [wp_pure]
  imodintro
  iapply HQ $$ HK HO

set_option maxHeartbeats 1000000 in
theorem part30_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 2 ∗ Ow c O ∗ (KD m c k0_t1.val 7 -∗ Ow c O -∗ Q ⟨⟩)) ⊢ wp frame (wpE (defs₀ (F := F)) 𝒱 (c : Thread nD τ) bd) Set.univ
      (k0_part30 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part30_eq_skeleton]
  unfold k0_part30_skel
  dsimp only
  iintro ⟨HK, HO, HQ⟩
  iapply (await2 (F := F) m 𝒱 c bd k0_t1.val 2 3 0 (by decide) rfl rfl O hO (k0_off94_eq k0_t1))
  isplitl [HK]; · iexact HK
  isplitl [HO]; · iexact HO
  iintro HK HO
  iapply (await3 (F := F) m 𝒱 c bd k0_t1.val 3 4 0 (by decide) rfl rfl O hO (k0_off96_eq k0_t1))
  isplitl [HK]; · iexact HK
  isplitl [HO]; · iexact HO
  iintro HK HO
  iapply (await0 (F := F) m 𝒱 c bd k0_t1.val 4 5 1 (by decide) rfl rfl O hO (k0_off90_eq k0_t1))
  isplitl [HK]; · iexact HK
  isplitl [HO]; · iexact HO
  iintro HK HO
  iapply (await1 (F := F) m 𝒱 c bd k0_t1.val 5 6 1 (by decide) rfl rfl O hO (k0_off93_eq k0_t1))
  isplitl [HK]; · iexact HK
  isplitl [HO]; · iexact HO
  iintro HK HO
  iapply (await2 (F := F) m 𝒱 c bd k0_t1.val 6 7 1 (by decide) rfl rfl O hO (k0_off94_eq k0_t1))
  isplitl [HK]; · iexact HK
  isplitl [HO]; · iexact HO
  iintro HK HO
  rw [wp_pure]
  imodintro
  iapply HQ $$ HK HO

set_option maxHeartbeats 1000000 in
theorem part31_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 7 ∗ Ow c O ∗ (KD m c k0_t1.val 12 -∗ Ow c O -∗ Q ⟨⟩)) ⊢ wp frame (wpE (defs₀ (F := F)) 𝒱 (c : Thread nD τ) bd) Set.univ
      (k0_part31 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part31_eq_skeleton]
  unfold k0_part31_skel
  dsimp only
  iintro ⟨HK, HO, HQ⟩
  iapply (await3 (F := F) m 𝒱 c bd k0_t1.val 7 8 1 (by decide) rfl rfl O hO (k0_off96_eq k0_t1))
  isplitl [HK]; · iexact HK
  isplitl [HO]; · iexact HO
  iintro HK HO
  iapply (await0 (F := F) m 𝒱 c bd k0_t1.val 8 9 2 (by decide) rfl rfl O hO (k0_off90_eq k0_t1))
  isplitl [HK]; · iexact HK
  isplitl [HO]; · iexact HO
  iintro HK HO
  iapply (await1 (F := F) m 𝒱 c bd k0_t1.val 9 10 2 (by decide) rfl rfl O hO (k0_off93_eq k0_t1))
  isplitl [HK]; · iexact HK
  isplitl [HO]; · iexact HO
  iintro HK HO
  iapply (await2 (F := F) m 𝒱 c bd k0_t1.val 10 11 2 (by decide) rfl rfl O hO (k0_off94_eq k0_t1))
  isplitl [HK]; · iexact HK
  isplitl [HO]; · iexact HO
  iintro HK HO
  iapply (await3 (F := F) m 𝒱 c bd k0_t1.val 11 12 2 (by decide) rfl rfl O hO (k0_off96_eq k0_t1))
  isplitl [HK]; · iexact HK
  isplitl [HO]; · iexact HO
  iintro HK HO
  rw [wp_pure]
  imodintro
  iapply HQ $$ HK HO

set_option maxHeartbeats 1000000 in
theorem part32_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 12 ∗ Ow c O ∗ (KD m c k0_t1.val 16 -∗ Ow c O -∗ Q ⟨⟩)) ⊢ wp frame (wpE (defs₀ (F := F)) 𝒱 (c : Thread nD τ) bd) Set.univ
      (k0_part32 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part32_eq_skeleton]
  unfold k0_part32_skel
  dsimp only
  iintro ⟨HK, HO, HQ⟩
  iapply (await0 (F := F) m 𝒱 c bd k0_t1.val 12 13 3 (by decide) rfl rfl O hO (k0_off90_eq k0_t1))
  isplitl [HK]; · iexact HK
  isplitl [HO]; · iexact HO
  iintro HK HO
  iapply (await1 (F := F) m 𝒱 c bd k0_t1.val 13 14 3 (by decide) rfl rfl O hO (k0_off93_eq k0_t1))
  isplitl [HK]; · iexact HK
  isplitl [HO]; · iexact HO
  iintro HK HO
  iapply (await2 (F := F) m 𝒱 c bd k0_t1.val 14 15 3 (by decide) rfl rfl O hO (k0_off94_eq k0_t1))
  isplitl [HK]; · iexact HK
  isplitl [HO]; · iexact HO
  iintro HK HO
  iapply (await3 (F := F) m 𝒱 c bd k0_t1.val 15 16 3 (by decide) rfl rfl O hO (k0_off96_eq k0_t1))
  isplitl [HK]; · iexact HK
  isplitl [HO]; · iexact HO
  iintro HK HO
  rw [wp_pure]
  imodintro
  iapply HQ $$ HK HO

set_option maxHeartbeats 1000000 in
theorem part33_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 16 ∗ Ow c O ∗ (KD m c k0_t1.val 21 -∗ Ow c O -∗ Q ⟨⟩)) ⊢ wp frame (wpE (defs₀ (F := F)) 𝒱 (c : Thread nD τ) bd) Set.univ
      (k0_part33 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part33_eq_skeleton]
  unfold k0_part33_skel
  dsimp only
  iintro ⟨HK, HO, HQ⟩
  iapply (await0 (F := F) m 𝒱 c bd k0_t1.val 16 17 4 (by decide) rfl rfl O hO (k0_off90_eq k0_t1))
  isplitl [HK]; · iexact HK
  isplitl [HO]; · iexact HO
  iintro HK HO
  iapply (await1 (F := F) m 𝒱 c bd k0_t1.val 17 18 4 (by decide) rfl rfl O hO (k0_off93_eq k0_t1))
  isplitl [HK]; · iexact HK
  isplitl [HO]; · iexact HO
  iintro HK HO
  iapply (await2 (F := F) m 𝒱 c bd k0_t1.val 18 19 4 (by decide) rfl rfl O hO (k0_off94_eq k0_t1))
  isplitl [HK]; · iexact HK
  isplitl [HO]; · iexact HO
  iintro HK HO
  iapply (await3 (F := F) m 𝒱 c bd k0_t1.val 19 20 4 (by decide) rfl rfl O hO (k0_off96_eq k0_t1))
  isplitl [HK]; · iexact HK
  isplitl [HO]; · iexact HO
  iintro HK HO
  iapply (await0 (F := F) m 𝒱 c bd k0_t1.val 20 21 5 (by decide) rfl rfl O hO (k0_off90_eq k0_t1))
  isplitl [HK]; · iexact HK
  isplitl [HO]; · iexact HO
  iintro HK HO
  rw [wp_pure]
  imodintro
  iapply HQ $$ HK HO

set_option maxHeartbeats 1000000 in
theorem part34_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 21 ∗ Ow c O ∗ (KD m c k0_t1.val 26 -∗ Ow c O -∗ Q ⟨⟩)) ⊢ wp frame (wpE (defs₀ (F := F)) 𝒱 (c : Thread nD τ) bd) Set.univ
      (k0_part34 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part34_eq_skeleton]
  unfold k0_part34_skel
  dsimp only
  iintro ⟨HK, HO, HQ⟩
  iapply (await1 (F := F) m 𝒱 c bd k0_t1.val 21 22 5 (by decide) rfl rfl O hO (k0_off93_eq k0_t1))
  isplitl [HK]; · iexact HK
  isplitl [HO]; · iexact HO
  iintro HK HO
  iapply (await2 (F := F) m 𝒱 c bd k0_t1.val 22 23 5 (by decide) rfl rfl O hO (k0_off94_eq k0_t1))
  isplitl [HK]; · iexact HK
  isplitl [HO]; · iexact HO
  iintro HK HO
  iapply (await3 (F := F) m 𝒱 c bd k0_t1.val 23 24 5 (by decide) rfl rfl O hO (k0_off96_eq k0_t1))
  isplitl [HK]; · iexact HK
  isplitl [HO]; · iexact HO
  iintro HK HO
  iapply (await0 (F := F) m 𝒱 c bd k0_t1.val 24 25 6 (by decide) rfl rfl O hO (k0_off90_eq k0_t1))
  isplitl [HK]; · iexact HK
  isplitl [HO]; · iexact HO
  iintro HK HO
  iapply (await1 (F := F) m 𝒱 c bd k0_t1.val 25 26 6 (by decide) rfl rfl O hO (k0_off93_eq k0_t1))
  isplitl [HK]; · iexact HK
  isplitl [HO]; · iexact HO
  iintro HK HO
  rw [wp_pure]
  imodintro
  iapply HQ $$ HK HO

set_option maxHeartbeats 1000000 in
theorem part35_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 26 ∗ Ow c O ∗ (KD m c k0_t1.val 30 -∗ Ow c O -∗ Q ⟨⟩)) ⊢ wp frame (wpE (defs₀ (F := F)) 𝒱 (c : Thread nD τ) bd) Set.univ
      (k0_part35 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part35_eq_skeleton]
  unfold k0_part35_skel
  dsimp only
  iintro ⟨HK, HO, HQ⟩
  iapply (await2 (F := F) m 𝒱 c bd k0_t1.val 26 27 6 (by decide) rfl rfl O hO (k0_off94_eq k0_t1))
  isplitl [HK]; · iexact HK
  isplitl [HO]; · iexact HO
  iintro HK HO
  iapply (await3 (F := F) m 𝒱 c bd k0_t1.val 27 28 6 (by decide) rfl rfl O hO (k0_off96_eq k0_t1))
  isplitl [HK]; · iexact HK
  isplitl [HO]; · iexact HO
  iintro HK HO
  iapply (await0 (F := F) m 𝒱 c bd k0_t1.val 28 29 7 (by decide) rfl rfl O hO (k0_off90_eq k0_t1))
  isplitl [HK]; · iexact HK
  isplitl [HO]; · iexact HO
  iintro HK HO
  iapply (await1 (F := F) m 𝒱 c bd k0_t1.val 29 30 7 (by decide) rfl rfl O hO (k0_off93_eq k0_t1))
  isplitl [HK]; · iexact HK
  isplitl [HO]; · iexact HO
  iintro HK HO
  rw [wp_pure]
  imodintro
  iapply HQ $$ HK HO

set_option maxHeartbeats 1000000 in
theorem part36_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 30 ∗ Ow c O ∗ (KD m c k0_t1.val 35 -∗ Ow c O -∗ Q ⟨⟩)) ⊢ wp frame (wpE (defs₀ (F := F)) 𝒱 (c : Thread nD τ) bd) Set.univ
      (k0_part36 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part36_eq_skeleton]
  unfold k0_part36_skel
  dsimp only
  iintro ⟨HK, HO, HQ⟩
  iapply (await2 (F := F) m 𝒱 c bd k0_t1.val 30 31 7 (by decide) rfl rfl O hO (k0_off94_eq k0_t1))
  isplitl [HK]; · iexact HK
  isplitl [HO]; · iexact HO
  iintro HK HO
  iapply (await3 (F := F) m 𝒱 c bd k0_t1.val 31 32 7 (by decide) rfl rfl O hO (k0_off96_eq k0_t1))
  isplitl [HK]; · iexact HK
  isplitl [HO]; · iexact HO
  iintro HK HO
  iapply (await0 (F := F) m 𝒱 c bd k0_t1.val 32 33 8 (by decide) rfl rfl O hO (k0_off90_eq k0_t1))
  isplitl [HK]; · iexact HK
  isplitl [HO]; · iexact HO
  iintro HK HO
  iapply (await1 (F := F) m 𝒱 c bd k0_t1.val 33 34 8 (by decide) rfl rfl O hO (k0_off93_eq k0_t1))
  isplitl [HK]; · iexact HK
  isplitl [HO]; · iexact HO
  iintro HK HO
  iapply (await2 (F := F) m 𝒱 c bd k0_t1.val 34 35 8 (by decide) rfl rfl O hO (k0_off94_eq k0_t1))
  isplitl [HK]; · iexact HK
  isplitl [HO]; · iexact HO
  iintro HK HO
  rw [wp_pure]
  imodintro
  iapply HQ $$ HK HO

set_option maxHeartbeats 1000000 in
theorem part37_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 35 ∗ Ow c O ∗ (KD m c k0_t1.val 39 -∗ Ow c O -∗ Q ⟨⟩)) ⊢ wp frame (wpE (defs₀ (F := F)) 𝒱 (c : Thread nD τ) bd) Set.univ
      (k0_part37 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part37_eq_skeleton]
  unfold k0_part37_skel
  dsimp only
  iintro ⟨HK, HO, HQ⟩
  iapply (await3 (F := F) m 𝒱 c bd k0_t1.val 35 36 8 (by decide) rfl rfl O hO (k0_off96_eq k0_t1))
  isplitl [HK]; · iexact HK
  isplitl [HO]; · iexact HO
  iintro HK HO
  iapply (await0 (F := F) m 𝒱 c bd k0_t1.val 36 37 9 (by decide) rfl rfl O hO (k0_off90_eq k0_t1))
  isplitl [HK]; · iexact HK
  isplitl [HO]; · iexact HO
  iintro HK HO
  iapply (await1 (F := F) m 𝒱 c bd k0_t1.val 37 38 9 (by decide) rfl rfl O hO (k0_off93_eq k0_t1))
  isplitl [HK]; · iexact HK
  isplitl [HO]; · iexact HO
  iintro HK HO
  iapply (await2 (F := F) m 𝒱 c bd k0_t1.val 38 39 9 (by decide) rfl rfl O hO (k0_off94_eq k0_t1))
  isplitl [HK]; · iexact HK
  isplitl [HO]; · iexact HO
  iintro HK HO
  rw [wp_pure]
  imodintro
  iapply HQ $$ HK HO

set_option maxHeartbeats 1000000 in
theorem part38_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 39 ∗ Ow c O ∗ (KD m c k0_t1.val 44 -∗ Ow c O -∗ Q ⟨⟩)) ⊢ wp frame (wpE (defs₀ (F := F)) 𝒱 (c : Thread nD τ) bd) Set.univ
      (k0_part38 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part38_eq_skeleton]
  unfold k0_part38_skel
  dsimp only
  iintro ⟨HK, HO, HQ⟩
  iapply (await3 (F := F) m 𝒱 c bd k0_t1.val 39 40 9 (by decide) rfl rfl O hO (k0_off96_eq k0_t1))
  isplitl [HK]; · iexact HK
  isplitl [HO]; · iexact HO
  iintro HK HO
  iapply (await0 (F := F) m 𝒱 c bd k0_t1.val 40 41 10 (by decide) rfl rfl O hO (k0_off90_eq k0_t1))
  isplitl [HK]; · iexact HK
  isplitl [HO]; · iexact HO
  iintro HK HO
  iapply (await1 (F := F) m 𝒱 c bd k0_t1.val 41 42 10 (by decide) rfl rfl O hO (k0_off93_eq k0_t1))
  isplitl [HK]; · iexact HK
  isplitl [HO]; · iexact HO
  iintro HK HO
  iapply (await2 (F := F) m 𝒱 c bd k0_t1.val 42 43 10 (by decide) rfl rfl O hO (k0_off94_eq k0_t1))
  isplitl [HK]; · iexact HK
  isplitl [HO]; · iexact HO
  iintro HK HO
  iapply (await3 (F := F) m 𝒱 c bd k0_t1.val 43 44 10 (by decide) rfl rfl O hO (k0_off96_eq k0_t1))
  isplitl [HK]; · iexact HK
  isplitl [HO]; · iexact HO
  iintro HK HO
  rw [wp_pure]
  imodintro
  iapply HQ $$ HK HO

set_option maxHeartbeats 1000000 in
theorem part39_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 44 ∗ Ow c O ∗ (KD m c k0_t1.val 49 -∗ Ow c O -∗ Q ⟨⟩)) ⊢ wp frame (wpE (defs₀ (F := F)) 𝒱 (c : Thread nD τ) bd) Set.univ
      (k0_part39 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part39_eq_skeleton]
  unfold k0_part39_skel
  dsimp only
  iintro ⟨HK, HO, HQ⟩
  iapply (await0 (F := F) m 𝒱 c bd k0_t1.val 44 45 11 (by decide) rfl rfl O hO (k0_off90_eq k0_t1))
  isplitl [HK]; · iexact HK
  isplitl [HO]; · iexact HO
  iintro HK HO
  iapply (await1 (F := F) m 𝒱 c bd k0_t1.val 45 46 11 (by decide) rfl rfl O hO (k0_off93_eq k0_t1))
  isplitl [HK]; · iexact HK
  isplitl [HO]; · iexact HO
  iintro HK HO
  iapply (await2 (F := F) m 𝒱 c bd k0_t1.val 46 47 11 (by decide) rfl rfl O hO (k0_off94_eq k0_t1))
  isplitl [HK]; · iexact HK
  isplitl [HO]; · iexact HO
  iintro HK HO
  iapply (await3 (F := F) m 𝒱 c bd k0_t1.val 47 48 11 (by decide) rfl rfl O hO (k0_off96_eq k0_t1))
  isplitl [HK]; · iexact HK
  isplitl [HO]; · iexact HO
  iintro HK HO
  iapply (await0 (F := F) m 𝒱 c bd k0_t1.val 48 49 12 (by decide) rfl rfl O hO (k0_off90_eq k0_t1))
  isplitl [HK]; · iexact HK
  isplitl [HO]; · iexact HO
  iintro HK HO
  rw [wp_pure]
  imodintro
  iapply HQ $$ HK HO

set_option maxHeartbeats 1000000 in
theorem part40_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 49 ∗ Ow c O ∗ (KD m c k0_t1.val 53 -∗ Ow c O -∗ Q ⟨⟩)) ⊢ wp frame (wpE (defs₀ (F := F)) 𝒱 (c : Thread nD τ) bd) Set.univ
      (k0_part40 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part40_eq_skeleton]
  unfold k0_part40_skel
  dsimp only
  iintro ⟨HK, HO, HQ⟩
  iapply (await1 (F := F) m 𝒱 c bd k0_t1.val 49 50 12 (by decide) rfl rfl O hO (k0_off93_eq k0_t1))
  isplitl [HK]; · iexact HK
  isplitl [HO]; · iexact HO
  iintro HK HO
  iapply (await2 (F := F) m 𝒱 c bd k0_t1.val 50 51 12 (by decide) rfl rfl O hO (k0_off94_eq k0_t1))
  isplitl [HK]; · iexact HK
  isplitl [HO]; · iexact HO
  iintro HK HO
  iapply (await3 (F := F) m 𝒱 c bd k0_t1.val 51 52 12 (by decide) rfl rfl O hO (k0_off96_eq k0_t1))
  isplitl [HK]; · iexact HK
  isplitl [HO]; · iexact HO
  iintro HK HO
  iapply (await0 (F := F) m 𝒱 c bd k0_t1.val 52 53 13 (by decide) rfl rfl O hO (k0_off90_eq k0_t1))
  isplitl [HK]; · iexact HK
  isplitl [HO]; · iexact HO
  iintro HK HO
  rw [wp_pure]
  imodintro
  iapply HQ $$ HK HO

set_option maxHeartbeats 1000000 in
theorem part41_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 53 ∗ Ow c O ∗ (KD m c k0_t1.val 58 -∗ Ow c O -∗ Q ⟨⟩)) ⊢ wp frame (wpE (defs₀ (F := F)) 𝒱 (c : Thread nD τ) bd) Set.univ
      (k0_part41 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part41_eq_skeleton]
  unfold k0_part41_skel
  dsimp only
  iintro ⟨HK, HO, HQ⟩
  iapply (await1 (F := F) m 𝒱 c bd k0_t1.val 53 54 13 (by decide) rfl rfl O hO (k0_off93_eq k0_t1))
  isplitl [HK]; · iexact HK
  isplitl [HO]; · iexact HO
  iintro HK HO
  iapply (await2 (F := F) m 𝒱 c bd k0_t1.val 54 55 13 (by decide) rfl rfl O hO (k0_off94_eq k0_t1))
  isplitl [HK]; · iexact HK
  isplitl [HO]; · iexact HO
  iintro HK HO
  iapply (await3 (F := F) m 𝒱 c bd k0_t1.val 55 56 13 (by decide) rfl rfl O hO (k0_off96_eq k0_t1))
  isplitl [HK]; · iexact HK
  isplitl [HO]; · iexact HO
  iintro HK HO
  iapply (await0 (F := F) m 𝒱 c bd k0_t1.val 56 57 14 (by decide) rfl rfl O hO (k0_off90_eq k0_t1))
  isplitl [HK]; · iexact HK
  isplitl [HO]; · iexact HO
  iintro HK HO
  iapply (await1 (F := F) m 𝒱 c bd k0_t1.val 57 58 14 (by decide) rfl rfl O hO (k0_off93_eq k0_t1))
  isplitl [HK]; · iexact HK
  isplitl [HO]; · iexact HO
  iintro HK HO
  rw [wp_pure]
  imodintro
  iapply HQ $$ HK HO

set_option maxHeartbeats 1000000 in
theorem part42_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (O : CellTallies nD τ sig ℕ) (hO : Above 0 O) (k0_t1 : Fin k0_t1_loop.trips) (Q : PUnit → sProp 𝕄) :
    iprop(KD m c k0_t1.val 58 ∗ Ow c O ∗ (KD m c k0_t1.val 62 -∗ Ow c O -∗ Q ⟨⟩)) ⊢ wp frame (wpE (defs₀ (F := F)) 𝒱 (c : Thread nD τ) bd) Set.univ
      (k0_part42 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1) Q := by
  rw [k0_part42_eq_skeleton]
  unfold k0_part42_skel
  dsimp only
  iintro ⟨HK, HO, HQ⟩
  iapply (await2 (F := F) m 𝒱 c bd k0_t1.val 58 59 14 (by decide) rfl rfl O hO (k0_off94_eq k0_t1))
  isplitl [HK]; · iexact HK
  isplitl [HO]; · iexact HO
  iintro HK HO
  iapply (await3 (F := F) m 𝒱 c bd k0_t1.val 59 60 14 (by decide) rfl rfl O hO (k0_off96_eq k0_t1))
  isplitl [HK]; · iexact HK
  isplitl [HO]; · iexact HO
  iintro HK HO
  iapply (await0 (F := F) m 𝒱 c bd k0_t1.val 60 61 15 (by decide) rfl rfl O hO (k0_off90_eq k0_t1))
  isplitl [HK]; · iexact HK
  isplitl [HO]; · iexact HO
  iintro HK HO
  iapply (await1 (F := F) m 𝒱 c bd k0_t1.val 61 62 15 (by decide) rfl rfl O hO (k0_off93_eq k0_t1))
  isplitl [HK]; · iexact HK
  isplitl [HO]; · iexact HO
  iintro HK HO
  rw [wp_pure]
  imodintro
  iapply HQ $$ HK HO

end Cert.KernelIdeal.Ring

end
-- ==== Proof.KernelIdeal.HopAcc.lean ====
/-
The middle of a hop: the keys and values arrive, attention, accumulation.
-/
module

public import proofs.«01_k».proof.Proof.KernelIdeal.HopQ
public import proofs.«01_k».proof.Proof.KernelIdeal.KvParts2

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)

theorem rd_ctxL (c : Dev nD) (h : ℕ) : (Memref.whole cc0_scratch10).view.readAt (Elt F) (Rect.unit (s := S1024x1024) ![0, 0] S1024x512.size inb_S1024x1024_S1024x512_0_0).toLoadRect (ctxF m c h) = ctxL m c h := by
  funext y
  refine congrArg (ctxF m c h) (funext fun a => Fin.ext ?_)
  match a with
  | ⟨0, _⟩ => show 0 + 1 * (y 0).val = (y 0).val; omega
  | ⟨1, _⟩ => show 0 + 1 * (y 1).val = (y 1).val; omega
theorem rd_ctxR (c : Dev nD) (h : ℕ) : (Memref.whole cc0_scratch10).view.readAt (Elt F) (Rect.unit (s := S1024x1024) ![0, 512] S1024x512.size inb_S1024x1024_S1024x512_0_512).toLoadRect (ctxF m c h) = ctxR m c h := by
  funext y
  refine congrArg (ctxF m c h) (funext fun a => Fin.ext ?_)
  match a with
  | ⟨0, _⟩ => show 0 + 1 * (y 0).val = (y 0).val; omega
  | ⟨1, _⟩ => show 512 + 1 * (y 1).val = 512 + (y 1).val; omega

omit [FloatOps F] in
/-- A store over a whole square buffer. -/
theorem wr_acc (f w : S1024x1024.Idx → Elt F .f32) : ((Memref.whole cc0_scratch11).access (Rect.unit (s := S1024x1024) ![0, 0] S1024x1024.size inb_S1024x1024_S1024x1024_0_0)).write (Elt F) f w Finset.univ = w := by
  funext y
  have hx : ((Memref.whole cc0_scratch11).access (Rect.unit (s := S1024x1024) ![0, 0] S1024x1024.size inb_S1024x1024_S1024x1024_0_0)).emb y = y := by
    funext a
    apply Fin.ext
    match a with
    | ⟨0, _⟩ => show 0 + 1 * (y 0).val = (y 0).val; omega
    | ⟨1, _⟩ => show 0 + 1 * (y 1).val = (y 1).val; omega
  have hwr := View.write_emb_of_mem (v := (Memref.whole cc0_scratch11).access (Rect.unit (s := S1024x1024) ![0, 0] S1024x1024.size inb_S1024x1024_S1024x1024_0_0)) (Val := Elt F) f w (M := Finset.univ) (x := y) (Finset.mem_univ _)
  rw [hx] at hwr
  exact hwr

variable (𝒱 : Variants) (c : Dev nD) (bd : Option 𝒱.V)
  (a1 : Memref sig .tc .vmem S1024x1024 .f32) (h1 : a1.IsWhole) (a2 : Memref sig .tc .vmem S1024x1024 .f32) (h2 : a2.IsWhole)
  (k0_t1 : Fin k0_t1_loop.trips)

theorem part26_wp (f : S1024x1024.Idx → Elt F .f32) (hf : HalfL m c k0_t1.val f) (v2 arg24 : BitVec 32) (Q : (Σ' (v748 : BitVec 32), BitVec 32) → sProp 𝕄) :
    iprop(Wh c cc0_scratch9 f ∗ (∀ x, Wh c cc0_scratch9 (qF m c k0_t1.val) -∗ Q x))
      ⊢ wp frame (wpE (defs₀ (F := F)) 𝒱 (c : Thread nD τ) bd) Set.univ (k0_part26 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v2 arg24 (k0_pay14 (xb m c) (one3 (cQB m c k0_t1.val)))) Q := by
  rw [k0_part26_eq_skeleton]
  unfold k0_part26_skel
  have e : ((Memref.whole cc0_scratch9).access (Rect.unit (s := S1024x1024) ![0, 512] S1024x512.size inb_S1024x1024_S1024x512_0_512)).write (Elt F) f (k0_pay15 (k0_pay14 (xb m c) (one3 (cQB m c k0_t1.val)))) Finset.univ = qF m c k0_t1.val := st_right m c k0_t1.val f hf
  iintro ⟨H, HQ⟩
  iapply (stW 𝒱 c bd (Memref.whole cc0_scratch9) f (r := (Rect.unit (s := S1024x1024) ![0, 512] S1024x512.size inb_S1024x1024_S1024x512_0_512)) (w := k0_pay15 (k0_pay14 (xb m c) (one3 (cQB m c k0_t1.val)))))
  isplitl [H]; · iexact H
  rw [e]
  iintro H
  rw [wp_pure]
  imodintro
  iapply HQ $$ H

set_option maxHeartbeats 1000000 in
/-- The waits for a hop's keys and values. -/
theorem kvwait_wp (v748 v750 : BitVec 32) {α : Type} (kp : Prog (TpuEff nD τ sig (Elt F) Λ₀ .tc) α) (Q : α → sProp 𝕄) :
    iprop(KD m c k0_t1.val 0 ∗ Ow c (OM c k0_t1.val) ∗ (KD m c k0_t1.val 62 -∗ Ow c (OM c k0_t1.val) -∗ wp frame (wpE (defs₀ (F := F)) 𝒱 (c : Thread nD τ) bd) Set.univ kp Q))
      ⊢ wp frame (wpE (defs₀ (F := F)) 𝒱 (c : Thread nD τ) bd) Set.univ (k0_part27 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v748 v750 >>= fun _ => k0_part28 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v748 v750 >>= fun _ =>
        k0_part29 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 v748 v750 >>= fun _ =>
        k0_part30 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part31 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part32 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part33 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part34 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part35 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part36 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part37 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part38 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part39 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part40 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part41 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        k0_part42 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 >>= fun _ =>
        kp) Q := by
  iintro ⟨HD, HO, HK⟩
  rw [wp_bind, k0_part27_eq_skeleton]; unfold k0_part27_skel; try dsimp only
  rw [wp_pure]; imodintro
  rw [wp_bind, k0_part28_eq_skeleton]; unfold k0_part28_skel; try dsimp only
  rw [wp_pure]; imodintro
  rw [wp_bind]
  iapply (part29_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part30_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part31_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part32_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part33_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part34_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part35_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part36_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part37_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part38_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part39_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part40_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part41_wp m 𝒱 c bd a1 h1 a2 h2 (OM c k0_t1.val) (above_mono (above_OM c k0_t1.val) (by omega)) k0_t1)
  isplitl [HD]; · iexact HD
  isplitl [HO]; · iexact HO
  iintro HD HO
  rw [wp_bind]
  iapply (part42_wp m 𝒱 c bd a1 h1 a2 h2 (OM c k0_t1.val) (above_mono (above_OM c k0_t1.val) (by omega)) k0_t1)
  isplitl [HD]; · iexact HD
  isplitl [HO]; · iexact HO
  iintro HD HO
  iapply HK $$ HD HO

/-- Before a hop's keys and values are waited for, and after its accumulation. -/
def AccPre (h : ℕ) : sProp 𝕄 := iprop(KD m c h 62 ∗ Ow c (OM c h) ∗ QPre m c h ∗ Wh c cc0_scratch9 (qF m c h) ∗ (∃ f, Wh (F := F) c cc0_scratch10 f) ∗ Wh c cc0_scratch11 (accF m c h))
def AccPost (h : ℕ) : sProp 𝕄 := iprop(KF c (sl h) ∗ Ow c (OM c h) ∗ QPre m c h ∗ (∃ f, Wh (F := F) c cc0_scratch9 f) ∗ (∃ f, Wh (F := F) c cc0_scratch10 f) ∗ Wh c cc0_scratch11 (accF m c (h + 1)))

set_option maxHeartbeats 1000000 in
theorem part43_wp (arg24 v719 v721 : BitVec 32) (Q : BitVec 32 → sProp 𝕄) :
    iprop(AccPre m c k0_t1.val ∗ (∀ x, AccPost m c k0_t1.val -∗ Q x)) ⊢ wp frame (wpE (defs₀ (F := F)) 𝒱 (c : Thread nD τ) bd) Set.univ (k0_part43 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 arg24 v719 v721) Q := by
  rw [k0_part43_eq_skeleton]
  unfold k0_part43_skel AccPre
  dsimp only
  iintro ⟨⟨HD, HO, HQ, H9, ⟨%f, H10⟩, H11⟩, HK⟩
  iapply (await2 (F := F) m 𝒱 c bd k0_t1.val 62 63 15 (by decide) rfl rfl (OM c k0_t1.val) (above_mono (above_OM c k0_t1.val) (by omega)) (k0_off94_eq k0_t1))
  isplitl [HD]; · iexact HD
  isplitl [HO]; · iexact HO
  iintro HD HO
  iapply (await3 (F := F) m 𝒱 c bd k0_t1.val 63 64 15 (by decide) rfl rfl (OM c k0_t1.val) (above_mono (above_OM c k0_t1.val) (by omega)) (k0_off96_eq k0_t1))
  isplitl [HD]; · iexact HD
  isplitl [HO]; · iexact HO
  iintro HD HO
  ihave HD := kd_end m c k0_t1.val $$ HD
  unfold KvFree
  icases HD with ⟨⟨B0, S0⟩, ⟨B1, S1⟩, ⟨B2, S2⟩, B3, S3⟩
  iapply (inner_wp m 𝒱 c bd a1 h1 a2 h2 k0_t1 c arg24 v719 v721)
  isplitl [B0 B1 B2 B3 H9 H10]
  · unfold In
    rw [kvSlot_eq, kvSlot_eq, kvSlot_eq, kvSlot_eq]
    isplitl [B0]; · iexact B0
    isplitl [B1]; · iexact B1
    isplitl [B2]; · iexact B2
    isplitl [B3]; · iexact B3
    isplitl [H9]; · iexact H9
    iexists f
    isplitr
    · ipureintro; intro y hy; omega
    iexact H10
  unfold In
  rw [kvSlot_eq, kvSlot_eq, kvSlot_eq, kvSlot_eq]
  iintro ⟨B0, B1, B2, B3, H9, %g, %hg, H10⟩
  rw [tiled_all m c k0_t1.val g hg]
  unfold QPre Comm
  icases HQ with ⟨⟨CA, OA, CB, OB⟩, HX⟩
  iapply (ldW 𝒱 c bd (Memref.whole cc0_scratch10) (ctxF m c k0_t1.val))
  isplitl [H10]; · iexact H10
  iintro H10
  iapply (ldO 𝒱 c bd mOA (sl (k0_t1.val + 1)) (qh k0_t1.val) (cOA m c k0_t1.val) ((k0_off154_eq k0_t1).trans rfl))
  isplitl [OA]; · iexact OA
  iintro OA
  iapply (ldW 𝒱 c bd (Memref.whole cc0_scratch10) (ctxF m c k0_t1.val))
  isplitl [H10]; · iexact H10
  iintro H10
  iapply (ldO 𝒱 c bd mOB (sl (k0_t1.val + 1)) (qh k0_t1.val) (cOB m c k0_t1.val) ((k0_off154_eq k0_t1).trans rfl))
  isplitl [OB]; · iexact OB
  iintro OB
  iapply (ldW 𝒱 c bd (Memref.whole cc0_scratch11) (accF m c k0_t1.val))
  isplitl [H11]; · iexact H11
  iintro H11
  iapply (ldW 𝒱 c bd (Memref.whole cc0_scratch11) (accF m c k0_t1.val))
  isplitl [H11]; · iexact H11
  iintro H11
  rw [rd_ctxL, rd_ctxR, rdW11, rd_cc0_scratch1 (cOA m c k0_t1.val) (fun _ => rfl) (sl (k0_t1.val + 1)) ((k0_off154_eq k0_t1).trans rfl),
    rd_cc0_scratch3 (cOB m c k0_t1.val) (fun _ => rfl) (sl (k0_t1.val + 1)) ((k0_off154_eq k0_t1).trans rfl)]
  iapply (stW 𝒱 c bd (Memref.whole cc0_scratch11) (accF m c k0_t1.val))
  isplitl [H11]; · iexact H11
  iintro H11
  rw [wr_acc, wp_pure]
  imodintro
  iapply HK
  unfold AccPost KF QPre Comm KvFree
  isplitl [B0 B1 B2 B3 S0 S1 S2 S3]
  · isplitl [B0 S0]
    · iexists _; isplitl [B0]; · iexact B0
      iexact S0
    isplitl [B1 S1]
    · iexists _; isplitl [B1]; · iexact B1
      iexact S1
    isplitl [B2 S2]
    · iexists _; isplitl [B2]; · iexact B2
      iexact S2
    iexists _; isplitl [B3]; · iexact B3
    iexact S3
  isplitl [HO]; · iexact HO
  isplitl [CA OA CB OB HX]
  · isplitr [HX]
    · isplitl [CA]; · iexact CA
      isplitl [OA]; · iexact OA
      isplitl [CB]; · iexact CB
      iexact OB
    iexact HX
  isplitl [H9]; · iexists (qF m c k0_t1.val); iexact H9
  isplitl [H10]; · iexists (ctxF m c k0_t1.val); iexact H10
  iexact H11
end

end Cert.KernelIdeal.Ring

end
-- ==== Proof.KernelIdeal.KvParts0.lean ====
/-
The sixty-four copies of the first hop, as the body starts them.
-/
module

public import proofs.«01_k».proof.Proof.KernelIdeal.KvState

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

set_option maxHeartbeats 1000000 in
theorem part50_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (v70 : BitVec 32) (v72 : BitVec 32) (v149 : BitVec 32) (Q : PUnit → sProp 𝕄) :
    iprop(KI m c 0 0 ∗ (KI m c 0 1 -∗ Q ⟨⟩)) ⊢ wp frame (wpE (defs₀ (F := F)) 𝒱 (c : Thread nD τ) bd) Set.univ
      (k0_part50 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v70 v72 v149) Q := by
  rw [k0_part50_eq_skeleton]
  unfold k0_part50_skel
  dsimp only
  iintro ⟨HK, HQ⟩
  iapply (issue0 (F := F) m 𝒱 c bd 0 0 1 0 (by decide) rfl rfl rfl ((k0_off1_eq c).trans (osA0 c 0 _ rfl)) rfl)
  isplitl [HK]; · iexact HK
  iintro HK
  rw [wp_pure]
  imodintro
  iapply HQ $$ HK

set_option maxHeartbeats 1000000 in
theorem part51_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 1 ∗ (KI m c 0 5 -∗ Q ⟨⟩)) ⊢ wp frame (wpE (defs₀ (F := F)) 𝒱 (c : Thread nD τ) bd) Set.univ
      (k0_part51 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part51_eq_skeleton]
  unfold k0_part51_skel
  dsimp only
  iintro ⟨HK, HQ⟩
  iapply (issue1 (F := F) m 𝒱 c bd 0 1 2 0 (by decide) rfl rfl rfl ((k0_off1_eq c).trans (osA0 c 0 _ rfl)) rfl)
  isplitl [HK]; · iexact HK
  iintro HK
  iapply (issue2 (F := F) m 𝒱 c bd 0 2 3 0 (by decide) rfl rfl rfl ((k0_off2_eq c).trans (osB0 c 0 _ rfl)) rfl)
  isplitl [HK]; · iexact HK
  iintro HK
  iapply (issue3 (F := F) m 𝒱 c bd 0 3 4 0 (by decide) rfl rfl rfl ((k0_off2_eq c).trans (osB0 c 0 _ rfl)) rfl)
  isplitl [HK]; · iexact HK
  iintro HK
  iapply (issue0 (F := F) m 𝒱 c bd 0 4 5 1 (by decide) rfl rfl rfl ((k0_off3_eq c).trans (osA0 c 1 _ rfl)) rfl)
  isplitl [HK]; · iexact HK
  iintro HK
  rw [wp_pure]
  imodintro
  iapply HQ $$ HK

set_option maxHeartbeats 1000000 in
theorem part52_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 5 ∗ (KI m c 0 9 -∗ Q ⟨⟩)) ⊢ wp frame (wpE (defs₀ (F := F)) 𝒱 (c : Thread nD τ) bd) Set.univ
      (k0_part52 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part52_eq_skeleton]
  unfold k0_part52_skel
  dsimp only
  iintro ⟨HK, HQ⟩
  iapply (issue1 (F := F) m 𝒱 c bd 0 5 6 1 (by decide) rfl rfl rfl ((k0_off3_eq c).trans (osA0 c 1 _ rfl)) rfl)
  isplitl [HK]; · iexact HK
  iintro HK
  iapply (issue2 (F := F) m 𝒱 c bd 0 6 7 1 (by decide) rfl rfl rfl ((k0_off4_eq c).trans (osB0 c 1 _ rfl)) rfl)
  isplitl [HK]; · iexact HK
  iintro HK
  iapply (issue3 (F := F) m 𝒱 c bd 0 7 8 1 (by decide) rfl rfl rfl ((k0_off4_eq c).trans (osB0 c 1 _ rfl)) rfl)
  isplitl [HK]; · iexact HK
  iintro HK
  iapply (issue0 (F := F) m 𝒱 c bd 0 8 9 2 (by decide) rfl rfl rfl ((k0_off5_eq c).trans (osA0 c 2 _ rfl)) rfl)
  isplitl [HK]; · iexact HK
  iintro HK
  rw [wp_pure]
  imodintro
  iapply HQ $$ HK

set_option maxHeartbeats 1000000 in
theorem part53_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 9 ∗ (KI m c 0 13 -∗ Q ⟨⟩)) ⊢ wp frame (wpE (defs₀ (F := F)) 𝒱 (c : Thread nD τ) bd) Set.univ
      (k0_part53 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part53_eq_skeleton]
  unfold k0_part53_skel
  dsimp only
  iintro ⟨HK, HQ⟩
  iapply (issue1 (F := F) m 𝒱 c bd 0 9 10 2 (by decide) rfl rfl rfl ((k0_off5_eq c).trans (osA0 c 2 _ rfl)) rfl)
  isplitl [HK]; · iexact HK
  iintro HK
  iapply (issue2 (F := F) m 𝒱 c bd 0 10 11 2 (by decide) rfl rfl rfl ((k0_off6_eq c).trans (osB0 c 2 _ rfl)) rfl)
  isplitl [HK]; · iexact HK
  iintro HK
  iapply (issue3 (F := F) m 𝒱 c bd 0 11 12 2 (by decide) rfl rfl rfl ((k0_off6_eq c).trans (osB0 c 2 _ rfl)) rfl)
  isplitl [HK]; · iexact HK
  iintro HK
  iapply (issue0 (F := F) m 𝒱 c bd 0 12 13 3 (by decide) rfl rfl rfl ((k0_off7_eq c).trans (osA0 c 3 _ rfl)) rfl)
  isplitl [HK]; · iexact HK
  iintro HK
  rw [wp_pure]
  imodintro
  iapply HQ $$ HK

set_option maxHeartbeats 1000000 in
theorem part54_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 13 ∗ (KI m c 0 17 -∗ Q ⟨⟩)) ⊢ wp frame (wpE (defs₀ (F := F)) 𝒱 (c : Thread nD τ) bd) Set.univ
      (k0_part54 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part54_eq_skeleton]
  unfold k0_part54_skel
  dsimp only
  iintro ⟨HK, HQ⟩
  iapply (issue1 (F := F) m 𝒱 c bd 0 13 14 3 (by decide) rfl rfl rfl ((k0_off7_eq c).trans (osA0 c 3 _ rfl)) rfl)
  isplitl [HK]; · iexact HK
  iintro HK
  iapply (issue2 (F := F) m 𝒱 c bd 0 14 15 3 (by decide) rfl rfl rfl ((k0_off8_eq c).trans (osB0 c 3 _ rfl)) rfl)
  isplitl [HK]; · iexact HK
  iintro HK
  iapply (issue3 (F := F) m 𝒱 c bd 0 15 16 3 (by decide) rfl rfl rfl ((k0_off8_eq c).trans (osB0 c 3 _ rfl)) rfl)
  isplitl [HK]; · iexact HK
  iintro HK
  iapply (issue0 (F := F) m 𝒱 c bd 0 16 17 4 (by decide) rfl rfl rfl ((k0_off9_eq c).trans (osA0 c 4 _ rfl)) rfl)
  isplitl [HK]; · iexact HK
  iintro HK
  rw [wp_pure]
  imodintro
  iapply HQ $$ HK

set_option maxHeartbeats 1000000 in
theorem part55_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 17 ∗ (KI m c 0 21 -∗ Q ⟨⟩)) ⊢ wp frame (wpE (defs₀ (F := F)) 𝒱 (c : Thread nD τ) bd) Set.univ
      (k0_part55 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part55_eq_skeleton]
  unfold k0_part55_skel
  dsimp only
  iintro ⟨HK, HQ⟩
  iapply (issue1 (F := F) m 𝒱 c bd 0 17 18 4 (by decide) rfl rfl rfl ((k0_off9_eq c).trans (osA0 c 4 _ rfl)) rfl)
  isplitl [HK]; · iexact HK
  iintro HK
  iapply (issue2 (F := F) m 𝒱 c bd 0 18 19 4 (by decide) rfl rfl rfl ((k0_off10_eq c).trans (osB0 c 4 _ rfl)) rfl)
  isplitl [HK]; · iexact HK
  iintro HK
  iapply (issue3 (F := F) m 𝒱 c bd 0 19 20 4 (by decide) rfl rfl rfl ((k0_off10_eq c).trans (osB0 c 4 _ rfl)) rfl)
  isplitl [HK]; · iexact HK
  iintro HK
  iapply (issue0 (F := F) m 𝒱 c bd 0 20 21 5 (by decide) rfl rfl rfl ((k0_off11_eq c).trans (osA0 c 5 _ rfl)) rfl)
  isplitl [HK]; · iexact HK
  iintro HK
  rw [wp_pure]
  imodintro
  iapply HQ $$ HK

set_option maxHeartbeats 1000000 in
theorem part56_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 21 ∗ (KI m c 0 25 -∗ Q ⟨⟩)) ⊢ wp frame (wpE (defs₀ (F := F)) 𝒱 (c : Thread nD τ) bd) Set.univ
      (k0_part56 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part56_eq_skeleton]
  unfold k0_part56_skel
  dsimp only
  iintro ⟨HK, HQ⟩
  iapply (issue1 (F := F) m 𝒱 c bd 0 21 22 5 (by decide) rfl rfl rfl ((k0_off11_eq c).trans (osA0 c 5 _ rfl)) rfl)
  isplitl [HK]; · iexact HK
  iintro HK
  iapply (issue2 (F := F) m 𝒱 c bd 0 22 23 5 (by decide) rfl rfl rfl ((k0_off12_eq c).trans (osB0 c 5 _ rfl)) rfl)
  isplitl [HK]; · iexact HK
  iintro HK
  iapply (issue3 (F := F) m 𝒱 c bd 0 23 24 5 (by decide) rfl rfl rfl ((k0_off12_eq c).trans (osB0 c 5 _ rfl)) rfl)
  isplitl [HK]; · iexact HK
  iintro HK
  iapply (issue0 (F := F) m 𝒱 c bd 0 24 25 6 (by decide) rfl rfl rfl ((k0_off13_eq c).trans (osA0 c 6 _ rfl)) rfl)
  isplitl [HK]; · iexact HK
  iintro HK
  rw [wp_pure]
  imodintro
  iapply HQ $$ HK

set_option maxHeartbeats 1000000 in
theorem part57_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 25 ∗ (KI m c 0 29 -∗ Q ⟨⟩)) ⊢ wp frame (wpE (defs₀ (F := F)) 𝒱 (c : Thread nD τ) bd) Set.univ
      (k0_part57 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part57_eq_skeleton]
  unfold k0_part57_skel
  dsimp only
  iintro ⟨HK, HQ⟩
  iapply (issue1 (F := F) m 𝒱 c bd 0 25 26 6 (by decide) rfl rfl rfl ((k0_off13_eq c).trans (osA0 c 6 _ rfl)) rfl)
  isplitl [HK]; · iexact HK
  iintro HK
  iapply (issue2 (F := F) m 𝒱 c bd 0 26 27 6 (by decide) rfl rfl rfl ((k0_off14_eq c).trans (osB0 c 6 _ rfl)) rfl)
  isplitl [HK]; · iexact HK
  iintro HK
  iapply (issue3 (F := F) m 𝒱 c bd 0 27 28 6 (by decide) rfl rfl rfl ((k0_off14_eq c).trans (osB0 c 6 _ rfl)) rfl)
  isplitl [HK]; · iexact HK
  iintro HK
  iapply (issue0 (F := F) m 𝒱 c bd 0 28 29 7 (by decide) rfl rfl rfl ((k0_off15_eq c).trans (osA0 c 7 _ rfl)) rfl)
  isplitl [HK]; · iexact HK
  iintro HK
  rw [wp_pure]
  imodintro
  iapply HQ $$ HK

set_option maxHeartbeats 1000000 in
theorem part58_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 29 ∗ (KI m c 0 33 -∗ Q ⟨⟩)) ⊢ wp frame (wpE (defs₀ (F := F)) 𝒱 (c : Thread nD τ) bd) Set.univ
      (k0_part58 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part58_eq_skeleton]
  unfold k0_part58_skel
  dsimp only
  iintro ⟨HK, HQ⟩
  iapply (issue1 (F := F) m 𝒱 c bd 0 29 30 7 (by decide) rfl rfl rfl ((k0_off15_eq c).trans (osA0 c 7 _ rfl)) rfl)
  isplitl [HK]; · iexact HK
  iintro HK
  iapply (issue2 (F := F) m 𝒱 c bd 0 30 31 7 (by decide) rfl rfl rfl ((k0_off16_eq c).trans (osB0 c 7 _ rfl)) rfl)
  isplitl [HK]; · iexact HK
  iintro HK
  iapply (issue3 (F := F) m 𝒱 c bd 0 31 32 7 (by decide) rfl rfl rfl ((k0_off16_eq c).trans (osB0 c 7 _ rfl)) rfl)
  isplitl [HK]; · iexact HK
  iintro HK
  iapply (issue0 (F := F) m 𝒱 c bd 0 32 33 8 (by decide) rfl rfl rfl ((k0_off17_eq c).trans (osA0 c 8 _ rfl)) rfl)
  isplitl [HK]; · iexact HK
  iintro HK
  rw [wp_pure]
  imodintro
  iapply HQ $$ HK

set_option maxHeartbeats 1000000 in
theorem part59_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 33 ∗ (KI m c 0 37 -∗ Q ⟨⟩)) ⊢ wp frame (wpE (defs₀ (F := F)) 𝒱 (c : Thread nD τ) bd) Set.univ
      (k0_part59 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part59_eq_skeleton]
  unfold k0_part59_skel
  dsimp only
  iintro ⟨HK, HQ⟩
  iapply (issue1 (F := F) m 𝒱 c bd 0 33 34 8 (by decide) rfl rfl rfl ((k0_off17_eq c).trans (osA0 c 8 _ rfl)) rfl)
  isplitl [HK]; · iexact HK
  iintro HK
  iapply (issue2 (F := F) m 𝒱 c bd 0 34 35 8 (by decide) rfl rfl rfl ((k0_off18_eq c).trans (osB0 c 8 _ rfl)) rfl)
  isplitl [HK]; · iexact HK
  iintro HK
  iapply (issue3 (F := F) m 𝒱 c bd 0 35 36 8 (by decide) rfl rfl rfl ((k0_off18_eq c).trans (osB0 c 8 _ rfl)) rfl)
  isplitl [HK]; · iexact HK
  iintro HK
  iapply (issue0 (F := F) m 𝒱 c bd 0 36 37 9 (by decide) rfl rfl rfl ((k0_off19_eq c).trans (osA0 c 9 _ rfl)) rfl)
  isplitl [HK]; · iexact HK
  iintro HK
  rw [wp_pure]
  imodintro
  iapply HQ $$ HK

set_option maxHeartbeats 1000000 in
theorem part60_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 37 ∗ (KI m c 0 41 -∗ Q ⟨⟩)) ⊢ wp frame (wpE (defs₀ (F := F)) 𝒱 (c : Thread nD τ) bd) Set.univ
      (k0_part60 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part60_eq_skeleton]
  unfold k0_part60_skel
  dsimp only
  iintro ⟨HK, HQ⟩
  iapply (issue1 (F := F) m 𝒱 c bd 0 37 38 9 (by decide) rfl rfl rfl ((k0_off19_eq c).trans (osA0 c 9 _ rfl)) rfl)
  isplitl [HK]; · iexact HK
  iintro HK
  iapply (issue2 (F := F) m 𝒱 c bd 0 38 39 9 (by decide) rfl rfl rfl ((k0_off20_eq c).trans (osB0 c 9 _ rfl)) rfl)
  isplitl [HK]; · iexact HK
  iintro HK
  iapply (issue3 (F := F) m 𝒱 c bd 0 39 40 9 (by decide) rfl rfl rfl ((k0_off20_eq c).trans (osB0 c 9 _ rfl)) rfl)
  isplitl [HK]; · iexact HK
  iintro HK
  iapply (issue0 (F := F) m 𝒱 c bd 0 40 41 10 (by decide) rfl rfl rfl ((k0_off21_eq c).trans (osA0 c 10 _ rfl)) rfl)
  isplitl [HK]; · iexact HK
  iintro HK
  rw [wp_pure]
  imodintro
  iapply HQ $$ HK

set_option maxHeartbeats 1000000 in
theorem part61_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 41 ∗ (KI m c 0 45 -∗ Q ⟨⟩)) ⊢ wp frame (wpE (defs₀ (F := F)) 𝒱 (c : Thread nD τ) bd) Set.univ
      (k0_part61 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part61_eq_skeleton]
  unfold k0_part61_skel
  dsimp only
  iintro ⟨HK, HQ⟩
  iapply (issue1 (F := F) m 𝒱 c bd 0 41 42 10 (by decide) rfl rfl rfl ((k0_off21_eq c).trans (osA0 c 10 _ rfl)) rfl)
  isplitl [HK]; · iexact HK
  iintro HK
  iapply (issue2 (F := F) m 𝒱 c bd 0 42 43 10 (by decide) rfl rfl rfl ((k0_off22_eq c).trans (osB0 c 10 _ rfl)) rfl)
  isplitl [HK]; · iexact HK
  iintro HK
  iapply (issue3 (F := F) m 𝒱 c bd 0 43 44 10 (by decide) rfl rfl rfl ((k0_off22_eq c).trans (osB0 c 10 _ rfl)) rfl)
  isplitl [HK]; · iexact HK
  iintro HK
  iapply (issue0 (F := F) m 𝒱 c bd 0 44 45 11 (by decide) rfl rfl rfl ((k0_off23_eq c).trans (osA0 c 11 _ rfl)) rfl)
  isplitl [HK]; · iexact HK
  iintro HK
  rw [wp_pure]
  imodintro
  iapply HQ $$ HK

set_option maxHeartbeats 1000000 in
theorem part62_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 45 ∗ (KI m c 0 49 -∗ Q ⟨⟩)) ⊢ wp frame (wpE (defs₀ (F := F)) 𝒱 (c : Thread nD τ) bd) Set.univ
      (k0_part62 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part62_eq_skeleton]
  unfold k0_part62_skel
  dsimp only
  iintro ⟨HK, HQ⟩
  iapply (issue1 (F := F) m 𝒱 c bd 0 45 46 11 (by decide) rfl rfl rfl ((k0_off23_eq c).trans (osA0 c 11 _ rfl)) rfl)
  isplitl [HK]; · iexact HK
  iintro HK
  iapply (issue2 (F := F) m 𝒱 c bd 0 46 47 11 (by decide) rfl rfl rfl ((k0_off24_eq c).trans (osB0 c 11 _ rfl)) rfl)
  isplitl [HK]; · iexact HK
  iintro HK
  iapply (issue3 (F := F) m 𝒱 c bd 0 47 48 11 (by decide) rfl rfl rfl ((k0_off24_eq c).trans (osB0 c 11 _ rfl)) rfl)
  isplitl [HK]; · iexact HK
  iintro HK
  iapply (issue0 (F := F) m 𝒱 c bd 0 48 49 12 (by decide) rfl rfl rfl ((k0_off25_eq c).trans (osA0 c 12 _ rfl)) rfl)
  isplitl [HK]; · iexact HK
  iintro HK
  rw [wp_pure]
  imodintro
  iapply HQ $$ HK

set_option maxHeartbeats 1000000 in
theorem part63_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 49 ∗ (KI m c 0 53 -∗ Q ⟨⟩)) ⊢ wp frame (wpE (defs₀ (F := F)) 𝒱 (c : Thread nD τ) bd) Set.univ
      (k0_part63 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part63_eq_skeleton]
  unfold k0_part63_skel
  dsimp only
  iintro ⟨HK, HQ⟩
  iapply (issue1 (F := F) m 𝒱 c bd 0 49 50 12 (by decide) rfl rfl rfl ((k0_off25_eq c).trans (osA0 c 12 _ rfl)) rfl)
  isplitl [HK]; · iexact HK
  iintro HK
  iapply (issue2 (F := F) m 𝒱 c bd 0 50 51 12 (by decide) rfl rfl rfl ((k0_off26_eq c).trans (osB0 c 12 _ rfl)) rfl)
  isplitl [HK]; · iexact HK
  iintro HK
  iapply (issue3 (F := F) m 𝒱 c bd 0 51 52 12 (by decide) rfl rfl rfl ((k0_off26_eq c).trans (osB0 c 12 _ rfl)) rfl)
  isplitl [HK]; · iexact HK
  iintro HK
  iapply (issue0 (F := F) m 𝒱 c bd 0 52 53 13 (by decide) rfl rfl rfl ((k0_off27_eq c).trans (osA0 c 13 _ rfl)) rfl)
  isplitl [HK]; · iexact HK
  iintro HK
  rw [wp_pure]
  imodintro
  iapply HQ $$ HK

set_option maxHeartbeats 1000000 in
theorem part64_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 53 ∗ (KI m c 0 57 -∗ Q ⟨⟩)) ⊢ wp frame (wpE (defs₀ (F := F)) 𝒱 (c : Thread nD τ) bd) Set.univ
      (k0_part64 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part64_eq_skeleton]
  unfold k0_part64_skel
  dsimp only
  iintro ⟨HK, HQ⟩
  iapply (issue1 (F := F) m 𝒱 c bd 0 53 54 13 (by decide) rfl rfl rfl ((k0_off27_eq c).trans (osA0 c 13 _ rfl)) rfl)
  isplitl [HK]; · iexact HK
  iintro HK
  iapply (issue2 (F := F) m 𝒱 c bd 0 54 55 13 (by decide) rfl rfl rfl ((k0_off28_eq c).trans (osB0 c 13 _ rfl)) rfl)
  isplitl [HK]; · iexact HK
  iintro HK
  iapply (issue3 (F := F) m 𝒱 c bd 0 55 56 13 (by decide) rfl rfl rfl ((k0_off28_eq c).trans (osB0 c 13 _ rfl)) rfl)
  isplitl [HK]; · iexact HK
  iintro HK
  iapply (issue0 (F := F) m 𝒱 c bd 0 56 57 14 (by decide) rfl rfl rfl ((k0_off29_eq c).trans (osA0 c 14 _ rfl)) rfl)
  isplitl [HK]; · iexact HK
  iintro HK
  rw [wp_pure]
  imodintro
  iapply HQ $$ HK

set_option maxHeartbeats 1000000 in
theorem part65_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole)  (Q : PUnit → sProp 𝕄) :
    iprop(KI m c 0 57 ∗ (KI m c 0 61 -∗ Q ⟨⟩)) ⊢ wp frame (wpE (defs₀ (F := F)) 𝒱 (c : Thread nD τ) bd) Set.univ
      (k0_part65 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c ) Q := by
  rw [k0_part65_eq_skeleton]
  unfold k0_part65_skel
  dsimp only
  iintro ⟨HK, HQ⟩
  iapply (issue1 (F := F) m 𝒱 c bd 0 57 58 14 (by decide) rfl rfl rfl ((k0_off29_eq c).trans (osA0 c 14 _ rfl)) rfl)
  isplitl [HK]; · iexact HK
  iintro HK
  iapply (issue2 (F := F) m 𝒱 c bd 0 58 59 14 (by decide) rfl rfl rfl ((k0_off30_eq c).trans (osB0 c 14 _ rfl)) rfl)
  isplitl [HK]; · iexact HK
  iintro HK
  iapply (issue3 (F := F) m 𝒱 c bd 0 59 60 14 (by decide) rfl rfl rfl ((k0_off30_eq c).trans (osB0 c 14 _ rfl)) rfl)
  isplitl [HK]; · iexact HK
  iintro HK
  iapply (issue0 (F := F) m 𝒱 c bd 0 60 61 15 (by decide) rfl rfl rfl ((k0_off31_eq c).trans (osA0 c 15 _ rfl)) rfl)
  isplitl [HK]; · iexact HK
  iintro HK
  rw [wp_pure]
  imodintro
  iapply HQ $$ HK

end Cert.KernelIdeal.Ring

end
-- ==== Proof.KernelIdeal.IoParts.lean ====
/-
The body up to its loop: the copies in, the entry barrier, the waits.
-/
module

public import proofs.«01_k».proof.Proof.KernelIdeal.Io
public import proofs.«01_k».proof.Proof.KernelIdeal.HopAcc
public import proofs.«01_k».proof.Proof.KernelIdeal.KvParts0

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ) (𝒱 : Variants) (c : Dev nD) (bd : Option 𝒱.V)
/-- The wait for a strip of `x`. -/
theorem x_wait (n : ℕ) (hn : n < 16) (O : CellTallies nD τ sig ℕ) (hO : Above 0 O)
    {sp' : Space} {s' : Shape} {srcw : Memref sig .tc sp' s' .f32} {od : Fin 2 → ℕ} {ib} {h1} {h2}
    {α : Type} (k : PUnit → Prog (TpuEff nD τ sig (Elt F) Λ₀ .tc) α) (Q : α → sProp 𝕄) :
    iprop(IoW m c n ∗ Ow c O ∗ (IoW m c (n + 1) -∗ Ow c O -∗ wp frame (wpE (defs₀ (F := F)) 𝒱 (c : Thread nD τ) bd) Set.univ (k ⟨⟩) Q))
      ⊢ wp frame (wpE (defs₀ (F := F)) 𝒱 (c : Thread nD τ) bd) Set.univ (Prog.lift (.waitDma2 ioS srcw (stV (Memref.whole cc0_scratch8) od ib) h1 h2) >>= k) Q :=
  io_wait m 𝒱 c bd n (by omega) O hO (srcw := srcw) (dstw := stV (Memref.whole cc0_scratch8) od ib) ((if_pos hn).symm) k Q
theorem wq_wait (n : ℕ) (hn : n < 19) (O : CellTallies nD τ sig ℕ) (hO : Above 0 O) (M : Memref sig .tc .vmem S2x1024x512 .f32) (hM : NQ M = ioA ⟨n, by omega⟩)
    {sp' : Space} {s' : Shape} {srcw : Memref sig .tc sp' s' .f32} {od : Fin 3 → ℕ} {ib} {h1} {h2}
    {α : Type} (k : PUnit → Prog (TpuEff nD τ sig (Elt F) Λ₀ .tc) α) (Q : α → sProp 𝕄) :
    iprop(IoW m c n ∗ Ow c O ∗ (IoW m c (n + 1) -∗ Ow c O -∗ wp frame (wpE (defs₀ (F := F)) 𝒱 (c : Thread nD τ) bd) Set.univ (k ⟨⟩) Q))
      ⊢ wp frame (wpE (defs₀ (F := F)) 𝒱 (c : Thread nD τ) bd) Set.univ (Prog.lift (.waitDma2 ioS srcw (cwQ M od ib) h1 h2) >>= k) Q :=
  io_wait m 𝒱 c bd n (by omega) O hO (srcw := srcw) (dstw := cwQ M od ib) hM k Q
theorem wo_wait (n : ℕ) (hn : n < 19) (O : CellTallies nD τ sig ℕ) (hO : Above 0 O) (M : Memref sig .tc .vmem S2x512x1024 .f32) (hM : NO M = ioA ⟨n, by omega⟩)
    {sp' : Space} {s' : Shape} {srcw : Memref sig .tc sp' s' .f32} {od : Fin 3 → ℕ} {ib} {h1} {h2}
    {α : Type} (k : PUnit → Prog (TpuEff nD τ sig (Elt F) Λ₀ .tc) α) (Q : α → sProp 𝕄) :
    iprop(IoW m c n ∗ Ow c O ∗ (IoW m c (n + 1) -∗ Ow c O -∗ wp frame (wpE (defs₀ (F := F)) 𝒱 (c : Thread nD τ) bd) Set.univ (k ⟨⟩) Q))
      ⊢ wp frame (wpE (defs₀ (F := F)) 𝒱 (c : Thread nD τ) bd) Set.univ (Prog.lift (.waitDma2 ioS srcw (cwO M od ib) h1 h2) >>= k) Q :=
  io_wait m 𝒱 c bd n (by omega) O hO (srcw := srcw) (dstw := cwO M od ib) hM k Q
theorem wo_last (O : CellTallies nD τ sig ℕ) (hO : Above 0 O) (M : Memref sig .tc .vmem S2x512x1024 .f32) (hM : NO M = ioA 19)
    {sp' : Space} {s' : Shape} {srcw : Memref sig .tc sp' s' .f32} {od : Fin 3 → ℕ} {ib} {h1} {h2}
    {α : Type} (k : PUnit → Prog (TpuEff nD τ sig (Elt F) Λ₀ .tc) α) (Q : α → sProp 𝕄) :
    iprop(IoW m c 19 ∗ Ow c O ∗ (bigSep Finset.univ (ioD (F := F) m c) -∗ semVal ((c : Thread nD τ), SemLoc.dma ioS) 0 -∗ Ow c O -∗ wp frame (wpE (defs₀ (F := F)) 𝒱 (c : Thread nD τ) bd) Set.univ (k ⟨⟩) Q))
      ⊢ wp frame (wpE (defs₀ (F := F)) 𝒱 (c : Thread nD τ) bd) Set.univ (Prog.lift (.waitDma2 ioS srcw (cwO M od ib) h1 h2) >>= k) Q :=
  io_last m 𝒱 c bd O hO (srcw := srcw) (dstw := cwO M od ib) hM k Q
end

section
variable (m : (ℓ : Loc nD τ sig) → Buf (Elt F) ℓ)

/-- What the copies of the query weight's halves start from. -/
def SrcQ (c : Dev nD) : sProp 𝕄 := iprop((∃ f, slotQ (F := F) c mQA 1 fullShare f) ∗ own c (hfQ g0 ![0, 0] inb_S1024x1024_S1024x512_0_0) fullShare (wq m c)
  ∗ (∃ f, slotQ (F := F) c mQB 1 fullShare f) ∗ own c (hfQ g0 ![0, 512] inb_S1024x1024_S1024x512_0_512) fullShare (wq m c))
/-- And of the output weight's. -/
def SrcO (c : Dev nD) : sProp 𝕄 := iprop((∃ f, slotO (F := F) c mOA 1 fullShare f) ∗ own c (hfO g1 ![0, 0] inb_S1024x1024_S512x1024_0_0) fullShare (wo m c)
  ∗ (∃ f, slotO (F := F) c mOB 1 fullShare f) ∗ own c (hfO g1 ![512, 0] inb_S1024x1024_S512x1024_512_0) fullShare (wo m c))

/-- All the copies in are started: the waits may begin. -/
theorem io_drain (c : Dev nD) : IoB (F := F) m c 20 0 ⊢ IoW m c 0 := by
  unfold IoW; exact .rfl

/-- All the copies out are started: the waits may begin. -/
theorem out_drain (c : Dev nD) : OutI (F := F) m c 16 ⊢ OutW m c 0 := by
  unfold OutI OutW
  rw [Nat.zero_mul]
  iintro ⟨HB, -, -⟩
  iexact HB

variable (𝒱 : Variants) (c : Dev nD) (bd : Option 𝒱.V)

set_option maxHeartbeats 1000000 in
theorem part44_wp (Q : (Σ' (d0 : Dev nD) (v2 : BitVec 32) (v5 : BitVec 32), BitVec 32) → sProp 𝕄) :
    iprop(IoX m c 0 ∗ (∀ v2 v5 v7, IoX m c 4 -∗ Q ⟨c, v2, v5, v7⟩)) ⊢ wp frame (wpE (defs₀ (F := F)) 𝒱 (c : Thread nD τ) bd) Set.univ (k0_part44 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part44_eq_skeleton]
  unfold k0_part44_skel
  dsimp only
  rw [wp_bind, Prog.lift, wp_deviceId, wp_ret]
  iintro ⟨HX, HQ⟩
  imodintro
  iapply (x_issue m 𝒱 c bd 0 (by decide) rfl rfl)
  isplitl [HX]; · iexact HX
  iintro HX
  iapply (x_issue m 𝒱 c bd 1 (by decide) rfl rfl)
  isplitl [HX]; · iexact HX
  iintro HX
  iapply (x_issue m 𝒱 c bd 2 (by decide) rfl rfl)
  isplitl [HX]; · iexact HX
  iintro HX
  iapply (x_issue m 𝒱 c bd 3 (by decide) rfl rfl)
  isplitl [HX]; · iexact HX
  iintro HX
  rw [wp_pure]
  imodintro
  iapply HQ $$ HX

set_option maxHeartbeats 1000000 in
theorem part45_wp (Q : PUnit → sProp 𝕄) :
    iprop(IoX m c 4 ∗ (IoX m c 11 -∗ Q ⟨⟩)) ⊢ wp frame (wpE (defs₀ (F := F)) 𝒱 (c : Thread nD τ) bd) Set.univ (k0_part45 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part45_eq_skeleton]
  unfold k0_part45_skel
  dsimp only
  iintro ⟨HX, HQ⟩
  iapply (x_issue m 𝒱 c bd 4 (by decide) rfl rfl)
  isplitl [HX]; · iexact HX
  iintro HX
  iapply (x_issue m 𝒱 c bd 5 (by decide) rfl rfl)
  isplitl [HX]; · iexact HX
  iintro HX
  iapply (x_issue m 𝒱 c bd 6 (by decide) rfl rfl)
  isplitl [HX]; · iexact HX
  iintro HX
  iapply (x_issue m 𝒱 c bd 7 (by decide) rfl rfl)
  isplitl [HX]; · iexact HX
  iintro HX
  iapply (x_issue m 𝒱 c bd 8 (by decide) rfl rfl)
  isplitl [HX]; · iexact HX
  iintro HX
  iapply (x_issue m 𝒱 c bd 9 (by decide) rfl rfl)
  isplitl [HX]; · iexact HX
  iintro HX
  iapply (x_issue m 𝒱 c bd 10 (by decide) rfl rfl)
  isplitl [HX]; · iexact HX
  iintro HX
  rw [wp_pure]
  imodintro
  iapply HQ $$ HX

set_option maxHeartbeats 1000000 in
theorem part46_wp (Q : PUnit → sProp 𝕄) :
    iprop(IoX m c 11 ∗ SrcQ m c ∗ (IoB m c 18 0 -∗ Hold c xs (xIn m c) -∗ Q ⟨⟩)) ⊢ wp frame (wpE (defs₀ (F := F)) 𝒱 (c : Thread nD τ) bd) Set.univ (k0_part46 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part46_eq_skeleton]
  unfold k0_part46_skel SrcQ
  dsimp only
  iintro ⟨HX, ⟨HA, HA', HB, HB'⟩, HQ⟩
  iapply (x_issue m 𝒱 c bd 11 (by decide) rfl rfl)
  isplitl [HX]; · iexact HX
  iintro HX
  iapply (x_issue m 𝒱 c bd 12 (by decide) rfl rfl)
  isplitl [HX]; · iexact HX
  iintro HX
  iapply (x_issue m 𝒱 c bd 13 (by decide) rfl rfl)
  isplitl [HX]; · iexact HX
  iintro HX
  iapply (x_issue m 𝒱 c bd 14 (by decide) rfl rfl)
  isplitl [HX]; · iexact HX
  iintro HX
  iapply (x_issue m 𝒱 c bd 15 (by decide) rfl rfl)
  isplitl [HX]; · iexact HX
  iintro HX
  unfold IoX
  icases HX with ⟨HI, -, HS⟩
  iapply (q_issue m 𝒱 c bd mQA 16 (by decide) (cQA m c 0) rfl (qa_read m c) rfl)
  isplitl [HI]; · iexact HI
  isplitl [HA]; · iexact HA
  isplitl [HA']; · iexact HA'
  iintro HI
  iapply (q_issue m 𝒱 c bd mQB 17 (by decide) (cQB m c 0) rfl (qb_read m c) rfl)
  isplitl [HI]; · iexact HI
  isplitl [HB]; · iexact HB
  isplitl [HB']; · iexact HB'
  iintro HI
  rw [wp_pure]
  imodintro
  ispecialize HQ $$ HI
  iapply HQ $$ HS

set_option maxHeartbeats 1000000 in
theorem part47_wp (v2 : BitVec 32) (Q : (Σ' (v70 : BitVec 32) (v72 : BitVec 32), BitVec 32) → sProp 𝕄) :
    iprop(IoB m c 18 0 ∗ SrcO m c ∗ (∀ v70 v72 v89, IoB m c 20 0 -∗ Q ⟨v70, v72, v89⟩)) ⊢ wp frame (wpE (defs₀ (F := F)) 𝒱 (c : Thread nD τ) bd) Set.univ (k0_part47 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v2) Q := by
  rw [k0_part47_eq_skeleton]
  unfold k0_part47_skel SrcO
  dsimp only
  iintro ⟨HI, ⟨HA, HA', HB, HB'⟩, HQ⟩
  iapply (o_issue m 𝒱 c bd mOA 18 (by decide) (cOA m c 0) rfl (oa_read m c) rfl)
  isplitl [HI]; · iexact HI
  isplitl [HA]; · iexact HA
  isplitl [HA']; · iexact HA'
  iintro HI
  iapply (o_issue m 𝒱 c bd mOB 19 (by decide) (cOB m c 0) rfl (ob_read m c) rfl)
  isplitl [HI]; · iexact HI
  isplitl [HB]; · iexact HB
  isplitl [HB']; · iexact HB'
  iintro HI
  rw [wp_pure]
  imodintro
  iapply HQ $$ HI

set_option maxHeartbeats 1000000 in
theorem part48_wp (v70 v72 v89 : BitVec 32) (Q : BitVec 32 → sProp 𝕄) :
    iprop(∀ v, Q v) ⊢ wp frame (wpE (defs₀ (F := F)) 𝒱 (c : Thread nD τ) bd) Set.univ (k0_part48 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v70 v72 v89) Q := by
  rw [k0_part48_eq_skeleton]
  unfold k0_part48_skel
  dsimp only
  iintro HQ
  rw [wp_pure]
  imodintro
  iapply HQ

set_option maxHeartbeats 1000000 in
theorem part49_wp (v70 v72 v119 : BitVec 32) (Q : BitVec 32 → sProp 𝕄) :
    iprop(∀ v, Q v) ⊢ wp frame (wpE (defs₀ (F := F)) 𝒱 (c : Thread nD τ) bd) Set.univ (k0_part49 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v70 v72 v119) Q := by
  rw [k0_part49_eq_skeleton]
  unfold k0_part49_skel
  dsimp only
  iintro HQ
  rw [wp_pure]
  imodintro
  iapply HQ

/-- What a device needs at the entry barrier. -/
def BarIn : sProp 𝕄 := iprop(
  (dutyTok ER (cell (lft c) 0) 0 true ∗ reached ER (cell (lft c) 0) 0 ∗ freeA (F := F) (lft c) 0)
    ∗ (dutyTok ER (cell (rgt c) 0) 0 false ∗ reached ER (cell (rgt c) 0) 0 ∗ freeB (F := F) (rgt c) 0)
    ∗ cred (tallyAt (cell c 0) 1 2) ∗ atPos ER (cell c 0) 0 ∅ 0)

set_option maxHeartbeats 1000000 in
theorem part66_wp (v5 v7 : BitVec 32) (Q : PUnit → sProp 𝕄) :
    iprop(Ctx m ∗ KI m c 0 61 ∗ Ow c (OH c 0 + tallyAt (cell (rgt c) 0) 1 1 + tallyAt (cell (lft c) 0) 1 1) ∗ BarIn c
      ∗ (KI m c 0 64 -∗ atPos ER (cell c 0) 1 ∅ 0 -∗ Free c 0 -∗ Ow c (OH c 0) -∗ Q ⟨⟩)) ⊢ wp frame (wpE (defs₀ (F := F)) 𝒱 (c : Thread nD τ) bd) Set.univ (k0_part66 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v5 v7) Q := by
  rw [k0_part66_eq_skeleton]
  unfold k0_part66_skel BarIn
  dsimp only
  iintro ⟨#HC, HK, HO, ⟨⟨Ht1, Hr1, Hp1⟩, ⟨Ht2, Hr2, Hp2⟩, Hcr, Hat⟩, HQ⟩
  iapply (issue1 (F := F) m 𝒱 c bd 0 61 62 15 (by decide) rfl rfl rfl ((k0_off31_eq c).trans (osA0 c 15 _ rfl)) rfl)
  isplitl [HK]; · iexact HK
  iintro HK
  iapply (issue2 (F := F) m 𝒱 c bd 0 62 63 15 (by decide) rfl rfl rfl ((k0_off32_eq c).trans (osB0 c 15 _ rfl)) rfl)
  isplitl [HK]; · iexact HK
  iintro HK
  iapply (issue3 (F := F) m 𝒱 c bd 0 63 64 15 (by decide) rfl rfl rfl ((k0_off32_eq c).trans (osB0 c 15 _ rfl)) rfl)
  isplitl [HK]; · iexact HK
  iintro HK
  iapply (wp_sig m 𝒱 c bd (lft c) 0 0 true (by decide) rfl 1 (OH c 0 + tallyAt (cell (rgt c) 0) 1 1) (show (⟨k0_dev1 c, k0_dev1_lt c⟩ : Dev nD) = lft c from Fin.ext (k0_dev1_eq c)) rfl)
  isplitr; · iexact HC
  isplitl [HO]; · iexact HO
  isplitl [Ht1]; · iexact Ht1
  isplitl [Hr1]; · iexact Hr1
  isplitl [Hp1]
  · ihave Hp1 := (Entails.of_eq (show freeA (F := F) (lft c) 0 = payJ m (lft c) 0 0 true from rfl)) $$ Hp1
    iexact Hp1
  iintro HO
  iapply (wp_sig m 𝒱 c bd (rgt c) 0 0 false (by decide) rfl 1 (OH c 0) (show (⟨k0_dev2 c, k0_dev2_lt c⟩ : Dev nD) = rgt c from Fin.ext (k0_dev2_eq c)) rfl)
  isplitr; · iexact HC
  isplitl [HO]; · iexact HO
  isplitl [Ht2]; · iexact Ht2
  isplitl [Hr2]; · iexact Hr2
  isplitl [Hp2]
  · ihave Hp2 := (Entails.of_eq (show freeB (F := F) (rgt c) 0 = payJ m (rgt c) 0 0 false from rfl)) $$ Hp2
    iexact Hp2
  iintro HO
  iapply (wp_bwait m 𝒱 c bd (OH c 0) (above_OH c 0) rfl)
  isplitr; · iexact HC
  isplitl [Hcr]; · iexact Hcr
  isplitl [HO]; · iexact HO
  isplitl [Hat]; · iexact Hat
  iintro Hat HB HA HO
  rw [wp_pure]
  imodintro
  ispecialize HQ $$ HK
  ispecialize HQ $$ Hat
  ispecialize HQ $$ [HA HB]
  · unfold Free
    isplitl [HA] <;> iassumption
  iapply HQ $$ HO

set_option maxHeartbeats 1000000 in
theorem part67_wp (O : CellTallies nD τ sig ℕ) (hO : Above 0 O) (Q : PUnit → sProp 𝕄) :
    iprop(IoW m c 0 ∗ Ow c O ∗ (IoW m c 7 -∗ Ow c O -∗ Q ⟨⟩)) ⊢ wp frame (wpE (defs₀ (F := F)) 𝒱 (c : Thread nD τ) bd) Set.univ (k0_part67 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part67_eq_skeleton]
  unfold k0_part67_skel
  dsimp only
  iintro ⟨HW, HO, HQ⟩
  iapply (x_wait m 𝒱 c bd 0 (by decide) O hO)
  isplitl [HW]; · iexact HW
  isplitl [HO]; · iexact HO
  iintro HW HO
  iapply (x_wait m 𝒱 c bd 1 (by decide) O hO)
  isplitl [HW]; · iexact HW
  isplitl [HO]; · iexact HO
  iintro HW HO
  iapply (x_wait m 𝒱 c bd 2 (by decide) O hO)
  isplitl [HW]; · iexact HW
  isplitl [HO]; · iexact HO
  iintro HW HO
  iapply (x_wait m 𝒱 c bd 3 (by decide) O hO)
  isplitl [HW]; · iexact HW
  isplitl [HO]; · iexact HO
  iintro HW HO
  iapply (x_wait m 𝒱 c bd 4 (by decide) O hO)
  isplitl [HW]; · iexact HW
  isplitl [HO]; · iexact HO
  iintro HW HO
  iapply (x_wait m 𝒱 c bd 5 (by decide) O hO)
  isplitl [HW]; · iexact HW
  isplitl [HO]; · iexact HO
  iintro HW HO
  iapply (x_wait m 𝒱 c bd 6 (by decide) O hO)
  isplitl [HW]; · iexact HW
  isplitl [HO]; · iexact HO
  iintro HW HO
  rw [wp_pure]
  imodintro
  ispecialize HQ $$ HW
  iapply HQ $$ HO

set_option maxHeartbeats 1000000 in
theorem part68_wp (O : CellTallies nD τ sig ℕ) (hO : Above 0 O) (Q : PUnit → sProp 𝕄) :
    iprop(IoW m c 7 ∗ Ow c O ∗ (IoW m c 14 -∗ Ow c O -∗ Q ⟨⟩)) ⊢ wp frame (wpE (defs₀ (F := F)) 𝒱 (c : Thread nD τ) bd) Set.univ (k0_part68 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part68_eq_skeleton]
  unfold k0_part68_skel
  dsimp only
  iintro ⟨HW, HO, HQ⟩
  iapply (x_wait m 𝒱 c bd 7 (by decide) O hO)
  isplitl [HW]; · iexact HW
  isplitl [HO]; · iexact HO
  iintro HW HO
  iapply (x_wait m 𝒱 c bd 8 (by decide) O hO)
  isplitl [HW]; · iexact HW
  isplitl [HO]; · iexact HO
  iintro HW HO
  iapply (x_wait m 𝒱 c bd 9 (by decide) O hO)
  isplitl [HW]; · iexact HW
  isplitl [HO]; · iexact HO
  iintro HW HO
  iapply (x_wait m 𝒱 c bd 10 (by decide) O hO)
  isplitl [HW]; · iexact HW
  isplitl [HO]; · iexact HO
  iintro HW HO
  iapply (x_wait m 𝒱 c bd 11 (by decide) O hO)
  isplitl [HW]; · iexact HW
  isplitl [HO]; · iexact HO
  iintro HW HO
  iapply (x_wait m 𝒱 c bd 12 (by decide) O hO)
  isplitl [HW]; · iexact HW
  isplitl [HO]; · iexact HO
  iintro HW HO
  iapply (x_wait m 𝒱 c bd 13 (by decide) O hO)
  isplitl [HW]; · iexact HW
  isplitl [HO]; · iexact HO
  iintro HW HO
  rw [wp_pure]
  imodintro
  ispecialize HQ $$ HW
  iapply HQ $$ HO

set_option maxHeartbeats 1000000 in
theorem part69_wp (O : CellTallies nD τ sig ℕ) (hO : Above 0 O) (f : S1024x1024.Idx → Elt F .f32) (Q : FVec F S1024x1024 .f32 → sProp 𝕄) :
    iprop(IoW m c 14 ∗ Ow c O ∗ Wh c cc0_scratch11 f
      ∗ (bigSep Finset.univ (ioD (F := F) m c) -∗ semVal ((c : Thread nD τ), SemLoc.dma ioS) 0 -∗ Ow c O -∗ Wh c cc0_scratch11 f -∗ Q (k0_pay18 (F := F))))
      ⊢ wp frame (wpE (defs₀ (F := F)) 𝒱 (c : Thread nD τ) bd) Set.univ (k0_part69 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part69_eq_skeleton]
  unfold k0_part69_skel
  dsimp only
  iintro ⟨HW, HO, HF, HQ⟩
  iapply (x_wait m 𝒱 c bd 14 (by decide) O hO)
  isplitl [HW]; · iexact HW
  isplitl [HO]; · iexact HO
  iintro HW HO
  iapply (x_wait m 𝒱 c bd 15 (by decide) O hO)
  isplitl [HW]; · iexact HW
  isplitl [HO]; · iexact HO
  iintro HW HO
  iapply (wq_wait m 𝒱 c bd 16 (by decide) O hO mQA rfl)
  isplitl [HW]; · iexact HW
  isplitl [HO]; · iexact HO
  iintro HW HO
  iapply (wq_wait m 𝒱 c bd 17 (by decide) O hO mQB rfl)
  isplitl [HW]; · iexact HW
  isplitl [HO]; · iexact HO
  iintro HW HO
  iapply (wo_wait m 𝒱 c bd 18 (by decide) O hO mOA rfl)
  isplitl [HW]; · iexact HW
  isplitl [HO]; · iexact HO
  iintro HW HO
  iapply (wo_last m 𝒱 c bd O hO mOB rfl)
  isplitl [HW]; · iexact HW
  isplitl [HO]; · iexact HO
  iintro HD Hs HO
  iapply (ldW 𝒱 c bd (Memref.whole cc0_scratch11) f)
  isplitl [HF]; · iexact HF
  iintro HF
  rw [wp_pure]
  imodintro
  ispecialize HQ $$ HD
  ispecialize HQ $$ Hs
  ispecialize HQ $$ HO
  iapply HQ $$ HF
end

end Cert.KernelIdeal.Ring

end
-- ==== Proof.KernelIdeal.HopSend.lean ====
/-
The start of a hop: the credits are waited for and the four copies started.
-/
module

public import proofs.«01_k».proof.Proof.KernelIdeal.HopDefs

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)
variable (𝒱 : Variants) (c : Dev nD) (bd : Option 𝒱.V)
  (a1 : Memref sig .tc .vmem S1024x1024 .f32) (h1 : a1.IsWhole) (a2 : Memref sig .tc .vmem S1024x1024 .f32) (h2 : a2.IsWhole)
  (k0_t1 : Fin k0_t1_loop.trips)

/-- The credits of the hop before are waited for. -/
theorem credits_wp (r : ℕ) (hr : r < 6) {α : Type} (kk : PUnit → Prog (TpuEff nD τ sig (Elt F) Λ₀ .tc) α) (Q : α → sProp 𝕄) :
    iprop(Ctx m ∗ Ow c (OH c (r + 1)) ∗ PreCred c (r + 1) ∗ (Ow c (OH c (r + 1)) -∗ MidCred c (r + 1) -∗ wp frame (wpE (defs₀ (F := F)) 𝒱 (c : Thread nD τ) bd) Set.univ (kk ⟨⟩) Q))
      ⊢ wp frame (wpE (defs₀ (F := F)) 𝒱 (c : Thread nD τ) bd) Set.univ (semWaitWord cc0_scratch16.sem 1#32 >>= fun _ => semWaitWord cc0_scratch17.sem 1#32 >>= kk) Q := by
  unfold PreCred MidCred CPos
  rw [Nat.add_sub_cancel, min_eq_left (by omega : r ≤ 6), min_eq_left (by omega : r + 1 ≤ 6), ico_peel _ r 6 hr, if_pos (by omega : r + 1 < 7)]
  conv_lhs => rw [show CredC (F := F) c r = _ from rfl]
  unfold CredC At Free
  iintro ⟨#HC, HO, ⟨⟨⟨H9, -⟩, H10, -⟩, ⟨⟨C9, C10⟩, HT⟩, -⟩, HK⟩
  iapply (wp_cwait m 𝒱 c bd 9 (by decide) r (by show r < 6; exact hr) (2 * r + 3) (by omega) (OH c (r + 1)) (above_OH c (r + 1)) (q := cc0_scratch16.sem) rfl rfl)
  isplitr; · iexact HC
  isplitl [C9]; · iexact C9
  isplitl [HO]; · iexact HO
  isplitl [H9]; · iexact H9
  iintro H9 R9 P9 HO
  iapply (wp_cwait m 𝒱 c bd 10 (by decide) r (by show r < 6; exact hr) (2 * r + 3) (by omega) (OH c (r + 1)) (above_OH c (r + 1)) (q := cc0_scratch17.sem) rfl rfl)
  isplitr; · iexact HC
  isplitl [C10]; · iexact C10
  isplitl [HO]; · iexact HO
  isplitl [H10]; · iexact H10
  iintro H10 R10 P10 HO
  ihave P9 := (Entails.of_eq (show payJ m c 9 r false = freeA c (r + 1) from rfl)) $$ P9
  ihave P10 := (Entails.of_eq (show payJ m c 10 r false = freeB c (r + 1) from rfl)) $$ P10
  iapply HK $$ HO
  isplitl [H9 R9 H10 R10]
  · isplitl [H9 R9]
    · isplitl [H9] <;> iassumption
    · isplitl [H10] <;> iassumption
  isplitl [HT]; · iexact HT
  isplitl [P9]; · iexact P9
  iexact P10

/-- What starting hop `h`'s copies takes, and leaves. -/
def SendPre (h : ℕ) : sProp 𝕄 := iprop(Ow c (OH c h) ∗ SendD c h ∗ Free c h ∗ Comm m c h fullShare.left
  ∗ reached ER (cell c 1) h ∗ reached ER (cell c 2) h ∗ reached ER (cell c 3) h ∗ reached ER (cell c 4) h ∗ reached ER (cell c 9) h ∗ reached ER (cell c 10) h)

theorem k0_dev_rgt : k0_dev3 c = (rgt c).val ∧ k0_dev4 c = (rgt c).val ∧ k0_dev5 c = (lft c).val ∧ k0_dev6 c = (lft c).val := by
  refine ⟨k0_dev3_eq c, k0_dev4_eq c, k0_dev5_eq c, k0_dev6_eq c⟩

theorem sends_wp (hh : k0_t1.val < 7) (k0_h2 : k0_cond2 k0_t1 = 1#1) (v2 v5 v7 arg24 : BitVec 32) {α : Type}
    (kk : (Σ' (v1297 : BitVec 32) (v1299 : BitVec 32), BitVec 32) → Prog (TpuEff nD τ sig (Elt F) Λ₀ .tc) α) (Q : α → sProp 𝕄) :
    iprop(Ctx m ∗ SendPre m c k0_t1.val ∗ (∀ x, Ow c (OM c k0_t1.val) -∗ SendCr c -∗ wp frame (wpE (defs₀ (F := F)) 𝒱 (c : Thread nD τ) bd) Set.univ (kk x) Q))
      ⊢ wp frame (wpE (defs₀ (F := F)) 𝒱 (c : Thread nD τ) bd) Set.univ (k0_part1 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v5 v7 k0_t1 k0_h2 >>= fun _ => k0_part2 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v2 k0_t1 arg24 k0_h2 >>= kk) Q := by
  obtain ⟨e3, e4, e5, e6⟩ := k0_dev_rgt c
  unfold SendPre SendD Free freeA freeB Comm SendCr
  rw [OH_eq c _ hh, k0_part1_eq_skeleton, k0_part2_eq_skeleton]
  unfold k0_part1_skel k0_part2_skel
  iintro ⟨#HC, ⟨HO, ⟨D1, D2, D3, D4, D5, D6, D7, D8⟩, ⟨⟨FQA, FOA, R5, R6⟩, FQB, FOB, R7, R8⟩, ⟨S1, S2, S3, S4⟩, R1, R2, R3, R4, R9, R10⟩, HK⟩
  simp only [Prog.bind_assoc]
  iapply (wp_send0 m 𝒱 c bd k0_t1.val hh _ (Fin.ext e3) ((k0_off34_eq k0_t1).trans rfl) ((k0_off33_eq k0_t1).trans rfl))
  isplitr; · iexact HC
  isplitl [S1]; · iexact S1
  isplitl [FQA]; · iexact FQA
  isplitl [R5]; · iexact R5
  isplitl [HO]; · iexact HO
  isplitl [D1]; · iexact D1
  isplitl [R1]; · iexact R1
  isplitl [D5]; · iexact D5
  isplitl [R9]; · iexact R9
  iintro C1 HO
  iapply (wp_send1 m 𝒱 c bd k0_t1.val hh _ (Fin.ext e4) ((k0_off36_eq k0_t1).trans rfl) ((k0_off35_eq k0_t1).trans rfl))
  isplitr; · iexact HC
  isplitl [S2]; · iexact S2
  isplitl [FOA]; · iexact FOA
  isplitl [R6]; · iexact R6
  isplitl [HO]; · iexact HO
  isplitl [D2]; · iexact D2
  isplitl [R2]; · iexact R2
  isplitl [D6]; · iexact D6
  iintro C2 HO
  iapply (wp_send2 m 𝒱 c bd k0_t1.val hh _ (Fin.ext e5) ((k0_off34_eq k0_t1).trans rfl) ((k0_off33_eq k0_t1).trans rfl))
  isplitr; · iexact HC
  isplitl [S3]; · iexact S3
  isplitl [FQB]; · iexact FQB
  isplitl [R7]; · iexact R7
  isplitl [HO]; · iexact HO
  isplitl [D3]; · iexact D3
  isplitl [R3]; · iexact R3
  isplitl [D7]; · iexact D7
  isplitl [R10]; · iexact R10
  iintro C3 HO
  simp only [Prog.pure_eq_ret, Prog.bind_ret]
  iapply (wp_send3 m 𝒱 c bd k0_t1.val hh _ (Fin.ext e6) ((k0_off36_eq k0_t1).trans rfl) ((k0_off35_eq k0_t1).trans rfl))
  isplitr; · iexact HC
  isplitl [S4]; · iexact S4
  isplitl [FOB]; · iexact FOB
  isplitl [R8]; · iexact R8
  isplitl [HO]; · iexact HO
  isplitl [D4]; · iexact D4
  isplitl [R4]; · iexact R4
  isplitl [D8]; · iexact D8
  iintro C4 HO
  simp only [Prog.pure_eq_ret, Prog.bind_ret]
  iapply HK $$ HO
  isplitl [C1]; · iexact C1
  isplitl [C2]; · iexact C2
  isplitl [C3]; · iexact C3
  iexact C4
end

end Cert.KernelIdeal.Ring

end
-- ==== Proof.KernelIdeal.KvParts1.lean ====
/-
The sixty-four copies of the next hop, as the body starts them.
-/
module

public import proofs.«01_k».proof.Proof.KernelIdeal.KvState

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

set_option maxHeartbeats 1000000 in
theorem part5_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (v1297 : BitVec 32) (v1299 : BitVec 32) (v1380 : BitVec 32) (Q : PUnit → sProp 𝕄) :
    iprop(KI m c (k0_t1.val + 1) 0 ∗ (KI m c (k0_t1.val + 1) 2 -∗ Q ⟨⟩)) ⊢ wp frame (wpE (defs₀ (F := F)) 𝒱 (c : Thread nD τ) bd) Set.univ
      (k0_part5 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 v1297 v1299 v1380) Q := by
  rw [k0_part5_eq_skeleton]
  unfold k0_part5_skel
  dsimp only
  iintro ⟨HK, HQ⟩
  iapply (issue0 (F := F) m 𝒱 c bd (k0_t1.val + 1) 0 1 0 (by decide) rfl rfl (k0_off38_eq k0_t1) ((k0_off39_eq c k0_t1).trans (osA c k0_t1.val 0 _ rfl)) (k0_off37_eq k0_t1))
  isplitl [HK]; · iexact HK
  iintro HK
  iapply (issue1 (F := F) m 𝒱 c bd (k0_t1.val + 1) 1 2 0 (by decide) rfl rfl (k0_off38_eq k0_t1) ((k0_off39_eq c k0_t1).trans (osA c k0_t1.val 0 _ rfl)) (k0_off40_eq k0_t1))
  isplitl [HK]; · iexact HK
  iintro HK
  rw [wp_pure]
  imodintro
  iapply HQ $$ HK

set_option maxHeartbeats 1000000 in
theorem part6_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 2 ∗ (KI m c (k0_t1.val + 1) 6 -∗ Q ⟨⟩)) ⊢ wp frame (wpE (defs₀ (F := F)) 𝒱 (c : Thread nD τ) bd) Set.univ
      (k0_part6 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part6_eq_skeleton]
  unfold k0_part6_skel
  dsimp only
  iintro ⟨HK, HQ⟩
  iapply (issue2 (F := F) m 𝒱 c bd (k0_t1.val + 1) 2 3 0 (by decide) rfl rfl (k0_off38_eq k0_t1) ((k0_off42_eq c k0_t1).trans (osB c k0_t1.val 0 _ rfl)) (k0_off41_eq k0_t1))
  isplitl [HK]; · iexact HK
  iintro HK
  iapply (issue3 (F := F) m 𝒱 c bd (k0_t1.val + 1) 3 4 0 (by decide) rfl rfl (k0_off38_eq k0_t1) ((k0_off42_eq c k0_t1).trans (osB c k0_t1.val 0 _ rfl)) (k0_off43_eq k0_t1))
  isplitl [HK]; · iexact HK
  iintro HK
  iapply (issue0 (F := F) m 𝒱 c bd (k0_t1.val + 1) 4 5 1 (by decide) rfl rfl (k0_off44_eq k0_t1) ((k0_off45_eq c k0_t1).trans (osA c k0_t1.val 1 _ rfl)) (k0_off37_eq k0_t1))
  isplitl [HK]; · iexact HK
  iintro HK
  iapply (issue1 (F := F) m 𝒱 c bd (k0_t1.val + 1) 5 6 1 (by decide) rfl rfl (k0_off44_eq k0_t1) ((k0_off45_eq c k0_t1).trans (osA c k0_t1.val 1 _ rfl)) (k0_off40_eq k0_t1))
  isplitl [HK]; · iexact HK
  iintro HK
  rw [wp_pure]
  imodintro
  iapply HQ $$ HK

set_option maxHeartbeats 1000000 in
theorem part7_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 6 ∗ (KI m c (k0_t1.val + 1) 11 -∗ Q ⟨⟩)) ⊢ wp frame (wpE (defs₀ (F := F)) 𝒱 (c : Thread nD τ) bd) Set.univ
      (k0_part7 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part7_eq_skeleton]
  unfold k0_part7_skel
  dsimp only
  iintro ⟨HK, HQ⟩
  iapply (issue2 (F := F) m 𝒱 c bd (k0_t1.val + 1) 6 7 1 (by decide) rfl rfl (k0_off44_eq k0_t1) ((k0_off46_eq c k0_t1).trans (osB c k0_t1.val 1 _ rfl)) (k0_off41_eq k0_t1))
  isplitl [HK]; · iexact HK
  iintro HK
  iapply (issue3 (F := F) m 𝒱 c bd (k0_t1.val + 1) 7 8 1 (by decide) rfl rfl (k0_off44_eq k0_t1) ((k0_off46_eq c k0_t1).trans (osB c k0_t1.val 1 _ rfl)) (k0_off43_eq k0_t1))
  isplitl [HK]; · iexact HK
  iintro HK
  iapply (issue0 (F := F) m 𝒱 c bd (k0_t1.val + 1) 8 9 2 (by decide) rfl rfl (k0_off47_eq k0_t1) ((k0_off48_eq c k0_t1).trans (osA c k0_t1.val 2 _ rfl)) (k0_off37_eq k0_t1))
  isplitl [HK]; · iexact HK
  iintro HK
  iapply (issue1 (F := F) m 𝒱 c bd (k0_t1.val + 1) 9 10 2 (by decide) rfl rfl (k0_off47_eq k0_t1) ((k0_off48_eq c k0_t1).trans (osA c k0_t1.val 2 _ rfl)) (k0_off40_eq k0_t1))
  isplitl [HK]; · iexact HK
  iintro HK
  iapply (issue2 (F := F) m 𝒱 c bd (k0_t1.val + 1) 10 11 2 (by decide) rfl rfl (k0_off47_eq k0_t1) ((k0_off49_eq c k0_t1).trans (osB c k0_t1.val 2 _ rfl)) (k0_off41_eq k0_t1))
  isplitl [HK]; · iexact HK
  iintro HK
  rw [wp_pure]
  imodintro
  iapply HQ $$ HK

set_option maxHeartbeats 1000000 in
theorem part8_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 11 ∗ (KI m c (k0_t1.val + 1) 16 -∗ Q ⟨⟩)) ⊢ wp frame (wpE (defs₀ (F := F)) 𝒱 (c : Thread nD τ) bd) Set.univ
      (k0_part8 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part8_eq_skeleton]
  unfold k0_part8_skel
  dsimp only
  iintro ⟨HK, HQ⟩
  iapply (issue3 (F := F) m 𝒱 c bd (k0_t1.val + 1) 11 12 2 (by decide) rfl rfl (k0_off47_eq k0_t1) ((k0_off49_eq c k0_t1).trans (osB c k0_t1.val 2 _ rfl)) (k0_off43_eq k0_t1))
  isplitl [HK]; · iexact HK
  iintro HK
  iapply (issue0 (F := F) m 𝒱 c bd (k0_t1.val + 1) 12 13 3 (by decide) rfl rfl (k0_off50_eq k0_t1) ((k0_off51_eq c k0_t1).trans (osA c k0_t1.val 3 _ rfl)) (k0_off37_eq k0_t1))
  isplitl [HK]; · iexact HK
  iintro HK
  iapply (issue1 (F := F) m 𝒱 c bd (k0_t1.val + 1) 13 14 3 (by decide) rfl rfl (k0_off50_eq k0_t1) ((k0_off51_eq c k0_t1).trans (osA c k0_t1.val 3 _ rfl)) (k0_off40_eq k0_t1))
  isplitl [HK]; · iexact HK
  iintro HK
  iapply (issue2 (F := F) m 𝒱 c bd (k0_t1.val + 1) 14 15 3 (by decide) rfl rfl (k0_off50_eq k0_t1) ((k0_off52_eq c k0_t1).trans (osB c k0_t1.val 3 _ rfl)) (k0_off41_eq k0_t1))
  isplitl [HK]; · iexact HK
  iintro HK
  iapply (issue3 (F := F) m 𝒱 c bd (k0_t1.val + 1) 15 16 3 (by decide) rfl rfl (k0_off50_eq k0_t1) ((k0_off52_eq c k0_t1).trans (osB c k0_t1.val 3 _ rfl)) (k0_off43_eq k0_t1))
  isplitl [HK]; · iexact HK
  iintro HK
  rw [wp_pure]
  imodintro
  iapply HQ $$ HK

set_option maxHeartbeats 1000000 in
theorem part9_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 16 ∗ (KI m c (k0_t1.val + 1) 20 -∗ Q ⟨⟩)) ⊢ wp frame (wpE (defs₀ (F := F)) 𝒱 (c : Thread nD τ) bd) Set.univ
      (k0_part9 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part9_eq_skeleton]
  unfold k0_part9_skel
  dsimp only
  iintro ⟨HK, HQ⟩
  iapply (issue0 (F := F) m 𝒱 c bd (k0_t1.val + 1) 16 17 4 (by decide) rfl rfl (k0_off53_eq k0_t1) ((k0_off54_eq c k0_t1).trans (osA c k0_t1.val 4 _ rfl)) (k0_off37_eq k0_t1))
  isplitl [HK]; · iexact HK
  iintro HK
  iapply (issue1 (F := F) m 𝒱 c bd (k0_t1.val + 1) 17 18 4 (by decide) rfl rfl (k0_off53_eq k0_t1) ((k0_off54_eq c k0_t1).trans (osA c k0_t1.val 4 _ rfl)) (k0_off40_eq k0_t1))
  isplitl [HK]; · iexact HK
  iintro HK
  iapply (issue2 (F := F) m 𝒱 c bd (k0_t1.val + 1) 18 19 4 (by decide) rfl rfl (k0_off53_eq k0_t1) ((k0_off55_eq c k0_t1).trans (osB c k0_t1.val 4 _ rfl)) (k0_off41_eq k0_t1))
  isplitl [HK]; · iexact HK
  iintro HK
  iapply (issue3 (F := F) m 𝒱 c bd (k0_t1.val + 1) 19 20 4 (by decide) rfl rfl (k0_off53_eq k0_t1) ((k0_off55_eq c k0_t1).trans (osB c k0_t1.val 4 _ rfl)) (k0_off43_eq k0_t1))
  isplitl [HK]; · iexact HK
  iintro HK
  rw [wp_pure]
  imodintro
  iapply HQ $$ HK

set_option maxHeartbeats 1000000 in
theorem part10_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 20 ∗ (KI m c (k0_t1.val + 1) 25 -∗ Q ⟨⟩)) ⊢ wp frame (wpE (defs₀ (F := F)) 𝒱 (c : Thread nD τ) bd) Set.univ
      (k0_part10 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part10_eq_skeleton]
  unfold k0_part10_skel
  dsimp only
  iintro ⟨HK, HQ⟩
  iapply (issue0 (F := F) m 𝒱 c bd (k0_t1.val + 1) 20 21 5 (by decide) rfl rfl (k0_off56_eq k0_t1) ((k0_off57_eq c k0_t1).trans (osA c k0_t1.val 5 _ rfl)) (k0_off37_eq k0_t1))
  isplitl [HK]; · iexact HK
  iintro HK
  iapply (issue1 (F := F) m 𝒱 c bd (k0_t1.val + 1) 21 22 5 (by decide) rfl rfl (k0_off56_eq k0_t1) ((k0_off57_eq c k0_t1).trans (osA c k0_t1.val 5 _ rfl)) (k0_off40_eq k0_t1))
  isplitl [HK]; · iexact HK
  iintro HK
  iapply (issue2 (F := F) m 𝒱 c bd (k0_t1.val + 1) 22 23 5 (by decide) rfl rfl (k0_off56_eq k0_t1) ((k0_off58_eq c k0_t1).trans (osB c k0_t1.val 5 _ rfl)) (k0_off41_eq k0_t1))
  isplitl [HK]; · iexact HK
  iintro HK
  iapply (issue3 (F := F) m 𝒱 c bd (k0_t1.val + 1) 23 24 5 (by decide) rfl rfl (k0_off56_eq k0_t1) ((k0_off58_eq c k0_t1).trans (osB c k0_t1.val 5 _ rfl)) (k0_off43_eq k0_t1))
  isplitl [HK]; · iexact HK
  iintro HK
  iapply (issue0 (F := F) m 𝒱 c bd (k0_t1.val + 1) 24 25 6 (by decide) rfl rfl (k0_off59_eq k0_t1) ((k0_off60_eq c k0_t1).trans (osA c k0_t1.val 6 _ rfl)) (k0_off37_eq k0_t1))
  isplitl [HK]; · iexact HK
  iintro HK
  rw [wp_pure]
  imodintro
  iapply HQ $$ HK

set_option maxHeartbeats 1000000 in
theorem part11_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 25 ∗ (KI m c (k0_t1.val + 1) 30 -∗ Q ⟨⟩)) ⊢ wp frame (wpE (defs₀ (F := F)) 𝒱 (c : Thread nD τ) bd) Set.univ
      (k0_part11 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part11_eq_skeleton]
  unfold k0_part11_skel
  dsimp only
  iintro ⟨HK, HQ⟩
  iapply (issue1 (F := F) m 𝒱 c bd (k0_t1.val + 1) 25 26 6 (by decide) rfl rfl (k0_off59_eq k0_t1) ((k0_off60_eq c k0_t1).trans (osA c k0_t1.val 6 _ rfl)) (k0_off40_eq k0_t1))
  isplitl [HK]; · iexact HK
  iintro HK
  iapply (issue2 (F := F) m 𝒱 c bd (k0_t1.val + 1) 26 27 6 (by decide) rfl rfl (k0_off59_eq k0_t1) ((k0_off61_eq c k0_t1).trans (osB c k0_t1.val 6 _ rfl)) (k0_off41_eq k0_t1))
  isplitl [HK]; · iexact HK
  iintro HK
  iapply (issue3 (F := F) m 𝒱 c bd (k0_t1.val + 1) 27 28 6 (by decide) rfl rfl (k0_off59_eq k0_t1) ((k0_off61_eq c k0_t1).trans (osB c k0_t1.val 6 _ rfl)) (k0_off43_eq k0_t1))
  isplitl [HK]; · iexact HK
  iintro HK
  iapply (issue0 (F := F) m 𝒱 c bd (k0_t1.val + 1) 28 29 7 (by decide) rfl rfl (k0_off62_eq k0_t1) ((k0_off63_eq c k0_t1).trans (osA c k0_t1.val 7 _ rfl)) (k0_off37_eq k0_t1))
  isplitl [HK]; · iexact HK
  iintro HK
  iapply (issue1 (F := F) m 𝒱 c bd (k0_t1.val + 1) 29 30 7 (by decide) rfl rfl (k0_off62_eq k0_t1) ((k0_off63_eq c k0_t1).trans (osA c k0_t1.val 7 _ rfl)) (k0_off40_eq k0_t1))
  isplitl [HK]; · iexact HK
  iintro HK
  rw [wp_pure]
  imodintro
  iapply HQ $$ HK

set_option maxHeartbeats 1000000 in
theorem part12_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 30 ∗ (KI m c (k0_t1.val + 1) 34 -∗ Q ⟨⟩)) ⊢ wp frame (wpE (defs₀ (F := F)) 𝒱 (c : Thread nD τ) bd) Set.univ
      (k0_part12 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part12_eq_skeleton]
  unfold k0_part12_skel
  dsimp only
  iintro ⟨HK, HQ⟩
  iapply (issue2 (F := F) m 𝒱 c bd (k0_t1.val + 1) 30 31 7 (by decide) rfl rfl (k0_off62_eq k0_t1) ((k0_off64_eq c k0_t1).trans (osB c k0_t1.val 7 _ rfl)) (k0_off41_eq k0_t1))
  isplitl [HK]; · iexact HK
  iintro HK
  iapply (issue3 (F := F) m 𝒱 c bd (k0_t1.val + 1) 31 32 7 (by decide) rfl rfl (k0_off62_eq k0_t1) ((k0_off64_eq c k0_t1).trans (osB c k0_t1.val 7 _ rfl)) (k0_off43_eq k0_t1))
  isplitl [HK]; · iexact HK
  iintro HK
  iapply (issue0 (F := F) m 𝒱 c bd (k0_t1.val + 1) 32 33 8 (by decide) rfl rfl (k0_off65_eq k0_t1) ((k0_off66_eq c k0_t1).trans (osA c k0_t1.val 8 _ rfl)) (k0_off37_eq k0_t1))
  isplitl [HK]; · iexact HK
  iintro HK
  iapply (issue1 (F := F) m 𝒱 c bd (k0_t1.val + 1) 33 34 8 (by decide) rfl rfl (k0_off65_eq k0_t1) ((k0_off66_eq c k0_t1).trans (osA c k0_t1.val 8 _ rfl)) (k0_off40_eq k0_t1))
  isplitl [HK]; · iexact HK
  iintro HK
  rw [wp_pure]
  imodintro
  iapply HQ $$ HK

set_option maxHeartbeats 1000000 in
theorem part13_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 34 ∗ (KI m c (k0_t1.val + 1) 39 -∗ Q ⟨⟩)) ⊢ wp frame (wpE (defs₀ (F := F)) 𝒱 (c : Thread nD τ) bd) Set.univ
      (k0_part13 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part13_eq_skeleton]
  unfold k0_part13_skel
  dsimp only
  iintro ⟨HK, HQ⟩
  iapply (issue2 (F := F) m 𝒱 c bd (k0_t1.val + 1) 34 35 8 (by decide) rfl rfl (k0_off65_eq k0_t1) ((k0_off67_eq c k0_t1).trans (osB c k0_t1.val 8 _ rfl)) (k0_off41_eq k0_t1))
  isplitl [HK]; · iexact HK
  iintro HK
  iapply (issue3 (F := F) m 𝒱 c bd (k0_t1.val + 1) 35 36 8 (by decide) rfl rfl (k0_off65_eq k0_t1) ((k0_off67_eq c k0_t1).trans (osB c k0_t1.val 8 _ rfl)) (k0_off43_eq k0_t1))
  isplitl [HK]; · iexact HK
  iintro HK
  iapply (issue0 (F := F) m 𝒱 c bd (k0_t1.val + 1) 36 37 9 (by decide) rfl rfl (k0_off68_eq k0_t1) ((k0_off69_eq c k0_t1).trans (osA c k0_t1.val 9 _ rfl)) (k0_off37_eq k0_t1))
  isplitl [HK]; · iexact HK
  iintro HK
  iapply (issue1 (F := F) m 𝒱 c bd (k0_t1.val + 1) 37 38 9 (by decide) rfl rfl (k0_off68_eq k0_t1) ((k0_off69_eq c k0_t1).trans (osA c k0_t1.val 9 _ rfl)) (k0_off40_eq k0_t1))
  isplitl [HK]; · iexact HK
  iintro HK
  iapply (issue2 (F := F) m 𝒱 c bd (k0_t1.val + 1) 38 39 9 (by decide) rfl rfl (k0_off68_eq k0_t1) ((k0_off70_eq c k0_t1).trans (osB c k0_t1.val 9 _ rfl)) (k0_off41_eq k0_t1))
  isplitl [HK]; · iexact HK
  iintro HK
  rw [wp_pure]
  imodintro
  iapply HQ $$ HK

set_option maxHeartbeats 1000000 in
theorem part14_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 39 ∗ (KI m c (k0_t1.val + 1) 43 -∗ Q ⟨⟩)) ⊢ wp frame (wpE (defs₀ (F := F)) 𝒱 (c : Thread nD τ) bd) Set.univ
      (k0_part14 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part14_eq_skeleton]
  unfold k0_part14_skel
  dsimp only
  iintro ⟨HK, HQ⟩
  iapply (issue3 (F := F) m 𝒱 c bd (k0_t1.val + 1) 39 40 9 (by decide) rfl rfl (k0_off68_eq k0_t1) ((k0_off70_eq c k0_t1).trans (osB c k0_t1.val 9 _ rfl)) (k0_off43_eq k0_t1))
  isplitl [HK]; · iexact HK
  iintro HK
  iapply (issue0 (F := F) m 𝒱 c bd (k0_t1.val + 1) 40 41 10 (by decide) rfl rfl (k0_off71_eq k0_t1) ((k0_off72_eq c k0_t1).trans (osA c k0_t1.val 10 _ rfl)) (k0_off37_eq k0_t1))
  isplitl [HK]; · iexact HK
  iintro HK
  iapply (issue1 (F := F) m 𝒱 c bd (k0_t1.val + 1) 41 42 10 (by decide) rfl rfl (k0_off71_eq k0_t1) ((k0_off72_eq c k0_t1).trans (osA c k0_t1.val 10 _ rfl)) (k0_off40_eq k0_t1))
  isplitl [HK]; · iexact HK
  iintro HK
  iapply (issue2 (F := F) m 𝒱 c bd (k0_t1.val + 1) 42 43 10 (by decide) rfl rfl (k0_off71_eq k0_t1) ((k0_off73_eq c k0_t1).trans (osB c k0_t1.val 10 _ rfl)) (k0_off41_eq k0_t1))
  isplitl [HK]; · iexact HK
  iintro HK
  rw [wp_pure]
  imodintro
  iapply HQ $$ HK

set_option maxHeartbeats 1000000 in
theorem part15_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 43 ∗ (KI m c (k0_t1.val + 1) 48 -∗ Q ⟨⟩)) ⊢ wp frame (wpE (defs₀ (F := F)) 𝒱 (c : Thread nD τ) bd) Set.univ
      (k0_part15 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part15_eq_skeleton]
  unfold k0_part15_skel
  dsimp only
  iintro ⟨HK, HQ⟩
  iapply (issue3 (F := F) m 𝒱 c bd (k0_t1.val + 1) 43 44 10 (by decide) rfl rfl (k0_off71_eq k0_t1) ((k0_off73_eq c k0_t1).trans (osB c k0_t1.val 10 _ rfl)) (k0_off43_eq k0_t1))
  isplitl [HK]; · iexact HK
  iintro HK
  iapply (issue0 (F := F) m 𝒱 c bd (k0_t1.val + 1) 44 45 11 (by decide) rfl rfl (k0_off74_eq k0_t1) ((k0_off75_eq c k0_t1).trans (osA c k0_t1.val 11 _ rfl)) (k0_off37_eq k0_t1))
  isplitl [HK]; · iexact HK
  iintro HK
  iapply (issue1 (F := F) m 𝒱 c bd (k0_t1.val + 1) 45 46 11 (by decide) rfl rfl (k0_off74_eq k0_t1) ((k0_off75_eq c k0_t1).trans (osA c k0_t1.val 11 _ rfl)) (k0_off40_eq k0_t1))
  isplitl [HK]; · iexact HK
  iintro HK
  iapply (issue2 (F := F) m 𝒱 c bd (k0_t1.val + 1) 46 47 11 (by decide) rfl rfl (k0_off74_eq k0_t1) ((k0_off76_eq c k0_t1).trans (osB c k0_t1.val 11 _ rfl)) (k0_off41_eq k0_t1))
  isplitl [HK]; · iexact HK
  iintro HK
  iapply (issue3 (F := F) m 𝒱 c bd (k0_t1.val + 1) 47 48 11 (by decide) rfl rfl (k0_off74_eq k0_t1) ((k0_off76_eq c k0_t1).trans (osB c k0_t1.val 11 _ rfl)) (k0_off43_eq k0_t1))
  isplitl [HK]; · iexact HK
  iintro HK
  rw [wp_pure]
  imodintro
  iapply HQ $$ HK

set_option maxHeartbeats 1000000 in
theorem part16_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 48 ∗ (KI m c (k0_t1.val + 1) 53 -∗ Q ⟨⟩)) ⊢ wp frame (wpE (defs₀ (F := F)) 𝒱 (c : Thread nD τ) bd) Set.univ
      (k0_part16 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part16_eq_skeleton]
  unfold k0_part16_skel
  dsimp only
  iintro ⟨HK, HQ⟩
  iapply (issue0 (F := F) m 𝒱 c bd (k0_t1.val + 1) 48 49 12 (by decide) rfl rfl (k0_off77_eq k0_t1) ((k0_off78_eq c k0_t1).trans (osA c k0_t1.val 12 _ rfl)) (k0_off37_eq k0_t1))
  isplitl [HK]; · iexact HK
  iintro HK
  iapply (issue1 (F := F) m 𝒱 c bd (k0_t1.val + 1) 49 50 12 (by decide) rfl rfl (k0_off77_eq k0_t1) ((k0_off78_eq c k0_t1).trans (osA c k0_t1.val 12 _ rfl)) (k0_off40_eq k0_t1))
  isplitl [HK]; · iexact HK
  iintro HK
  iapply (issue2 (F := F) m 𝒱 c bd (k0_t1.val + 1) 50 51 12 (by decide) rfl rfl (k0_off77_eq k0_t1) ((k0_off79_eq c k0_t1).trans (osB c k0_t1.val 12 _ rfl)) (k0_off41_eq k0_t1))
  isplitl [HK]; · iexact HK
  iintro HK
  iapply (issue3 (F := F) m 𝒱 c bd (k0_t1.val + 1) 51 52 12 (by decide) rfl rfl (k0_off77_eq k0_t1) ((k0_off79_eq c k0_t1).trans (osB c k0_t1.val 12 _ rfl)) (k0_off43_eq k0_t1))
  isplitl [HK]; · iexact HK
  iintro HK
  iapply (issue0 (F := F) m 𝒱 c bd (k0_t1.val + 1) 52 53 13 (by decide) rfl rfl (k0_off80_eq k0_t1) ((k0_off81_eq c k0_t1).trans (osA c k0_t1.val 13 _ rfl)) (k0_off37_eq k0_t1))
  isplitl [HK]; · iexact HK
  iintro HK
  rw [wp_pure]
  imodintro
  iapply HQ $$ HK

set_option maxHeartbeats 1000000 in
theorem part17_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 53 ∗ (KI m c (k0_t1.val + 1) 57 -∗ Q ⟨⟩)) ⊢ wp frame (wpE (defs₀ (F := F)) 𝒱 (c : Thread nD τ) bd) Set.univ
      (k0_part17 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part17_eq_skeleton]
  unfold k0_part17_skel
  dsimp only
  iintro ⟨HK, HQ⟩
  iapply (issue1 (F := F) m 𝒱 c bd (k0_t1.val + 1) 53 54 13 (by decide) rfl rfl (k0_off80_eq k0_t1) ((k0_off81_eq c k0_t1).trans (osA c k0_t1.val 13 _ rfl)) (k0_off40_eq k0_t1))
  isplitl [HK]; · iexact HK
  iintro HK
  iapply (issue2 (F := F) m 𝒱 c bd (k0_t1.val + 1) 54 55 13 (by decide) rfl rfl (k0_off80_eq k0_t1) ((k0_off82_eq c k0_t1).trans (osB c k0_t1.val 13 _ rfl)) (k0_off41_eq k0_t1))
  isplitl [HK]; · iexact HK
  iintro HK
  iapply (issue3 (F := F) m 𝒱 c bd (k0_t1.val + 1) 55 56 13 (by decide) rfl rfl (k0_off80_eq k0_t1) ((k0_off82_eq c k0_t1).trans (osB c k0_t1.val 13 _ rfl)) (k0_off43_eq k0_t1))
  isplitl [HK]; · iexact HK
  iintro HK
  iapply (issue0 (F := F) m 𝒱 c bd (k0_t1.val + 1) 56 57 14 (by decide) rfl rfl (k0_off83_eq k0_t1) ((k0_off84_eq c k0_t1).trans (osA c k0_t1.val 14 _ rfl)) (k0_off37_eq k0_t1))
  isplitl [HK]; · iexact HK
  iintro HK
  rw [wp_pure]
  imodintro
  iapply HQ $$ HK

set_option maxHeartbeats 1000000 in
theorem part18_wp (m : (ℓ : Loc nD τ sig) → Buf (Elt F) ℓ) (𝒱 : Variants) (c : Dev nD) (bd : Option 𝒱.V) (a1 : Memref sig .tc .vmem S1024x1024 .f32) (h1 : a1.IsWhole) (a2 : Memref sig .tc .vmem S1024x1024 .f32) (h2 : a2.IsWhole) (k0_t1 : Fin k0_t1_loop.trips) (k0_h2 : k0_cond2 k0_t1 = 1#1) (Q : PUnit → sProp 𝕄) :
    iprop(KI m c (k0_t1.val + 1) 57 ∗ (KI m c (k0_t1.val + 1) 62 -∗ Q ⟨⟩)) ⊢ wp frame (wpE (defs₀ (F := F)) 𝒱 (c : Thread nD τ) bd) Set.univ
      (k0_part18 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2) Q := by
  rw [k0_part18_eq_skeleton]
  unfold k0_part18_skel
  dsimp only
  iintro ⟨HK, HQ⟩
  iapply (issue1 (F := F) m 𝒱 c bd (k0_t1.val + 1) 57 58 14 (by decide) rfl rfl (k0_off83_eq k0_t1) ((k0_off84_eq c k0_t1).trans (osA c k0_t1.val 14 _ rfl)) (k0_off40_eq k0_t1))
  isplitl [HK]; · iexact HK
  iintro HK
  iapply (issue2 (F := F) m 𝒱 c bd (k0_t1.val + 1) 58 59 14 (by decide) rfl rfl (k0_off83_eq k0_t1) ((k0_off85_eq c k0_t1).trans (osB c k0_t1.val 14 _ rfl)) (k0_off41_eq k0_t1))
  isplitl [HK]; · iexact HK
  iintro HK
  iapply (issue3 (F := F) m 𝒱 c bd (k0_t1.val + 1) 59 60 14 (by decide) rfl rfl (k0_off83_eq k0_t1) ((k0_off85_eq c k0_t1).trans (osB c k0_t1.val 14 _ rfl)) (k0_off43_eq k0_t1))
  isplitl [HK]; · iexact HK
  iintro HK
  iapply (issue0 (F := F) m 𝒱 c bd (k0_t1.val + 1) 60 61 15 (by decide) rfl rfl (k0_off86_eq k0_t1) ((k0_off87_eq c k0_t1).trans (osA c k0_t1.val 15 _ rfl)) (k0_off37_eq k0_t1))
  isplitl [HK]; · iexact HK
  iintro HK
  iapply (issue1 (F := F) m 𝒱 c bd (k0_t1.val + 1) 61 62 15 (by decide) rfl rfl (k0_off86_eq k0_t1) ((k0_off87_eq c k0_t1).trans (osA c k0_t1.val 15 _ rfl)) (k0_off40_eq k0_t1))
  isplitl [HK]; · iexact HK
  iintro HK
  rw [wp_pure]
  imodintro
  iapply HQ $$ HK

end Cert.KernelIdeal.Ring

end
-- ==== Proof.KernelIdeal.HopCopy.lean ====
/-
The start of a hop: the credits, the copies, and the next keys and values asked for.
-/
module

public import proofs.«01_k».proof.Proof.KernelIdeal.HopSend
public import proofs.«01_k».proof.Proof.KernelIdeal.KvParts1

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)
variable (𝒱 : Variants) (c : Dev nD) (bd : Option 𝒱.V)
  (a1 : Memref sig .tc .vmem S1024x1024 .f32) (h1 : a1.IsWhole) (a2 : Memref sig .tc .vmem S1024x1024 .f32) (h2 : a2.IsWhole)
  (k0_t1 : Fin k0_t1_loop.trips)

/-- Which hops wait for credits. -/
theorem cond1_iff : Scalar.cmpi .ne (Scalar.extui (Scalar.andi (Scalar.cmpi .sge (Scf.iv 0#32 1#32 k0_t1) 1#32) (Scalar.cmpi .slt (Scf.iv 0#32 1#32 k0_t1) 7#32)) : BitVec 32) 0#32 = 1#1 ↔ 1 ≤ k0_t1.val ∧ k0_t1.val < 7 := by
  have h : ∀ t : Fin 8, (Scalar.cmpi .ne (Scalar.extui (Scalar.andi (Scalar.cmpi .sge (Scf.iv 0#32 1#32 t.val) 1#32) (Scalar.cmpi .slt (Scf.iv 0#32 1#32 t.val) 7#32)) : BitVec 32) 0#32 = 1#1 ↔ 1 ≤ t.val ∧ t.val < 7) := by decide
  exact h ⟨k0_t1.val, k0_t1.isLt⟩
theorem cond2_iff : k0_cond2 k0_t1 = 1#1 ↔ k0_t1.val < 7 := by
  have h : ∀ t : Fin 8, (Scalar.cmpi .ne (Scalar.extui (Scalar.cmpi .slt (Scf.iv 0#32 1#32 t.val) 7#32) : BitVec 32) 0#32 = 1#1 ↔ t.val < 7) := by decide
  exact h ⟨k0_t1.val, k0_t1.isLt⟩

theorem stA {P : Prop} [Decidable P] (hP : P ↔ 1 ≤ k0_t1.val ∧ k0_t1.val < 7) {α : Type} (kp : Prog (TpuEff nD τ sig (Elt F) Λ₀ .tc) α) (Q : α → sProp 𝕄) :
    iprop(Ctx m ∗ Ow c (OH c k0_t1.val) ∗ PreCred c k0_t1.val ∗ (Ow c (OH c k0_t1.val) -∗ MidCred c k0_t1.val -∗ wp frame (wpE (defs₀ (F := F)) 𝒱 (c : Thread nD τ) bd) Set.univ kp Q))
      ⊢ wp frame (wpE (defs₀ (F := F)) 𝒱 (c : Thread nD τ) bd) Set.univ (if _h : P then (semWaitWord cc0_scratch16.sem 1#32 >>= fun _ => semWaitWord cc0_scratch17.sem 1#32 >>= fun _ => kp) else kp) Q := by
  have ht : k0_t1.val < 8 := k0_t1.isLt
  generalize k0_t1.val = t at *
  by_cases hp : P
  · rw [dif_pos hp]
    obtain ⟨r, rfl⟩ : ∃ r, t = r + 1 := ⟨t - 1, by have := (hP.mp hp).1; omega⟩
    exact credits_wp m 𝒱 c bd r (by have := (hP.mp hp).2; omega) (fun _ => kp) Q
  · rw [dif_neg hp]
    have e : PreCred (F := F) c t = MidCred c t := by
      have : t = 0 ∨ t = 7 := by by_contra hc; exact hp (hP.mpr (by omega))
      unfold PreCred MidCred
      rcases this with rfl | rfl
      · rfl
      · rw [show Finset.Ico (7 - 1) 6 = Finset.Ico 7 6 from (Finset.Ico_eq_empty (by omega)).trans (Finset.Ico_eq_empty (by omega)).symm, if_neg (by omega), if_neg (by omega), show min (7 - 1) 6 = min 7 6 from rfl]
    rw [e]
    iintro ⟨-, HO, HM, HK⟩
    iapply HK $$ HO HM

/-- Between the credits and the copies. -/
def PreB (h : ℕ) : sProp 𝕄 := iprop(Ow c (OH c h) ∗ MidCred c h ∗ bigSep (Finset.Ico h 7) (SendTok (F := F) c) ∗ Pos c (min h 7) ∗ CommSt m c h ∗ KF c (sl (h + 1)) ∗ Holds m c)
/-- After the copies. -/
def PostB (h : ℕ) : sProp 𝕄 := iprop(Ow c (OM c h) ∗ MidSt m c h ∗ Comm m c h (qh h))

theorem preB_last : PreB (F := F) m c 7 ⊢ PostB m c 7 := by
  unfold PreB PostB MidSt MidCred CommSt qh
  simp only [lt_irrefl, if_false, if_true]
  rw [show OM c 7 = OH c 7 from (OH_seven c).symm, show Finset.Ico 7 7 = Finset.Ico (7 + 1) 7 from (Finset.Ico_eq_empty (by omega)).trans (Finset.Ico_eq_empty (by omega)).symm]
  iintro ⟨HO, ⟨HC, HD, -⟩, HT, HP, ⟨HM, HA⟩, HF, HH⟩
  isplitl [HO]; · iexact HO
  isplitr [HM]
  · isplitl [HC]; · iexact HC
    isplitl [HD]; · iexact HD
    isplitl [HT]; · iexact HT
    isplitl [HP]; · iexact HP
    isplitl [HH]; · iexact HH
    isplitl [HF]; · iexact HF
    iexact HA
  iexact HM

set_option maxHeartbeats 1000000 in
/-- The copies of a hop before the last: the weights go on to the neighbours and the next keys and values are asked for. -/
theorem stB_wp (hh : k0_t1.val < 7) (k0_h2 : k0_cond2 k0_t1 = 1#1) (v2 v5 v7 arg24 : BitVec 32) {α : Type} (kp : Prog (TpuEff nD τ sig (Elt F) Λ₀ .tc) α) (Q : α → sProp 𝕄) :
    iprop(Ctx m ∗ PreB m c k0_t1.val ∗ (PostB m c k0_t1.val -∗ wp frame (wpE (defs₀ (F := F)) 𝒱 (c : Thread nD τ) bd) Set.univ kp Q))
      ⊢ wp frame (wpE (defs₀ (F := F)) 𝒱 (c : Thread nD τ) bd) Set.univ (k0_part1 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v5 v7 k0_t1 k0_h2 >>= fun _ => k0_part2 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v2 k0_t1 arg24 k0_h2 >>= fun x =>
        k0_part3 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x.1 x.2.1 x.2.2 >>= fun v1350 => k0_part4 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x.1 x.2.1 v1350 >>= fun v1380 => k0_part5 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 x.1 x.2.1 v1380 >>= fun _ =>
        k0_part6 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part7 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part8 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part9 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part10 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part11 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part12 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part13 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part14 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part15 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part16 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part17 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        k0_part18 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c k0_t1 k0_h2 >>= fun _ =>
        Prog.lift (.enqueueDma (sW Ks (k0_off88 c k0_t1) (k0_off88_inb c k0_t1 k0_h2)) (.here (dW kB (k0_off86 k0_t1) (k0_off86_inb k0_t1 k0_h2)))
          (.dma ((cc0_scratch14.slice (Rect.unit (s := S2x4) (k0_off41 k0_t1) S1x1.size (k0_off41_inb k0_t1 k0_h2))).squeeze S_ squeezes_S1x1_S_).sem)
          ((View.wordExact_bits rfl).reshape _ _) ((View.wordExact_bits rfl).reshape _ _) ⟨Or.inl rfl, trivial⟩) >>= fun _ =>
        Prog.lift (.enqueueDma (sW Vs (k0_off88 c k0_t1) (k0_off88_inb c k0_t1 k0_h2)) (.here (dW vB (k0_off86 k0_t1) (k0_off86_inb k0_t1 k0_h2)))
          (.dma ((cc0_scratch14.slice (Rect.unit (s := S2x4) (k0_off43 k0_t1) S1x1.size (k0_off43_inb k0_t1 k0_h2))).squeeze S_ squeezes_S1x1_S_).sem)
          ((View.wordExact_bits rfl).reshape _ _) ((View.wordExact_bits rfl).reshape _ _) ⟨Or.inl rfl, trivial⟩) >>= fun _ => kp) Q := by
  unfold PreB PostB MidCred MidSt CommSt qh
  simp only [if_pos hh]
  rw [min_eq_left (by omega : k0_t1.val ≤ 6), min_eq_left (by omega : k0_t1.val ≤ 7), ico_peel _ k0_t1.val 7 hh]
  unfold SendTok Pos CPos At
  iintro ⟨#HC, ⟨HO, ⟨⟨⟨P9, #R9⟩, P10, #R10⟩, HD, HF⟩, ⟨⟨HS, HR⟩, HT⟩, HP, HM, HKF, HH⟩, HK⟩
  ihave HH := holds_dup m c $$ HH
  icases HH with ⟨HH, HH'⟩
  icases HP with ⟨⟨P1, #R1⟩, ⟨P2, #R2⟩, ⟨P3, #R3⟩, ⟨P4, #R4⟩, HP⟩
  ihave HM := comm_split m c k0_t1.val $$ HM
  icases HM with ⟨HL, HM⟩
  iapply (sends_wp m 𝒱 c bd a1 h1 a2 h2 k0_t1 hh k0_h2 v2 v5 v7 arg24)
  isplitr; · iexact HC
  isplitl [HO HS HF HL]
  · unfold SendPre
    isplitl [HO]; · iexact HO
    isplitl [HS]; · iexact HS
    isplitl [HF]; · iexact HF
    isplitl [HL]; · iexact HL
    isplitr; · iexact R1
    isplitr; · iexact R2
    isplitr; · iexact R3
    isplitr; · iexact R4
    isplitr; · iexact R9
    iexact R10
  iintro %x HO HSC
  rw [wp_bind, k0_part3_eq_skeleton]; unfold k0_part3_skel; dsimp only; rw [wp_pure]; imodintro
  rw [wp_bind, k0_part4_eq_skeleton]; unfold k0_part4_skel; dsimp only; rw [wp_pure]; imodintro
  imod (ki_start m c (k0_t1.val + 1)) $$ [HKF HH'] with HI
  · isplitl [HKF]; · iexact HKF
    iexact HH'
  rw [wp_bind]
  iapply (part5_wp m 𝒱 c bd a1 h1 a2 h2 k0_t1 k0_h2)
  isplitl [HI]; · iexact HI
  iintro HI
  rw [wp_bind]
  iapply (part6_wp m 𝒱 c bd a1 h1 a2 h2 k0_t1 k0_h2)
  isplitl [HI]; · iexact HI
  iintro HI
  rw [wp_bind]
  iapply (part7_wp m 𝒱 c bd a1 h1 a2 h2 k0_t1 k0_h2)
  isplitl [HI]; · iexact HI
  iintro HI
  rw [wp_bind]
  iapply (part8_wp m 𝒱 c bd a1 h1 a2 h2 k0_t1 k0_h2)
  isplitl [HI]; · iexact HI
  iintro HI
  rw [wp_bind]
  iapply (part9_wp m 𝒱 c bd a1 h1 a2 h2 k0_t1 k0_h2)
  isplitl [HI]; · iexact HI
  iintro HI
  rw [wp_bind]
  iapply (part10_wp m 𝒱 c bd a1 h1 a2 h2 k0_t1 k0_h2)
  isplitl [HI]; · iexact HI
  iintro HI
  rw [wp_bind]
  iapply (part11_wp m 𝒱 c bd a1 h1 a2 h2 k0_t1 k0_h2)
  isplitl [HI]; · iexact HI
  iintro HI
  rw [wp_bind]
  iapply (part12_wp m 𝒱 c bd a1 h1 a2 h2 k0_t1 k0_h2)
  isplitl [HI]; · iexact HI
  iintro HI
  rw [wp_bind]
  iapply (part13_wp m 𝒱 c bd a1 h1 a2 h2 k0_t1 k0_h2)
  isplitl [HI]; · iexact HI
  iintro HI
  rw [wp_bind]
  iapply (part14_wp m 𝒱 c bd a1 h1 a2 h2 k0_t1 k0_h2)
  isplitl [HI]; · iexact HI
  iintro HI
  rw [wp_bind]
  iapply (part15_wp m 𝒱 c bd a1 h1 a2 h2 k0_t1 k0_h2)
  isplitl [HI]; · iexact HI
  iintro HI
  rw [wp_bind]
  iapply (part16_wp m 𝒱 c bd a1 h1 a2 h2 k0_t1 k0_h2)
  isplitl [HI]; · iexact HI
  iintro HI
  rw [wp_bind]
  iapply (part17_wp m 𝒱 c bd a1 h1 a2 h2 k0_t1 k0_h2)
  isplitl [HI]; · iexact HI
  iintro HI
  rw [wp_bind]
  iapply (part18_wp m 𝒱 c bd a1 h1 a2 h2 k0_t1 k0_h2)
  isplitl [HI]; · iexact HI
  iintro HI
  iapply (issue2 (F := F) m 𝒱 c bd (k0_t1.val + 1) 62 63 15 (by decide) rfl rfl (k0_off86_eq k0_t1) ((k0_off88_eq c k0_t1).trans (osB c k0_t1.val 15 _ rfl)) (k0_off41_eq k0_t1))
  isplitl [HI]; · iexact HI
  iintro HI
  iapply (issue3 (F := F) m 𝒱 c bd (k0_t1.val + 1) 63 64 15 (by decide) rfl rfl (k0_off86_eq k0_t1) ((k0_off88_eq c k0_t1).trans (osB c k0_t1.val 15 _ rfl)) (k0_off43_eq k0_t1))
  isplitl [HI]; · iexact HI
  iintro HI
  iapply HK
  isplitl [HO]; · iexact HO
  isplitr [HM]
  · isplitl [P9 P10]
    · isplitl [P9]
      · isplitl [P9]; · iexact P9
        iexact R9
      · isplitl [P10]; · iexact P10
        iexact R10
    isplitl [HD]; · iexact HD
    isplitl [HT]; · iexact HT
    isplitl [P1 P2 P3 P4 HP]
    · isplitl [P1]
      · isplitl [P1]; · iexact P1
        iexact R1
      isplitl [P2]
      · isplitl [P2]; · iexact P2
        iexact R2
      isplitl [P3]
      · isplitl [P3]; · iexact P3
        iexact R3
      isplitl [P4]
      · isplitl [P4]; · iexact P4
        iexact R4
      iexact HP
    isplitl [HH]; · iexact HH
    isplitl [HR]; · iexact HR
    isplitl [HSC]; · iexact HSC
    iexact HI
  iexact HM

end

end Cert.KernelIdeal.Ring

end
-- ==== Proof.KernelIdeal.HopStart.lean ====
/-
The first part of a hop.
-/
module

public import proofs.«01_k».proof.Proof.KernelIdeal.HopCopy
public import proofs.«01_k».proof.Proof.KernelIdeal.HopQ

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)
variable (𝒱 : Variants) (c : Dev nD) (bd : Option 𝒱.V)
  (a1 : Memref sig .tc .vmem S1024x1024 .f32) (h1 : a1.IsWhole) (a2 : Memref sig .tc .vmem S1024x1024 .f32) (h2 : a2.IsWhole)
  (k0_t1 : Fin k0_t1_loop.trips)

/-- What the first part of a hop takes and leaves. -/
def Pre25 (h : ℕ) : sProp 𝕄 := iprop(Ow c (OH c h) ∗ PreCred (F := F) c h ∗ bigSep (Finset.Ico h 7) (SendTok (F := F) c) ∗ Pos c (min h 7) ∗ CommSt m c h ∗ KF c (sl (h + 1)) ∗ Holds m c
  ∗ Wh c cc0_scratch8 (xb m c) ∗ ∃ f, Wh (F := F) c cc0_scratch9 f)
def Post25 (h : ℕ) : sProp 𝕄 := iprop(Ow c (OM c h) ∗ MidSt m c h ∗ QPre m c h ∗ ∃ f, ⌜HalfL m c h f⌝ ∗ Wh c cc0_scratch9 f)

set_option maxHeartbeats 1000000 in
theorem part25_wp (v2 v5 v7 : BitVec 32) (Q : (Σ' (arg24 : BitVec 32) (v719 : BitVec 32) (v721 : BitVec 32), FVec F S1024x512 .f32) → sProp 𝕄) :
    iprop(Ctx m ∗ Pre25 m c k0_t1.val ∗ (∀ v1, ∀ v2, ∀ v3, Post25 m c k0_t1.val -∗ Q ⟨v1, v2, v3, k0_pay14 (xb m c) (one3 (cQB m c k0_t1.val))⟩))
      ⊢ wp frame (wpE (defs₀ (F := F)) 𝒱 (c : Thread nD τ) bd) Set.univ (k0_part25 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v2 v5 v7 0#32 1#32 k0_t1) Q := by
  rw [k0_part25_eq_skeleton]
  unfold k0_part25_skel Pre25
  dsimp only
  iintro ⟨#HC, ⟨HO, HP, HT, HPos, HM, HF, HH, HX, H9⟩, HK⟩
  iapply (stA m 𝒱 c bd k0_t1 (cond1_iff k0_t1))
  isplitr; · iexact HC
  isplitl [HO]; · iexact HO
  isplitl [HP]; · iexact HP
  iintro HO HP
  ihave HB := (show iprop(Ow c (OH c k0_t1.val) ∗ MidCred (F := F) c k0_t1.val ∗ bigSep (Finset.Ico k0_t1.val 7) (SendTok (F := F) c) ∗ Pos c (min k0_t1.val 7) ∗ CommSt m c k0_t1.val ∗ KF c (sl (k0_t1.val + 1)) ∗ Holds m c) ⊢ PreB m c k0_t1.val from Entails.of_eq rfl) $$ [HO HP HT HPos HM HF HH]
  · isplitl [HO]; · iexact HO
    isplitl [HP]; · iexact HP
    isplitl [HT]; · iexact HT
    isplitl [HPos]; · iexact HPos
    isplitl [HM]; · iexact HM
    isplitl [HF]; · iexact HF
    iexact HH
  by_cases hh : k0_t1.val < 7
  · rw [dif_pos ((cond2_iff k0_t1).mpr hh)]
    iapply (stB_wp m 𝒱 c bd a1 h1 a2 h2 k0_t1 hh ((cond2_iff k0_t1).mpr hh) v2 v5 v7 (Scf.iv 0#32 1#32 k0_t1.val))
    isplitr; · iexact HC
    isplitl [HB]; · iexact HB
    unfold PostB
    iintro ⟨HO, HM, HQ⟩
    iapply (qtail_wp m 𝒱 c bd k0_t1)
    isplitl [HQ HX]
    · unfold QPre
      isplitl [HQ]; · iexact HQ
      iexact HX
    isplitl [H9]; · iexact H9
    iintro HQ H9
    iapply HK
    unfold Post25
    isplitl [HO]; · iexact HO
    isplitl [HM]; · iexact HM
    isplitl [HQ]; · iexact HQ
    iexact H9
  · rw [dif_neg (fun hc => hh ((cond2_iff k0_t1).mp hc))]
    have h7 : k0_t1.val = 7 := by have : k0_t1.val < 8 := k0_t1.isLt; omega
    ihave HB := (show PreB m c k0_t1.val ⊢ PostB m c k0_t1.val from by rw [h7]; exact preB_last m c) $$ HB
    unfold PostB
    icases HB with ⟨HO, HM, HQ⟩
    iapply (qtail_wp m 𝒱 c bd k0_t1)
    isplitl [HQ HX]
    · unfold QPre
      isplitl [HQ]; · iexact HQ
      iexact HX
    isplitl [H9]; · iexact H9
    iintro HQ H9
    iapply HK
    unfold Post25
    isplitl [HO]; · iexact HO
    isplitl [HM]; · iexact HM
    isplitl [HQ]; · iexact HQ
    iexact H9
end

end Cert.KernelIdeal.Ring

end
-- ==== Proof.KernelIdeal.HopWait.lean ====
/-
The end of a hop: the copies are waited for and the slots they left are given back.
-/
module

public import proofs.«01_k».proof.Proof.KernelIdeal.HopSend

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)
variable (𝒱 : Variants) (c : Dev nD) (bd : Option 𝒱.V)
  (a1 : Memref sig .tc .vmem S1024x1024 .f32) (h1 : a1.IsWhole) (a2 : Memref sig .tc .vmem S1024x1024 .f32) (h2 : a2.IsWhole)
  (k0_t1 : Fin k0_t1_loop.trips)

theorem cond3_iff : k0_cond3 k0_t1 = 1#1 ↔ k0_t1.val < 7 := by
  have h : ∀ t : Fin 8, (Scalar.cmpi .ne (Scalar.extui (Scalar.cmpi .slt (Scf.iv 0#32 1#32 t.val) 7#32) : BitVec 32) 0#32 = 1#1 ↔ t.val < 7) := by decide
  exact h ⟨k0_t1.val, k0_t1.isLt⟩
theorem cond4_iff : k0_cond4 k0_t1 = 1#1 ↔ k0_t1.val < 6 := by
  have h : ∀ t : Fin 8, (Scalar.cmpi .ne (Scalar.extui (Scalar.cmpi .slt (Scf.iv 0#32 1#32 t.val) 6#32) : BitVec 32) 0#32 = 1#1 ↔ t.val < 6) := by decide
  exact h ⟨k0_t1.val, k0_t1.isLt⟩

/-- Before a hop's copies are waited for, and after. -/
def WaitPre (h : ℕ) : sProp 𝕄 := iprop(Ow c (OM c h) ∗ Pos c h ∗ RecvCr c h ∗ SendCr (F := F) c ∗ Comm m c h fullShare.right)
def WaitPost (h : ℕ) : sProp 𝕄 := iprop(Ow c (OM c h) ∗ Pos c (h + 1) ∗ Comm m c h fullShare ∗ Comm m c (h + 1) fullShare
  ∗ reached ER (cell (lft c) 9) h ∗ reached ER (cell (rgt c) 10) h)

set_option maxHeartbeats 1000000 in
theorem waits_wp (hh : k0_t1.val < 7) (k0_h3 : k0_cond3 k0_t1 = 1#1) (v7 : BitVec 32) {α : Type} (kp : Prog (TpuEff nD τ sig (Elt F) Λ₀ .tc) α) (Q : α → sProp 𝕄) :
    iprop(Ctx m ∗ WaitPre m c k0_t1.val ∗ (WaitPost m c k0_t1.val -∗ wp frame (wpE (defs₀ (F := F)) 𝒱 (c : Thread nD τ) bd) Set.univ kp Q))
      ⊢ wp frame (wpE (defs₀ (F := F)) 𝒱 (c : Thread nD τ) bd) Set.univ (k0_part24 (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v7 k0_t1 k0_h3 >>= fun _ =>
        Prog.lift (.waitDma2 (((cc0_scratch12).slice (Rect.unit (s := S4) ![2] S1.size inb_S4_S1_2)).squeeze S_ squeezes_S1_S_).sem (cwQ mQB (k0_off156 k0_t1) (k0_off156_inb k0_t1 k0_h3)) (cwQ mQB (k0_off155 k0_t1) (k0_off155_inb k0_t1 k0_h3)) ((View.wordExact_bits rfl).reshape _ _) ((View.wordExact_bits rfl).reshape _ _)) >>= fun _ =>
        Prog.lift (.waitDma2 (((cc0_scratch13).slice (Rect.unit (s := S4) ![2] S1.size inb_S4_S1_2)).squeeze S_ squeezes_S1_S_).sem (cwQ mQB (k0_off155 k0_t1) (k0_off155_inb k0_t1 k0_h3)) (cwQ mQB (k0_off156 k0_t1) (k0_off156_inb k0_t1 k0_h3)) ((View.wordExact_bits rfl).reshape _ _) ((View.wordExact_bits rfl).reshape _ _)) >>= fun _ =>
        Prog.lift (.waitDma2 (((cc0_scratch12).slice (Rect.unit (s := S4) ![3] S1.size inb_S4_S1_3)).squeeze S_ squeezes_S1_S_).sem (cwO mOB (k0_off158 k0_t1) (k0_off158_inb k0_t1 k0_h3)) (cwO mOB (k0_off157 k0_t1) (k0_off157_inb k0_t1 k0_h3)) ((View.wordExact_bits rfl).reshape _ _) ((View.wordExact_bits rfl).reshape _ _)) >>= fun _ =>
        Prog.lift (.waitDma2 (((cc0_scratch13).slice (Rect.unit (s := S4) ![3] S1.size inb_S4_S1_3)).squeeze S_ squeezes_S1_S_).sem (cwO mOB (k0_off157 k0_t1) (k0_off157_inb k0_t1 k0_h3)) (cwO mOB (k0_off158 k0_t1) (k0_off158_inb k0_t1 k0_h3)) ((View.wordExact_bits rfl).reshape _ _) ((View.wordExact_bits rfl).reshape _ _)) >>= fun _ =>
        kp) Q := by
  unfold WaitPre Pos At RecvCr SendCr
  iintro ⟨#HC, ⟨HO, ⟨⟨P1, -⟩, ⟨P2, -⟩, ⟨P3, -⟩, ⟨P4, -⟩, ⟨P5, -⟩, ⟨P6, -⟩, ⟨P7, -⟩, P8, -⟩, ⟨C5, C6, C7, C8⟩, ⟨C1, C2, C3, C4⟩, HM⟩, HK⟩
  rw [k0_part24_eq_skeleton]; unfold k0_part24_skel; dsimp only
  simp only [Prog.bind_assoc, Prog.pure_eq_ret, Prog.bind_ret]
  iapply (wp_dwait m 𝒱 c bd 1 (by decide) k0_t1.val (by show k0_t1.val < 7; exact hh) 0 (by omega) (OM c k0_t1.val) (above_mono (above_OM c k0_t1.val) (by omega)) (src := (cwQ mQA (k0_off156 k0_t1) (k0_off156_inb k0_t1 k0_h3))) (dst := (cwQ mQA (k0_off155 k0_t1) (k0_off155_inb k0_t1 k0_h3))) rfl rfl)
  isplitr; · iexact HC
  isplitl [C1]; · iexact C1
  isplitl [HO]; · iexact HO
  isplitl [P1]; · iexact P1
  iintro P1 #R1 Y1 HO
  iapply (wp_dwait m 𝒱 c bd 5 (by decide) k0_t1.val (by show k0_t1.val < 7; exact hh) (2 * k0_t1.val + 2) (by omega) (OM c k0_t1.val) (above_mono (above_OM c k0_t1.val) (by omega)) (src := (cwQ mQA (k0_off155 k0_t1) (k0_off155_inb k0_t1 k0_h3))) (dst := (cwQ mQA (k0_off156 k0_t1) (k0_off156_inb k0_t1 k0_h3))) rfl rfl)
  isplitr; · iexact HC
  isplitl [C5]; · iexact C5
  isplitl [HO]; · iexact HO
  isplitl [P5]; · iexact P5
  iintro P5 #R5 Y5 HO
  iapply (wp_dwait m 𝒱 c bd 2 (by decide) k0_t1.val (by show k0_t1.val < 7; exact hh) 0 (by omega) (OM c k0_t1.val) (above_mono (above_OM c k0_t1.val) (by omega)) (src := (cwO mOA (k0_off158 k0_t1) (k0_off158_inb k0_t1 k0_h3))) (dst := (cwO mOA (k0_off157 k0_t1) (k0_off157_inb k0_t1 k0_h3))) rfl rfl)
  isplitr; · iexact HC
  isplitl [C2]; · iexact C2
  isplitl [HO]; · iexact HO
  isplitl [P2]; · iexact P2
  iintro P2 #R2 Y2 HO
  iapply (wp_dwait m 𝒱 c bd 6 (by decide) k0_t1.val (by show k0_t1.val < 7; exact hh) (2 * k0_t1.val + 2) (by omega) (OM c k0_t1.val) (above_mono (above_OM c k0_t1.val) (by omega)) (src := (cwO mOA (k0_off157 k0_t1) (k0_off157_inb k0_t1 k0_h3))) (dst := (cwO mOA (k0_off158 k0_t1) (k0_off158_inb k0_t1 k0_h3))) rfl rfl)
  isplitr; · iexact HC
  isplitl [C6]; · iexact C6
  isplitl [HO]; · iexact HO
  isplitl [P6]; · iexact P6
  iintro P6 #R6 Y6 HO
  iapply (wp_dwait m 𝒱 c bd 3 (by decide) k0_t1.val (by show k0_t1.val < 7; exact hh) 0 (by omega) (OM c k0_t1.val) (above_mono (above_OM c k0_t1.val) (by omega)) (src := (cwQ mQB (k0_off156 k0_t1) (k0_off156_inb k0_t1 k0_h3))) (dst := (cwQ mQB (k0_off155 k0_t1) (k0_off155_inb k0_t1 k0_h3))) rfl rfl)
  isplitr; · iexact HC
  isplitl [C3]; · iexact C3
  isplitl [HO]; · iexact HO
  isplitl [P3]; · iexact P3
  iintro P3 #R3 Y3 HO
  iapply (wp_dwait m 𝒱 c bd 7 (by decide) k0_t1.val (by show k0_t1.val < 7; exact hh) (2 * k0_t1.val + 2) (by omega) (OM c k0_t1.val) (above_mono (above_OM c k0_t1.val) (by omega)) (src := (cwQ mQB (k0_off155 k0_t1) (k0_off155_inb k0_t1 k0_h3))) (dst := (cwQ mQB (k0_off156 k0_t1) (k0_off156_inb k0_t1 k0_h3))) rfl rfl)
  isplitr; · iexact HC
  isplitl [C7]; · iexact C7
  isplitl [HO]; · iexact HO
  isplitl [P7]; · iexact P7
  iintro P7 #R7 Y7 HO
  iapply (wp_dwait m 𝒱 c bd 4 (by decide) k0_t1.val (by show k0_t1.val < 7; exact hh) 0 (by omega) (OM c k0_t1.val) (above_mono (above_OM c k0_t1.val) (by omega)) (src := (cwO mOB (k0_off158 k0_t1) (k0_off158_inb k0_t1 k0_h3))) (dst := (cwO mOB (k0_off157 k0_t1) (k0_off157_inb k0_t1 k0_h3))) rfl rfl)
  isplitr; · iexact HC
  isplitl [C4]; · iexact C4
  isplitl [HO]; · iexact HO
  isplitl [P4]; · iexact P4
  iintro P4 #R4 Y4 HO
  iapply (wp_dwait m 𝒱 c bd 8 (by decide) k0_t1.val (by show k0_t1.val < 7; exact hh) (2 * k0_t1.val + 2) (by omega) (OM c k0_t1.val) (above_mono (above_OM c k0_t1.val) (by omega)) (src := (cwO mOB (k0_off157 k0_t1) (k0_off157_inb k0_t1 k0_h3))) (dst := (cwO mOB (k0_off158 k0_t1) (k0_off158_inb k0_t1 k0_h3))) rfl rfl)
  isplitr; · iexact HC
  isplitl [C8]; · iexact C8
  isplitl [HO]; · iexact HO
  isplitl [P8]; · iexact P8
  iintro P8 #R8 Y8 HO
  ihave Y1 := (Entails.of_eq (show payJ m c 1 k0_t1.val false = slotQ c mQA (sl (k0_t1.val + 1)) fullShare.left (cQA m c k0_t1.val) from rfl)) $$ Y1
  ihave Y2 := (Entails.of_eq (show payJ m c 2 k0_t1.val false = slotO c mOA (sl (k0_t1.val + 1)) fullShare.left (cOA m c k0_t1.val) from rfl)) $$ Y2
  ihave Y3 := (Entails.of_eq (show payJ m c 3 k0_t1.val false = slotQ c mQB (sl (k0_t1.val + 1)) fullShare.left (cQB m c k0_t1.val) from rfl)) $$ Y3
  ihave Y4 := (Entails.of_eq (show payJ m c 4 k0_t1.val false = slotO c mOB (sl (k0_t1.val + 1)) fullShare.left (cOB m c k0_t1.val) from rfl)) $$ Y4
  ihave Y5 := (Entails.of_eq (show payJ m c 5 k0_t1.val false = iprop(slotQ c mQA (sl k0_t1.val) fullShare (cQA m c (k0_t1.val + 1)) ∗ reached ER (cell (lft c) 9) k0_t1.val) from rfl)) $$ Y5
  ihave Y6 := (Entails.of_eq (show payJ m c 6 k0_t1.val false = slotO c mOA (sl k0_t1.val) fullShare (cOA m c (k0_t1.val + 1)) from rfl)) $$ Y6
  ihave Y7 := (Entails.of_eq (show payJ m c 7 k0_t1.val false = iprop(slotQ c mQB (sl k0_t1.val) fullShare (cQB m c (k0_t1.val + 1)) ∗ reached ER (cell (rgt c) 10) k0_t1.val) from rfl)) $$ Y7
  ihave Y8 := (Entails.of_eq (show payJ m c 8 k0_t1.val false = slotO c mOB (sl k0_t1.val) fullShare (cOB m c (k0_t1.val + 1)) from rfl)) $$ Y8
  icases Y5 with ⟨Y5, X9⟩
  icases Y7 with ⟨Y7, X10⟩
  ihave HL := comm_join m c k0_t1.val $$ [Y1 Y2 Y3 Y4 HM]
  · isplitr [HM]
    · unfold Comm
      isplitl [Y1]; · iexact Y1
      isplitl [Y2]; · iexact Y2
      isplitl [Y3]; · iexact Y3
      iexact Y4
    iexact HM
  iapply HK
  unfold WaitPost Pos At
  isplitl [HO]; · iexact HO
  isplitl [P1 P2 P3 P4 P5 P6 P7 P8]
  · isplitl [P1]
    · isplitl [P1]; · iexact P1
      iexact R1
    isplitl [P2]
    · isplitl [P2]; · iexact P2
      iexact R2
    isplitl [P3]
    · isplitl [P3]; · iexact P3
      iexact R3
    isplitl [P4]
    · isplitl [P4]; · iexact P4
      iexact R4
    isplitl [P5]
    · isplitl [P5]; · iexact P5
      iexact R5
    isplitl [P6]
    · isplitl [P6]; · iexact P6
      iexact R6
    isplitl [P7]
    · isplitl [P7]; · iexact P7
      iexact R7
    isplitl [P8]; · iexact P8
    iexact R8
  isplitl [HL]; · iexact HL
  isplitl [Y5 Y6 Y7 Y8]
  · unfold Comm
    rw [sl_two]
    isplitl [Y5]; · iexact Y5
    isplitl [Y6]; · iexact Y6
    isplitl [Y7]; · iexact Y7
    iexact Y8
  isplitl [X9]; · iexact X9
  iexact X10

/-- Before a hop's credits are given, and after. -/
def SigPre (h : ℕ) : sProp 𝕄 := iprop(Ow c (OM c h) ∗ Comm m c h fullShare ∗ reached ER (cell c 5) (h + 1) ∗ reached ER (cell c 6) (h + 1) ∗ reached ER (cell c 7) (h + 1) ∗ reached ER (cell c 8) (h + 1)
  ∗ reached ER (cell (lft c) 9) h ∗ reached ER (cell (rgt c) 10) h ∗ CredD (F := F) c h)

theorem sigs_wp (hh : k0_t1.val < 6) (k0_h4 : k0_cond4 k0_t1 = 1#1) {α : Type} (kp : Prog (TpuEff nD τ sig (Elt F) Λ₀ .tc) α) (Q : α → sProp 𝕄) :
    iprop(Ctx m ∗ SigPre m c k0_t1.val ∗ (Ow c (OH c (k0_t1.val + 1)) -∗ wp frame (wpE (defs₀ (F := F)) 𝒱 (c : Thread nD τ) bd) Set.univ kp Q))
      ⊢ wp frame (wpE (defs₀ (F := F)) 𝒱 (c : Thread nD τ) bd) Set.univ (semSignalWord (⟨k0_dev7 c, k0_dev7_lt c k0_t1 k0_h4⟩ : Dev nD) cc0_scratch16.sem 1#32 >>= fun _ =>
        semSignalWord (⟨k0_dev8 c, k0_dev8_lt c k0_t1 k0_h4⟩ : Dev nD) cc0_scratch17.sem 1#32 >>= fun _ => kp) Q := by
  unfold SigPre CredD Comm
  rw [OM_eq c _ hh]
  iintro ⟨#HC, ⟨HO, ⟨A1, A2, A3, A4⟩, R5, R6, R7, R8, X9, X10, D9, D10⟩, HK⟩
  iapply (wp_sig m 𝒱 c bd (lft c) 9 k0_t1.val false (by show false ∈ dutJ 9 k0_t1.val; unfold dutJ; rw [if_pos (show k0_t1.val < rounds 9 from hh)]; decide) rfl (2 * k0_t1.val + 3) _ (Fin.ext (k0_dev7_eq c)) rfl)
  isplitr; · iexact HC
  isplitl [HO]; · iexact HO
  isplitl [D9]; · iexact D9
  isplitl [X9]; · iexact X9
  isplitl [A1 A2 R5 R6]
  · rw [show payJ m (lft c) 9 k0_t1.val false = freeA (lft c) (k0_t1.val + 1) from rfl]
    unfold freeA
    rw [rgt_lft]
    isplitl [A1]; · iexists _; iexact A1
    isplitl [A2]; · iexists _; iexact A2
    isplitl [R5]; · iexact R5
    iexact R6
  iintro HO
  iapply (wp_sig m 𝒱 c bd (rgt c) 10 k0_t1.val false (by show false ∈ dutJ 10 k0_t1.val; unfold dutJ; rw [if_pos (show k0_t1.val < rounds 10 from hh)]; decide) rfl (2 * k0_t1.val + 3) _ (Fin.ext (k0_dev8_eq c)) rfl)
  isplitr; · iexact HC
  isplitl [HO]; · iexact HO
  isplitl [D10]; · iexact D10
  isplitl [X10]; · iexact X10
  isplitl [A3 A4 R7 R8]
  · rw [show payJ m (rgt c) 10 k0_t1.val false = freeB (rgt c) (k0_t1.val + 1) from rfl]
    unfold freeB
    rw [lft_rgt]
    isplitl [A3]; · iexists _; iexact A3
    isplitl [A4]; · iexists _; iexact A4
    isplitl [R7]; · iexact R7
    iexact R8
  iintro HO
  iapply HK $$ HO
end

end Cert.KernelIdeal.Ring

end
-- ==== Proof.KernelIdeal.Hop.lean ====
/-
One hop.
-/
module

public import proofs.«01_k».proof.Proof.KernelIdeal.HopStart
public import proofs.«01_k».proof.Proof.KernelIdeal.HopAcc
public import proofs.«01_k».proof.Proof.KernelIdeal.HopWait

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)
variable (𝒱 : Variants) (c : Dev nD) (bd : Option 𝒱.V)
  (a1 : Memref sig .tc .vmem S1024x1024 .f32) (h1 : a1.IsWhole) (a2 : Memref sig .tc .vmem S1024x1024 .f32) (h2 : a2.IsWhole)
  (k0_t1 : Fin k0_t1_loop.trips)

/-- The end of a hop: what it takes. -/
def EndPre (h : ℕ) : sProp 𝕄 := iprop(MidSt m c h ∗ AccPost m c h ∗ bigSep (Finset.Ico h 6) (CredD (F := F) c))
/-- What is left when the copies and credits are done. -/
def EndMid (h : ℕ) : sProp 𝕄 := iprop(
  CPos c (min h 6) ∗ bigSep (Finset.Ico h 6) (CredC (F := F) c) ∗ bigSep (Finset.Ico (h + 1) 7) (SendTok (F := F) c) ∗ Holds m c ∗ (if h < 7 then KI m c (h + 1) 64 else KF c (sl (h + 1)))
    ∗ KF c (sl h) ∗ Wh c cc0_scratch8 (xb m c) ∗ (∃ f, Wh (F := F) c cc0_scratch9 f) ∗ (∃ f, Wh (F := F) c cc0_scratch10 f) ∗ Wh c cc0_scratch11 (accF m c (h + 1)))

theorem hop_close (h : ℕ) (hh : h < 8) :
    iprop(EndMid m c h ∗ Ow c (OH c (h + 1)) ∗ bigSep (Finset.Ico (h + 1) 6) (CredD (F := F) c) ∗ Pos c (min (h + 1) 7) ∗ CommSt m c (h + 1)) ⊢ HopInv m c (h + 1) := by
  unfold EndMid HopInv PreCred KvSt
  rw [Nat.add_sub_cancel, if_neg (by omega : ¬ h + 1 = 0), sl_two]
  have e : (if h < 7 then KI m c (h + 1) 64 else KF c (sl (h + 1))) = (if h + 1 < 8 then KI m c (h + 1) 64 else KF c (sl (h + 1))) := by
    by_cases h7 : h < 7
    · rw [if_pos h7, if_pos (by omega)]
    · rw [if_neg h7, if_neg (by omega)]
  rw [e]
  iintro ⟨⟨HC, HCC, HT, HH, HI, HF, HX, H9, H10, H11⟩, HO, HD, HP, HM⟩
  isplitl [HO]; · iexact HO
  isplitl [HC HCC]
  · isplitl [HC]; · iexact HC
    isplitl [HCC]; · iexact HCC
    iempintro
  isplitl [HT]; · iexact HT
  isplitl [HD]; · iexact HD
  isplitl [HP]; · iexact HP
  isplitl [HM]; · iexact HM
  isplitl [HI HF]
  · isplitl [HI]; · iexact HI
    iexact HF
  isplitl [HH]; · iexact HH
  isplitl [HX]; · iexact HX
  isplitl [H9]; · iexact H9
  isplitl [H10]; · iexact H10
  iexact H11

theorem waits_st {P : Prop} [Decidable P] (hP : P ↔ k0_t1.val < 7) (v7 : BitVec 32) (kp : Prog (TpuEff nD τ sig (Elt F) Λ₀ .tc) Unit)
    (prog : P → Prog (TpuEff nD τ sig (Elt F) Λ₀ .tc) Unit)
    (hprog : ∀ (hh : k0_t1.val < 7) (hp : P) (Q : Unit → sProp 𝕄), iprop(Ctx m ∗ WaitPre m c k0_t1.val ∗ (WaitPost m c k0_t1.val -∗ wp frame (wpE (defs₀ (F := F)) 𝒱 (c : Thread nD τ) bd) Set.univ kp Q)) ⊢ wp frame (wpE (defs₀ (F := F)) 𝒱 (c : Thread nD τ) bd) Set.univ (prog hp) Q)
    (Q : Unit → sProp 𝕄) :
    iprop(Ctx m ∗ EndPre m c k0_t1.val ∗ (EndMid m c k0_t1.val -∗ bigSep (Finset.Ico k0_t1.val 6) (CredD (F := F) c) -∗
        (if k0_t1.val < 7 then WaitPost m c k0_t1.val else iprop(Ow c (OM c 7) ∗ Pos c 7 ∗ Comm m c 7 fullShare ∗ CommAny c (sl 7))) -∗ wp frame (wpE (defs₀ (F := F)) 𝒱 (c : Thread nD τ) bd) Set.univ kp Q))
      ⊢ wp frame (wpE (defs₀ (F := F)) 𝒱 (c : Thread nD τ) bd) Set.univ (if h : P then prog h else kp) Q := by
  have ht : k0_t1.val < 8 := k0_t1.isLt
  unfold EndPre MidSt AccPost QPre qh EndMid
  by_cases hh : k0_t1.val < 7
  · rw [dif_pos (hP.mpr hh)]
    simp only [if_pos hh]
    rw [min_eq_left (by omega : k0_t1.val ≤ 7)]
    iintro ⟨#HC, ⟨⟨HCP, HCC, HT, HP, HH, HR, HS, HI⟩, ⟨HF, HO, ⟨HM, HX⟩, H9, H10, H11⟩, HD⟩, HK⟩
    iapply (hprog hh (hP.mpr hh) Q)
    isplitr; · iexact HC
    isplitl [HO HP HR HS HM]
    · unfold WaitPre
      isplitl [HO]; · iexact HO
      isplitl [HP]; · iexact HP
      isplitl [HR]; · iexact HR
      isplitl [HS]; · iexact HS
      iexact HM
    iintro HW
    iapply HK $$ [HCP HCC HT HH HI HF HX H9 H10 H11] HD HW
    isplitl [HCP]; · iexact HCP
    isplitl [HCC]; · iexact HCC
    isplitl [HT]; · iexact HT
    isplitl [HH]; · iexact HH
    isplitl [HI]; · iexact HI
    isplitl [HF]; · iexact HF
    isplitl [HX]; · iexact HX
    isplitl [H9]; · iexact H9
    isplitl [H10]; · iexact H10
    iexact H11
  · rw [dif_neg (fun hp => hh (hP.mp hp))]
    have h7 : k0_t1.val = 7 := by omega
    simp only [if_neg hh]
    rw [h7]
    iintro ⟨#HC, ⟨⟨HCP, HCC, HT, HP, HH, HI, HA⟩, ⟨HF, HO, ⟨HM, HX⟩, H9, H10, H11⟩, HD⟩, HK⟩
    iapply HK $$ [HCP HCC HT HH HI HF HX H9 H10 H11] HD [HO HP HM HA]
    · isplitl [HCP]; · iexact HCP
      isplitl [HCC]; · iexact HCC
      isplitl [HT]; · iexact HT
      isplitl [HH]; · iexact HH
      isplitl [HI]; · iexact HI
      isplitl [HF]; · iexact HF
      isplitl [HX]; · iexact HX
      isplitl [H9]; · iexact H9
      isplitl [H10]; · iexact H10
      iexact H11
    isplitl [HO]; · iexact HO
    isplitl [HP]; · iexact HP
    isplitl [HM]; · iexact HM
    iexact HA

/-- The credits given, where they are. -/
theorem sigs_st {P : Prop} [Decidable P] (hP : P ↔ k0_t1.val < 6) (kp : Prog (TpuEff nD τ sig (Elt F) Λ₀ .tc) Unit)
    (prog : P → Prog (TpuEff nD τ sig (Elt F) Λ₀ .tc) Unit)
    (hprog : ∀ (hh : k0_t1.val < 6) (hp : P) (Q : Unit → sProp 𝕄), iprop(Ctx m ∗ SigPre m c k0_t1.val ∗ (Ow c (OH c (k0_t1.val + 1)) -∗ wp frame (wpE (defs₀ (F := F)) 𝒱 (c : Thread nD τ) bd) Set.univ kp Q)) ⊢ wp frame (wpE (defs₀ (F := F)) 𝒱 (c : Thread nD τ) bd) Set.univ (prog hp) Q)
    (Q : Unit → sProp 𝕄) :
    iprop(Ctx m ∗ EndMid m c k0_t1.val ∗ bigSep (Finset.Ico k0_t1.val 6) (CredD (F := F) c) ∗
        (if k0_t1.val < 7 then WaitPost m c k0_t1.val else iprop(Ow c (OM c 7) ∗ Pos c 7 ∗ Comm m c 7 fullShare ∗ CommAny c (sl 7))) ∗ (HopInv m c (k0_t1.val + 1) -∗ wp frame (wpE (defs₀ (F := F)) 𝒱 (c : Thread nD τ) bd) Set.univ kp Q))
      ⊢ wp frame (wpE (defs₀ (F := F)) 𝒱 (c : Thread nD τ) bd) Set.univ (if h : P then prog h else kp) Q := by
  have ht : k0_t1.val < 8 := k0_t1.isLt
  by_cases h6 : k0_t1.val < 6
  · rw [dif_pos (hP.mpr h6), if_pos (by omega), ico_peel _ _ 6 h6]
    unfold WaitPost Pos At
    iintro ⟨#HC, HE, ⟨HD, HDs⟩, ⟨HO, ⟨⟨P1, #R1⟩, ⟨P2, #R2⟩, ⟨P3, #R3⟩, ⟨P4, #R4⟩, ⟨P5, #R5⟩, ⟨P6, #R6⟩, ⟨P7, #R7⟩, P8, #R8⟩, HM, HM', X9, X10⟩, HK⟩
    iapply (hprog h6 (hP.mpr h6) Q)
    isplitr; · iexact HC
    isplitl [HO HM X9 X10 HD]
    · unfold SigPre
      isplitl [HO]; · iexact HO
      isplitl [HM]; · iexact HM
      isplitr; · iexact R5
      isplitr; · iexact R6
      isplitr; · iexact R7
      isplitr; · iexact R8
      isplitl [X9]; · iexact X9
      isplitl [X10]; · iexact X10
      iexact HD
    iintro HO
    iapply HK
    iapply (hop_close m c k0_t1.val ht)
    rw [min_eq_left (by omega : k0_t1.val + 1 ≤ 7)]
    unfold Pos At CommSt
    rw [if_pos (by omega : k0_t1.val + 1 < 7)]
    isplitl [HE]; · iexact HE
    isplitl [HO]; · iexact HO
    isplitl [HDs]; · iexact HDs
    isplitr [HM']
    · isplitl [P1]
      · isplitl [P1]; · iexact P1
        iexact R1
      isplitl [P2]
      · isplitl [P2]; · iexact P2
        iexact R2
      isplitl [P3]
      · isplitl [P3]; · iexact P3
        iexact R3
      isplitl [P4]
      · isplitl [P4]; · iexact P4
        iexact R4
      isplitl [P5]
      · isplitl [P5]; · iexact P5
        iexact R5
      isplitl [P6]
      · isplitl [P6]; · iexact P6
        iexact R6
      isplitl [P7]
      · isplitl [P7]; · iexact P7
        iexact R7
      isplitl [P8]; · iexact P8
      iexact R8
    iexact HM'
  · rw [dif_neg (fun hp => h6 (hP.mp hp))]
    have eI : bigSep (Finset.Ico k0_t1.val 6) (CredD (F := F) c) = bigSep (Finset.Ico (k0_t1.val + 1) 6) (CredD (F := F) c) := by
      rw [Finset.Ico_eq_empty (by omega), Finset.Ico_eq_empty (by omega)]
    rw [eI]
    have hc := hop_close m c k0_t1.val ht
    by_cases h7 : k0_t1.val < 7
    · rw [if_pos h7]
      have e6 : k0_t1.val = 6 := by omega
      rw [e6] at hc ⊢
      unfold WaitPost
      rw [OM_six]
      unfold CommSt at hc
      rw [if_neg (by omega : ¬ 6 + 1 < 7), if_pos (by omega : 6 + 1 = 7)] at hc
      iintro ⟨#HC, HE, HD, ⟨HO, HP, HM, HM', -⟩, HK⟩
      iapply HK
      iapply hc
      isplitl [HE]; · iexact HE
      isplitl [HO]; · iexact HO
      isplitl [HD]; · iexact HD
      isplitl [HP]; · iexact HP
      isplitl [HM']; · iexact HM'
      iapply (comm_any m c 6)
      iexact HM
    · rw [if_neg h7]
      have e7 : k0_t1.val = 7 := by omega
      rw [e7] at hc ⊢
      rw [OM_seven]
      unfold CommSt at hc
      rw [if_neg (by omega : ¬ 7 + 1 < 7), if_neg (by omega : ¬ 7 + 1 = 7)] at hc
      iintro ⟨#HC, HE, HD, ⟨HO, HP, HM, HA⟩, HK⟩
      iapply HK
      iapply hc
      isplitl [HE]; · iexact HE
      isplitl [HO]; · iexact HO
      isplitl [HD]; · iexact HD
      isplitl [HP]; · iexact HP
      isplitl [HM]
      · iapply (comm_any m c 7)
        iexact HM
      iexact HA

set_option maxHeartbeats 4000000 in
/-- One hop. -/
theorem hop_wp (v2 v5 v7 : BitVec 32) (v618 : FVec F S1024x1024 .f32) (u : Unit) (Q : Unit → sProp 𝕄) :
    iprop(Ctx m ∗ HopInv m c k0_t1.val ∗ (HopInv m c (k0_t1.val + 1) -∗ Q ⟨⟩))
      ⊢ wp frame (wpE (defs₀ (F := F)) 𝒱 (c : Thread nD τ) bd) Set.univ (k0_t1_body (Memref.whole main_arg0) (Memref.isWhole_whole _) a1 h1 a2 h2 (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v2 v5 v7 v618 k0_t1 u) Q := by
  have ht : k0_t1.val < 8 := k0_t1.isLt
  unfold k0_t1_body HopInv KvSt
  dsimp only
  rw [if_pos ht]
  iintro ⟨#HC, ⟨HO, HP, HT, HD, HPos, HM, ⟨HI, HF⟩, HH, HX, H9, H10, H11⟩, HK⟩
  rw [wp_bind]
  iapply (part25_wp m 𝒱 c bd a1 h1 a2 h2 k0_t1)
  isplitr; · iexact HC
  isplitl [HO HP HT HPos HM HF HH HX H9]
  · unfold Pre25
    isplitl [HO]; · iexact HO
    isplitl [HP]; · iexact HP
    isplitl [HT]; · iexact HT
    isplitl [HPos]; · iexact HPos
    isplitl [HM]; · iexact HM
    isplitl [HF]; · iexact HF
    isplitl [HH]; · iexact HH
    isplitl [HX]; · iexact HX
    iexact H9
  iintro %w1 %w2 %w3
  unfold Post25
  iintro ⟨HO, HMid, HQ, %f, %hf, H9⟩
  dsimp only
  rw [wp_bind]
  iapply (part26_wp m 𝒱 c bd a1 h1 a2 h2 k0_t1 f hf)
  isplitl [H9]; · iexact H9
  iintro %x H9
  obtain ⟨x1, x2⟩ := x
  dsimp only
  iapply (kvwait_wp m 𝒱 c bd a1 h1 a2 h2 k0_t1 x1 x2)
  isplitl [HI]; · iapply (ki_drain m c k0_t1.val); iexact HI
  isplitl [HO]; · iexact HO
  iintro HI HO
  rw [wp_bind]
  iapply (part43_wp m 𝒱 c bd a1 h1 a2 h2 k0_t1)
  isplitl [HI HO HQ H9 H10 H11]
  · unfold AccPre
    isplitl [HI]; · iexact HI
    isplitl [HO]; · iexact HO
    isplitl [HQ]; · iexact HQ
    isplitl [H9]; · iexact H9
    isplitl [H10]; · iexact H10
    iexact H11
  iintro %y HA
  iapply (waits_st m 𝒱 c bd k0_t1 (cond3_iff k0_t1) v7 _ _ (fun hh hp Q => waits_wp m 𝒱 c bd a1 h1 a2 h2 k0_t1 hh hp v7 _ Q))
  isplitr; · iexact HC
  isplitl [HMid HA HD]
  · unfold EndPre
    isplitl [HMid]; · iexact HMid
    isplitl [HA]; · iexact HA
    iexact HD
  iintro HE HD HW
  iapply (sigs_st m 𝒱 c bd k0_t1 (cond4_iff k0_t1) _ _ (fun hh hp Q => sigs_wp m 𝒱 c bd k0_t1 hh hp _ Q))
  isplitr; · iexact HC
  isplitl [HE]; · iexact HE
  isplitl [HD]; · iexact HD
  isplitl [HW]; · iexact HW
  iintro HI
  rw [wp_pure]
  imodintro
  iapply HK
  unfold HopInv KvSt
  iexact HI
end

end Cert.KernelIdeal.Ring

end
-- ==== Proof.KernelIdeal.OutParts.lean ====
/-
The loop and the copies out.
-/
module

public import proofs.«01_k».proof.Proof.KernelIdeal.IoParts
public import proofs.«01_k».proof.Proof.KernelIdeal.Hop

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)

/-- The loop's invariant but for the accumulator and what the device owes. -/
def HopTail (c : Dev nD) (h : ℕ) : sProp 𝕄 := iprop(
  PreCred c h ∗ bigSep (Finset.Ico h 7) (SendTok c) ∗ bigSep (Finset.Ico h 6) (CredD c) ∗ Pos c (min h 7)
    ∗ CommSt m c h ∗ KvSt m c h ∗ Holds m c ∗ Wh c cc0_scratch8 (xb m c) ∗ (∃ f, Wh (F := F) c cc0_scratch9 f) ∗ (∃ f, Wh (F := F) c cc0_scratch10 f))
/-- The loop's invariant but for the accumulator. -/
def HopRest (c : Dev nD) (h : ℕ) : sProp 𝕄 := iprop(Ow c (OH c h) ∗ HopTail m c h)
theorem hop_unpack (c : Dev nD) (h : ℕ) : HopInv m c h ⊢ iprop(HopRest m c h ∗ Wh c cc0_scratch11 (accF m c h)) := by
  unfold HopInv HopRest HopTail
  iintro ⟨H1, H2, H3, H4, H5, H6, H7, H8, H9, H10, H11, H12⟩
  isplitr [H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iexact H12
theorem hop_shut (c : Dev nD) (h : ℕ) : iprop(HopRest m c h ∗ Wh c cc0_scratch11 (accF m c h)) ⊢ HopInv m c h := by
  unfold HopInv HopRest HopTail
  iintro ⟨⟨H1, H2, H3, H4, H5, H6, H7, H8, H9, H10, H11⟩, H12⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem acc_zero (c : Dev nD) : k0_pay19 (k0_pay18 (F := F)) = accF m c 0 := rfl

/-- The copies out may begin. -/
theorem out_start (c : Dev nD) : iprop((∃ f, own (F := F) c os fullShare f) ∗ Wh c cc0_scratch11 (accF m c 8) ∗ semVal ((c : Thread nD τ), SemLoc.dma ioS) 0)
    ⊢ |={Set.univ}=> OutI m c 0 := by
  unfold OutI
  iintro ⟨⟨%f, Ho⟩, Ha, Hs⟩
  imod (Transfers.batch_alloc' (Lvl := ℕ) EC (c : Thread nD τ) 0 NZ (outD (F := F) m c) (sm := .dma ioS) (E := Set.univ)) $$ Hs with HB
  imodintro
  isplitl [HB]; · iexact HB
  isplitl [Ho]
  · iexists f
    rw [← Transfers.bigSep_pending_zero, ← strH_all]; iexact Ho
  · rw [← Transfers.bigSep_pending_zero, ← strV_all]
    ihave Ha := (Entails.of_eq (show Wh c cc0_scratch11 (accF m c 8) = own (F := F) c (Memref.whole cc0_scratch11) fullShare (accF m c 8) by
      unfold Wh own; rw [show (Memref.whole cc0_scratch11 : Memref sig .tc .vmem S1024x1024 .f32).view.set = Finset.univ from View.set_whole _])) $$ Ha
    iexact Ha

variable (𝒱 : Variants) (c : Dev nD) (bd : Option 𝒱.V)

set_option maxHeartbeats 1000000 in
theorem part70_wp (v2 v5 v7 : BitVec 32) (f : S1024x1024.Idx → Elt F .f32) (Q : PUnit → sProp 𝕄) :
    iprop(Ctx m ∗ HopRest m c 0 ∗ Wh c cc0_scratch11 f ∗ (∃ f, own (F := F) c os fullShare f) ∗ semVal ((c : Thread nD τ), SemLoc.dma ioS) 0
      ∗ (HopRest m c 8 -∗ OutI m c 5 -∗ Q ⟨⟩)) ⊢ wp frame (wpE (defs₀ (F := F)) 𝒱 (c : Thread nD τ) bd) Set.univ (k0_part70 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v2 v5 v7 (k0_pay18 (F := F))) Q := by
  rw [k0_part70_eq_skeleton]
  unfold k0_part70_skel
  dsimp only
  iintro ⟨#HC, HR, HF, Ho, Hs, HQ⟩
  iapply (stW 𝒱 c bd (Memref.whole cc0_scratch11) f)
  isplitl [HF]; · iexact HF
  iintro HF
  ihave HF := (Entails.of_eq (show _ = Wh c cc0_scratch11 (accF m c 0) from by rw [wr_acc, acc_zero m c])) $$ HF
  ihave HI := (hop_shut m c 0) $$ [HR HF]
  · isplitl [HR] <;> iassumption
  iapply (Scf.wp_for_bind frame (wpE (defs₀ (F := F)) 𝒱 (c : Thread nD τ) bd) Set.univ k0_t1_loop.lb k0_t1_loop.ub k0_t1_loop.st k0_t1_ok ()
    (k0_t1_body (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 c v2 v5 v7 (k0_pay18 (F := F)))
    (fun t _ => iprop(Ctx m ∗ HopInv m c t)) (fun t u => by
      iintro ⟨#HC, HI⟩
      iapply (hop_wp m 𝒱 c bd g0 (Memref.isWhole_whole _) g1 (Memref.isWhole_whole _) t v2 v5 v7 (k0_pay18 (F := F)) u)
      isplitr; · iexact HC
      isplitl [HI]; · iexact HI
      iintro HI
      isplitr; · iexact HC
      iexact HI)) $$ [HI]
  · isplitr; · iexact HC
    iexact HI
  iintro %acc ⟨-, HI⟩
  ihave HI := (Entails.of_eq (congrArg (HopInv m c) (show Scf.trips k0_t1_loop.lb k0_t1_loop.ub k0_t1_loop.st = 8 by decide))) $$ HI
  ihave HI' := (hop_unpack m c 8) $$ HI
  icases HI' with ⟨HR, HF⟩
  imod (out_start m c) $$ [Ho HF Hs] with HU
  · isplitl [Ho]; · iexact Ho
    isplitl [HF]; · iexact HF
    iexact Hs
  iapply (out_issue m 𝒱 c bd 0 (by decide) rfl rfl)
  isplitl [HU]; · iexact HU
  iintro HU
  iapply (out_issue m 𝒱 c bd 1 (by decide) rfl rfl)
  isplitl [HU]; · iexact HU
  iintro HU
  iapply (out_issue m 𝒱 c bd 2 (by decide) rfl rfl)
  isplitl [HU]; · iexact HU
  iintro HU
  iapply (out_issue m 𝒱 c bd 3 (by decide) rfl rfl)
  isplitl [HU]; · iexact HU
  iintro HU
  iapply (out_issue m 𝒱 c bd 4 (by decide) rfl rfl)
  isplitl [HU]; · iexact HU
  iintro HU
  rw [wp_pure]
  imodintro
  ispecialize HQ $$ HR
  iapply HQ $$ HU

set_option maxHeartbeats 1000000 in
theorem part71_wp (Q : PUnit → sProp 𝕄) :
    iprop(OutI m c 5 ∗ (OutI m c 12 -∗ Q ⟨⟩)) ⊢ wp frame (wpE (defs₀ (F := F)) 𝒱 (c : Thread nD τ) bd) Set.univ (k0_part71 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part71_eq_skeleton]
  unfold k0_part71_skel
  dsimp only
  iintro ⟨HU, HQ⟩
  iapply (out_issue m 𝒱 c bd 5 (by decide) rfl rfl)
  isplitl [HU]; · iexact HU
  iintro HU
  iapply (out_issue m 𝒱 c bd 6 (by decide) rfl rfl)
  isplitl [HU]; · iexact HU
  iintro HU
  iapply (out_issue m 𝒱 c bd 7 (by decide) rfl rfl)
  isplitl [HU]; · iexact HU
  iintro HU
  iapply (out_issue m 𝒱 c bd 8 (by decide) rfl rfl)
  isplitl [HU]; · iexact HU
  iintro HU
  iapply (out_issue m 𝒱 c bd 9 (by decide) rfl rfl)
  isplitl [HU]; · iexact HU
  iintro HU
  iapply (out_issue m 𝒱 c bd 10 (by decide) rfl rfl)
  isplitl [HU]; · iexact HU
  iintro HU
  iapply (out_issue m 𝒱 c bd 11 (by decide) rfl rfl)
  isplitl [HU]; · iexact HU
  iintro HU
  rw [wp_pure]
  imodintro
  iapply HQ $$ HU

set_option maxHeartbeats 1000000 in
theorem part72_wp (O : CellTallies nD τ sig ℕ) (hO : Above 0 O) (Q : PUnit → sProp 𝕄) :
    iprop(OutI m c 12 ∗ Ow c O ∗ (OutW m c 3 -∗ Ow c O -∗ Q ⟨⟩)) ⊢ wp frame (wpE (defs₀ (F := F)) 𝒱 (c : Thread nD τ) bd) Set.univ (k0_part72 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part72_eq_skeleton]
  unfold k0_part72_skel
  dsimp only
  iintro ⟨HU, HO, HQ⟩
  iapply (out_issue m 𝒱 c bd 12 (by decide) rfl rfl)
  isplitl [HU]; · iexact HU
  iintro HU
  iapply (out_issue m 𝒱 c bd 13 (by decide) rfl rfl)
  isplitl [HU]; · iexact HU
  iintro HU
  iapply (out_issue m 𝒱 c bd 14 (by decide) rfl rfl)
  isplitl [HU]; · iexact HU
  iintro HU
  iapply (out_issue m 𝒱 c bd 15 (by decide) rfl rfl)
  isplitl [HU]; · iexact HU
  iintro HU
  ihave HU := (out_drain m c) $$ HU
  iapply (out_wait m 𝒱 c bd 0 (by decide) O hO)
  isplitl [HU]; · iexact HU
  isplitl [HO]; · iexact HO
  iintro HU HO
  iapply (out_wait m 𝒱 c bd 1 (by decide) O hO)
  isplitl [HU]; · iexact HU
  isplitl [HO]; · iexact HO
  iintro HU HO
  iapply (out_wait m 𝒱 c bd 2 (by decide) O hO)
  isplitl [HU]; · iexact HU
  isplitl [HO]; · iexact HO
  iintro HU HO
  rw [wp_pure]
  imodintro
  ispecialize HQ $$ HU
  iapply HQ $$ HO

set_option maxHeartbeats 1000000 in
theorem part73_wp (O : CellTallies nD τ sig ℕ) (hO : Above 0 O) (Q : PUnit → sProp 𝕄) :
    iprop(OutW m c 3 ∗ Ow c O ∗ (OutW m c 9 -∗ Ow c O -∗ Q ⟨⟩)) ⊢ wp frame (wpE (defs₀ (F := F)) 𝒱 (c : Thread nD τ) bd) Set.univ (k0_part73 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part73_eq_skeleton]
  unfold k0_part73_skel
  dsimp only
  iintro ⟨HU, HO, HQ⟩
  iapply (out_wait m 𝒱 c bd 3 (by decide) O hO)
  isplitl [HU]; · iexact HU
  isplitl [HO]; · iexact HO
  iintro HU HO
  iapply (out_wait m 𝒱 c bd 4 (by decide) O hO)
  isplitl [HU]; · iexact HU
  isplitl [HO]; · iexact HO
  iintro HU HO
  iapply (out_wait m 𝒱 c bd 5 (by decide) O hO)
  isplitl [HU]; · iexact HU
  isplitl [HO]; · iexact HO
  iintro HU HO
  iapply (out_wait m 𝒱 c bd 6 (by decide) O hO)
  isplitl [HU]; · iexact HU
  isplitl [HO]; · iexact HO
  iintro HU HO
  iapply (out_wait m 𝒱 c bd 7 (by decide) O hO)
  isplitl [HU]; · iexact HU
  isplitl [HO]; · iexact HO
  iintro HU HO
  iapply (out_wait m 𝒱 c bd 8 (by decide) O hO)
  isplitl [HU]; · iexact HU
  isplitl [HO]; · iexact HO
  iintro HU HO
  rw [wp_pure]
  imodintro
  ispecialize HQ $$ HU
  iapply HQ $$ HO
end

end Cert.KernelIdeal.Ring

end
-- ==== Proof.KernelIdeal.Body.lean ====
/-
The whole body, as one device runs it.
-/
module

public import proofs.«01_k».proof.Proof.KernelIdeal.OutParts
public import proofs.«01_k».proof.Proof.KernelIdeal.KvParts1
public import proofs.«01_k».proof.Proof.KernelIdeal.KvParts2

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)

/-- What the copies in leave: the activations, the device's own weights in their slots, the windows they came from. -/
theorem io_done (c : Dev nD) : bigSep Finset.univ (ioD (F := F) m c)
    ⊢ iprop(Wh c cc0_scratch8 (xb m c) ∗ Comm m c 0 fullShare ∗ own c g0 fullShare (wq m c) ∗ own c g1 fullShare (wo m c)) := by
  rw [show Wh c cc0_scratch8 (xb m c) = bigSep Finset.univ (strV (F := F) c (Memref.whole cc0_scratch8) (xb m c)) from by
      rw [← strV_all, own, show (Memref.whole cc0_scratch8 : Memref sig .tc .vmem S1024x1024 .f32).view.set = Finset.univ from View.set_whole _],
    bigSep_univ_eq_bigSepL [0,1,2,3,4,5,6,7,8,9,10,11,12,13,14,15,16,17,18,19] (by decide) (by decide) (ioD (F := F) m c),
    bigSep_univ_eq_bigSepL [0,1,2,3,4,5,6,7,8,9,10,11,12,13,14,15] (by decide) (by decide) (strV (F := F) c (Memref.whole cc0_scratch8) (xb m c))]
  show iprop(ioD (F := F) m c 0 ∗ ioD (F := F) m c 1 ∗ ioD (F := F) m c 2 ∗ ioD (F := F) m c 3 ∗ ioD (F := F) m c 4 ∗ ioD (F := F) m c 5 ∗ ioD (F := F) m c 6 ∗ ioD (F := F) m c 7 ∗ ioD (F := F) m c 8 ∗ ioD (F := F) m c 9 ∗ ioD (F := F) m c 10 ∗ ioD (F := F) m c 11 ∗ ioD (F := F) m c 12 ∗ ioD (F := F) m c 13 ∗ ioD (F := F) m c 14 ∗ ioD (F := F) m c 15 ∗ ioD (F := F) m c 16 ∗ ioD (F := F) m c 17 ∗ ioD (F := F) m c 18 ∗ ioD (F := F) m c 19) ⊢ iprop((strV (F := F) c (Memref.whole cc0_scratch8) (xb m c) 0 ∗ strV (F := F) c (Memref.whole cc0_scratch8) (xb m c) 1 ∗ strV (F := F) c (Memref.whole cc0_scratch8) (xb m c) 2 ∗ strV (F := F) c (Memref.whole cc0_scratch8) (xb m c) 3 ∗ strV (F := F) c (Memref.whole cc0_scratch8) (xb m c) 4 ∗ strV (F := F) c (Memref.whole cc0_scratch8) (xb m c) 5 ∗ strV (F := F) c (Memref.whole cc0_scratch8) (xb m c) 6 ∗ strV (F := F) c (Memref.whole cc0_scratch8) (xb m c) 7 ∗ strV (F := F) c (Memref.whole cc0_scratch8) (xb m c) 8 ∗ strV (F := F) c (Memref.whole cc0_scratch8) (xb m c) 9 ∗ strV (F := F) c (Memref.whole cc0_scratch8) (xb m c) 10 ∗ strV (F := F) c (Memref.whole cc0_scratch8) (xb m c) 11 ∗ strV (F := F) c (Memref.whole cc0_scratch8) (xb m c) 12 ∗ strV (F := F) c (Memref.whole cc0_scratch8) (xb m c) 13 ∗ strV (F := F) c (Memref.whole cc0_scratch8) (xb m c) 14 ∗ strV (F := F) c (Memref.whole cc0_scratch8) (xb m c) 15) ∗ Comm m c 0 fullShare ∗ own c g0 fullShare (wq m c) ∗ own c g1 fullShare (wo m c))
  iintro ⟨H0, H1, H2, H3, H4, H5, H6, H7, H8, H9, H10, H11, H12, H13, H14, H15, H16, H17, H18, H19⟩
  isplitl [H0 H1 H2 H3 H4 H5 H6 H7 H8 H9 H10 H11 H12 H13 H14 H15]
  · isplitl [H0]
    · iapply (Entails.of_eq (show ioD (F := F) m c 0 = strV (F := F) c (Memref.whole cc0_scratch8) (xb m c) 0 from rfl)); iexact H0
    isplitl [H1]
    · iapply (Entails.of_eq (show ioD (F := F) m c 1 = strV (F := F) c (Memref.whole cc0_scratch8) (xb m c) 1 from rfl)); iexact H1
    isplitl [H2]
    · iapply (Entails.of_eq (show ioD (F := F) m c 2 = strV (F := F) c (Memref.whole cc0_scratch8) (xb m c) 2 from rfl)); iexact H2
    isplitl [H3]
    · iapply (Entails.of_eq (show ioD (F := F) m c 3 = strV (F := F) c (Memref.whole cc0_scratch8) (xb m c) 3 from rfl)); iexact H3
    isplitl [H4]
    · iapply (Entails.of_eq (show ioD (F := F) m c 4 = strV (F := F) c (Memref.whole cc0_scratch8) (xb m c) 4 from rfl)); iexact H4
    isplitl [H5]
    · iapply (Entails.of_eq (show ioD (F := F) m c 5 = strV (F := F) c (Memref.whole cc0_scratch8) (xb m c) 5 from rfl)); iexact H5
    isplitl [H6]
    · iapply (Entails.of_eq (show ioD (F := F) m c 6 = strV (F := F) c (Memref.whole cc0_scratch8) (xb m c) 6 from rfl)); iexact H6
    isplitl [H7]
    · iapply (Entails.of_eq (show ioD (F := F) m c 7 = strV (F := F) c (Memref.whole cc0_scratch8) (xb m c) 7 from rfl)); iexact H7
    isplitl [H8]
    · iapply (Entails.of_eq (show ioD (F := F) m c 8 = strV (F := F) c (Memref.whole cc0_scratch8) (xb m c) 8 from rfl)); iexact H8
    isplitl [H9]
    · iapply (Entails.of_eq (show ioD (F := F) m c 9 = strV (F := F) c (Memref.whole cc0_scratch8) (xb m c) 9 from rfl)); iexact H9
    isplitl [H10]
    · iapply (Entails.of_eq (show ioD (F := F) m c 10 = strV (F := F) c (Memref.whole cc0_scratch8) (xb m c) 10 from rfl)); iexact H10
    isplitl [H11]
    · iapply (Entails.of_eq (show ioD (F := F) m c 11 = strV (F := F) c (Memref.whole cc0_scratch8) (xb m c) 11 from rfl)); iexact H11
    isplitl [H12]
    · iapply (Entails.of_eq (show ioD (F := F) m c 12 = strV (F := F) c (Memref.whole cc0_scratch8) (xb m c) 12 from rfl)); iexact H12
    isplitl [H13]
    · iapply (Entails.of_eq (show ioD (F := F) m c 13 = strV (F := F) c (Memref.whole cc0_scratch8) (xb m c) 13 from rfl)); iexact H13
    isplitl [H14]
    · iapply (Entails.of_eq (show ioD (F := F) m c 14 = strV (F := F) c (Memref.whole cc0_scratch8) (xb m c) 14 from rfl)); iexact H14
    iapply (Entails.of_eq (show ioD (F := F) m c 15 = strV (F := F) c (Memref.whole cc0_scratch8) (xb m c) 15 from rfl)); iexact H15
  ihave H16 := (Entails.of_eq (show ioD (F := F) m c 16 = iprop(slotQ c mQA 1 fullShare (cQA m c 0) ∗ own c (hfQ g0 ![0, 0] inb_S1024x1024_S1024x512_0_0) fullShare (wq m c)) from rfl)) $$ H16
  ihave H17 := (Entails.of_eq (show ioD (F := F) m c 17 = iprop(slotQ c mQB 1 fullShare (cQB m c 0) ∗ own c (hfQ g0 ![0, 512] inb_S1024x1024_S1024x512_0_512) fullShare (wq m c)) from rfl)) $$ H17
  ihave H18 := (Entails.of_eq (show ioD (F := F) m c 18 = iprop(slotO c mOA 1 fullShare (cOA m c 0) ∗ own c (hfO g1 ![0, 0] inb_S1024x1024_S512x1024_0_0) fullShare (wo m c)) from rfl)) $$ H18
  ihave H19 := (Entails.of_eq (show ioD (F := F) m c 19 = iprop(slotO c mOB 1 fullShare (cOB m c 0) ∗ own c (hfO g1 ![512, 0] inb_S1024x1024_S512x1024_512_0) fullShare (wo m c)) from rfl)) $$ H19
  icases H16 with ⟨A, A'⟩
  icases H17 with ⟨B, B'⟩
  icases H18 with ⟨C, C'⟩
  icases H19 with ⟨D, D'⟩
  isplitl [A B C D]
  · unfold Comm
    isplitl [A]; · iexact A
    isplitl [C]; · iexact C
    isplitl [B]; · iexact B
    iexact D
  isplitl [A' B']
  · iapply (hfQ_two c g0 (wq m c)).2
    isplitl [A'] <;> iassumption
  · iapply (hfO_two c g1 (wo m c)).2
    isplitl [C'] <;> iassumption

theorem out_done (c : Dev nD) : bigSep Finset.univ (outD (F := F) m c) ⊢ iprop(own c os fullShare (outF m c) ∗ (∃ f, Wh (F := F) c cc0_scratch11 f)) := by
  unfold outD
  rw [bigSep_sep', ← strH_all, ← strV_all]
  iintro ⟨H, H'⟩
  isplitl [H]; · iexact H
  iexists _
  iapply (Entails.of_eq (show own (F := F) c (Memref.whole cc0_scratch11) fullShare (accF m c 8) = Wh c cc0_scratch11 (accF m c 8) by
      unfold Wh own; rw [show (Memref.whole cc0_scratch11 : Memref sig .tc .vmem S1024x1024 .f32).view.set = Finset.univ from View.set_whole _]))
  iexact H'

/-- What the body starts from. -/
def BodyIn (c : Dev nD) : sProp 𝕄 := iprop(
  Ow c (OH c 0 + tallyAt (cell (rgt c) 0) 1 1 + tallyAt (cell (lft c) 0) 1 1) ∗ BarIn c ∗ CPos c 0 ∗ bigSep (Finset.Ico 0 6) (CredC (F := F) c)
    ∗ bigSep (Finset.Ico 0 7) (SendTok c) ∗ bigSep (Finset.Ico 0 6) (CredD c) ∗ Pos c 0
    ∗ IoX m c 0 ∗ SrcQ m c ∗ SrcO m c ∗ KI m c 0 0 ∗ KF c 1 ∗ Holds m c
    ∗ (∃ f, Wh (F := F) c cc0_scratch9 f) ∗ (∃ f, Wh (F := F) c cc0_scratch10 f) ∗ (∃ f, Wh (F := F) c cc0_scratch11 f) ∗ (∃ f, own (F := F) c os fullShare f))

/-- What it ends with. -/
def BodyOut (c : Dev nD) : sProp 𝕄 := iprop(
  Ow c 0 ∗ HopTail m c 8 ∗ Hold c xs (xIn m c) ∗ own c g0 fullShare (wq m c) ∗ own c g1 fullShare (wo m c)
    ∗ own c os fullShare (outF m c) ∗ (∃ f, Wh (F := F) c cc0_scratch11 f) ∗ semVal ((c : Thread nD τ), SemLoc.dma ioS) 0 ∗ atPos ER (cell c 0) 1 ∅ 0)

variable (𝒱 : Variants) (c : Dev nD) (bd : Option 𝒱.V)

set_option maxHeartbeats 2000000 in
theorem part74_wp (Q : PUnit → sProp 𝕄) :
    iprop(Ctx m ∗ BodyIn m c ∗ (OutW m c 13 -∗ Ow c (OH c 8) -∗ HopTail m c 8 -∗ Hold c xs (xIn m c) -∗ own c g0 fullShare (wq m c) -∗ own c g1 fullShare (wo m c)
      -∗ atPos ER (cell c 0) 1 ∅ 0 -∗ Q ⟨⟩)) ⊢ wp frame (wpE (defs₀ (F := F)) 𝒱 (c : Thread nD τ) bd) Set.univ (k0_part74 (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [k0_part74_eq_skeleton]
  unfold k0_part74_skel BodyIn
  have hO0 : Above 0 (OH c 0) := above_mono (above_OH c 0) (Nat.zero_le _)
  have hO : Above 0 (OH c 8) := above_mono (above_OH c 8) (Nat.zero_le _)
  iintro ⟨#HC, ⟨HO, HBar, HCP, HCC, HST, HCD, HP, HX, HSQ, HSO, HK, HKF, HH, H9, H10, ⟨%f, H11⟩, Hos⟩, HQ⟩
  rw [wp_bind]
  iapply (part44_wp m 𝒱 c bd)
  isplitl [HX]; · iexact HX
  iintro %v2 %v5 %v7 HX
  try dsimp only
  rw [wp_bind]
  iapply (part45_wp m 𝒱 c bd)
  isplitl [HX]; · iexact HX
  iintro HX
  rw [wp_bind]
  iapply (part46_wp m 𝒱 c bd)
  isplitl [HX]; · iexact HX
  isplitl [HSQ]; · iexact HSQ
  iintro HI Hx
  rw [wp_bind]
  iapply (part47_wp m 𝒱 c bd)
  isplitl [HI]; · iexact HI
  isplitl [HSO]; · iexact HSO
  iintro %v70 %v72 %v89 HI
  try dsimp only
  rw [wp_bind]
  iapply (part48_wp 𝒱 c bd)
  iintro %v119
  rw [wp_bind]
  iapply (part49_wp 𝒱 c bd)
  iintro %v149
  rw [wp_bind]
  iapply (part50_wp m 𝒱 c bd )
  isplitl [HK]; · iexact HK
  iintro HK
  rw [wp_bind]
  iapply (part51_wp m 𝒱 c bd)
  isplitl [HK]; · iexact HK
  iintro HK
  rw [wp_bind]
  iapply (part52_wp m 𝒱 c bd)
  isplitl [HK]; · iexact HK
  iintro HK
  rw [wp_bind]
  iapply (part53_wp m 𝒱 c bd)
  isplitl [HK]; · iexact HK
  iintro HK
  rw [wp_bind]
  iapply (part54_wp m 𝒱 c bd)
  isplitl [HK]; · iexact HK
  iintro HK
  rw [wp_bind]
  iapply (part55_wp m 𝒱 c bd)
  isplitl [HK]; · iexact HK
  iintro HK
  rw [wp_bind]
  iapply (part56_wp m 𝒱 c bd)
  isplitl [HK]; · iexact HK
  iintro HK
  rw [wp_bind]
  iapply (part57_wp m 𝒱 c bd)
  isplitl [HK]; · iexact HK
  iintro HK
  rw [wp_bind]
  iapply (part58_wp m 𝒱 c bd)
  isplitl [HK]; · iexact HK
  iintro HK
  rw [wp_bind]
  iapply (part59_wp m 𝒱 c bd)
  isplitl [HK]; · iexact HK
  iintro HK
  rw [wp_bind]
  iapply (part60_wp m 𝒱 c bd)
  isplitl [HK]; · iexact HK
  iintro HK
  rw [wp_bind]
  iapply (part61_wp m 𝒱 c bd)
  isplitl [HK]; · iexact HK
  iintro HK
  rw [wp_bind]
  iapply (part62_wp m 𝒱 c bd)
  isplitl [HK]; · iexact HK
  iintro HK
  rw [wp_bind]
  iapply (part63_wp m 𝒱 c bd)
  isplitl [HK]; · iexact HK
  iintro HK
  rw [wp_bind]
  iapply (part64_wp m 𝒱 c bd)
  isplitl [HK]; · iexact HK
  iintro HK
  rw [wp_bind]
  iapply (part65_wp m 𝒱 c bd)
  isplitl [HK]; · iexact HK
  iintro HK
  rw [wp_bind]
  iapply (part66_wp m 𝒱 c bd)
  isplitr; · iexact HC
  isplitl [HK]; · iexact HK
  isplitl [HO]; · iexact HO
  isplitl [HBar]; · iexact HBar
  iintro HK Hat HFr HO
  ihave HW := (io_drain m c) $$ HI
  rw [wp_bind]
  iapply (part67_wp m 𝒱 c bd (OH c 0) hO0)
  isplitl [HW]; · iexact HW
  isplitl [HO]; · iexact HO
  iintro HW HO
  rw [wp_bind]
  iapply (part68_wp m 𝒱 c bd (OH c 0) hO0)
  isplitl [HW]; · iexact HW
  isplitl [HO]; · iexact HO
  iintro HW HO
  rw [wp_bind]
  iapply (part69_wp m 𝒱 c bd (OH c 0) hO0 f)
  isplitl [HW]; · iexact HW
  isplitl [HO]; · iexact HO
  isplitl [H11]; · iexact H11
  iintro HD Hs HO H11
  ihave HD := (io_done m c) $$ HD
  icases HD with ⟨H8, HCm, Hg0, Hg1⟩
  rw [wp_bind]
  iapply (part70_wp m 𝒱 c bd v2 v5 v7 f)
  isplitr; · iexact HC
  isplitl [HO HCP HCC HST HCD HP HK HKF HH H9 H10 HFr H8 HCm]
  · unfold HopRest HopTail
    isplitl [HO]; · iexact HO
    isplitl [HCP HCC HFr]
    · unfold PreCred
      rw [if_pos rfl]
      isplitl [HCP]; · iexact HCP
      isplitl [HCC]; · iexact HCC
      iexact HFr
    isplitl [HST]; · iexact HST
    isplitl [HCD]; · iexact HCD
    isplitl [HP]; · iexact HP
    isplitl [HCm]
    · unfold CommSt
      rw [if_pos (by decide)]
      iexact HCm
    isplitl [HK HKF]
    · unfold KvSt
      rw [if_pos (by decide)]
      isplitl [HK]; · iexact HK
      iexact HKF
    isplitl [HH]; · iexact HH
    isplitl [H8]; · iexact H8
    isplitl [H9]; · iexact H9
    iexact H10
  isplitl [H11]; · iexact H11
  isplitl [Hos]; · iexact Hos
  isplitl [Hs]; · iexact Hs
  iintro HR HU
  unfold HopRest
  icases HR with ⟨HO, HR⟩
  rw [wp_bind]
  iapply (part71_wp m 𝒱 c bd)
  isplitl [HU]; · iexact HU
  iintro HU
  rw [wp_bind]
  iapply (part72_wp m 𝒱 c bd (OH c 8) hO)
  isplitl [HU]; · iexact HU
  isplitl [HO]; · iexact HO
  iintro HU HO
  rw [wp_bind]
  iapply (part73_wp m 𝒱 c bd (OH c 8) hO)
  isplitl [HU]; · iexact HU
  isplitl [HO]; · iexact HO
  iintro HU HO
  try dsimp only
  iapply (out_wait m 𝒱 c bd 9 (by decide) (OH c 8) hO)
  isplitl [HU]; · iexact HU
  isplitl [HO]; · iexact HO
  iintro HU HO
  iapply (out_wait m 𝒱 c bd 10 (by decide) (OH c 8) hO)
  isplitl [HU]; · iexact HU
  isplitl [HO]; · iexact HO
  iintro HU HO
  iapply (out_wait m 𝒱 c bd 11 (by decide) (OH c 8) hO)
  isplitl [HU]; · iexact HU
  isplitl [HO]; · iexact HO
  iintro HU HO
  iapply (out_wait m 𝒱 c bd 12 (by decide) (OH c 8) hO)
  isplitl [HU]; · iexact HU
  isplitl [HO]; · iexact HO
  iintro HU HO
  rw [wp_pure]
  imodintro
  ispecialize HQ $$ HU
  ispecialize HQ $$ HO
  ispecialize HQ $$ HR
  ispecialize HQ $$ Hx
  ispecialize HQ $$ Hg0
  ispecialize HQ $$ Hg1
  iapply HQ $$ Hat

set_option maxHeartbeats 2000000 in
/-- The whole body. -/
theorem body_wp (Q : PUnit → sProp 𝕄) :
    iprop(Ctx m ∗ BodyIn m c ∗ (BodyOut m c -∗ Q ⟨⟩)) ⊢ wp frame (wpE (defs₀ (F := F)) 𝒱 (c : Thread nD τ) bd) Set.univ (cc0__body (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) Q := by
  rw [cc0__body_eq_skeleton]
  unfold cc0__body_skel BodyOut
  have hO : Above 0 (OH c 8) := above_mono (above_OH c 8) (Nat.zero_le _)
  iintro ⟨#HC, HB, HQ⟩
  rw [wp_bind]
  iapply (part74_wp m 𝒱 c bd)
  isplitr; · iexact HC
  isplitl [HB]; · iexact HB
  iintro HU HO HR Hx Hg0 Hg1 Hat
  try dsimp only
  iapply (out_wait m 𝒱 c bd 13 (by decide) (OH c 8) hO)
  isplitl [HU]; · iexact HU
  isplitl [HO]; · iexact HO
  iintro HU HO
  iapply (out_wait m 𝒱 c bd 14 (by decide) (OH c 8) hO)
  isplitl [HU]; · iexact HU
  isplitl [HO]; · iexact HO
  iintro HU HO
  iapply (out_last m 𝒱 c bd (OH c 8) hO)
  isplitl [HU]; · iexact HU
  isplitl [HO]; · iexact HO
  iintro HD Hs HO
  ihave HD := (out_done m c) $$ HD
  icases HD with ⟨Ho, H11⟩
  ihave HO := (Entails.of_eq (congrArg (fun O => Ow (F := F) c O) (OH_end c))) $$ HO
  rw [wp_pure]
  imodintro
  iapply HQ
  isplitl [HO]; · iexact HO
  isplitl [HR]; · iexact HR
  isplitl [Hx]; · iexact Hx
  isplitl [Hg0]; · iexact Hg0
  isplitl [Hg1]; · iexact Hg1
  isplitl [Ho]; · iexact Ho
  isplitl [H11]; · iexact H11
  isplitl [Hs]; · iexact Hs
  iexact Hat
end

end Cert.KernelIdeal.Ring

end
-- ==== Proof.KernelIdeal.Glob.lean ====
/-
What the launch deals each device: the cells, the tokens of the duties, and the counters.
-/
module

public import proofs.«01_k».proof.Proof.KernelIdeal.Body

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-! ## The semaphores -/

/-- The semaphores the kernel declares: the copies' and the credits', one for each slot of the four buffers of keys and
    values, and the one of the copies of the input and of the output. -/
def osem (k : Fin 19) : SemLoc sig := match k.val with
  | 0 => csem 1
  | 1 => csem 2
  | 2 => csem 3
  | 3 => csem 4
  | 4 => csem 5
  | 5 => csem 6
  | 6 => csem 7
  | 7 => csem 8
  | 8 => csem 9
  | 9 => csem 10
  | 10 => .dma (kvSem 0 0)
  | 11 => .dma (kvSem 0 1)
  | 12 => .dma (kvSem 0 2)
  | 13 => .dma (kvSem 0 3)
  | 14 => .dma (kvSem 1 0)
  | 15 => .dma (kvSem 1 1)
  | 16 => .dma (kvSem 1 2)
  | 17 => .dma (kvSem 1 3)
  | _ => .dma ioS

theorem ownSemFacts : Pipeline.OwnSemFacts cfg0.spec osem := by decide +kernel

/-- The eight semaphores of the keys and values at zero. -/
def kvZ (c : Dev nD) : sProp 𝕄 := iprop(semVal ((c : Thread nD τ), SemLoc.dma (kvSem 0 0)) 0 ∗ semVal ((c : Thread nD τ), SemLoc.dma (kvSem 0 1)) 0 ∗ semVal ((c : Thread nD τ), SemLoc.dma (kvSem 0 2)) 0 ∗ semVal ((c : Thread nD τ), SemLoc.dma (kvSem 0 3)) 0 ∗ semVal ((c : Thread nD τ), SemLoc.dma (kvSem 1 0)) 0 ∗ semVal ((c : Thread nD τ), SemLoc.dma (kvSem 1 1)) 0 ∗ semVal ((c : Thread nD τ), SemLoc.dma (kvSem 1 2)) 0 ∗ semVal ((c : Thread nD τ), SemLoc.dma (kvSem 1 3)) 0)

omit [FloatOps F] in
theorem ownSems0_eq (c : Dev nD) : (Pipeline.ownSems0 (Ix := ℕ) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0 ∗ semVal (cell c 7) 0 ∗ semVal (cell c 8) 0 ∗ semVal (cell c 9) 0 ∗ semVal (cell c 10) 0 ∗ semVal ((c : Thread nD τ), SemLoc.dma (kvSem 0 0)) 0 ∗ semVal ((c : Thread nD τ), SemLoc.dma (kvSem 0 1)) 0 ∗ semVal ((c : Thread nD τ), SemLoc.dma (kvSem 0 2)) 0 ∗ semVal ((c : Thread nD τ), SemLoc.dma (kvSem 0 3)) 0 ∗ semVal ((c : Thread nD τ), SemLoc.dma (kvSem 1 0)) 0 ∗ semVal ((c : Thread nD τ), SemLoc.dma (kvSem 1 1)) 0 ∗ semVal ((c : Thread nD τ), SemLoc.dma (kvSem 1 2)) 0 ∗ semVal ((c : Thread nD τ), SemLoc.dma (kvSem 1 3)) 0 ∗ semVal ((c : Thread nD τ), SemLoc.dma ioS) 0) := by
  rw [Pipeline.ownSems0_eq_of_list c osem [0, 1, 2, 3, 4, 5, 6, 7, 8, 9, 10, 11, 12, 13, 14, 15, 16, 17, 18] (by decide) (by decide)]; rfl

omit [FloatOps F] in
theorem unscopedSems0_eq (c : Dev nD) : (unscopedSems0 c : sProp 𝕄) = semVal (cell c 0) 0 := by
  unfold unscopedSems0; rw [bigSep_eq_bigSepL_of_eq [csem 0] (by decide +kernel) (by decide)]; rfl

omit [FloatOps F] in
theorem bigSep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

omit [FloatOps F] in
theorem sems_out (c : Dev nD) :
    iprop(Pipeline.ownSems0 (Ix := ℕ) (Name := ℕ) (U := UU) (Lvl := ℕ) (Val := Elt F) (τ := τ) osem c ∗ unscopedSems0 c)
      ⊢ (iprop((bigSep Finset.univ fun j : Fin 11 => semVal (cell c j) 0) ∗ kvZ c ∗ semVal ((c : Thread nD τ), SemLoc.dma ioS) 0) : sProp 𝕄) := by
  rw [ownSems0_eq, unscopedSems0_eq, bigSep_fin11]
  unfold kvZ
  iintro ⟨⟨S0, S1, S2, S3, S4, S5, S6, S7, S8, S9, V0, V1, V2, V3, V4, V5, V6, V7, I⟩, B⟩
  isplitl [B S0 S1 S2 S3 S4 S5 S6 S7 S8 S9]
  · isplitl [B]; · iexact B
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [V0 V1 V2 V3 V4 V5 V6 V7]
  · isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  iexact I

omit [FloatOps F] in
theorem sems_in (c : Dev nD) :
    iprop((bigSep Finset.univ fun j : Fin 11 => semVal (cell c j) 0) ∗ kvZ c ∗ semVal ((c : Thread nD τ), SemLoc.dma ioS) 0)
      ⊢ (iprop(Pipeline.ownSems0 (Ix := ℕ) (Name := ℕ) (U := UU) (Lvl := ℕ) (Val := Elt F) (τ := τ) osem c ∗ unscopedSems0 c) : sProp 𝕄) := by
  rw [ownSems0_eq, unscopedSems0_eq, bigSep_fin11]
  unfold kvZ
  iintro ⟨⟨B, S0, S1, S2, S3, S4, S5, S6, S7, S8, S9⟩, ⟨V0, V1, V2, V3, V4, V5, V6, V7⟩, I⟩
  isplitr [B]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    iexact I
  iexact B

/-! ## The cells and the tokens -/

theorem cell_injective : Function.Injective (fun p : Dev nD × Fin 11 => cell p.1 p.2) := by
  rintro ⟨c, k⟩ ⟨c', k'⟩ h
  have h1 : c = c' := congrArg (fun g : GSem nD τ sig => g.1.1) h
  have h2 : csem k = csem k' := congrArg Prod.snd h
  have h3 : some k = some k' := by rw [← jOf_csem, ← jOf_csem, h2]
  rw [h1, Option.some.inj h3]
def ringCells : Finset (GSem nD τ sig) := Finset.univ.map ⟨fun p : Dev nD × Fin 11 => cell p.1 p.2, cell_injective⟩

/-- Whose cell a device pays: the `d`-th duty of its `j`-th kind. -/
def tg (j : Fin 11) (d : Bool) (c : Dev nD) : Dev nD :=
  match j, d with
  | 0, false => rgt c | 0, true => lft c
  | 5, _ => rgt c | 6, _ => rgt c | 7, _ => lft c | 8, _ => lft c
  | 9, _ => lft c | 10, _ => rgt c
  | _, _ => c
theorem tg_injective : ∀ (j : Fin 11) (d : Bool) (c c' : Dev nD), tg j d c = tg j d c' → c = c' := by decide +kernel

abbrev TokIx := Fin 11 × Fin 7 × Bool
def tokOf (p : Dev nD × TokIx) : GSem nD τ sig × ℕ × Bool := (cell (tg p.2.1 p.2.2.2 p.1) p.2.1, p.2.2.1.val, p.2.2.2)
theorem tokOf_injective : Function.Injective tokOf := by
  rintro ⟨c, j, r, d⟩ ⟨c', j', r', d'⟩ h
  have h1 := cell_injective (a₁ := (tg j d c, j)) (a₂ := (tg j' d' c', j')) (congrArg Prod.fst h)
  have h2 : r.val = r'.val := congrArg (fun x => x.2.1) h
  have h3 : d = d' := congrArg (fun x => x.2.2) h
  have h4 : j = j' := congrArg Prod.snd h1
  subst h3 h4
  have h5 := tg_injective _ _ _ _ (congrArg Prod.fst h1)
  rw [h5, Fin.ext h2]
def ringToks : Finset (GSem nD τ sig × ℕ × Bool) := Finset.univ.map ⟨tokOf, tokOf_injective⟩

/-- The tokens of the duties device `c` pays. -/
def toks (c : Dev nD) : sProp 𝕄 := bigSep Finset.univ fun p : TokIx => dutyTok ER (tokOf (c, p)).1 (tokOf (c, p)).2.1 (tokOf (c, p)).2.2

def u₀ : UU := (initOf (Pipeline.cells cfgs cellOf_inj) (Pipeline.launchToks cfgs cellOf_inj), (initOf ringCells ringToks, (1 : Counters)))

omit [FloatOps F] in
theorem ownU_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-! ## What the launch deals -/

/-- All cells are at round 0. -/
def Rch : sProp 𝕄 := bigSep (Finset.univ : Finset (Dev nD × Fin 11)) fun p => reached ER (cell p.1 p.2) 0
omit [FloatOps F] in
instance Rch_persistent : BI.Persistent (Rch (F := F)) := by unfold Rch; infer_instance
omit [FloatOps F] in
theorem rch_at (c : Dev nD) (j : Fin 11) : Rch (F := F) ⊢ reached ER (cell c j) 0 := by
  unfold Rch
  exact bigSep_elim (Φ := fun p : Dev nD × Fin 11 => (reached ER (cell p.1 p.2) 0 : sProp 𝕄)) (Finset.mem_univ (c, j))

variable (m : (ℓ : Loc nD τ sig) → Buf (Elt F) ℓ)

def G (c : Dev nD) : sProp 𝕄 :=
  iprop((bigSep Finset.univ fun j : Fin 11 => roundState ER (Rd m) (cell c j) 0)
    ∗ (bigSep Finset.univ fun j : Fin 11 => atPos ER (cell c j) 0 ∅ 0) ∗ (bigSep Finset.univ fun j : Fin 11 => reached ER (cell c j) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun j : Fin 11 => Φ (cell c j) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- What a device holds before it runs, of the ghost state and of the counters. -/
def Mine (c : Dev nD) : sProp 𝕄 :=
  iprop((bigSep Finset.univ fun j : Fin 11 => atPos ER (cell c j) 0 ∅ 0) ∗ toks c ∗ kvZ c ∗ semVal ((c : Thread nD τ), SemLoc.dma ioS) 0)
def G' (c : Dev nD) : sProp 𝕄 := iprop(Ctx m ∗ Rch ∗ Mine c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun j : Fin 11 => Inv m c j) ∗ (bigSep Finset.univ fun j : Fin 11 => reached ER (cell c j) 0) ∗ Mine c) := by
  unfold G
  iintro ⟨Hos, Hus, Hst, Hat, Hr, Htok⟩
  ihave Hv := (sems_out (F := F) c) $$ [Hos Hus]
  · isplitl [Hos] <;> iassumption
  icases Hv with ⟨Hv, Hkv, Hio⟩
  imod (show iprop((bigSep Finset.univ fun j : Fin 11 => semVal (cell c j) 0) ∗ bigSep Finset.univ fun j : Fin 11 => roundState ER (Rd m) (cell c j) 0)
      ⊢ (|={Set.univ}=> bigSep Finset.univ fun j => Inv m c j : sProp 𝕄) from by
        rw [← bigSep_sep']
        exact (bigSep_mono fun j _ => (Rounds.body_intro ER (Rd m) (cell c j)).trans (inv_alloc.trans (Entails.of_eq (by unfold Inv; rfl)))).trans (bigSep_fupd _ _)) $$ [Hv Hst] with Hinv
  · isplitl [Hv] <;> iassumption
  imodintro
  isplitl [Hinv]; · iexact Hinv
  isplitl [Hr]; · iexact Hr
  unfold Mine
  isplitl [Hat]; · iexact Hat
  isplitl [Htok]; · iexact Htok
  isplitl [Hkv]; · iexact Hkv
  iexact Hio

omit [FloatOps F] in
/-- What may be repeated goes to every member. -/
theorem deal {I : Type} [DecidableEq I] (S : Finset I) (R : sProp 𝕄) [BI.Persistent R] (Φ Ψ : I → sProp 𝕄)
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j : Fin 11 => Inv m c j) ∗ (bigSep Finset.univ fun j : Fin 11 => reached ER (cell c j) 0) ∗ Mine c) : sProp 𝕄)
      ⊢ bigSep Finset.univ (G' m) := by
  rw [bigSep_sep', bigSep_sep']
  refine (show _ ⊢ iprop((Ctx m ∗ Rch) ∗ bigSep Finset.univ fun c : Dev nD => Mine c) from ?_).trans
    (deal Finset.univ iprop(Ctx m ∗ Rch) (fun c => Mine c) (G' m) fun c _ => ?_)
  · iintro ⟨HI, HR, HM⟩
    isplitl [HI HR]
    · isplitl [HI]
      · unfold Ctx; iapply (Entails.of_eq (bigSep_univ_prod (fun p : Dev nD × Fin 11 => Inv m p.1 p.2)).symm); iexact HI
      · unfold Rch; iapply (Entails.of_eq (bigSep_univ_prod (fun p : Dev nD × Fin 11 => (reached ER (cell p.1 p.2) 0 : sProp 𝕄))).symm); iexact HR
    iexact HM
  · unfold G'
    iintro ⟨⟨HC, HR⟩, HM⟩
    isplitl [HC]; · iexact HC
    isplitl [HR]; · iexact HR
    iexact HM

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Ring

end
-- ==== Proof.KernelIdeal.Creds.lean ====
/-
The tokens of the duties by hop, and the credits of the launch.
-/
module

public import proofs.«01_k».proof.Proof.KernelIdeal.Glob

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

omit [FloatOps F] in
theorem ico_of_fin (n : ℕ) (Φ : ℕ → sProp 𝕄) : (bigSep Finset.univ fun r : Fin n => Φ r.val) = bigSep (Finset.Ico 0 n) Φ := by
  have h : Finset.Ico 0 n = (Finset.univ : Finset (Fin n)).map Fin.valEmbedding := by
    ext x
    rw [Finset.mem_map, Finset.mem_Ico]
    exact ⟨fun hx => ⟨⟨x, hx.2⟩, Finset.mem_univ _, rfl⟩, fun ⟨y, _, hy⟩ => by rw [← hy]; exact ⟨Nat.zero_le _, y.isLt⟩⟩
  rw [h, bigSep_map]; rfl

/-! ## The tokens, by hop -/

omit [FloatOps F] in
theorem bigSep_bool (Φ : Bool → sProp 𝕄) : bigSep Finset.univ Φ = iprop(Φ false ∗ Φ true) := bigSep_univ_eq_bigSepL [false, true] (by decide) (by decide) Φ

/-- The tokens of one kind of duty. -/
def row (c : Dev nD) (j : Fin 11) : sProp 𝕄 := bigSep (Finset.Ico 0 7) fun r => iprop(dutyTok ER (cell (tg j false c) j) r false ∗ dutyTok ER (cell (tg j true c) j) r true)

omit [FloatOps F] in
theorem toks_rows (c : Dev nD) : toks (F := F) c = bigSep Finset.univ fun j : Fin 11 => row c j := by
  unfold toks row
  rw [bigSep_univ_prod]
  refine bigSep_congr fun j _ => ?_
  rw [bigSep_univ_prod]
  refine Eq.trans (bigSep_congr fun r _ => bigSep_bool _) ?_
  exact ico_of_fin 7 (fun r => iprop(dutyTok ER (cell (tg j false c) j) r false ∗ dutyTok ER (cell (tg j true c) j) r true))

omit [FloatOps F] in
theorem row_false (c : Dev nD) (j : Fin 11) : row (F := F) c j ⊢ bigSep (Finset.Ico 0 7) fun r => dutyTok ER (cell (tg j false c) j) r false := by
  unfold row; exact bigSep_mono fun r _ => show iprop(dutyTok ER (cell (tg j false c) j) r false ∗ dutyTok ER (cell (tg j true c) j) r true) ⊢ (dutyTok ER (cell (tg j false c) j) r false : sProp 𝕄) from sep_elim_left
omit [FloatOps F] in
theorem row_zero (c : Dev nD) : row (F := F) c 0 ⊢ iprop(dutyTok ER (cell (rgt c) 0) 0 false ∗ dutyTok ER (cell (lft c) 0) 0 true) := by
  unfold row; exact bigSep_elim (Φ := fun r => iprop(dutyTok ER (cell (tg 0 false c) 0) r false ∗ dutyTok ER (cell (tg 0 true c) 0) r true)) (Finset.mem_Ico.mpr ⟨le_refl 0, by decide⟩)

omit [FloatOps F] in
theorem toks_split (c : Dev nD) : toks (F := F) c ⊢ iprop(
    (dutyTok ER (cell (rgt c) 0) 0 false ∗ dutyTok ER (cell (lft c) 0) 0 true) ∗ bigSep (Finset.Ico 0 7) (SendD c) ∗ bigSep (Finset.Ico 0 6) (CredD c)) := by
  rw [toks_rows, bigSep_fin11]
  iintro ⟨T0, T1, T2, T3, T4, T5, T6, T7, T8, T9, T10⟩
  ihave T1 := (row_false (F := F) c 1) $$ T1
  ihave T2 := (row_false (F := F) c 2) $$ T2
  ihave T3 := (row_false (F := F) c 3) $$ T3
  ihave T4 := (row_false (F := F) c 4) $$ T4
  ihave T5 := (row_false (F := F) c 5) $$ T5
  ihave T6 := (row_false (F := F) c 6) $$ T6
  ihave T7 := (row_false (F := F) c 7) $$ T7
  ihave T8 := (row_false (F := F) c 8) $$ T8
  ihave T9 := (row_false (F := F) c 9) $$ T9
  ihave T10 := (row_false (F := F) c 10) $$ T10
  ihave T0 := (row_zero (F := F) c) $$ T0
  isplitl [T0]; · iexact T0
  isplitr [T9 T10]
  · unfold SendD
    rw [bigSep_sep', bigSep_sep', bigSep_sep', bigSep_sep', bigSep_sep', bigSep_sep', bigSep_sep']
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8
  · unfold CredD
    rw [bigSep_sep']
    ihave T9 := (show (bigSep (Finset.Ico 0 7) fun r => dutyTok ER (cell (tg 9 false c) 9) r false) ⊢ (bigSep (Finset.Ico 0 6) fun r => dutyTok ER (cell (tg 9 false c) 9) r false : sProp 𝕄) from bigSep_subset (show Finset.Ico 0 6 ⊆ Finset.Ico 0 7 by decide)) $$ T9
    ihave T10 := (show (bigSep (Finset.Ico 0 7) fun r => dutyTok ER (cell (tg 10 false c) 10) r false) ⊢ (bigSep (Finset.Ico 0 6) fun r => dutyTok ER (cell (tg 10 false c) 10) r false : sProp 𝕄) from bigSep_subset (show Finset.Ico 0 6 ⊆ Finset.Ico 0 7 by decide)) $$ T10
    isplitl [T9]; · iexact T9
    iexact T10

/-! ## The credits -/

/-- What a device owes at the launch. -/
def O₀ (c : Dev nD) : CellTallies nD τ sig ℕ := OH c 0 + tallyAt (cell (rgt c) 0) 1 1 + tallyAt (cell (lft c) 0) 1 1

omit [FloatOps F] in
theorem cred_rgt (c : Dev nD) (j : Fin 11) (ι n : ℕ) : (Pipeline.launchCred (fun d => tallyAt (cell (rgt d) j) ι n) c : sProp 𝕄) ⊢ cred (tallyAt (cell c j) ι n) :=
  Pipeline.launchCred_tallyAt (csem j) rgt lft rgt_lft lft_rgt ι n c
omit [FloatOps F] in
theorem cred_lft (c : Dev nD) (j : Fin 11) (ι n : ℕ) : (Pipeline.launchCred (fun d => tallyAt (cell (lft d) j) ι n) c : sProp 𝕄) ⊢ cred (tallyAt (cell c j) ι n) :=
  Pipeline.launchCred_tallyAt (csem j) lft rgt lft_rgt rgt_lft ι n c

omit [FloatOps F] in
theorem cred_recv (c : Dev nD) (r : ℕ) : (Pipeline.launchCred (fun d => recvT d r) c : sProp 𝕄) ⊢ RecvCr c r := by
  unfold recvT RecvCr
  rw [Pipeline.launchCred_add, Pipeline.launchCred_add, Pipeline.launchCred_add]
  exact BIClass.sep_mono (cred_rgt c 5 _ _) (BIClass.sep_mono (cred_rgt c 6 _ _) (BIClass.sep_mono (cred_lft c 7 _ _) (cred_lft c 8 _ _)))
omit [FloatOps F] in
theorem cred_cred (c : Dev nD) (r : ℕ) : (Pipeline.launchCred (fun d => credT d r) c : sProp 𝕄) ⊢ CredC c r := by
  unfold credT CredC
  rw [Pipeline.launchCred_add]
  exact BIClass.sep_mono (cred_lft c 9 _ _) (cred_rgt c 10 _ _)

omit [FloatOps F] in
theorem creds (c : Dev nD) : (Pipeline.launchCred O₀ c : sProp 𝕄)
    ⊢ iprop(bigSep (Finset.Ico 0 7) (RecvCr c) ∗ bigSep (Finset.Ico 0 6) (CredC c) ∗ cred (tallyAt (cell c 0) 1 2)) := by
  have e : (Pipeline.launchCred O₀ c : sProp 𝕄) = iprop(((bigSep (Finset.Ico 0 7) fun r => Pipeline.launchCred (fun d => recvT d r) c)
      ∗ (bigSep (Finset.Ico 0 6) fun r => Pipeline.launchCred (fun d => credT d r) c))
      ∗ Pipeline.launchCred (fun d => tallyAt (cell (rgt d) 0) 1 1) c ∗ Pipeline.launchCred (fun d => tallyAt (cell (lft d) 0) 1 1) c) := by
    rw [← Pipeline.launchCred_sum (Finset.Ico 0 7) (fun r d => recvT d r) c, ← Pipeline.launchCred_sum (Finset.Ico 0 6) (fun r d => credT d r) c,
      ← Pipeline.launchCred_add, ← Pipeline.launchCred_add, ← Pipeline.launchCred_add]
    congr 1
    funext d
    unfold O₀ OH
    rw [add_assoc]
  rw [e]
  iintro ⟨⟨HR, HC⟩, H1, H2⟩
  isplitl [HR]; · iapply (show (bigSep (Finset.Ico 0 7) fun r => Pipeline.launchCred (fun d => recvT d r) c) ⊢ (bigSep (Finset.Ico 0 7) (RecvCr c) : sProp 𝕄) from bigSep_mono fun r _ => cred_recv c r); iexact HR
  isplitl [HC]; · iapply (show (bigSep (Finset.Ico 0 6) fun r => Pipeline.launchCred (fun d => credT d r) c) ⊢ (bigSep (Finset.Ico 0 6) (CredC c) : sProp 𝕄) from bigSep_mono fun r _ => cred_cred c r); iexact HC
  ihave H1 := (cred_rgt (F := F) c 0 1 1) $$ H1
  ihave H2 := (cred_lft (F := F) c 0 1 1) $$ H2
  iapply (Entails.of_eq (congrArg (fun T => (cred T : sProp 𝕄)) (show tallyAt (cell c 0) 1 1 + tallyAt (cell c 0) 1 1 = (tallyAt (cell c 0) 1 2 : CellTallies nD τ sig ℕ) from tallyAt_add _ _ _ _)))
  iapply (cred_add _ _).2
  isplitl [H1]; · iexact H1
  iexact H2

end Cert.KernelIdeal.Ring

end
-- ==== Proof.KernelIdeal.Slots.lean ====
/-
A scratch buffer split into its two slots and joined again.
-/
module

public import proofs.«01_k».proof.Proof.KernelIdeal.Creds

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

/-! ## A buffer and its two slots -/

theorem sets_of {s : Shape} (b : Memref sig .tc .vmem s .f32) (r r' : Rect s)
    (h : ∀ x, x ∈ r.set → x ∈ r'.set → False) (h' : ∀ x, x ∈ r.set ∨ x ∈ r'.set) :
    Disjoint (b.view.slice r).set (b.view.slice r').set ∧ b.view.set = (b.view.slice r).set ∪ (b.view.slice r').set := by
  rw [View.set_slice, View.set_slice]
  refine ⟨?_, ?_⟩
  · rw [Finset.disjoint_map, Finset.disjoint_left]; exact h
  · ext y
    rw [Finset.mem_union]
    constructor
    · intro hy
      obtain ⟨x, -, rfl⟩ := Finset.mem_map.mp hy
      exact (h' x).imp (Finset.mem_map_of_mem _) (Finset.mem_map_of_mem _)
    · rintro (h | h) <;> obtain ⟨x, -, rfl⟩ := Finset.mem_map.mp h <;> exact View.emb_mem_set _ x

theorem slotQ_sets (M : Memref sig .tc .vmem S2x1024x512 .f32) :
    Disjoint (cwQ M ![(0 : Fin 2).val, 0, 0] (slotQ_inb 0)).view.set (cwQ M ![(1 : Fin 2).val, 0, 0] (slotQ_inb 1)).view.set
      ∧ M.view.set = (cwQ M ![(0 : Fin 2).val, 0, 0] (slotQ_inb 0)).view.set ∪ (cwQ M ![(1 : Fin 2).val, 0, 0] (slotQ_inb 1)).view.set := by
  have e (p : Fin 2) : (cwQ M ![p.val, 0, 0] (slotQ_inb p)).view.set = (M.view.slice (Rect.unit (s := S2x1024x512) ![p.val, 0, 0] S1x1024x512.size (slotQ_inb p))).set :=
    View.set_reshape (v := M.view.slice (Rect.unit (s := S2x1024x512) ![p.val, 0, 0] S1x1024x512.size (slotQ_inb p))) _
  rw [e 0, e 1]
  have hm (p : Fin 2) (x : S2x1024x512.Idx) : x ∈ (Rect.unit (s := S2x1024x512) ![p.val, 0, 0] S1x1024x512.size (slotQ_inb p)).set ↔ (x 0).val = p.val := by
    rw [Rect.mem_set_unit]
    constructor
    · intro h
      have h0 := h 0
      change p.val ≤ (x 0).val ∧ (x 0).val < p.val + 1 at h0
      omega
    · intro h a
      match a with
      | ⟨0, _⟩ => change p.val ≤ (x 0).val ∧ (x 0).val < p.val + 1; omega
      | ⟨1, _⟩ => exact ⟨Nat.zero_le _, by have h1 : (x 1).val < S2x1024x512.size 1 := (x 1).isLt; change (x 1).val < 0 + S2x1024x512.size 1; omega⟩
      | ⟨2, _⟩ => exact ⟨Nat.zero_le _, by have h1 : (x 2).val < S2x1024x512.size 2 := (x 2).isLt; change (x 2).val < 0 + S2x1024x512.size 2; omega⟩
  refine sets_of M _ _ (fun x h h' => ?_) (fun x => ?_)
  · have h1 := (hm 0 x).mp h
    have h2 := (hm 1 x).mp h'
    rw [h1] at h2
    exact absurd h2 (by decide)
  · have h2 : (x 0).val < 2 := (x 0).isLt
    rcases (show (x 0).val = 0 ∨ (x 0).val = 1 by omega) with h | h
    · exact Or.inl ((hm 0 x).mpr h)
    · exact Or.inr ((hm 1 x).mpr h)

omit [FloatOps F] in
theorem slotQ_two (c : Dev nD) (M : Memref sig .tc .vmem S2x1024x512 .f32) (f : M.view.ty.Contents (Elt F)) :
    (own (F := F) c M fullShare f : sProp 𝕄) ⊢ iprop(slotQ c M 0 fullShare f ∗ slotQ c M 1 fullShare f) := by
  obtain ⟨hd, he⟩ := slotQ_sets M
  exact (Entails.of_eq (congrArg (fun S => (M.view.loc (c : Thread nD τ) ↦[S]{fullShare} f : sProp 𝕄)) he)).trans
    (pointsTo_union (ℓ := M.view.loc (c : Thread nD τ)) (q := fullShare) (f := f) (Ix := ℕ) (Name := ℕ) (U := UU) (Lvl := ℕ) hd).1
omit [FloatOps F] in
theorem slotQ_one (c : Dev nD) (M : Memref sig .tc .vmem S2x1024x512 .f32) :
    iprop((∃ f, slotQ (F := F) c M 0 fullShare f) ∗ ∃ f, slotQ (F := F) c M 1 fullShare f) ⊢ iprop(∃ f : M.view.ty.Contents (Elt F), own c M fullShare f) := by
  obtain ⟨hd, he⟩ := slotQ_sets M
  unfold slotQ
  iintro ⟨⟨%f, H⟩, ⟨%g, H'⟩⟩
  ihave H := (pointsTo_join (ℓ := M.view.loc (c : Thread nD τ)) (q := fullShare) (f := f) (g := g) (Ix := ℕ) (Name := ℕ) (U := UU) (Lvl := ℕ) hd) $$ [H H']
  · isplitl [H]; · iexact H
    iexact H'
  rw [← he]
  iexists _
  iexact H

theorem slotO_sets (M : Memref sig .tc .vmem S2x512x1024 .f32) :
    Disjoint (cwO M ![(0 : Fin 2).val, 0, 0] (slotO_inb 0)).view.set (cwO M ![(1 : Fin 2).val, 0, 0] (slotO_inb 1)).view.set
      ∧ M.view.set = (cwO M ![(0 : Fin 2).val, 0, 0] (slotO_inb 0)).view.set ∪ (cwO M ![(1 : Fin 2).val, 0, 0] (slotO_inb 1)).view.set := by
  have e (p : Fin 2) : (cwO M ![p.val, 0, 0] (slotO_inb p)).view.set = (M.view.slice (Rect.unit (s := S2x512x1024) ![p.val, 0, 0] S1x512x1024.size (slotO_inb p))).set :=
    View.set_reshape (v := M.view.slice (Rect.unit (s := S2x512x1024) ![p.val, 0, 0] S1x512x1024.size (slotO_inb p))) _
  rw [e 0, e 1]
  have hm (p : Fin 2) (x : S2x512x1024.Idx) : x ∈ (Rect.unit (s := S2x512x1024) ![p.val, 0, 0] S1x512x1024.size (slotO_inb p)).set ↔ (x 0).val = p.val := by
    rw [Rect.mem_set_unit]
    constructor
    · intro h
      have h0 := h 0
      change p.val ≤ (x 0).val ∧ (x 0).val < p.val + 1 at h0
      omega
    · intro h a
      match a with
      | ⟨0, _⟩ => change p.val ≤ (x 0).val ∧ (x 0).val < p.val + 1; omega
      | ⟨1, _⟩ => exact ⟨Nat.zero_le _, by have h1 : (x 1).val < S2x512x1024.size 1 := (x 1).isLt; change (x 1).val < 0 + S2x512x1024.size 1; omega⟩
      | ⟨2, _⟩ => exact ⟨Nat.zero_le _, by have h1 : (x 2).val < S2x512x1024.size 2 := (x 2).isLt; change (x 2).val < 0 + S2x512x1024.size 2; omega⟩
  refine sets_of M _ _ (fun x h h' => ?_) (fun x => ?_)
  · have h1 := (hm 0 x).mp h
    have h2 := (hm 1 x).mp h'
    rw [h1] at h2
    exact absurd h2 (by decide)
  · have h2 : (x 0).val < 2 := (x 0).isLt
    rcases (show (x 0).val = 0 ∨ (x 0).val = 1 by omega) with h | h
    · exact Or.inl ((hm 0 x).mpr h)
    · exact Or.inr ((hm 1 x).mpr h)

omit [FloatOps F] in
theorem slotO_two (c : Dev nD) (M : Memref sig .tc .vmem S2x512x1024 .f32) (f : M.view.ty.Contents (Elt F)) :
    (own (F := F) c M fullShare f : sProp 𝕄) ⊢ iprop(slotO c M 0 fullShare f ∗ slotO c M 1 fullShare f) := by
  obtain ⟨hd, he⟩ := slotO_sets M
  exact (Entails.of_eq (congrArg (fun S => (M.view.loc (c : Thread nD τ) ↦[S]{fullShare} f : sProp 𝕄)) he)).trans
    (pointsTo_union (ℓ := M.view.loc (c : Thread nD τ)) (q := fullShare) (f := f) (Ix := ℕ) (Name := ℕ) (U := UU) (Lvl := ℕ) hd).1
omit [FloatOps F] in
theorem slotO_one (c : Dev nD) (M : Memref sig .tc .vmem S2x512x1024 .f32) :
    iprop((∃ f, slotO (F := F) c M 0 fullShare f) ∗ ∃ f, slotO (F := F) c M 1 fullShare f) ⊢ iprop(∃ f : M.view.ty.Contents (Elt F), own c M fullShare f) := by
  obtain ⟨hd, he⟩ := slotO_sets M
  unfold slotO
  iintro ⟨⟨%f, H⟩, ⟨%g, H'⟩⟩
  ihave H := (pointsTo_join (ℓ := M.view.loc (c : Thread nD τ)) (q := fullShare) (f := f) (g := g) (Ix := ℕ) (Name := ℕ) (U := UU) (Lvl := ℕ) hd) $$ [H H']
  · isplitl [H]; · iexact H
    iexact H'
  rw [← he]
  iexists _
  iexact H

omit [FloatOps F] in
theorem kv_one (c : Dev nD) (M : Memref sig .tc .vmem S2x1024x4x128 .f32) (s : Fin 4) :
    iprop((∃ f, KvFree (F := F) c M 0 s f) ∗ ∃ f, KvFree (F := F) c M 1 s f)
      ⊢ iprop((∃ f : M.view.ty.Contents (Elt F), own c M fullShare f) ∗ semVal ((c : Thread nD τ), SemLoc.dma (kvSem 0 s)) 0 ∗ semVal ((c : Thread nD τ), SemLoc.dma (kvSem 1 s)) 0) := by
  obtain ⟨hd, he⟩ := kvSet_split M
  unfold KvFree
  iintro ⟨⟨%f, H, S⟩, ⟨%g, H', S'⟩⟩
  ihave H := (Entails.of_eq (kvSlot_eq (F := F) c M 0 f).symm) $$ H
  ihave H' := (Entails.of_eq (kvSlot_eq (F := F) c M 1 g).symm) $$ H'
  unfold KvSlot
  ihave H := (pointsTo_join (ℓ := M.view.loc (c : Thread nD τ)) (q := fullShare) (f := f) (g := g) (Ix := ℕ) (Name := ℕ) (U := UU) (Lvl := ℕ) hd) $$ [H H']
  · isplitl [H]; · iexact H
    iexact H'
  rw [← he]
  isplitl [H]
  · iexists _
    iexact H
  isplitl [S] <;> iassumption
omit [FloatOps F] in
theorem kv_two (c : Dev nD) (M : Memref sig .tc .vmem S2x1024x4x128 .f32) (s : Fin 4) (f : M.view.ty.Contents (Elt F)) :
    iprop(own c M fullShare f ∗ semVal ((c : Thread nD τ), SemLoc.dma (kvSem 0 s)) 0 ∗ semVal ((c : Thread nD τ), SemLoc.dma (kvSem 1 s)) 0)
      ⊢ iprop((∃ f, KvFree (F := F) c M 0 s f) ∗ ∃ f, KvFree (F := F) c M 1 s f) := by
  unfold KvFree
  iintro ⟨H, S, S'⟩
  ihave H := (kv_split (F := F) c M f) $$ H
  icases H with ⟨H, H'⟩
  ihave H := (Entails.of_eq (kvSlot_eq (F := F) c M 0 f)) $$ H
  ihave H' := (Entails.of_eq (kvSlot_eq (F := F) c M 1 f)) $$ H'
  isplitl [H S]
  · iexists f
    isplitl [H] <;> iassumption
  · iexists f
    isplitl [H'] <;> iassumption

omit [FloatOps F] in
/-- Owning a buffer whole. -/
theorem own_univ (c : Dev nD) {sp : Space} {s : Shape} (M : Memref sig .tc sp s .f32) (h : M.view.set = Finset.univ) (f : Buf (Elt F) (M.view.loc (c : Thread nD τ))) :
    (own (F := F) c M fullShare f : sProp 𝕄) = (M.view.loc (c : Thread nD τ) ↦{fullShare} f) := by
  unfold own; rw [h]
omit [FloatOps F] in
theorem any_univ (c : Dev nD) {sp : Space} {s : Shape} (M : Memref sig .tc sp s .f32) (h : M.view.set = Finset.univ) :
    iprop(∃ f : Buf (Elt F) (M.view.loc (c : Thread nD τ)), M.view.loc (c : Thread nD τ) ↦{fullShare} f) = (iprop(∃ f, own (F := F) c M fullShare f) : sProp 𝕄) :=
  congrArg _ (funext fun f => (own_univ c M h f).symm)

end Cert.KernelIdeal.Ring

end
-- ==== Proof.KernelIdeal.Enter.lean ====
/-
From the launch into the body of the kernel.
-/
module

public import proofs.«01_k».proof.Proof.KernelIdeal.Slots

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)

/-- The kernel's scratch buffers, at whatever they hold. -/
def Scr (c : Dev nD) : sProp 𝕄 := iprop(
  (∃ f, own (F := F) c mQA fullShare f) ∗ (∃ f, own (F := F) c mOA fullShare f) ∗ (∃ f, own (F := F) c mQB fullShare f) ∗ (∃ f, own (F := F) c mOB fullShare f)
    ∗ (∃ f, own (F := F) c kA fullShare f) ∗ (∃ f, own (F := F) c vA fullShare f) ∗ (∃ f, own (F := F) c kB fullShare f) ∗ (∃ f, own (F := F) c vB fullShare f)
    ∗ (∃ f, own (F := F) c (Memref.whole cc0_scratch8) fullShare f) ∗ (∃ f, Wh (F := F) c cc0_scratch9 f) ∗ (∃ f, Wh (F := F) c cc0_scratch10 f) ∗ (∃ f, Wh (F := F) c cc0_scratch11 f))
omit [FloatOps F] in
theorem scr_0 (c : Dev nD) : (iprop(∃ f : Buf (Elt F) ((c : Thread nD τ).loc cc0_scratch0), ((c : Thread nD τ).loc cc0_scratch0) ↦{fullShare} f) : sProp 𝕄) = iprop(∃ f, own (F := F) c mQA fullShare f) :=
  any_univ (F := F) c mQA (View.set_whole _)
omit [FloatOps F] in
theorem scr_1 (c : Dev nD) : (iprop(∃ f : Buf (Elt F) ((c : Thread nD τ).loc cc0_scratch1), ((c : Thread nD τ).loc cc0_scratch1) ↦{fullShare} f) : sProp 𝕄) = iprop(∃ f, own (F := F) c mOA fullShare f) :=
  any_univ (F := F) c mOA (View.set_whole _)
omit [FloatOps F] in
theorem scr_2 (c : Dev nD) : (iprop(∃ f : Buf (Elt F) ((c : Thread nD τ).loc cc0_scratch2), ((c : Thread nD τ).loc cc0_scratch2) ↦{fullShare} f) : sProp 𝕄) = iprop(∃ f, own (F := F) c mQB fullShare f) :=
  any_univ (F := F) c mQB (View.set_whole _)
omit [FloatOps F] in
theorem scr_3 (c : Dev nD) : (iprop(∃ f : Buf (Elt F) ((c : Thread nD τ).loc cc0_scratch3), ((c : Thread nD τ).loc cc0_scratch3) ↦{fullShare} f) : sProp 𝕄) = iprop(∃ f, own (F := F) c mOB fullShare f) :=
  any_univ (F := F) c mOB (View.set_whole _)
omit [FloatOps F] in
theorem scr_4 (c : Dev nD) : (iprop(∃ f : Buf (Elt F) ((c : Thread nD τ).loc cc0_scratch4), ((c : Thread nD τ).loc cc0_scratch4) ↦{fullShare} f) : sProp 𝕄) = iprop(∃ f, own (F := F) c kA fullShare f) :=
  any_univ (F := F) c kA (View.set_whole _)
omit [FloatOps F] in
theorem scr_5 (c : Dev nD) : (iprop(∃ f : Buf (Elt F) ((c : Thread nD τ).loc cc0_scratch5), ((c : Thread nD τ).loc cc0_scratch5) ↦{fullShare} f) : sProp 𝕄) = iprop(∃ f, own (F := F) c vA fullShare f) :=
  any_univ (F := F) c vA (View.set_whole _)
omit [FloatOps F] in
theorem scr_6 (c : Dev nD) : (iprop(∃ f : Buf (Elt F) ((c : Thread nD τ).loc cc0_scratch6), ((c : Thread nD τ).loc cc0_scratch6) ↦{fullShare} f) : sProp 𝕄) = iprop(∃ f, own (F := F) c kB fullShare f) :=
  any_univ (F := F) c kB (View.set_whole _)
omit [FloatOps F] in
theorem scr_7 (c : Dev nD) : (iprop(∃ f : Buf (Elt F) ((c : Thread nD τ).loc cc0_scratch7), ((c : Thread nD τ).loc cc0_scratch7) ↦{fullShare} f) : sProp 𝕄) = iprop(∃ f, own (F := F) c vB fullShare f) :=
  any_univ (F := F) c vB (View.set_whole _)
omit [FloatOps F] in
theorem scr_8 (c : Dev nD) : (iprop(∃ f : Buf (Elt F) ((c : Thread nD τ).loc cc0_scratch8), ((c : Thread nD τ).loc cc0_scratch8) ↦{fullShare} f) : sProp 𝕄) = iprop(∃ f, own (F := F) c (Memref.whole cc0_scratch8 : Memref sig .tc .vmem S1024x1024 .f32) fullShare f) :=
  any_univ (F := F) c (Memref.whole cc0_scratch8 : Memref sig .tc .vmem S1024x1024 .f32) (View.set_whole _)
omit [FloatOps F] in
theorem scr_eq (c : Dev nD) : (Pipeline.scopedRest (Ix := ℕ) (Name := ℕ) (U := UU) (Lvl := ℕ) (Val := Elt F) spec0 c : sProp 𝕄) = Scr c := by
  refine (scopedRest0_eq c).trans ?_
  unfold Scr
  exact congrArg₂ (fun a b : sProp 𝕄 => iprop(a ∗ b)) (scr_0 c) <| congrArg₂ (fun a b : sProp 𝕄 => iprop(a ∗ b)) (scr_1 c) <| congrArg₂ (fun a b : sProp 𝕄 => iprop(a ∗ b)) (scr_2 c) <| congrArg₂ (fun a b : sProp 𝕄 => iprop(a ∗ b)) (scr_3 c) <| congrArg₂ (fun a b : sProp 𝕄 => iprop(a ∗ b)) (scr_4 c) <| congrArg₂ (fun a b : sProp 𝕄 => iprop(a ∗ b)) (scr_5 c) <| congrArg₂ (fun a b : sProp 𝕄 => iprop(a ∗ b)) (scr_6 c) <| congrArg₂ (fun a b : sProp 𝕄 => iprop(a ∗ b)) (scr_7 c) <| congrArg₂ (fun a b : sProp 𝕄 => iprop(a ∗ b)) (scr_8 c) <| rfl

/-- What device `c` holds when its kernel begins, but for the windows and the scratch buffers. -/
def Begin (c : Dev nD) : sProp 𝕄 := iprop(
  G' m c ∗ levAts L lv ∗ (bigSep (Finset.Ico 0 7) (RecvCr c) ∗ bigSep (Finset.Ico 0 6) (CredC c) ∗ cred (tallyAt (cell c 0) 1 2))
    ∗ own c xs fullShare (xIn m c) ∗ own c Ks fullShare (kIn m c) ∗ own c Vs fullShare (vIn m c) ∗ (∃ f, own (F := F) c os fullShare f))

/-- The positions and marks at the start. -/
theorem pos_start (c : Dev nD) : iprop(Rch ∗ bigSep Finset.univ fun j : Fin 11 => atPos ER (cell c j) 0 ∅ 0)
    ⊢ (iprop(atPos ER (cell c 0) 0 ∅ 0 ∗ Pos c 0 ∗ CPos c 0) : sProp 𝕄) := by
  rw [bigSep_fin11]
  unfold Pos CPos At
  iintro ⟨#R, H0, H1, H2, H3, H4, H5, H6, H7, H8, H9, H10⟩
  isplitl [H0]; · iexact H0
  isplitl [H1 H2 H3 H4 H5 H6 H7 H8]
  · isplitl [H1]
    · isplitl [H1]; · iexact H1
      iapply (rch_at (F := F) c 1); iexact R
    isplitl [H2]
    · isplitl [H2]; · iexact H2
      iapply (rch_at (F := F) c 2); iexact R
    isplitl [H3]
    · isplitl [H3]; · iexact H3
      iapply (rch_at (F := F) c 3); iexact R
    isplitl [H4]
    · isplitl [H4]; · iexact H4
      iapply (rch_at (F := F) c 4); iexact R
    isplitl [H5]
    · isplitl [H5]; · iexact H5
      iapply (rch_at (F := F) c 5); iexact R
    isplitl [H6]
    · isplitl [H6]; · iexact H6
      iapply (rch_at (F := F) c 6); iexact R
    isplitl [H7]
    · isplitl [H7]; · iexact H7
      iapply (rch_at (F := F) c 7); iexact R
    isplitl [H8]; · iexact H8
    iapply (rch_at (F := F) c 8); iexact R
  isplitl [H9]
  · isplitl [H9]; · iexact H9
    iapply (rch_at (F := F) c 9); iexact R
  isplitl [H10]; · iexact H10
  iapply (rch_at (F := F) c 10); iexact R

/-- The four weight buffers: slot 0 goes to the neighbours, slot 1 and the windows' halves to the copies in. -/
theorem comm_start (c : Dev nD) : iprop(Rch ∗ ((∃ f, own (F := F) c mQA fullShare f) ∗ (∃ f, own (F := F) c mOA fullShare f) ∗ (∃ f, own (F := F) c mQB fullShare f) ∗ (∃ f, own (F := F) c mOB fullShare f))
      ∗ own c g0 fullShare (wq m c) ∗ own c g1 fullShare (wo m c))
    ⊢ iprop(freeA (lft c) 0 ∗ freeB (rgt c) 0 ∗ SrcQ m c ∗ SrcO m c) := by
  unfold freeA freeB SrcQ SrcO
  rw [rgt_lft, lft_rgt]
  iintro ⟨#R, ⟨⟨%f0, H0⟩, ⟨%f1, H1⟩, ⟨%f2, H2⟩, ⟨%f3, H3⟩⟩, HG0, HG1⟩
  ihave H0 := (slotQ_two (F := F) c mQA f0) $$ H0
  ihave H1 := (slotO_two (F := F) c mOA f1) $$ H1
  ihave H2 := (slotQ_two (F := F) c mQB f2) $$ H2
  ihave H3 := (slotO_two (F := F) c mOB f3) $$ H3
  ihave HG0 := (hfQ_two (F := F) c g0 (wq m c)).1 $$ HG0
  ihave HG1 := (hfO_two (F := F) c g1 (wo m c)).1 $$ HG1
  icases H0 with ⟨A0, B0⟩
  icases H1 with ⟨A1, B1⟩
  icases H2 with ⟨A2, B2⟩
  icases H3 with ⟨A3, B3⟩
  icases HG0 with ⟨P0, P1⟩
  icases HG1 with ⟨P2, P3⟩
  isplitl [A0 A1]
  · isplitl [A0]; · iexists f0; iexact A0
    isplitl [A1]; · iexists f1; iexact A1
    isplitl; · iapply (rch_at (F := F) c 5); iexact R
    iapply (rch_at (F := F) c 6); iexact R
  isplitl [A2 A3]
  · isplitl [A2]; · iexists f2; iexact A2
    isplitl [A3]; · iexists f3; iexact A3
    isplitl; · iapply (rch_at (F := F) c 7); iexact R
    iapply (rch_at (F := F) c 8); iexact R
  isplitl [B0 B2 P0 P1]
  · isplitl [B0]; · iexists f0; iexact B0
    isplitl [P0]; · iexact P0
    isplitl [B2]; · iexists f2; iexact B2
    iexact P1
  · isplitl [B1]; · iexists f1; iexact B1
    isplitl [P2]; · iexact P2
    isplitl [B3]; · iexists f3; iexact B3
    iexact P3

omit [FloatOps F] in
/-- The buffers of keys and values, free. -/
theorem kv_start (c : Dev nD) : iprop(((∃ f, own (F := F) c kA fullShare f) ∗ (∃ f, own (F := F) c vA fullShare f) ∗ (∃ f, own (F := F) c kB fullShare f) ∗ (∃ f, own (F := F) c vB fullShare f)) ∗ kvZ c)
    ⊢ iprop(KF (F := F) c 0 ∗ KF (F := F) c 1) := by
  unfold KF kvZ
  iintro ⟨⟨⟨%f0, H0⟩, ⟨%f1, H1⟩, ⟨%f2, H2⟩, ⟨%f3, H3⟩⟩, S0, S1, S2, S3, T0, T1, T2, T3⟩
  ihave H0 := (kv_two (F := F) c kA 0 f0) $$ [H0 S0 T0]
  · isplitl [H0]; · iexact H0
    isplitl [S0] <;> iassumption
  icases H0 with ⟨A0, B0⟩
  ihave H1 := (kv_two (F := F) c vA 1 f1) $$ [H1 S1 T1]
  · isplitl [H1]; · iexact H1
    isplitl [S1] <;> iassumption
  icases H1 with ⟨A1, B1⟩
  ihave H2 := (kv_two (F := F) c kB 2 f2) $$ [H2 S2 T2]
  · isplitl [H2]; · iexact H2
    isplitl [S2] <;> iassumption
  icases H2 with ⟨A2, B2⟩
  ihave H3 := (kv_two (F := F) c vB 3 f3) $$ [H3 S3 T3]
  · isplitl [H3]; · iexact H3
    isplitl [S3] <;> iassumption
  icases H3 with ⟨A3, B3⟩
  isplitl [A0 A1 A2 A3]
  · isplitl [A0]; · iexact A0
    isplitl [A1]; · iexact A1
    isplitl [A2]; · iexact A2
    iexact A3
  · isplitl [B0]; · iexact B0
    isplitl [B1]; · iexact B1
    isplitl [B2]; · iexact B2
    iexact B3
omit [FloatOps F] in
theorem kv_end (c : Dev nD) : iprop(KF (F := F) c 0 ∗ KF (F := F) c 1)
    ⊢ iprop(((∃ f, own (F := F) c kA fullShare f) ∗ (∃ f, own (F := F) c vA fullShare f) ∗ (∃ f, own (F := F) c kB fullShare f) ∗ (∃ f, own (F := F) c vB fullShare f)) ∗ kvZ c) := by
  unfold KF kvZ
  iintro ⟨⟨A0, A1, A2, A3⟩, B0, B1, B2, B3⟩
  ihave H0 := (kv_one (F := F) c kA 0) $$ [A0 B0]
  · isplitl [A0] <;> iassumption
  icases H0 with ⟨H0, S0, T0⟩
  ihave H1 := (kv_one (F := F) c vA 1) $$ [A1 B1]
  · isplitl [A1] <;> iassumption
  icases H1 with ⟨H1, S1, T1⟩
  ihave H2 := (kv_one (F := F) c kB 2) $$ [A2 B2]
  · isplitl [A2] <;> iassumption
  icases H2 with ⟨H2, S2, T2⟩
  ihave H3 := (kv_one (F := F) c vB 3) $$ [A3 B3]
  · isplitl [A3] <;> iassumption
  icases H3 with ⟨H3, S3, T3⟩
  isplitl [H0 H1 H2 H3]
  · isplitl [H0]; · iexact H0
    isplitl [H1]; · iexact H1
    isplitl [H2]; · iexact H2
    iexact H3
  isplitl [S0]; · iexact S0
  isplitl [S1]; · iexact S1
  isplitl [S2]; · iexact S2
  isplitl [S3]; · iexact S3
  isplitl [T0]; · iexact T0
  isplitl [T1]; · iexact T1
  isplitl [T2]; · iexact T2
  iexact T3

/-- The copies of the input may begin. -/
theorem io_start (c : Dev nD) (f) : iprop(semVal ((c : Thread nD τ), SemLoc.dma ioS) 0 ∗ own (F := F) c (Memref.whole cc0_scratch8) fullShare f ∗ own c xs fullShare (xIn m c))
    ⊢ |={Set.univ}=> IoX m c 0 := by
  unfold IoX IoB
  iintro ⟨Hs, Hx, HX⟩
  imod (Transfers.mixedBatch_alloc' (Lvl := ℕ) EC (c : Thread nD τ) 0 ioA (ioD (F := F) m c) (sm := .dma ioS) (E := Set.univ)) $$ Hs with HB
  imodintro
  isplitl [HB]; · iexact HB
  isplitl [Hx]
  · iexists f
    rw [← Transfers.bigSep_pending_zero, ← strV_all]; iexact Hx
  · unfold Hold
    iexists fullShare
    iexact HX

/-- Into the kernel's body. -/
theorem enter (c : Dev nD) (W : Waits sig ℕ) : iprop(Begin m c ∗ Scr c ∗ owes (c : Thread nD τ) (O₀ c) W ∗ own c g0 fullShare (wq m c) ∗ own c g1 fullShare (wo m c))
    ⊢ |={Set.univ}=> iprop(Ctx m ∗ BodyIn m c) := by
  unfold Begin G' Mine Scr
  iintro ⟨⟨⟨HC, #R, Hat, Htok, Hkv, Hio⟩, Hlev, ⟨Hcr, Hcc, Hcb⟩, HX, HK, HV, Ho⟩, ⟨U0, U1, U2, U3, U4, U5, U6, U7, ⟨%fx, U8⟩, U9, U10, U11⟩, HO, HG0, HG1⟩
  ihave Hp := (pos_start (F := F) c) $$ [Hat]
  · isplitr; · iexact R
    iexact Hat
  icases Hp with ⟨HatB, HPos, HCPos⟩
  ihave Hcm := (comm_start (F := F) m c) $$ [U0 U1 U2 U3 HG0 HG1]
  · isplitr; · iexact R
    isplitl [U0 U1 U2 U3]
    · isplitl [U0]; · iexact U0
      isplitl [U1]; · iexact U1
      isplitl [U2] <;> iassumption
    isplitl [HG0] <;> iassumption
  icases Hcm with ⟨HfA, HfB, HsQ, HsO⟩
  ihave Hk := (kv_start (F := F) c) $$ [U4 U5 U6 U7 Hkv]
  · isplitr [Hkv]
    · isplitl [U4]; · iexact U4
      isplitl [U5]; · iexact U5
      isplitl [U6] <;> iassumption
    iexact Hkv
  icases Hk with ⟨HK0, HK1⟩
  ihave HH := (show iprop(own c Ks fullShare (kIn m c) ∗ own c Vs fullShare (vIn m c)) ⊢ Holds (F := F) m c from by
    unfold Holds Hold
    iintro ⟨H1, H2⟩
    isplitl [H1]
    · iexists fullShare; iexact H1
    · iexists fullShare; iexact H2) $$ [HK HV]
  · isplitl [HK] <;> iassumption
  ihave HH := (holds_dup (F := F) m c) $$ HH
  icases HH with ⟨HH, HH'⟩
  imod (ki_start (F := F) m c 0) $$ [HK0 HH'] with HKI
  · isplitl [HK0]; · iexact HK0
    iexact HH'
  imod (io_start (F := F) m c fx) $$ [Hio U8 HX] with HIo
  · isplitl [Hio]; · iexact Hio
    isplitl [U8] <;> iassumption
  imodintro
  isplitl [HC]; · iexact HC
  ihave Ht := (toks_split (F := F) c) $$ Htok
  icases Ht with ⟨⟨T0, T1⟩, TS, TC⟩
  unfold BodyIn
  isplitl [HO Hlev]
  · unfold Ow
    isplitl [Hlev]; · iexact Hlev
    iexists W
    iexact HO
  isplitl [T0 T1 HfA HfB Hcb HatB]
  · unfold BarIn
    isplitl [T1 HfA]
    · isplitl [T1]; · iexact T1
      isplitr; · iapply (rch_at (F := F) (lft c) 0); iexact R
      iexact HfA
    isplitl [T0 HfB]
    · isplitl [T0]; · iexact T0
      isplitr; · iapply (rch_at (F := F) (rgt c) 0); iexact R
      iexact HfB
    isplitl [Hcb] <;> iassumption
  isplitl [HCPos]; · iexact HCPos
  isplitl [Hcc]; · iexact Hcc
  isplitl [TS Hcr]
  · unfold SendTok
    rw [bigSep_sep']
    isplitl [TS] <;> iassumption
  isplitl [TC]; · iexact TC
  isplitl [HPos]; · iexact HPos
  isplitl [HIo]; · iexact HIo
  isplitl [HsQ]; · iexact HsQ
  isplitl [HsO]; · iexact HsO
  isplitl [HKI]; · iexact HKI
  isplitl [HK1]; · iexact HK1
  isplitl [HH]; · iexact HH
  isplitl [U9]; · iexact U9
  isplitl [U10]; · iexact U10
  isplitl [U11]; · iexact U11
  iexact Ho
end

end Cert.KernelIdeal.Ring

end
-- ==== Proof.KernelIdeal.Leave.lean ====
/-
Out of the body of the kernel.
-/
module

public import proofs.«01_k».proof.Proof.KernelIdeal.Enter

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

section
variable (m : (ℓ : Loc nD τ sig) → Buf (Elt F) ℓ)

/-- A cell whose duties are done gives its counter back. -/
theorem close_at (c : Dev nD) (j : Fin 11) (n : ℕ) (hn : rounds j ≤ n) : iprop(Ctx (F := F) m ∗ atPos ER (cell c j) n ∅ 0) ⊢ |={Set.univ}=> semVal (cell c j) 0 := by
  iintro ⟨HC, Ha⟩
  ihave HI := (ctx_inv m c j) $$ HC
  unfold Inv
  icases HI with ⟨%κ, HI⟩
  iapply (Rounds.cell_close ER (Rd m) (Set.mem_univ κ) (fun h => h) (R := n) (fun r hr => duties_end m c j r (le_trans hn hr)))
  isplitl [HI] <;> iassumption

/-- All the cells of a device. -/
theorem close_all (c : Dev nD) : iprop(Ctx (F := F) m ∗ atPos ER (cell c 0) 1 ∅ 0 ∗ Pos c 7 ∗ CPos c 6)
    ⊢ |={Set.univ}=> bigSep Finset.univ fun j : Fin 11 => semVal (cell c j) 0 := by
  rw [bigSep_fin11]
  unfold Pos CPos At
  iintro ⟨#HC, H0, ⟨⟨H1, -⟩, ⟨H2, -⟩, ⟨H3, -⟩, ⟨H4, -⟩, ⟨H5, -⟩, ⟨H6, -⟩, ⟨H7, -⟩, ⟨H8, -⟩⟩, ⟨H9, -⟩, ⟨H10, -⟩⟩
  imod (close_at (F := F) m c 0 1 (by decide)) $$ [H0] with H0
  · isplitr; · iexact HC
    iexact H0
  imod (close_at (F := F) m c 1 7 (by decide)) $$ [H1] with H1
  · isplitr; · iexact HC
    iexact H1
  imod (close_at (F := F) m c 2 7 (by decide)) $$ [H2] with H2
  · isplitr; · iexact HC
    iexact H2
  imod (close_at (F := F) m c 3 7 (by decide)) $$ [H3] with H3
  · isplitr; · iexact HC
    iexact H3
  imod (close_at (F := F) m c 4 7 (by decide)) $$ [H4] with H4
  · isplitr; · iexact HC
    iexact H4
  imod (close_at (F := F) m c 5 7 (by decide)) $$ [H5] with H5
  · isplitr; · iexact HC
    iexact H5
  imod (close_at (F := F) m c 6 7 (by decide)) $$ [H6] with H6
  · isplitr; · iexact HC
    iexact H6
  imod (close_at (F := F) m c 7 7 (by decide)) $$ [H7] with H7
  · isplitr; · iexact HC
    iexact H7
  imod (close_at (F := F) m c 8 7 (by decide)) $$ [H8] with H8
  · isplitr; · iexact HC
    iexact H8
  imod (close_at (F := F) m c 9 6 (by decide)) $$ [H9] with H9
  · isplitr; · iexact HC
    iexact H9
  imod (close_at (F := F) m c 10 6 (by decide)) $$ [H10] with H10
  · isplitr; · iexact HC
    iexact H10
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

omit [FloatOps F] in
/-- The weight buffers, whole again. -/
theorem comm_end (c : Dev nD) : iprop(CommAny (F := F) c 0 ∗ CommAny (F := F) c 1)
    ⊢ iprop((∃ f, own (F := F) c mQA fullShare f) ∗ (∃ f, own (F := F) c mOA fullShare f) ∗ (∃ f, own (F := F) c mQB fullShare f) ∗ (∃ f, own (F := F) c mOB fullShare f)) := by
  unfold CommAny
  iintro ⟨⟨A0, A1, A2, A3⟩, B0, B1, B2, B3⟩
  isplitl [A0 B0]
  · iapply (slotQ_one (F := F) c mQA); isplitl [A0] <;> iassumption
  isplitl [A1 B1]
  · iapply (slotO_one (F := F) c mOA); isplitl [A1] <;> iassumption
  isplitl [A2 B2]
  · iapply (slotQ_one (F := F) c mQB); isplitl [A2] <;> iassumption
  · iapply (slotO_one (F := F) c mOB); isplitl [A3] <;> iassumption

/-- What device `c` holds when its kernel ends, to be read after the run. -/
def Fin' (c : Dev nD) : sProp 𝕄 := iprop(unscopedSems0 c ∗ Hold c xs (xIn m c) ∗ Holds m c ∗ own c os fullShare (outF m c))
def End (c : Dev nD) : sProp 𝕄 := iprop(
  Fin' m c ∗ Pipeline.ownSems0 (Ix := ℕ) (Name := ℕ) (U := UU) (Lvl := ℕ) (Val := Elt F) (τ := τ) osem c ∗ Scr c)

/-- Out of the kernel's body. -/
theorem leave (c : Dev nD) : iprop(Ctx m ∗ BodyOut m c)
    ⊢ |={Set.univ}=> iprop(End m c ∗ (∃ W, owes (c : Thread nD τ) 0 W) ∗ own c g0 fullShare (wq m c) ∗ own c g1 fullShare (wo m c)) := by
  unfold BodyOut HopTail PreCred
  rw [show CommSt m c 8 = iprop(CommAny (F := F) c 0 ∗ CommAny (F := F) c 1) from by
      unfold CommSt; rw [if_neg (by decide), if_neg (by decide)]; rfl,
    show KvSt m c 8 = iprop(KF (F := F) c 0 ∗ KF (F := F) c 1) from by unfold KvSt; rw [if_neg (by decide)]; rfl]
  iintro ⟨#HC, HO, ⟨⟨Hcp, -⟩, -, -, Hpos, Hcm, Hkv, HH, U8, U9, U10⟩, HX, HG0, HG1, Hos, U11, Hio, Hb⟩
  imod (close_all (F := F) m c) $$ [Hcp Hpos Hb] with Hz
  · isplitr; · iexact HC
    isplitl [Hb]; · iexact Hb
    isplitl [Hpos]; · iexact Hpos
    iexact Hcp
  imodintro
  ihave Hcm := (comm_end (F := F) c) $$ Hcm
  ihave Hkv := (kv_end (F := F) c) $$ Hkv
  icases Hkv with ⟨Hkv, Hkz⟩
  icases Hcm with ⟨U0, U1, U2, U3⟩
  icases Hkv with ⟨U4, U5, U6, U7⟩
  ihave Hs := (sems_in (F := F) c) $$ [Hz Hkz Hio]
  · isplitl [Hz]; · iexact Hz
    isplitl [Hkz] <;> iassumption
  icases Hs with ⟨Hs, Hu⟩
  unfold End Fin' Scr Ow
  icases HO with ⟨-, HO⟩
  isplitr [HO HG0 HG1]
  · isplitl [Hu HX HH Hos]
    · isplitl [Hu]; · iexact Hu
      isplitl [HX]; · iexact HX
      isplitl [HH] <;> iassumption
    isplitl [Hs]; · iexact Hs
    isplitl [U0]; · iexact U0
    isplitl [U1]; · iexact U1
    isplitl [U2]; · iexact U2
    isplitl [U3]; · iexact U3
    isplitl [U4]; · iexact U4
    isplitl [U5]; · iexact U5
    isplitl [U6]; · iexact U6
    isplitl [U7]; · iexact U7
    isplitl [U8]
    · iexists (xb m c)
      rw [own_univ (F := F) c (Memref.whole cc0_scratch8 : Memref sig .tc .vmem S1024x1024 .f32) (View.set_whole _)]
      iexact U8
    isplitl [U9]; · iexact U9
    isplitl [U10]; · iexact U10
    iexact U11
  isplitl [HO]; · iexact HO
  isplitl [HG0] <;> iassumption
end

end Cert.KernelIdeal.Ring

end
-- ==== Proof.KernelIdeal.Launch.lean ====
/-
The launch: every run of the eight devices ends, with the result as computed.
-/
module

public import proofs.«01_k».proof.Proof.KernelIdeal.Leave
public import Idealize.ShloMosaic.Lib.Pipeline.CollectiveSegs
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending MixedBatch)

variable {F : FTy → Type} [FloatOps F]

local notation "𝕄" => MT nD τ sig ℕ (Elt F) ℕ UU ℕ

open Idealize.ShloMosaic.Pipeline (Dat BodyObligation)
section
variable (m : (ℓ : Loc nD τ sig) → Buf (Elt F) ℓ)

/-! ## The one point of the launch -/

theorem cfg0_one : cfg0.N = 1 := by decide
def pt : Fin cfg0.N := ⟨0, by rw [cfg0_one]; decide⟩
theorem all_pt (t : Fin cfg0.N) : t = pt := by
  obtain ⟨t, ht⟩ := t; have := cfg0_one; exact Fin.ext (by simp only [pt]; omega)

/-- What the staged windows hold: the device's own query and output weights. -/
def dats (_ : Fin 1) (c : Dev nD) : Dat τ (Elt F) ℕ ℕ UU ℕ cfg0 c where
  A w := m ((cfg0.win w).arr.view.loc (c : Thread nD τ))
  after w _ := match w with
    | ⟨0, _⟩ => wq m c
    | ⟨1, _⟩ => wo m c
  Φ t := match t with
    | ⟨0, _⟩ => iprop(Begin m c ∗ Scr c)
    | ⟨_ + 1, _⟩ => End m c
  q _ := fullShare
  owed t := match t with
    | ⟨0, _⟩ => O₀ c
    | ⟨_ + 1, _⟩ => 0

abbrev 𝒱₀ : Variants := Variants.none

theorem blk_wq (c : Dev nD) : (win0_0.blk (0 : Fin 1)).view.read (Elt F) (m ((c : Thread nD τ).loc main_arg1)) = wq m c := by
  funext x
  unfold wq
  show m ((c : Thread nD τ).loc main_arg1) _ = m ((c : Thread nD τ).loc main_arg1) x
  congr 1
  refine funext fun a => Fin.ext ?_
  match a with
  | ⟨0, _⟩ => show 0 + 1 * (x 0).val = (x 0).val; omega
  | ⟨1, _⟩ => show 0 + 1 * (x 1).val = (x 1).val; omega
theorem blk_wo (c : Dev nD) : (win0_1.blk (0 : Fin 1)).view.read (Elt F) (m ((c : Thread nD τ).loc main_arg4)) = wo m c := by
  funext x
  unfold wo
  show m ((c : Thread nD τ).loc main_arg4) _ = m ((c : Thread nD τ).loc main_arg4) x
  congr 1
  refine funext fun a => Fin.ext ?_
  match a with
  | ⟨0, _⟩ => show 0 + 1 * (x 0).val = (x 0).val; omega
  | ⟨1, _⟩ => show 0 + 1 * (x 1).val = (x 1).val; omega

theorem before_wq (c : Dev nD) (d) : (dats m 0 c).before (0 : Fin 2) pt d = wq m c := by
  unfold Dat.before
  rw [if_pos (show (cfg0.win (0 : Fin 2)).fetch pt = true from rfl)]
  exact blk_wq m c
theorem before_wo (c : Dev nD) (d) : (dats m 0 c).before (1 : Fin 2) pt d = wo m c := by
  unfold Dat.before
  rw [if_pos (show (cfg0.win (1 : Fin 2)).fetch pt = true from rfl)]
  exact blk_wo m c

omit [FloatOps F] in
theorem owns_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def LaunchPre (c : Dev nD) : sProp 𝕄 :=
  iprop((Begin m c ∗ Scr c) ∗ (dats m 0 c).owesAt 0 pt.castSucc
    ∗ (∃ d, stg c cc0_stg0_0 ((dats m 0 c).before (0 : Fin 2) pt d))
    ∗ (∃ d, stg c cc0_stg1_0 ((dats m 0 c).before (1 : Fin 2) pt d)))
def LaunchPost (c : Dev nD) : sProp 𝕄 :=
  iprop(End m c ∗ (dats m 0 c).owesAt 0 pt.succ ∗ stg c cc0_stg0_0 (wq m c) ∗ stg c cc0_stg1_0 (wo m c))

theorem pre_enter (c : Dev nD) : LaunchPre m c ⊢ |={Set.univ}=> iprop(Ctx m ∗ BodyIn m c) := by
  unfold LaunchPre Dat.owesAt Pipeline.owesWithin
  iintro ⟨⟨HB, HS⟩, ⟨%W, -, HO⟩, ⟨%d0, %f0, %h0, H0⟩, ⟨%d1, %f1, %h1, H1⟩⟩
  have e0 : f0 = wq m c := h0.trans (before_wq m c d0)
  have e1 : f1 = wo m c := h1.trans (before_wo m c d1)
  subst e0 e1
  iapply (enter m c W)
  isplitl [HB]; · iexact HB
  isplitl [HS]; · iexact HS
  isplitl [HO]; · iexact HO
  isplitl [H0]
  · rw [own_univ (F := F) c g0 (View.set_whole _)]; iexact H0
  · rw [own_univ (F := F) c g1 (View.set_whole _)]; iexact H1

theorem post_leave (c : Dev nD) : iprop(Ctx m ∗ BodyOut m c) ⊢ |={Set.univ}=> LaunchPost m c := by
  iintro H
  imod (leave m c) $$ H with ⟨HE, ⟨%W, HO⟩, H0, H1⟩
  imodintro
  unfold LaunchPost Dat.owesAt Pipeline.owesWithin
  isplitl [HE]; · iexact HE
  isplitl [HO]
  · iexists W
    isplitr; · ipureintro; exact fun _ _ => Or.inl trivial
    iexact HO
  isplitl [H0]
  · iexists (wq m c)
    isplitr; · ipureintro; rfl
    ihave H0 := (Entails.of_eq (own_univ (F := F) c g0 (View.set_whole _) (wq m c))) $$ H0
    iexact H0
  · iexists (wo m c)
    isplitr; · ipureintro; rfl
    ihave H1 := (Entails.of_eq (own_univ (F := F) c g1 (View.set_whole _) (wo m c))) $$ H1
    iexact H1

theorem body_ok (c : Dev nD) : LaunchPre m c ⊢ wp frame (wpE (defs₀ (F := F)) 𝒱₀ (c : Thread nD τ) none) Set.univ (cc0__body (Memref.whole main_arg0) (Memref.isWhole_whole _) g0 (Memref.isWhole_whole _) g1 (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17) (fun _ => LaunchPost m c) := by
  iintro H
  iapply (wp_fupd frame (wpE (defs₀ (F := F)) 𝒱₀ (c : Thread nD τ) none) Set.univ)
  imod (pre_enter m c) $$ H with ⟨#HC, HB⟩
  iapply (body_wp m 𝒱₀ c none (fun _ => iprop(|={Set.univ}=> LaunchPost m c)))
  isplitr; · iexact HC
  isplitl [HB]; · iexact HB
  iintro HB
  iapply (post_leave m c)
  isplitr; · iexact HC
  iexact HB

theorem body_obligation (c : Dev nD) : BodyObligation (dats (F := F) m 0 c) (defs₀ (F := F)) 𝒱₀ 0 Set.univ := fun t => by
  rw [all_pt t]
  rw [bigSep_W0, bigSep_W0]
  simp only [owns_eq]
  exact body_ok m c

/-! ## The run -/

theorem share_eq (c : Dev nD) (w : Fin cfg0.W) : (dats m 0 c).share w = fullShare := by unfold Dat.share; split <;> rfl

theorem waits (c : Dev nD) : (levAts L lv : sProp 𝕄) ⊢ Pipeline.cellsWaits cfgs (dats m) 0 0 c :=
  Pipeline.cellsWaits_intro cfgs (dats m) 0 0 c fun w s t =>
    mayWait c _ 0 (by decide) _ (by
      rcases t with ⟨_ | _, ht⟩
      · show Above 0 (O₀ c)
        unfold O₀
        exact above_add (above_add (above_mono (above_OH c 0) (by decide)) (above_tally _ _ _ _ (by decide) (by decide))) (above_tally _ _ _ _ (by decide) (by decide))
      · exact above_zero 0)

/-- The end of device `c`'s run. -/
def Done (c : Dev nD) (s : MemSt nD τ sig (Elt F)) : Prop :=
  (∀ sm : SemLoc sig, sm.isScoped .tc = false → s.sem ((c.tc : Thread nD τ), sm) = 0)
    ∧ s.mem ((c : Thread nD τ).loc main_arg0) = xIn m c ∧ s.mem ((c : Thread nD τ).loc main_arg2) = kIn m c ∧ s.mem ((c : Thread nD τ).loc main_arg3) = vIn m c
    ∧ s.mem ((c : Thread nD τ).loc main_v1) = outF m c

theorem read_hold (c : Dev nD) {sp : Space} {s : Shape} (M : Memref sig .tc sp s .f32) (h : M.view.set = Finset.univ) (q : PosShare TreeShare)
    (f : Buf (Elt F) (M.view.loc (c : Thread nD τ))) (s' : Phys nD τ sig (Elt F)) :
    iprop(own (F := F) c M q f ∗ SI s') ⊢ (⌜s'.mem.mem (M.view.loc (c : Thread nD τ)) = f⌝ : sProp 𝕄) := by
  unfold own
  rw [h]
  iintro ⟨Hx, HSI⟩
  ihave H := (SI_pointsTo_agree (st := s') (ℓ := M.view.loc (c : Thread nD τ)) (I := Finset.univ) (q := q) (f := f)) $$ [HSI Hx]
  · isplitl [HSI] <;> iassumption
  icases H with %hx
  ipureintro; exact funext fun i => hx i (Finset.mem_univ i)

theorem read_end (c : Dev nD) (s' : Phys nD τ sig (Elt F)) : iprop(Fin' m c ∗ SI s') ⊢ |={Set.univ}=> iprop(⌜Done m c s'.mem⌝ ∗ SI s') := by
  unfold Fin' Holds Hold
  iintro ⟨⟨Hu, ⟨%q0, H0⟩, ⟨⟨%q2, H2⟩, ⟨%q3, H3⟩⟩, H1⟩, HSI⟩
  ihave %e0 := (read_hold (F := F) c xs (View.set_whole _) q0 _ s') $$ [H0 HSI]
  · isplitl [H0] <;> iassumption
  ihave %e2 := (read_hold (F := F) c Ks (View.set_whole _) q2 _ s') $$ [H2 HSI]
  · isplitl [H2] <;> iassumption
  ihave %e3 := (read_hold (F := F) c Vs (View.set_whole _) q3 _ s') $$ [H3 HSI]
  · isplitl [H3] <;> iassumption
  ihave %e1 := (read_hold (F := F) c os (View.set_whole _) fullShare _ s') $$ [H1 HSI]
  · isplitl [H1] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, e0, e2, e3, e1⟩
  · iexact HSI

theorem begin_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Begin m c ∗ emp) := by
  rw [Pipeline.unscopedRestP_none]
  iintro ⟨HU, Hlev, Hcr, -, HG⟩
  ihave HU := (Entails.of_eq (unscopedRest0_eq (Ix := ℕ) (Name := ℕ) (U := UU) (Lvl := ℕ) (Val := Elt F) c (fun b => m ((c : Thread nD τ).loc b)))) $$ HU
  icases HU with ⟨H0, H2, H3, H1⟩
  ihave Hcr := (creds (F := F) c) $$ Hcr
  imodintro
  isplitl
  · unfold Begin
    isplitl [HG]; · iexact HG
    isplitl [Hlev]; · iexact Hlev
    isplitl [Hcr]; · iexact Hcr
    isplitl [H0]; · rw [own_univ (F := F) c xs (View.set_whole _)]; iexact H0
    isplitl [H2]; · rw [own_univ (F := F) c Ks (View.set_whole _)]; iexact H2
    isplitl [H3]; · rw [own_univ (F := F) c Vs (View.set_whole _)]; iexact H3
    iexists (m ((c : Thread nD τ).loc main_v1))
    rw [own_univ (F := F) c os (View.set_whole _)]; iexact H1
  · iempintro

theorem into (c : Dev nD) :
    iprop(Begin m c ∗ Pipeline.prefHeld Pipeline.Prefetch.none c (fun _ => fullShare.right) (fun k => k.elim0) ∗ Pipeline.scopedRest cfg0.spec c)
      ⊢ (dats m 0 c).Φ 0 := by
  show _ ⊢ iprop(Begin m c ∗ Scr c)
  iintro ⟨HB, -, HS⟩
  isplitl [HB]; · iexact HB
  iapply (Entails.of_eq (scr_eq (F := F) c)); iexact HS
theorem outof (c : Dev nD) : (dats m 0 c).Φ (Fin.last cfg0.N) ⊢ iprop(Fin' m c ∗ Pipeline.ownSems0 osem c ∗ Pipeline.scopedRest cfg0.spec c) := by
  show End m c ⊢ _
  unfold End
  iintro ⟨HF, HO, HS⟩
  isplitl [HF]; · iexact HF
  isplitl [HO]; · iexact HO
  iapply (Entails.of_eq (scr_eq (F := F) c).symm); iexact HS

set_option maxRecDepth 8000 in
/-- Every run ends, with the arguments as they were, the result as computed, and every counter at zero. -/
theorem run_main (ρ : Dev nD → PrngReg) : θ_run defs (onTc (τ := τ) (main (F := F))) ⟨m, fun _ => 0, ρ⟩ (fun r =>
    (∀ c : Dev nD, Done m c r.2 ∧ ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := Begin m) (Y := Fin' m) (Z := fun _ => iprop(emp))
    (hX := begin_intro m ρ) (hin := into m) (hout := outof m)
    (QY := fun c s => Done m c s)
    (hY := fun c s' => by
      iintro ⟨Hu, -, HSI⟩
      iapply (read_end m c s')
      isplitl [Hu] <;> iassumption)
    (hQ := fun _ h hs => ⟨fun c => ⟨(h c).2.2, fun w => (h c).1 w⟩, sem_eq_zero hs fun c => (h c).2.2.1⟩)

/-- The run, stated at the arrays. -/
theorem run_ok (ρ : Dev nD → PrngReg) : θ_run defs (onTc (τ := τ) (main (F := F))) ⟨m, fun _ => 0, ρ⟩ (fun r =>
    (∀ c : Dev nD, r.2.mem ((c : Thread nD τ).loc main_v1) = outF m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r hr => ⟨fun c => by
    obtain ⟨⟨-, e0, e2, e3, e1⟩, hw⟩ := hr.1 c
    exact ⟨e1, e0, (hw (0 : Fin 2)).trans ((dats m 0 c).arrAt_in (0 : Fin 2) rfl _), e2, e3, (hw (1 : Fin 2)).trans ((dats m 0 c).arrAt_in (1 : Fin 2) rfl _)⟩, hr.2⟩) (run_main m ρ)
end

end Cert.KernelIdeal.Ring

end
-- ==== Proof.Frames.lean ====
/-
  The three frames.

  The kernel and its ideal form print the same text, so the run of `Launch` — stated for any float values — is the run
  of both: read at the bit patterns it is the kernel's frame, read at the extended reals the ideal form's. The
  reference's frame is its generated run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelIdeal.Launch
public import Idealize.ShloMosaic.Adequacy
public import Idealize.ShloMosaic.Init

@[expose] public section

set_option maxHeartbeats 4000000

noncomputable section

namespace Cert.Proof

open Idealize.ShloMosaic Idealize.SL.Sem

section Same

variable {F : FTy → Type} [FloatOps F]

/-- The two programs define the same kernel function before its pipelines are added. -/
theorem defs₀_same : @Cert.Kernel.defs₀ F _ Cert.Kernel.Gen.facts = @Cert.KernelIdeal.defs₀ F _ Cert.KernelIdeal.Gen.facts := by
  refine congrArg Defs.onTc (funext fun l => funext fun a => ?_)
  obtain ⟨l, hl⟩ := l
  have hl' : l < 1 := hl
  obtain rfl : l = 0 := by omega
  rfl

/-- The two programs' kernel functions are one. -/
theorem defs_same : @Cert.Kernel.defs F _ Cert.Kernel.Gen.facts = @Cert.KernelIdeal.defs F _ Cert.KernelIdeal.Gen.facts :=
  congrArg (Pipeline.defs _) defs₀_same

end Same

/-- The ideal kernel's frame: the run of `Launch` at the extended reals, its results dropped. -/
theorem frame_ideal : Cert.quiescent_KernelIdeal := fun m g _ =>
  (θ_run Cert.KernelIdeal.defs _ _).mono (fun _ h => ⟨fun c => (h.1 c).2, h.2⟩) (Cert.KernelIdeal.Ring.run_ok (F := Ideal) m g)

/-- The same run at the bit patterns, over the kernel's own definitions. -/
theorem run_bits (m : (ℓ : Loc Cert.Kernel.nD Cert.Kernel.τ Cert.Kernel.sig) → Buf (Elt Bits) ℓ) (g : Dev Cert.Kernel.nD → PrngReg) :
    θ_run (@Cert.KernelIdeal.defs Bits _ Cert.KernelIdeal.Gen.facts) (onTc (τ := Cert.KernelIdeal.τ) (Cert.KernelIdeal.main (F := Bits)))
      ⟨m, fun _ => 0, g⟩ (fun r =>
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩) (Cert.KernelIdeal.Ring.run_ok (F := Bits) m g)

/-- The kernel's frame. -/
theorem frame_kernel : Cert.quiescent_Kernel := by
  intro m g _
  have h := run_bits m g
  rw [← defs_same] at h
  exact h

/-- The reference's frame: its run, the result dropped; the counters because it declares no semaphore. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.Value.Math.lean ====
/-
  The mathematics of a masked softmax over the extended reals.

  A row of scores is masked outside a class of 256 columns by −∞. Weights first divided by their sum and then summed
  against the values over all 1024 columns, or values summed over the class alone and divided once at the end: the two
  are equal when the scores are finite.
-/
module

public import Idealize.ShloMosaic.PureOps.Ideal.Laws
public import Idealize.ShloMosaic.Lib.ValueIdx

@[expose] public section

noncomputable section

namespace Cert.Proof.Value

open Idealize.ShloMosaic

/-- A finite extended real. -/
def Fin' (a : EReal) : Prop := ∃ r : ℝ, a = (r : EReal)

theorem Fin'.mul {a b : EReal} (ha : Fin' a) (hb : Fin' b) : Fin' (a * b) := by
  obtain ⟨r, rfl⟩ := ha
  obtain ⟨s, rfl⟩ := hb
  exact ⟨r * s, (EReal.coe_mul r s).symm⟩

theorem Fin'.add {a b : EReal} (ha : Fin' a) (hb : Fin' b) : Fin' (a + b) := by
  obtain ⟨r, rfl⟩ := ha
  obtain ⟨s, rfl⟩ := hb
  exact ⟨r + s, (EReal.coe_add r s).symm⟩

/-- A sum of finite terms is finite. -/
theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

/-- A factor that is a real number and not negative is taken out of a sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- A sum of reals is the real of the sum. -/
theorem coe_sum' {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum that vanishes off a class is the sum over the class. -/
theorem sum_class {n k : ℕ} (P : Fin n → Prop) [DecidablePred P] (φ : Fin k → Fin n) (hφ : Function.Injective φ)
    (hP : ∀ j, P j ↔ ∃ p, φ p = j) (g : Fin n → EReal) (h0 : ∀ j, ¬ P j → g j = 0) : ∑ j, g j = ∑ p, g (φ p) := by
  classical
  rw [← Finset.sum_image (s := Finset.univ) (g := φ) (f := g) (fun a _ b _ h => hφ h)]
  refine (Finset.sum_subset (Finset.subset_univ _) fun j _ hj => h0 j fun hp => hj ?_).symm
  obtain ⟨p, rfl⟩ := (hP j).mp hp
  exact Finset.mem_image_of_mem _ (Finset.mem_univ p)

/-- The greatest of a masked row is the greatest of its class. -/
theorem sup_class {n k : ℕ} (P : Fin n → Prop) [DecidablePred P] (φ : Fin k → Fin n)
    (hP : ∀ j, P j ↔ ∃ p, φ p = j) (s : Fin n → EReal) :
    Finset.univ.fold max ⊥ (fun j => if P j then s j else ⊥) = Finset.univ.fold max ⊥ (fun p => s (φ p)) := by
  show Finset.univ.sup (fun j => if P j then s j else ⊥) = Finset.univ.sup (fun p => s (φ p))
  refine le_antisymm (Finset.sup_le fun j _ => ?_) (Finset.sup_le fun p _ => ?_)
  · by_cases hp : P j
    · obtain ⟨p, rfl⟩ := (hP j).mp hp
      rw [if_pos hp]
      exact Finset.le_sup (f := fun p => s (φ p)) (Finset.mem_univ p)
    · rw [if_neg hp]; exact bot_le
  · have hp : P (φ p) := (hP _).mpr ⟨p, rfl⟩
    refine le_trans (le_of_eq ?_) (Finset.le_sup (f := fun j => if P j then s j else ⊥) (Finset.mem_univ (φ p)))
    exact (if_pos hp).symm

/-- The attention of one row over a class of columns: the values summed with the exponentials of the scores, divided
    once by the sum of the exponentials. -/
def attend {k : ℕ} (s v : Fin k → EReal) : EReal :=
  Ideal.div (∑ p, Ideal.exp (s p - Finset.univ.fold max ⊥ s) * v p) (∑ p, Ideal.exp (s p - Finset.univ.fold max ⊥ s))

/-- The masked softmax over all columns, its weights divided first, is the attention over the class. -/
theorem softmax_eq_attend {n k : ℕ} (hk : 0 < k) (P : Fin n → Prop) [DecidablePred P] (φ : Fin k → Fin n)
    (hφ : Function.Injective φ) (hP : ∀ j, P j ↔ ∃ p, φ p = j) (s v : Fin n → EReal) (hs : ∀ j, Fin' (s j)) (M : EReal)
    (hM : M = Finset.univ.fold max ⊥ (fun j => if P j then s j else ⊥)) :
    ∑ j, v j * Ideal.div (Ideal.exp ((if P j then s j else ⊥) - M)) (∑ j, Ideal.exp ((if P j then s j else ⊥) - M))
      = attend (fun p => s (φ p)) (fun p => v (φ p)) := by
  classical
  rw [sup_class P φ hP s] at hM
  subst hM
  unfold attend
  haveI : Nonempty (Fin k) := ⟨⟨0, hk⟩⟩
  obtain ⟨p0, -, hp0⟩ := Finset.exists_mem_eq_sup (Finset.univ : Finset (Fin k)) Finset.univ_nonempty (fun p => s (φ p))
  have hM : Finset.univ.fold max ⊥ (fun p => s (φ p)) = s (φ p0) := hp0
  rw [hM]
  obtain ⟨μ, hμ⟩ := hs (φ p0)
  rw [hμ]
  choose r hr using hs
  have he : ∀ p, Ideal.exp (s (φ p) - (μ : EReal)) = ((Real.exp (r (φ p) - μ) : ℝ) : EReal) := fun p => by
    rw [hr (φ p), ← EReal.coe_sub, Ideal.exp_coe]
  have hout : ∀ j, ¬ P j → Ideal.exp ((if P j then s j else ⊥) - (μ : EReal)) = 0 := fun j hj => by
    rw [if_neg hj, EReal.bot_sub, Ideal.exp_bot]
  have hin : ∀ p, Ideal.exp ((if P (φ p) then s (φ p) else ⊥) - (μ : EReal)) = ((Real.exp (r (φ p) - μ) : ℝ) : EReal) := fun p => by
    rw [if_pos ((hP _).mpr ⟨p, rfl⟩), he p]
  have hD : ∑ j, Ideal.exp ((if P j then s j else ⊥) - (μ : EReal)) = ((∑ p, Real.exp (r (φ p) - μ) : ℝ) : EReal) := by
    rw [sum_class P φ hφ hP _ hout, ← coe_sum']
    exact Finset.sum_congr rfl fun p _ => hin p
  have hD' : ∑ p, Ideal.exp (s (φ p) - (μ : EReal)) = ((∑ p, Real.exp (r (φ p) - μ) : ℝ) : EReal) := by
    rw [← coe_sum']
    exact Finset.sum_congr rfl fun p _ => he p
  have hpos : 0 < ∑ p, Real.exp (r (φ p) - μ) := Finset.sum_pos (fun p _ => Real.exp_pos _) Finset.univ_nonempty
  rw [hD, hD', Ideal.div_coe hpos.ne', sum_mul_real _ _ _ (by positivity),
    sum_class P φ hφ hP _ (fun j hj => by rw [hout j hj, Ideal.div_coe hpos.ne', zero_mul, mul_zero])]
  refine Finset.sum_congr rfl fun p _ => ?_
  rw [hin p, he p, Ideal.div_coe hpos.ne', ← mul_assoc, mul_comm (v (φ p))]

end Cert.Proof.Value

end
-- ==== Proof.Value.Spec.lean ====
/-
  What both programs compute, over the extended reals: queries, scores, the attention of a head, and the projection of
  the heads to the output.
-/
module

public import proofs.«01_k».proof.Proof.Value.Math

@[expose] public section

noncomputable section

namespace Cert.Proof.Value

open Idealize.ShloMosaic Idealize.ShloMosaic.ValueIdx

/-- Arrays of extended reals by rank. -/
abbrev Arr2 (a b : ℕ) : Type := (⟨2, ![a, b]⟩ : Shape).Idx → EReal

abbrev Arr3 (a b c : ℕ) : Type := (⟨3, ![a, b, c]⟩ : Shape).Idx → EReal

abbrev Arr4 (a b c d : ℕ) : Type := (⟨4, ![a, b, c, d]⟩ : Shape).Idx → EReal

/-- The factor of the scores. -/
def scale : EReal := Ideal.ofBits .f32 0x3DB504F3#32

theorem scale_fin : Fin' scale := by
  unfold scale
  simp only [Ideal.ofBits, Ideal.ieee]
  rw [if_neg (by decide), if_neg (by decide)]
  exact ⟨_, rfl⟩

/-- The pattern of −∞. -/
theorem neg_inf : Ideal.ofBits .f32 0xFF800000#32 = ⊥ := by simp [Ideal.ofBits, Ideal.ieee]

/-- Column `d` of head `n` among the columns of all heads. -/
def headCol (n : Fin 64) (d : Fin 128) : Fin 8192 := ⟨128 * n.val + d.val, by omega⟩

/-- The query of row `i` of sequence `b` at head `n`. -/
def qry (X : Arr3 8 1024 1024) (W : Arr2 1024 8192) (b : Fin 8) (i : Fin 1024) (n : Fin 64) (d : Fin 128) : EReal :=
  ∑ k : Fin 1024, X (ix3 b i k) * W (ix2 k (headCol n d))

/-- The score of row `i` against column `j`. -/
def score (X : Arr3 8 1024 1024) (W : Arr2 1024 8192) (K : Arr4 8 1024 64 128) (b : Fin 8) (n : Fin 64)
    (i j : Fin 1024) : EReal :=
  (∑ d : Fin 128, qry X W b i n d * K (ix4 b j n d)) * scale

theorem score_fin {X : Arr3 8 1024 1024} {W : Arr2 1024 8192} {K : Arr4 8 1024 64 128} (hX : ∀ y, Fin' (X y))
    (hW : ∀ y, Fin' (W y)) (hK : ∀ y, Fin' (K y)) (b : Fin 8) (n : Fin 64) (i j : Fin 1024) : Fin' (score X W K b n i j) :=
  (Fin'.sum _ _ fun _ => (Fin'.sum _ _ fun _ => (hX _).mul (hW _)).mul (hK _)).mul scale_fin

/-- Member `p` of class `r`: the rows whose block of 64 is `r` modulo 4, in order. -/
def member (r : Fin 4) (p : Fin 256) : Fin 1024 := ⟨64 * (4 * (p.val / 64) + r.val) + p.val % 64, by omega⟩

/-- The class of a row. -/
def clsOf (i : Fin 1024) : Fin 4 := ⟨i.val / 64 % 4, by omega⟩

theorem member_inj (r : Fin 4) : Function.Injective (member r) := fun p q h => by
  have h' : 64 * (4 * (p.val / 64) + r.val) + p.val % 64 = 64 * (4 * (q.val / 64) + r.val) + q.val % 64 := congrArg Fin.val h
  apply Fin.ext
  omega

theorem clsOf_member (r : Fin 4) (p : Fin 256) : clsOf (member r p) = r := by
  apply Fin.ext
  show (64 * (4 * (p.val / 64) + r.val) + p.val % 64) / 64 % 4 = r.val
  omega

theorem class_iff (i j : Fin 1024) : clsOf i = clsOf j ↔ ∃ p, member (clsOf i) p = j := by
  constructor
  · intro h
    have h' : i.val / 64 % 4 = j.val / 64 % 4 := congrArg Fin.val h
    refine ⟨⟨64 * (j.val / 64 / 4) + j.val % 64, by omega⟩, Fin.ext ?_⟩
    show 64 * (4 * ((64 * (j.val / 64 / 4) + j.val % 64) / 64) + i.val / 64 % 4) + (64 * (j.val / 64 / 4) + j.val % 64) % 64 = j.val
    omega
  · rintro ⟨p, rfl⟩
    exact (clsOf_member _ _).symm

/-- What row `i` of sequence `b` attends to at head `n`. -/
def mix (X : Arr3 8 1024 1024) (W : Arr2 1024 8192) (K V : Arr4 8 1024 64 128) (b : Fin 8) (n : Fin 64) (i : Fin 1024)
    (d : Fin 128) : EReal :=
  attend (fun p => score X W K b n i (member (clsOf i) p)) (fun p => V (ix4 b (member (clsOf i) p) n d))

/-- The output: the heads of a row against the output matrix. -/
def output (X : Arr3 8 1024 1024) (W : Arr2 1024 8192) (K V : Arr4 8 1024 64 128) (U : Arr2 8192 1024) (b : Fin 8)
    (i o : Fin 1024) : EReal :=
  ∑ t : Fin 8192, mix X W K V b ⟨t.val / 128, by omega⟩ i ⟨t.val % 128, by omega⟩ * U (ix2 t o)

end Cert.Proof.Value

end
-- ==== Proof.Value.Mask.lean ====
/-
  The mask of the reference: the columns a row attends to are those of its own class, row `i` and column `j` being in one
  class when `i / 64` and `j / 64` agree modulo 4.
-/
module

public import Idealize.ShloMosaic.PureOps.Ideal.Laws
public import Idealize.ShloMosaic.Lib.ValueIdx
public import proofs.«01_k».proof.Proof.Gen.ReferenceIdeal.Read

@[expose] public section

noncomputable section

namespace Cert.Proof.Value

open Idealize.ShloMosaic Idealize.ShloMosaic.ValueIdx Cert.ReferenceIdeal Cert.ReferenceIdeal.Gen Cert.ReferenceIdeal.Read

/-- The class of a row: its block of 64 rows, modulo 4. -/
abbrev cls (i : Fin 1024) : ℕ := i.val / 64 % 4

/-- The block of a row, as the reference computes it. -/
theorem blk_rows (i : Fin 1024) : val_main_v3 (F := Ideal) (ix1 i) = BitVec.ofNat 32 (i.val / 64) := by
  revert i
  decide +kernel

/-- The block of a column, as the reference computes it. -/
theorem blk_cols (i : Fin 1024) : val_main_v6 (F := Ideal) (ix1 i) = BitVec.ofNat 32 (i.val / 64) := by
  revert i
  decide +kernel

/-- The class of a column, as the reference computes it. -/
theorem cls_cols (i : Fin 1024) : val_main_v11 (F := Ideal) (ix2 0 i) = BitVec.ofNat 32 (cls i) := by
  revert i
  decide +kernel

/-- The class of a row, as the reference computes it. -/
theorem cls_rows (i : Fin 1024) : val_main_v12 (F := Ideal) (ix2 i 0) = BitVec.ofNat 32 (cls i) := by
  revert i
  decide +kernel

/-- The mask is set at a row and a column of one class, and clear elsewhere. -/
theorem mask_apply (i j : Fin 1024) : val_main_v16 (F := Ideal) (ix2 i j) = if cls i = cls j then 1#1 else 0#1 := by
  have h8 : val_main_v8 (F := Ideal) (ix2 i j) = BitVec.ofNat 32 (i.val / 64) := by
    rw [val_main_v8_apply, val_main_v4_apply, ← blk_rows i]
    exact congrArg _ (eq_ix1 _)
  have h9 : val_main_v9 (F := Ideal) (ix2 i j) = BitVec.ofNat 32 (j.val / 64) := by
    rw [val_main_v9_apply, val_main_v7_apply, ← blk_cols j]
    exact congrArg _ (eq_ix1 _)
  have h13 : val_main_v13 (F := Ideal) (ix2 i j) = BitVec.ofNat 32 (cls j) := by
    rw [val_main_v13_apply, ← cls_cols j]
    exact congrArg _ (eq_ix2 _)
  have h14 : val_main_v14 (F := Ideal) (ix2 i j) = BitVec.ofNat 32 (cls i) := by
    rw [val_main_v14_apply, ← cls_rows i]
    exact congrArg _ (eq_ix2 _)
  rw [val_main_v16_apply, val_main_v10_apply, val_main_v15_apply, h8, h9, h13, h14]
  have hw : ∀ a b : Fin 16, IntOp.ori (IntOp.cmpi .eq (BitVec.ofNat 32 a.val) (BitVec.ofNat 32 b.val))
      (IntOp.cmpi .eq (BitVec.ofNat 32 (b.val % 4)) (BitVec.ofNat 32 (a.val % 4))) = if a.val % 4 = b.val % 4 then 1#1 else 0#1 := by
    decide +kernel
  have hi : i.val / 64 < 16 := by have := i.isLt; omega
  have hj : j.val / 64 < 16 := by have := j.isLt; omega
  exact hw ⟨i.val / 64, hi⟩ ⟨j.val / 64, hj⟩

/-- Folding "or" over terms one of which is set gives a set bit. -/
theorem fold_or {ι : Type} [DecidableEq ι] (s : Finset ι) (f : ι → BitVec 1) (a : ι) (ha : a ∈ s) (h : f a = 1#1) :
    s.fold IntOp.ori 0#1 f = 1#1 := by
  rw [← Finset.insert_erase ha, Finset.fold_insert (Finset.notMem_erase a s), h]
  generalize (s.erase a).fold IntOp.ori 0#1 f = b
  revert b
  decide

/-- Every row keeps a column: the one on the diagonal. -/
theorem keep_apply (i : Fin 1024) : val_main_v27 (F := Ideal) (ix1 i) = 1#1 := by
  have hm := (mask_apply i i).trans (if_pos rfl)
  unfold val_main_v27
  generalize val_main_v16 (F := Ideal) = y at hm ⊢
  rw [Host.reduce_eq_fold_single IntOp.ori _ _ reducesTo_S1024x1024_S1024_d1 (by decide) h_S_]
  refine fold_or _ _ i (Finset.mem_univ _) ?_
  refine Eq.trans (congrArg y ?_) hm
  exact eq_ix2 _

end Cert.Proof.Value

end
-- ==== Proof.Value.Reference.lean ====
/-
  The value of the reference: on finite `x`, `Wq` and `K`, each element of its result is the output of the specification.
-/
module

public import proofs.«01_k».proof.Proof.Value.Spec
public import proofs.«01_k».proof.Proof.Value.Mask
public import Idealize.ShloMosaic.Lib.IdealHost

@[expose] public section

noncomputable section

namespace Cert.Proof.Value

open Idealize.ShloMosaic Idealize.ShloMosaic.ValueIdx Cert.ReferenceIdeal Cert.ReferenceIdeal.Gen Cert.ReferenceIdeal.Read

variable (X : Arr3 8 1024 1024) (W : Arr2 1024 8192) (K V : Arr4 8 1024 64 128) (U : Arr2 8192 1024)

/-- The queries of the reference. -/
theorem ref_qry (b : Fin 8) (i : Fin 1024) (n : Fin 64) (d : Fin 128) :
    val_main_v1 (F := Ideal) X W (ix4 b i n d) = qry X W b i n d := by
  rw [val_main_v1_apply, val_main_v0_apply]
  unfold qry
  refine Finset.sum_congr rfl fun k _ => ?_
  have e0 : (((b.val * 1024 + i.val) * 64 + n.val) * 128 + d.val) / 8388608 = b.val := by omega
  have e1 : (((b.val * 1024 + i.val) * 64 + n.val) * 128 + d.val) / 8192 % 1024 = i.val := by omega
  have e2 : (((b.val * 1024 + i.val) * 64 + n.val) * 128 + d.val) % 8192 = 128 * n.val + d.val := by omega
  refine congrArg₂ (· * ·) ?_ ?_
  · refine congrArg X ((eq_ix3 _).trans ?_)
    congr 1
    · exact Fin.ext e0
    · exact Fin.ext e1
  · refine congrArg W ((eq_ix2 _).trans ?_)
    exact congrArg (ix2 k) (Fin.ext e2)

/-- The scores of the reference. -/
theorem ref_score (b : Fin 8) (n : Fin 64) (i j : Fin 1024) :
    val_main_v19 (F := Ideal) X W K (ix4 b n i j) = score X W K b n i j := by
  rw [val_main_v19_apply, val_main_v17_apply, val_main_v18_apply, val_main_cst_apply]
  simp only [Ideal.mulf_def, Ideal.ofBits_def]
  unfold score scale
  refine congrArg (· * _) (Finset.sum_congr rfl fun k _ => ?_)
  rw [← ref_qry]
  refine congrArg₂ (· * ·) ?_ ?_
  · exact congrArg _ (eq_ix4 _)
  · exact congrArg K (eq_ix4 _)

/-- The masked scores of the reference. -/
theorem ref_masked (b : Fin 8) (n : Fin 64) (i j : Fin 1024) :
    val_main_v21 (F := Ideal) X W K (ix4 b n i j) = if clsOf i = clsOf j then score X W K b n i j else ⊥ := by
  rw [val_main_v21_apply, ref_score, val_main_call4_v1_apply, val_main_v20_apply]
  have hm : val_main_v16 (F := Ideal) (idx_main_v20 (idx_main_call4_v1 (ix4 b n i j))) = if cls i = cls j then 1#1 else 0#1 := by
    rw [← mask_apply]
    exact congrArg _ (eq_ix2 _)
  have hb : val_main_call4_v2 (F := Ideal) (ix4 b n i j) = ⊥ := by
    rw [val_main_call4_v2_apply, val_main_call4_v0_apply, val_main_cst_3_apply, Ideal.ofBits_def]
    exact neg_inf
  rw [hm, hb]
  unfold Scalar.select
  by_cases h : cls i = cls j
  · rw [if_pos h, if_pos (show (1#1 : BitVec 1) = 1 from rfl), if_pos (Fin.ext h)]
  · rw [if_neg h, if_neg (by decide), if_neg fun h' => h (congrArg Fin.val h')]

/-- The greatest masked score of a row. -/
theorem ref_max (b : Fin 8) (n : Fin 64) (i : Fin 1024) :
    val_main_v22 (F := Ideal) X W K (ix3 b n i)
      = Finset.univ.fold max ⊥ (fun j => if clsOf i = clsOf j then score X W K b n i j else ⊥) := by
  have hm := ref_masked X W K b n i
  unfold val_main_v22
  generalize val_main_v21 (F := Ideal) X W K = y at hm ⊢
  refine (Host.reduce_eq_fold_single (max : EReal → EReal → EReal) y _ reducesTo_S8x64x1024x1024_S8x64x1024_d3 (by decide) h_S_ _).trans ?_
  have hi : val_main_cst_4 (F := Ideal) (Shape.Idx.first h_S_) = (⊥ : EReal) := by
    rw [val_main_cst_4_apply, Ideal.ofBits_def]
    exact neg_inf
  rw [hi]
  refine congrArg (Finset.fold max ⊥ · Finset.univ) (funext fun j => ?_)
  rw [← hm j]
  exact congrArg y (eq_ix4 _)

/-- The exponentials of the reference. -/
theorem ref_exp (b : Fin 8) (n : Fin 64) (i j : Fin 1024) :
    val_main_v26 (F := Ideal) X W K (ix4 b n i j)
      = Ideal.exp ((if clsOf i = clsOf j then score X W K b n i j else ⊥) - val_main_v22 (F := Ideal) X W K (ix3 b n i)) := by
  have e : idx_main_v23 (idx_main_v24 (ix4 b n i j)) = ix3 b n i := eq_ix3 _
  rw [val_main_v26_apply, val_main_v25_apply, ref_masked, val_main_v24_apply, val_main_v23_apply, e, Ideal.hostUnary_exp_def,
    Ideal.subf_def]

/-- The sums of the exponentials of a row. -/
theorem ref_den (b : Fin 8) (n : Fin 64) (i : Fin 1024) :
    val_main_v29 (F := Ideal) X W K (ix3 b n i) = ∑ j : Fin 1024, val_main_v26 (F := Ideal) X W K (ix4 b n i j) := by
  rw [val_main_v29_apply, val_main_cst_6_apply, Ideal.ofBits_def, Ideal.ofBits_zero_f32, zero_add]
  refine Finset.sum_congr rfl fun j _ => ?_
  exact congrArg _ (eq_ix4 _)

/-- The weights of a row: its exponentials over their sum. -/
theorem ref_weight (b : Fin 8) (n : Fin 64) (i j : Fin 1024) :
    val_main_v35 (F := Ideal) X W K (ix4 b n i j)
      = Ideal.div (val_main_v26 (F := Ideal) X W K (ix4 b n i j)) (val_main_v29 (F := Ideal) X W K (ix3 b n i)) := by
  have hk : val_main_call6_v1 (F := Ideal) (ix4 b n i j) = 1#1 := by
    rw [val_main_call6_v1_apply, val_main_v34_apply, ← keep_apply i]
    exact congrArg _ (eq_ix1 _)
  have hk' : val_main_call5_v1 (F := Ideal) (ix4 b n i 0) = 1#1 := by
    rw [val_main_call5_v1_apply, val_main_v28_apply, ← keep_apply i]
    exact congrArg _ (eq_ix1 _)
  have hd : val_main_v32 (F := Ideal) X W K (ix4 b n i j) = val_main_v29 (F := Ideal) X W K (ix3 b n i) := by
    have e : idx_main_v32 (ix4 b n i j) = ix4 b n i 0 := eq_ix4 _
    rw [val_main_v32_apply, e, val_main_v31_apply, hk']
    refine (if_pos rfl).trans ?_
    rw [val_main_v30_apply]
    exact congrArg _ (eq_ix3 _)
  rw [val_main_v35_apply, hk, val_main_v33_apply, hd]
  exact if_pos rfl

/-- The heads of the reference. -/
theorem ref_mix (hX : ∀ y, Fin' (X y)) (hW : ∀ y, Fin' (W y)) (hK : ∀ y, Fin' (K y)) (b : Fin 8) (n : Fin 64)
    (i : Fin 1024) (d : Fin 128) :
    val_main_v36 (F := Ideal) X W K V (ix4 b n d i) = mix X W K V b n i d := by
  rw [val_main_v36_apply]
  unfold mix
  rw [← softmax_eq_attend (by decide) (fun j => clsOf i = clsOf j) (member (clsOf i)) (member_inj _) (class_iff i)
    (score X W K b n i) (fun j => V (ix4 b j n d)) (score_fin hX hW hK b n i) _ (ref_max X W K b n i)]
  refine Finset.sum_congr rfl fun j _ => ?_
  have e : ridx_main_v36 (ix4 b n d i) j = ix4 b n i j := eq_ix4 _
  rw [e, ref_weight, ref_den]
  simp only [ref_exp]
  refine congrArg (· * _) (congrArg V ?_)
  exact eq_ix4 _

/-- The result of the reference. -/
theorem ref_output (hX : ∀ y, Fin' (X y)) (hW : ∀ y, Fin' (W y)) (hK : ∀ y, Fin' (K y)) (b : Fin 8) (i o : Fin 1024) :
    val_main_v39 (F := Ideal) X W K V U (ix3 b i o) = output X W K V U b i o := by
  rw [val_main_v39_apply]
  unfold output
  refine Finset.sum_congr rfl fun t _ => ?_
  refine congrArg₂ (· * ·) ?_ (congrArg U (eq_ix2 _))
  rw [val_main_v38_apply, val_main_v37_apply, ← ref_mix X W K V hX hW hK]
  have e0 : ((b.val * 1024 + i.val) * 8192 + t.val) / 8388608 = b.val := by omega
  have e1 : ((b.val * 1024 + i.val) * 8192 + t.val) / 8192 % 1024 = i.val := by omega
  have e2 : ((b.val * 1024 + i.val) * 8192 + t.val) / 128 % 64 = t.val / 128 := by omega
  have e3 : ((b.val * 1024 + i.val) * 8192 + t.val) % 128 = t.val % 128 := by omega
  refine congrArg _ ((eq_ix4 _).trans ?_)
  congr 1
  · exact Fin.ext e0
  · exact Fin.ext e2
  · exact Fin.ext e3
  · exact Fin.ext e1

end Cert.Proof.Value

end
-- ==== Proof.Value.Payload.lean ====
/-
  The kernel's arithmetic read at an index: the two query products, one head's attention on one class of rows, the
  accumulation of a hop.
-/
module

public import proofs.«01_k».proof.Proof.Value.Spec
public import proofs.«01_k».proof.Proof.KernelIdeal.Contents
public import Idealize.ShloMosaic.Lib.IdealHost
public import Idealize.ShloMosaic.Lib.Pointwise

@[expose] public section

noncomputable section

namespace Cert.Proof.Value

open Idealize.ShloMosaic Cert.KernelIdeal Cert.KernelIdeal.Gen

/-- A product of the queries' first half. -/
theorem pay13_apply (x : Vec Ideal S1024x1024 .f32) (w : Vec Ideal S1x1024x512 .f32) (i : Fin 1024) (d : Fin 512) :
    k0_pay13 x w (ValueIdx.ix2 i d) = ∑ k : Fin 1024, x (ValueIdx.ix2 i k) * w (ValueIdx.ix3 0 k d) := by
  simp only [← ix2_eq_valueIdx, ← ix3_eq_valueIdx, ← ix4_eq_valueIdx]
  pointwise [k0_pay13]

/-- A product of the queries' second half. -/
theorem pay15_apply (x : Vec Ideal S1024x1024 .f32) (w : Vec Ideal S1x1024x512 .f32) (i : Fin 1024) (d : Fin 512) :
    k0_pay15 (k0_pay14 x w) (ValueIdx.ix2 i d) = ∑ k : Fin 1024, x (ValueIdx.ix2 i k) * w (ValueIdx.ix3 0 k d) := by
  simp only [← ix2_eq_valueIdx, ← ix3_eq_valueIdx, ← ix4_eq_valueIdx]
  pointwise [k0_pay14, k0_pay15]

/-- One hop's addition to the accumulator. -/
theorem pay17_apply (l : Vec Ideal S1024x512 .f32) (u : Vec Ideal S1x512x1024 .f32) (r : Vec Ideal S1024x512 .f32)
    (v : Vec Ideal S1x512x1024 .f32) (a : Vec Ideal S1024x1024 .f32) (i o : Fin 1024) :
    k0_pay17 l u r v a (ValueIdx.ix2 i o)
      = a (ValueIdx.ix2 i o) + (∑ t : Fin 512, l (ValueIdx.ix2 i t) * u (ValueIdx.ix3 0 t o) + ∑ t : Fin 512, r (ValueIdx.ix2 i t) * v (ValueIdx.ix3 0 t o)) := by
  simp only [← ix2_eq_valueIdx, ← ix3_eq_valueIdx, ← ix4_eq_valueIdx]
  pointwise [k0_pay17]

/-- The accumulator's start. -/
theorem pay18_apply (y : S1024x1024.Idx) : k0_pay18 (F := Ideal) y = 0 := by
  pointwise [k0_pay18]

/-- One head's attention on one class of rows. -/
theorem pay1_apply (q : Vec Ideal S256x128 .f32) (k v : Vec Ideal S1x256x1x128 .f32) (i : Fin 256) (d : Fin 128) :
    k0_pay1 q k v (ValueIdx.ix2 i d)
      = attend (fun p : Fin 256 => (∑ e : Fin 128, q (ValueIdx.ix2 i e) * k (ValueIdx.ix4 0 p 0 e)) * scale) (fun p => v (ValueIdx.ix4 0 p 0 d)) := by
  unfold attend scale
  rw [← neg_inf]
  simp only [← ix2_eq_valueIdx, ← ix3_eq_valueIdx, ← ix4_eq_valueIdx]
  pointwise [k0_pay1]

end Cert.Proof.Value

end
-- ==== Proof.Value.Sums.lean ====
/-
  The sum over the 8192 columns of all heads, taken as the kernel takes it: hop by hop, at each hop the first half of one
  device's columns and the second half of another's.
-/
module

public import proofs.«01_k».proof.Proof.KernelIdeal.Contents
public import Idealize.ShloMosaic.PureOps.Ideal.Laws

@[expose] public section

noncomputable section

namespace Cert.Proof.Value

open Idealize.ShloMosaic Cert.KernelIdeal Cert.KernelIdeal.Gen Cert.KernelIdeal.Ring

/-- Column `t` of the first half of device `j`. -/
def colL (j : Fin 8) (t : Fin 512) : Fin 8192 := ⟨1024 * j.val + t.val, by omega⟩

/-- Column `t` of the second half of device `j`. -/
def colR (j : Fin 8) (t : Fin 512) : Fin 8192 := ⟨1024 * j.val + (512 + t.val), by omega⟩

theorem jA_bij (c : Dev nD) : Function.Bijective (fun h : Fin 8 => (jA c h.val : Fin 8)) := by
  revert c
  decide

theorem jB_bij (c : Dev nD) : Function.Bijective (fun h : Fin 8 => (jB c h.val : Fin 8)) := by
  revert c
  decide

/-- A sum over all columns, device by device and half by half. -/
theorem sum_cols (G : Fin 8192 → EReal) :
    ∑ T, G T = ∑ j : Fin 8, (∑ t, G (colL j t) + ∑ t, G (colR j t)) := by
  rw [← Equiv.sum_comp (finProdFinEquiv : Fin 8 × Fin 1024 ≃ Fin (8 * 1024)) G, Fintype.sum_prod_type]
  refine Finset.sum_congr rfl fun j _ => ?_
  refine (Fin.sum_univ_add (a := 512) (b := 512) (fun s : Fin (512 + 512) => G (finProdFinEquiv (j, s)))).trans ?_
  refine congrArg₂ (· + ·) (Finset.sum_congr rfl fun t _ => congrArg G (Fin.ext ?_))
    (Finset.sum_congr rfl fun t _ => congrArg G (Fin.ext ?_))
  · show t.val + 1024 * j.val = 1024 * j.val + t.val
    omega
  · show (512 + t.val) + 1024 * j.val = 1024 * j.val + (512 + t.val)
    omega

/-- The same sum, hop by hop. -/
theorem sum_hops (c : Dev nD) (G : Fin 8192 → EReal) :
    ∑ h ∈ Finset.range 8, (∑ t, G (colL (jA c h) t) + ∑ t, G (colR (jB c h) t)) = ∑ T, G T := by
  rw [sum_cols, Finset.sum_range, Finset.sum_add_distrib, Finset.sum_add_distrib]
  exact congrArg₂ (· + ·) ((jA_bij c).sum_comp fun j => ∑ t, G (colL j t)) ((jB_bij c).sum_comp fun j => ∑ t, G (colR j t))

end Cert.Proof.Value

end
-- ==== Proof.Value.Kernel.lean ====
/-
  The value of the kernel: where the devices hold the blocks of the arguments, each element of a device's result is the
  output of the specification.
-/
module

public import proofs.«01_k».proof.Proof.Value.Payload
public import proofs.«01_k».proof.Proof.Value.Sums

@[expose] public section

noncomputable section

namespace Cert.Proof.Value

open Idealize.ShloMosaic Cert.KernelIdeal Cert.KernelIdeal.Gen Cert.KernelIdeal.Ring

/-- The devices hold the blocks of the arguments: a sequence each of `X`, 1024 columns each of `W`, all of `K` and `V`,
    1024 rows each of `U`. -/
structure Holds (m : (ℓ : Loc nD τ sig) → Buf (Elt Ideal) ℓ) (X : Arr3 8 1024 1024) (W : Arr2 1024 8192)
    (K V : Arr4 8 1024 64 128) (U : Arr2 8192 1024) : Prop where
  x : ∀ (c : Fin 8) (i k : Fin 1024), xIn m c (ValueIdx.ix3 0 i k) = X (ValueIdx.ix3 c i k)
  w : ∀ (c : Fin 8) (k d : Fin 1024) (e : Fin 8192), e.val = 1024 * c.val + d.val → wq m c (ValueIdx.ix2 k d) = W (ValueIdx.ix2 k e)
  k : ∀ c, kIn m c = K
  v : ∀ c, vIn m c = V
  u : ∀ (c : Fin 8) (t o : Fin 1024) (e : Fin 8192), e.val = 1024 * c.val + t.val → wo m c (ValueIdx.ix2 t o) = U (ValueIdx.ix2 e o)

/-- Whose columns column `a` of a hop's queries is of. -/
def own (c : Fin 8) (h a : ℕ) : Fin 8 := if a < 512 then jA c h else jB c h

/-- The rows of a class, in the order of the buffers. -/
theorem perm_member (r : Fin 4) (p : Fin 256) (R : Fin 1024) (hR : R.val = 256 * r.val + p.val) : perm R = member r p := by
  apply Fin.ext
  show 64 * (4 * (R.val / 64 % 4) + R.val / 64 / 4) + R.val % 64 = 64 * (4 * (p.val / 64) + r.val) + p.val % 64
  omega

theorem perm_perm (i : Fin 1024) : perm (perm i) = i := by
  apply Fin.ext
  show 64 * (4 * ((64 * (4 * (i.val / 64 % 4) + i.val / 64 / 4) + i.val % 64) / 64 % 4) + (64 * (4 * (i.val / 64 % 4) + i.val / 64 / 4) + i.val % 64) / 64 / 4)
    + (64 * (4 * (i.val / 64 % 4) + i.val / 64 / 4) + i.val % 64) % 64 = i.val
  omega

/-- One column's part of an output. -/
def part (X : Arr3 8 1024 1024) (W : Arr2 1024 8192) (K V : Arr4 8 1024 64 128) (U : Arr2 8192 1024) (b : Fin 8)
    (i o : Fin 1024) (T : Fin 8192) : EReal :=
  mix X W K V b ⟨T.val / 128, by omega⟩ i ⟨T.val % 128, by omega⟩ * U (ValueIdx.ix2 T o)

variable {m : (ℓ : Loc nD τ sig) → Buf (Elt Ideal) ℓ} {X : Arr3 8 1024 1024} {W : Arr2 1024 8192}
  {K V : Arr4 8 1024 64 128} {U : Arr2 8192 1024} (H : Holds m X W K V U)

include H

/-- The queries of a hop. -/
theorem ker_qry (c : Fin 8) (h : ℕ) (R a : Fin 1024) (n : Fin 64) (d : Fin 128)
    (hn : 128 * n.val + d.val = 1024 * (own c h a.val).val + a.val) :
    qF m c h (ValueIdx.ix2 R a) = qry X W c (perm R) n d := by
  unfold qry
  by_cases ha : a.val < 512
  · refine (dif_pos ha).trans ?_
    unfold qA
    rw [pay13_apply]
    refine Finset.sum_congr rfl fun k _ => congrArg₂ (· * ·) (H.x c (perm R) k) (H.w (jA c h) k ⟨a.val, a.isLt⟩ _ ?_)
    rw [own, if_pos ha] at hn
    exact hn
  · refine (dif_neg ha).trans ?_
    unfold qB
    rw [pay15_apply]
    refine Finset.sum_congr rfl fun k _ => congrArg₂ (· * ·) (H.x c (perm R) k) (H.w (jB c h) k _ _ ?_)
    rw [own, if_neg ha] at hn
    refine hn.trans ?_
    show 1024 * (jB c h).val + a.val = 1024 * (jB c h).val + (512 + (a.val - 512))
    omega

/-- One head's attention on one class of rows. -/
theorem ker_head (c : Fin 8) (h : ℕ) (r : Fin 4) (k : Fin 8) (i : Fin 256) (d : Fin 128) (n : Fin 64)
    (hn : n.val = 8 * (own c h (128 * k.val)).val + k.val) :
    headF m c h r k (ValueIdx.ix2 i d) = mix X W K V c n (member r i) d := by
  unfold mix
  rw [clsOf_member]
  have hq : ∀ e : Fin 128, tile (qF m c h) r k (ValueIdx.ix2 i e) = qry X W c (member r i) n e := fun e => by
    refine (ker_qry H c h _ _ n e ?_).trans ?_
    · show 128 * n.val + e.val = 1024 * (own c h (128 * k.val + e.val)).val + (128 * k.val + e.val)
      have ho : own c h (128 * k.val + e.val) = own c h (128 * k.val) := by
        unfold own
        by_cases hk : k.val < 4
        · rw [if_pos (by omega), if_pos (by omega)]
        · rw [if_neg (by omega), if_neg (by omega)]
      rw [ho]
      omega
    · rw [perm_member r i _ rfl]
  unfold headF
  by_cases hk : k.val < 4
  · have ho : (own c h (128 * k.val)) = jA c h := if_pos (by omega)
    rw [ho] at hn
    have hb : ∀ (K' : Arr4 8 1024 64 128) (p : Fin 256) (e : Fin 128),
        kvTile (F := Ideal) (kvCont c (bA c h) K') r ⟨k.val, hk⟩ (ValueIdx.ix4 0 p 0 e) = K' (ValueIdx.ix4 c (member r p) n e) := fun K' p e => by
      rw [← perm_member r p ⟨256 * r.val + p.val, by omega⟩ rfl]
      refine congrArg K' ?_
      refine congrArg (fun n' => ValueIdx.ix4 c _ n' e) (Fin.ext ?_)
      show 4 * (2 * (jA c h).val) + k.val = n.val
      omega
    rw [dif_pos hk, pay1_apply]
    unfold score kcA vcA
    rw [H.k, H.v]
    simp only [hq, hb]
  · have ho : (own c h (128 * k.val)) = jB c h := if_neg (by omega)
    rw [ho] at hn
    have hb : ∀ (K' : Arr4 8 1024 64 128) (p : Fin 256) (e : Fin 128),
        kvTile (F := Ideal) (kvCont c (bB c h) K') r ⟨k.val - 4, by omega⟩ (ValueIdx.ix4 0 p 0 e) = K' (ValueIdx.ix4 c (member r p) n e) := fun K' p e => by
      rw [← perm_member r p ⟨256 * r.val + p.val, by omega⟩ rfl]
      refine congrArg K' ?_
      refine congrArg (fun n' => ValueIdx.ix4 c _ n' e) (Fin.ext ?_)
      show 4 * (2 * (jB c h).val + 1) + (k.val - 4) = n.val
      omega
    rw [dif_neg hk, pay1_apply]
    unfold score kcB vcB
    rw [H.k, H.v]
    simp only [hq, hb]

/-- The attention output of a hop. -/
theorem ker_ctx (c : Fin 8) (h : ℕ) (R a : Fin 1024) (T : Fin 8192) (hT : T.val = 1024 * (own c h a.val).val + a.val) :
    ctxF m c h (ValueIdx.ix2 R a) = mix X W K V c ⟨T.val / 128, by omega⟩ (perm R) ⟨T.val % 128, by omega⟩ := by
  have ho : own c h (128 * (a.val / 128)) = own c h a.val := by
    unfold own
    by_cases ha : a.val < 512
    · rw [if_pos (by omega), if_pos ha]
    · rw [if_neg (by omega), if_neg ha]
  refine (ker_head H c h ⟨R.val / 256, by omega⟩ ⟨a.val / 128, by omega⟩ ⟨R.val % 256, by omega⟩ ⟨a.val % 128, by omega⟩
    ⟨T.val / 128, by omega⟩ ?_).trans ?_
  · show T.val / 128 = 8 * (own c h (128 * (a.val / 128))).val + a.val / 128
    rw [ho]
    omega
  · have hr : perm R = member ⟨R.val / 256, by omega⟩ ⟨R.val % 256, by omega⟩ := perm_member _ _ _ (by show R.val = 256 * (R.val / 256) + R.val % 256; omega)
    rw [← hr]
    refine congrArg (mix X W K V c _ _) (Fin.ext ?_)
    show a.val % 128 = T.val % 128
    omega

/-- The accumulator after `n` hops. -/
theorem ker_acc (c : Fin 8) (R o : Fin 1024) (n : ℕ) :
    accF m c n (ValueIdx.ix2 R o)
      = ∑ h ∈ Finset.range n,
          (∑ t, part X W K V U c (perm R) o (colL (jA c h) t)
          + ∑ t, part X W K V U c (perm R) o (colR (jB c h) t)) := by
  induction n with
  | zero => exact pay18_apply (ValueIdx.ix2 R o)
  | succ h ih =>
    rw [Finset.sum_range_succ, ← ih]
    refine (pay17_apply _ _ _ _ _ R o).trans (congrArg (_ + ·) (congrArg₂ (· + ·) ?_ ?_))
    · refine Finset.sum_congr rfl fun t _ => congrArg₂ (· * ·) (ker_ctx H c h R _ (colL (jA c h) t) ?_) (H.u (jA c h) _ o _ rfl)
      show 1024 * (jA c h).val + t.val = 1024 * (own c h t.val).val + t.val
      rw [own, if_pos t.isLt]
    · refine Finset.sum_congr rfl fun t _ => congrArg₂ (· * ·) (ker_ctx H c h R _ (colR (jB c h) t) ?_) (H.u (jB c h) _ o _ rfl)
      show 1024 * (jB c h).val + (512 + t.val) = 1024 * (own c h (512 + t.val)).val + (512 + t.val)
      rw [own, if_neg (by omega)]

/-- The result of a device. -/
theorem ker_output (c : Fin 8) (i o : Fin 1024) : outF m c (ValueIdx.ix3 0 i o) = output X W K V U c i o := by
  refine (ker_acc H c (perm i) o 8).trans ?_
  rw [perm_perm]
  exact sum_hops c (part X W K V U c i o)

end Cert.Proof.Value

end
-- ==== Proof.Value.Finite.lean ====
/-
  What the precondition says: the absolute value of each element read is less than infinity, so the element is finite.
-/
module

public import proofs.«01_k».proof.Proof.Value.Math
public import proofs.«01_k».proof.Proof.Gen.Pre_finite_inputs_KernelIdeal

@[expose] public section

noncomputable section

namespace Cert.Proof.Value

open Idealize.ShloMosaic

theorem pos_inf : Ideal.ofBits .f32 0x7F800000#32 = ⊤ := by simp [Ideal.ofBits, Ideal.ieee]

/-- An element whose absolute value compares less than infinity is finite. -/
theorem fin_of_cmp (a : EReal) (h : Ideal.cmp .olt (max a (-a)) (Ideal.ofBits .f32 0x7F800000#32) = 1#1) : Fin' a := by
  rw [pos_inf] at h
  have hlt : max a (-a) < ⊤ := by
    by_contra hn
    have h' : BitVec.ofBool (decide (max a (-a) < ⊤)) = 1#1 := h
    rw [decide_eq_false hn] at h'
    exact absurd h' (by decide)
  induction a using EReal.rec with
  | bot => simp at hlt
  | top => simp at hlt
  | coe r => exact ⟨r, rfl⟩

open Cert.Pre_finite_inputs_KernelIdeal

/-- The precondition of one device's blocks makes three of them finite. -/
theorem pre_fin [Facts] (x : FVec Ideal S1x1024x1024 .f32) (w : FVec Ideal S1024x1024 .f32)
    (k v : FVec Ideal S8x1024x64x128 .f32) (u : FVec Ideal S1024x1024 .f32)
    (h : (fn x w k v u).1 = (fun _ => 1#1) ∧ (fn x w k v u).2.1 = (fun _ => 1#1) ∧ (fn x w k v u).2.2 = (fun _ => 1#1)) :
    (∀ y, Fin' (x y)) ∧ (∀ y, Fin' (w y)) ∧ (∀ y, Fin' (k y)) :=
  ⟨fun y => fin_of_cmp (x y) (congrFun h.1 y), fun y => fin_of_cmp (w y) (congrFun h.2.1 y),
    fun y => fin_of_cmp (k y) (congrFun h.2.2 y)⟩

end Cert.Proof.Value

end
-- ==== Proof.Value.Algebraic.lean ====
/-
  The ideal kernel against the ideal reference: from the blocks of the same arguments, with finite `x`, `Wq` and `K`, the
  devices end with the blocks of the reference's result.
-/
module

public import proofs.«01_k».proof.Defs
public import proofs.«01_k».proof.Proof.Frames
public import proofs.«01_k».proof.Proof.Value.Reference
public import proofs.«01_k».proof.Proof.Value.Kernel
public import proofs.«01_k».proof.Proof.Value.Finite
public import proofs.«01_k».proof.Proof.Gen.Pre_finite_inputs_ReferenceIdeal

@[expose] public section

noncomputable section

namespace Cert.Proof

open Idealize.ShloMosaic Idealize.ShloMosaic.TcCoe Idealize.SL.Sem Cert.Proof.Value Cert.KernelIdeal.Ring

/-- Element `(0, i, k)` of block `c` of the sequences is element `(c, i, k)`. -/
theorem block_seq (c : Fin 8) (X : Arr3 8 1024 1024) (i k : Fin 1024) :
    Layout.block ⟨3, ![1, 1024, 1024]⟩ ⟨3, ![8, 1024, 1024]⟩ 0 8 c X (by decide) (ValueIdx.ix3 0 i k) = X (ValueIdx.ix3 c i k) := by
  refine congrArg X (funext fun a => Fin.ext ?_)
  match a with
  | ⟨0, _⟩ => show c.val * 1 + 0 = c.val; omega
  | ⟨1, _⟩ => rfl
  | ⟨2, _⟩ => rfl

/-- Element `(k, d)` of block `c` of the columns is in column `1024 c + d`. -/
theorem block_col (c : Fin 8) (W : Arr2 1024 8192) (k d : Fin 1024) (e : Fin 8192) (he : e.val = 1024 * c.val + d.val) :
    Layout.block ⟨2, ![1024, 1024]⟩ ⟨2, ![1024, 8192]⟩ 1 8 c W (by decide) (ValueIdx.ix2 k d) = W (ValueIdx.ix2 k e) := by
  refine congrArg W (funext fun a => Fin.ext ?_)
  match a with
  | ⟨0, _⟩ => rfl
  | ⟨1, _⟩ => show c.val * 1024 + d.val = e.val; omega

/-- Element `(t, o)` of block `c` of the rows is in row `1024 c + t`. -/
theorem block_row (c : Fin 8) (U : Arr2 8192 1024) (t o : Fin 1024) (e : Fin 8192) (he : e.val = 1024 * c.val + t.val) :
    Layout.block ⟨2, ![1024, 1024]⟩ ⟨2, ![8192, 1024]⟩ 0 8 c U (by decide) (ValueIdx.ix2 t o) = U (ValueIdx.ix2 e o) := by
  refine congrArg U (funext fun a => Fin.ext ?_)
  match a with
  | ⟨0, _⟩ => show c.val * 1024 + t.val = e.val; omega
  | ⟨1, _⟩ => rfl

/-- The whole result. -/
def whole (X : Arr3 8 1024 1024) (W : Arr2 1024 8192) (K V : Arr4 8 1024 64 128) (U : Arr2 8192 1024) : Arr3 8 1024 1024 :=
  fun y => output X W K V U (y 0) (y 1) (y 2)

/-- A device's result is its block of the whole. -/
theorem out_block {m : (ℓ : Loc Cert.KernelIdeal.nD Cert.KernelIdeal.τ Cert.KernelIdeal.sig) → Buf (Elt Ideal) ℓ}
    {X : Arr3 8 1024 1024} {W : Arr2 1024 8192} {K V : Arr4 8 1024 64 128} {U : Arr2 8192 1024} (H : Holds m X W K V U) (c : Fin 8) :
    outF m c = Layout.block ⟨3, ![1, 1024, 1024]⟩ ⟨3, ![8, 1024, 1024]⟩ 0 8 c (whole X W K V U) := by
  funext y
  have hy : y = ValueIdx.ix3 0 (y 1) (y 2) := by
    refine (ValueIdx.eq_ix3 y).trans (congrArg (ValueIdx.ix3 · (y 1) (y 2)) (Fin.ext ?_))
    have h0 : (y 0).val < 1 := (y 0).isLt
    show (y 0).val = 0
    omega
  refine (congrArg (outF m c) hy).trans (((ker_output H c (y 1) (y 2)).trans ?_).trans (congrArg (Layout.block _ _ 0 8 c _) hy.symm))
  exact (block_seq c (whole X W K V U) (y 1) (y 2)).symm

/-- Every element of the sequences is one of a device's block. -/
theorem fin_seq (X : Arr3 8 1024 1024)
    (h : ∀ c : Fin 8, ∀ y, Fin' (Layout.block ⟨3, ![1, 1024, 1024]⟩ ⟨3, ![8, 1024, 1024]⟩ 0 8 c X (by decide) y)) : ∀ y, Fin' (X y) := fun y => by
  rw [ValueIdx.eq_ix3 y]
  exact Eq.mp (congrArg Fin' (block_seq (y 0) X (y 1) (y 2))) (h (y 0) (ValueIdx.ix3 0 (y 1) (y 2)))

/-- Every element of the columns is one of a device's block. -/
theorem fin_col (W : Arr2 1024 8192)
    (h : ∀ c : Fin 8, ∀ y, Fin' (Layout.block ⟨2, ![1024, 1024]⟩ ⟨2, ![1024, 8192]⟩ 1 8 c W (by decide) y)) : ∀ y, Fin' (W y) := fun y => by
  rw [ValueIdx.eq_ix2 y]
  have hl : (y 1).val < 8192 := (y 1).isLt
  exact Eq.mp (congrArg Fin' (block_col ⟨(y 1).val / 1024, by omega⟩ W (y 0) ⟨(y 1).val % 1024, by omega⟩ (y 1)
    (by show (y 1).val = 1024 * ((y 1).val / 1024) + (y 1).val % 1024; omega))) (h _ _)

/-- The ideal kernel computes what the ideal reference computes. -/
theorem algebraic : Cert.algebraic_KernelIdeal_ReferenceIdeal_pre_finite_inputs_KernelIdeal := by
  intro m g m' g' hpre hin
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c i k => (congrFun (hin c).1 (ValueIdx.ix3 0 i k)).trans (block_seq c _ i k)
      w := fun c k d e he => (congrFun (hin c).2.1 (ValueIdx.ix2 k d)).trans (block_col c _ k d e he)
      k := fun c => (hin c).2.2.1
      v := fun c => (hin c).2.2.2.1
      u := fun c t o e he => (congrFun (hin c).2.2.2.2 (ValueIdx.ix2 t o)).trans (block_row c _ t o e he) }
  have hf := fun c => pre_fin _ _ _ _ _ (hpre c)
  have hX := fin_seq _ fun c y => by
    have h := (hf c).1 y
    rw [(hin c).1] at h
    exact h
  have hW := fin_col _ fun c y => by
    have h := (hf c).2.1 y
    rw [(hin c).2.1] at h
    exact h
  have hK := (hf (0 : Fin 8)).2.2
  rw [(hin (0 : Fin 8)).2.2.1] at hK
  refine ⟨whole _ _ _ _ _, (θ_run Cert.KernelIdeal.defs _ _).mono (fun r h c => ⟨(h.1 c).1.trans (out_block H c), (h.1 c).2⟩)
    (Cert.KernelIdeal.Ring.run_ok (F := Ideal) m g), ?_⟩
  refine (θ_run Cert.ReferenceIdeal.defs _ _).mono (fun r h => ⟨?_, (h 0).2⟩) (Cert.ReferenceIdeal.Value.run (F := Ideal) m' g')
  refine ((h 0).1.trans (Cert.ReferenceIdeal.Read.val_main_v39_eq m' 0)).trans (funext fun y => ?_)
  exact (congrArg _ (ValueIdx.eq_ix3 y)).trans (ref_output _ _ _ _ _ hX hW hK (y 0) (y 1) (y 2))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Gen.ReferenceIdeal.Read
public import proofs.«01_k».proof.Proof.Value.Algebraic
public import Idealize.ShloMosaic.Adequacy
public import Idealize.ShloMosaic.Init

@[expose] public section

noncomputable section

namespace Cert.Proof

/-- The claim: the frames, the ideal kernel being the kernel with no operation rewritten, and the ideal kernel computing
    what the ideal reference computes. -/
theorem claim : Cert.Claim := ⟨Cert.Kernel.Gen.facts, Cert.KernelIdeal.Gen.facts, Cert.ReferenceIdeal.Gen.facts,
  Cert.Pre_finite_inputs_KernelIdeal.Gen.facts, Cert.Pre_finite_inputs_ReferenceIdeal.Gen.facts,
  frame_kernel, frame_ideal, fun m g _ => frame_ideal m g trivial, frame_reference,
  fun m g _ => frame_reference m g trivial, trivial, algebraic⟩

end Cert.Proof

end
